-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v53) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v39) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite6 : Cert.Pre_finite6.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
-- ==== Pre_finite.lean ====
abbrev S8x2048x256 : Shape := ⟨3, ![8, 2048, 256]⟩
abbrev S8x32x256 : Shape := ⟨3, ![8, 32, 256]⟩
abbrev S256 : Shape := ⟨1, ![256]⟩
abbrev S_ : Shape := ⟨0, ![]⟩

class Facts : Prop where
  bcast_S_S8x32x256 : S_.BroadcastsInDim S8x32x256 (![] : Fin 0 → Fin S8x32x256.rank)
  reducesTo_S8x32x256_S_d0_1_2 : S8x32x256.ReducesTo [0, 1, 2] S_
  h_S_ : 0 < S_.numel
  bitsLt_bf16_f32 : FTy.bits .bf16 < FTy.bits .f32
  bcast_S_S8x2048x256 : S_.BroadcastsInDim S8x2048x256 (![] : Fin 0 → Fin S8x2048x256.rank)
  reducesTo_S8x2048x256_S_d0_1_2 : S8x2048x256.ReducesTo [0, 1, 2] S_

variable [Facts]

def fn_part2 {F : FTy → Type} [FloatOps F] (main_arg6 : FVec F S8x2048x256 .bf16) (main_v33 : IVec S_ 1) (main_v35 : FVec F S8x2048x256 .f32) : IVec S_ 1 :=
  let main_cst_10 : FVec F S_ .f32 := constant S_ .f32 0x7F800000#32
  let main_v36 : FVec F S8x2048x256 .f32 := broadcastInDim S8x2048x256 ![] bcast_S_S8x2048x256 main_cst_10
  let main_v37 : IVec S8x2048x256 1 := cmpf .olt main_v35 main_v36
  let main_c_11 : IVec S_ 1 := constantI S_ 1 1#1
  let main_v38 : IVec S_ 1 := (fun x v => Host.reduce IntOp.andi x v reducesTo_S8x2048x256_S_d0_1_2 h_S_) main_v37 main_c_11
  let main_v39 : IVec S_ 1 := andi main_v33 main_v38
  let main_v40 : FVec F S8x2048x256 .f32 := (extf .f32 · bitsLt_bf16_f32) main_arg6
  let main_v41 : FVec F S8x2048x256 .f32 := Host.absf main_v40
  let main_cst_12 : FVec F S_ .f32 := constant S_ .f32 0x7F800000#32
  let main_v42 : FVec F S8x2048x256 .f32 := broadcastInDim S8x2048x256 ![] bcast_S_S8x2048x256 main_cst_12
  let main_v43 : IVec S8x2048x256 1 := cmpf .olt main_v41 main_v42
  let main_c_13 : IVec S_ 1 := constantI S_ 1 1#1
  let main_v44 : IVec S_ 1 := (fun x v => Host.reduce IntOp.andi x v reducesTo_S8x2048x256_S_d0_1_2 h_S_) main_v43 main_c_13
  let main_v45 : IVec S_ 1 := andi main_v39 main_v44
  main_v45

def fn_part1 {F : FTy → Type} [FloatOps F] (main_arg3 : FVec F S8x2048x256 .bf16) (main_arg4 : FVec F S8x2048x256 .bf16) (main_arg5 : FVec F S8x2048x256 .bf16) (main_arg6 : FVec F S8x2048x256 .bf16) (main_v15 : IVec S_ 1) (main_v17 : FVec F S8x2048x256 .f32) : IVec S_ 1 :=
  let main_cst_4 : FVec F S_ .f32 := constant S_ .f32 0x7F800000#32
  let main_v18 : FVec F S8x2048x256 .f32 := broadcastInDim S8x2048x256 ![] bcast_S_S8x2048x256 main_cst_4
  let main_v19 : IVec S8x2048x256 1 := cmpf .olt main_v17 main_v18
  let main_c_5 : IVec S_ 1 := constantI S_ 1 1#1
  let main_v20 : IVec S_ 1 := (fun x v => Host.reduce IntOp.andi x v reducesTo_S8x2048x256_S_d0_1_2 h_S_) main_v19 main_c_5
  let main_v21 : IVec S_ 1 := andi main_v15 main_v20
  let main_v22 : FVec F S8x2048x256 .f32 := (extf .f32 · bitsLt_bf16_f32) main_arg3
  let main_v23 : FVec F S8x2048x256 .f32 := Host.absf main_v22
  let main_cst_6 : FVec F S_ .f32 := constant S_ .f32 0x7F800000#32
  let main_v24 : FVec F S8x2048x256 .f32 := broadcastInDim S8x2048x256 ![] bcast_S_S8x2048x256 main_cst_6
  let main_v25 : IVec S8x2048x256 1 := cmpf .olt main_v23 main_v24
  let main_c_7 : IVec S_ 1 := constantI S_ 1 1#1
  let main_v26 : IVec S_ 1 := (fun x v => Host.reduce IntOp.andi x v reducesTo_S8x2048x256_S_d0_1_2 h_S_) main_v25 main_c_7
  let main_v27 : IVec S_ 1 := andi main_v21 main_v26
  let main_v28 : FVec F S8x2048x256 .f32 := (extf .f32 · bitsLt_bf16_f32) main_arg4
  let main_v29 : FVec F S8x2048x256 .f32 := Host.absf main_v28
  let main_cst_8 : FVec F S_ .f32 := constant S_ .f32 0x7F800000#32
  let main_v30 : FVec F S8x2048x256 .f32 := broadcastInDim S8x2048x256 ![] bcast_S_S8x2048x256 main_cst_8
  let main_v31 : IVec S8x2048x256 1 := cmpf .olt main_v29 main_v30
  let main_c_9 : IVec S_ 1 := constantI S_ 1 1#1
  let main_v32 : IVec S_ 1 := (fun x v => Host.reduce IntOp.andi x v reducesTo_S8x2048x256_S_d0_1_2 h_S_) main_v31 main_c_9
  let main_v33 : IVec S_ 1 := andi main_v27 main_v32
  let main_v34 : FVec F S8x2048x256 .f32 := (extf .f32 · bitsLt_bf16_f32) main_arg5
  let main_v35 : FVec F S8x2048x256 .f32 := Host.absf main_v34
  fn_part2 (F := F) main_arg6 main_v33 main_v35

def fn {F : FTy → Type} [FloatOps F] (main_arg0 : FVec F S8x2048x256 .bf16) (main_arg1 : FVec F S8x2048x256 .bf16) (main_arg2 : FVec F S8x2048x256 .bf16) (main_arg3 : FVec F S8x2048x256 .bf16) (main_arg4 : FVec F S8x2048x256 .bf16) (main_arg5 : FVec F S8x2048x256 .bf16) (main_arg6 : FVec F S8x2048x256 .bf16) (main_arg7 : FVec F S8x32x256 .f32) (main_arg8 : FVec F S8x2048x256 .f32) (main_arg9 : FVec F S8x2048x256 .f32) (main_arg10 : FVec F S256 .f32) (main_arg11 : FVec F S256 .f32) : IVec S_ 1 :=
  let main_v0 : FVec F S8x32x256 .f32 := Host.absf main_arg7
  let main_cst : FVec F S_ .f32 := constant S_ .f32 0x7F800000#32
  let main_v1 : FVec F S8x32x256 .f32 := broadcastInDim S8x32x256 ![] bcast_S_S8x32x256 main_cst
  let main_v2 : IVec S8x32x256 1 := cmpf .olt main_v0 main_v1
  let main_c : IVec S_ 1 := constantI S_ 1 1#1
  let main_v3 : IVec S_ 1 := (fun x v => Host.reduce IntOp.andi x v reducesTo_S8x32x256_S_d0_1_2 h_S_) main_v2 main_c
  let main_v4 : FVec F S8x2048x256 .f32 := (extf .f32 · bitsLt_bf16_f32) main_arg0
  let main_v5 : FVec F S8x2048x256 .f32 := Host.absf main_v4
  let main_cst_0 : FVec F S_ .f32 := constant S_ .f32 0x7F800000#32
  let main_v6 : FVec F S8x2048x256 .f32 := broadcastInDim S8x2048x256 ![] bcast_S_S8x2048x256 main_cst_0
  let main_v7 : IVec S8x2048x256 1 := cmpf .olt main_v5 main_v6
  let main_c_1 : IVec S_ 1 := constantI S_ 1 1#1
  let main_v8 : IVec S_ 1 := (fun x v => Host.reduce IntOp.andi x v reducesTo_S8x2048x256_S_d0_1_2 h_S_) main_v7 main_c_1
  let main_v9 : IVec S_ 1 := andi main_v3 main_v8
  let main_v10 : FVec F S8x2048x256 .f32 := (extf .f32 · bitsLt_bf16_f32) main_arg1
  let main_v11 : FVec F S8x2048x256 .f32 := Host.absf main_v10
  let main_cst_2 : FVec F S_ .f32 := constant S_ .f32 0x7F800000#32
  let main_v12 : FVec F S8x2048x256 .f32 := broadcastInDim S8x2048x256 ![] bcast_S_S8x2048x256 main_cst_2
  let main_v13 : IVec S8x2048x256 1 := cmpf .olt main_v11 main_v12
  let main_c_3 : IVec S_ 1 := constantI S_ 1 1#1
  let main_v14 : IVec S_ 1 := (fun x v => Host.reduce IntOp.andi x v reducesTo_S8x2048x256_S_d0_1_2 h_S_) main_v13 main_c_3
  let main_v15 : IVec S_ 1 := andi main_v9 main_v14
  let main_v16 : FVec F S8x2048x256 .f32 := (extf .f32 · bitsLt_bf16_f32) main_arg2
  let main_v17 : FVec F S8x2048x256 .f32 := Host.absf main_v16
  fn_part1 (F := F) main_arg3 main_arg4 main_arg5 main_arg6 main_v15 main_v17
-- ==== Pre_finite6.lean ====
abbrev S8x2048x1024 : Shape := ⟨3, ![8, 2048, 1024]⟩
abbrev S1024 : Shape := ⟨1, ![1024]⟩
abbrev S8x1x1024 : Shape := ⟨3, ![8, 1, 1024]⟩
abbrev S1024x768 : Shape := ⟨2, ![1024, 768]⟩
abbrev S_ : Shape := ⟨0, ![]⟩

class Facts : Prop where
  bcast_S_S1024x768 : S_.BroadcastsInDim S1024x768 (![] : Fin 0 → Fin S1024x768.rank)
  reducesTo_S1024x768_S_d0_1 : S1024x768.ReducesTo [0, 1] S_
  h_S_ : 0 < S_.numel
  bcast_S_S1024 : S_.BroadcastsInDim S1024 (![] : Fin 0 → Fin S1024.rank)
  reducesTo_S1024_S_d0 : S1024.ReducesTo [0] S_
  bcast_S_S8x1x1024 : S_.BroadcastsInDim S8x1x1024 (![] : Fin 0 → Fin S8x1x1024.rank)
  reducesTo_S8x1x1024_S_d0_1_2 : S8x1x1024.ReducesTo [0, 1, 2] S_

variable [Facts]

def fn_part1 {F : FTy → Type} [FloatOps F] (main_v13 : IVec S_ 1) (main_v16 : IVec S8x1x1024 1) : IVec S_ 1 :=
  let main_c_5 : IVec S_ 1 := constantI S_ 1 1#1
  let main_v17 : IVec S_ 1 := (fun x v => Host.reduce IntOp.andi x v reducesTo_S8x1x1024_S_d0_1_2 h_S_) main_v16 main_c_5
  let main_v18 : IVec S_ 1 := andi main_v13 main_v17
  main_v18

def fn {F : FTy → Type} [FloatOps F] (main_arg0 : FVec F S8x2048x1024 .f32) (main_arg1 : FVec F S1024 .f32) (main_arg2 : FVec F S8x1x1024 .f32) (main_arg3 : FVec F S8x1x1024 .f32) (main_arg4 : FVec F S1024x768 .f32) : IVec S_ 1 :=
  let main_v0 : FVec F S1024x768 .f32 := Host.absf main_arg4
  let main_cst : FVec F S_ .f32 := constant S_ .f32 0x7F800000#32
  let main_v1 : FVec F S1024x768 .f32 := broadcastInDim S1024x768 ![] bcast_S_S1024x768 main_cst
  let main_v2 : IVec S1024x768 1 := cmpf .olt main_v0 main_v1
  let main_c : IVec S_ 1 := constantI S_ 1 1#1
  let main_v3 : IVec S_ 1 := (fun x v => Host.reduce IntOp.andi x v reducesTo_S1024x768_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S8x1x1024 .f32 := Host.absf main_arg2
  let main_cst_2 : FVec F S_ .f32 := constant S_ .f32 0x7F800000#32
  let main_v10 : FVec F S8x1x1024 .f32 := broadcastInDim S8x1x1024 ![] bcast_S_S8x1x1024 main_cst_2
  let main_v11 : IVec S8x1x1024 1 := cmpf .olt main_v9 main_v10
  let main_c_3 : IVec S_ 1 := constantI S_ 1 1#1
  let main_v12 : IVec S_ 1 := (fun x v => Host.reduce IntOp.andi x v reducesTo_S8x1x1024_S_d0_1_2 h_S_) main_v11 main_c_3
  let main_v13 : IVec S_ 1 := andi main_v8 main_v12
  let main_v14 : FVec F S8x1x1024 .f32 := Host.absf main_arg3
  let main_cst_4 : FVec F S_ .f32 := constant S_ .f32 0x7F800000#32
  let main_v15 : FVec F S8x1x1024 .f32 := broadcastInDim S8x1x1024 ![] bcast_S_S8x1x1024 main_cst_4
  let main_v16 : IVec S8x1x1024 1 := cmpf .olt main_v14 main_v15
  fn_part1 (F := F) main_v13 main_v16
-- ==== Pre_finite9.lean ====
abbrev S1x128x1024 : Shape := ⟨3, ![1, 128, 1024]⟩
abbrev S1024 : Shape := ⟨1, ![1024]⟩
abbrev S1024x768 : Shape := ⟨2, ![1024, 768]⟩
abbrev S_ : Shape := ⟨0, ![]⟩

class Facts : Prop where
  bcast_S_S1024x768 : S_.BroadcastsInDim S1024x768 (![] : Fin 0 → Fin S1024x768.rank)
  reducesTo_S1024x768_S_d0_1 : S1024x768.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1x128x1024 : S_.BroadcastsInDim S1x128x1024 (![] : Fin 0 → Fin S1x128x1024.rank)
  reducesTo_S1x128x1024_S_d0_1_2 : S1x128x1024.ReducesTo [0, 1, 2] S_

variable [Facts]

def fn_part1 {F : FTy → Type} [FloatOps F] (main_v13 : IVec S_ 1) (main_v16 : IVec S1x128x1024 1) : IVec S_ 1 :=
  let main_c_5 : IVec S_ 1 := constantI S_ 1 1#1
  let main_v17 : IVec S_ 1 := (fun x v => Host.reduce IntOp.andi x v reducesTo_S1x128x1024_S_d0_1_2 h_S_) main_v16 main_c_5
  let main_v18 : IVec S_ 1 := andi main_v13 main_v17
  main_v18

def fn {F : FTy → Type} [FloatOps F] (main_arg0 : FVec F S1x128x1024 .f32) (main_arg1 : FVec F S1024 .f32) (main_arg2 : FVec F S1x128x1024 .f32) (main_arg3 : FVec F S1x128x1024 .f32) (main_arg4 : FVec F S1024x768 .f32) : IVec S_ 1 :=
  let main_v0 : FVec F S1024x768 .f32 := Host.absf main_arg4
  let main_cst : FVec F S_ .f32 := constant S_ .f32 0x7F800000#32
  let main_v1 : FVec F S1024x768 .f32 := broadcastInDim S1024x768 ![] bcast_S_S1024x768 main_cst
  let main_v2 : IVec S1024x768 1 := cmpf .olt main_v0 main_v1
  let main_c : IVec S_ 1 := constantI S_ 1 1#1
  let main_v3 : IVec S_ 1 := (fun x v => Host.reduce IntOp.andi x v reducesTo_S1024x768_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x128x1024 .f32 := Host.absf main_arg2
  let main_cst_2 : FVec F S_ .f32 := constant S_ .f32 0x7F800000#32
  let main_v10 : FVec F S1x128x1024 .f32 := broadcastInDim S1x128x1024 ![] bcast_S_S1x128x1024 main_cst_2
  let main_v11 : IVec S1x128x1024 1 := cmpf .olt main_v9 main_v10
  let main_c_3 : IVec S_ 1 := constantI S_ 1 1#1
  let main_v12 : IVec S_ 1 := (fun x v => Host.reduce IntOp.andi x v reducesTo_S1x128x1024_S_d0_1_2 h_S_) main_v11 main_c_3
  let main_v13 : IVec S_ 1 := andi main_v8 main_v12
  let main_v14 : FVec F S1x128x1024 .f32 := Host.absf main_arg3
  let main_cst_4 : FVec F S_ .f32 := constant S_ .f32 0x7F800000#32
  let main_v15 : FVec F S1x128x1024 .f32 := broadcastInDim S1x128x1024 ![] bcast_S_S1x128x1024 main_cst_4
  let main_v16 : IVec S1x128x1024 1 := cmpf .olt main_v14 main_v15
  fn_part1 (F := F) main_v13 main_v16
-- ==== Kernel.lean ====
abbrev S8x2048x256 : Shape := ⟨3, ![8, 2048, 256]⟩
abbrev S8x32x256 : Shape := ⟨3, ![8, 32, 256]⟩
abbrev S256 : Shape := ⟨1, ![256]⟩
abbrev S8x32x64x256 : Shape := ⟨4, ![8, 32, 64, 256]⟩
abbrev S_ : Shape := ⟨0, ![]⟩
abbrev S8x256x256 : Shape := ⟨3, ![8, 256, 256]⟩
abbrev S1x256 : Shape := ⟨2, ![1, 256]⟩
abbrev S4x64x256 : Shape := ⟨3, ![4, 64, 256]⟩
abbrev S4x256x256 : Shape := ⟨3, ![4, 256, 256]⟩
abbrev S256x256 : Shape := ⟨2, ![256, 256]⟩
abbrev S1x64x256 : Shape := ⟨3, ![1, 64, 256]⟩
abbrev S64x256 : Shape := ⟨2, ![64, 256]⟩
abbrev S512x256 : Shape := ⟨2, ![512, 256]⟩
abbrev S512x512 : Shape := ⟨2, ![512, 512]⟩
abbrev S1x256x256 : Shape := ⟨3, ![1, 256, 256]⟩
abbrev S256x512 : Shape := ⟨2, ![256, 512]⟩
abbrev S128x256 : Shape := ⟨2, ![128, 256]⟩
abbrev S256x128 : Shape := ⟨2, ![256, 128]⟩
abbrev S64 : Shape := ⟨1, ![64]⟩
abbrev S64x1 : Shape := ⟨2, ![64, 1]⟩

abbrev nBuf : Space → Nat
  | .hbm => 20
  | .vmem => 28
  | .smem => 0
  | _ => 0

abbrev bufTy : (tb : Table) → Fin (tcTables nBuf tb) → BufTy
  | .hbm, ⟨0, _⟩ => ⟨S8x2048x256, .bf16⟩
  | .hbm, ⟨1, _⟩ => ⟨S8x2048x256, .bf16⟩
  | .hbm, ⟨2, _⟩ => ⟨S8x2048x256, .bf16⟩
  | .hbm, ⟨3, _⟩ => ⟨S8x2048x256, .bf16⟩
  | .hbm, ⟨4, _⟩ => ⟨S8x2048x256, .bf16⟩
  | .hbm, ⟨5, _⟩ => ⟨S8x2048x256, .bf16⟩
  | .hbm, ⟨6, _⟩ => ⟨S8x2048x256, .bf16⟩
  | .hbm, ⟨7, _⟩ => ⟨S8x32x256, .f32⟩
  | .hbm, ⟨8, _⟩ => ⟨S8x2048x256, .f32⟩
  | .hbm, ⟨9, _⟩ => ⟨S8x2048x256, .f32⟩
  | .hbm, ⟨10, _⟩ => ⟨S256, .f32⟩
  | .hbm, ⟨11, _⟩ => ⟨S256, .f32⟩
  | .hbm, ⟨12, _⟩ => ⟨S8x32x64x256, .f32⟩
  | .hbm, ⟨13, _⟩ => ⟨S8x2048x256, .f32⟩
  | .hbm, ⟨14, _⟩ => ⟨S_, .f32⟩
  | .hbm, ⟨15, _⟩ => ⟨S8x256x256, .f32⟩
  | .hbm, ⟨16, _⟩ => ⟨S1x256, .f32⟩
  | .hbm, ⟨17, _⟩ => ⟨S1x256, .f32⟩
  | .hbm, ⟨18, _⟩ => ⟨S8x2048x256, .f32⟩
  | .hbm, ⟨19, _⟩ => ⟨S8x256x256, .f32⟩
  | .local _ .vmem, ⟨0, _⟩ => ⟨S4x64x256, .bf16⟩
  | .local _ .vmem, ⟨1, _⟩ => ⟨S4x64x256, .bf16⟩
  | .local _ .vmem, ⟨2, _⟩ => ⟨S4x64x256, .bf16⟩
  | .local _ .vmem, ⟨3, _⟩ => ⟨S4x64x256, .bf16⟩
  | .local _ .vmem, ⟨4, _⟩ => ⟨S4x64x256, .bf16⟩
  | .local _ .vmem, ⟨5, _⟩ => ⟨S4x64x256, .bf16⟩
  | .local _ .vmem, ⟨6, _⟩ => ⟨S4x64x256, .bf16⟩
  | .local _ .vmem, ⟨7, _⟩ => ⟨S4x64x256, .bf16⟩
  | .local _ .vmem, ⟨8, _⟩ => ⟨S4x64x256, .bf16⟩
  | .local _ .vmem, ⟨9, _⟩ => ⟨S4x64x256, .bf16⟩
  | .local _ .vmem, ⟨10, _⟩ => ⟨S4x64x256, .bf16⟩
  | .local _ .vmem, ⟨11, _⟩ => ⟨S4x64x256, .bf16⟩
  | .local _ .vmem, ⟨12, _⟩ => ⟨S4x64x256, .bf16⟩
  | .local _ .vmem, ⟨13, _⟩ => ⟨S4x64x256, .bf16⟩
  | .local _ .vmem, ⟨14, _⟩ => ⟨S4x64x256, .f32⟩
  | .local _ .vmem, ⟨15, _⟩ => ⟨S4x64x256, .f32⟩
  | .local _ .vmem, ⟨16, _⟩ => ⟨S4x64x256, .f32⟩
  | .local _ .vmem, ⟨17, _⟩ => ⟨S4x64x256, .f32⟩
  | .local _ .vmem, ⟨18, _⟩ => ⟨S4x64x256, .f32⟩
  | .local _ .vmem, ⟨19, _⟩ => ⟨S4x64x256, .f32⟩
  | .local _ .vmem, ⟨20, _⟩ => ⟨S1x256, .f32⟩
  | .local _ .vmem, ⟨21, _⟩ => ⟨S1x256, .f32⟩
  | .local _ .vmem, ⟨22, _⟩ => ⟨S4x256x256, .f32⟩
  | .local _ .vmem, ⟨23, _⟩ => ⟨S4x256x256, .f32⟩
  | .local _ .vmem, ⟨24, _⟩ => ⟨S4x64x256, .f32⟩
  | .local _ .vmem, ⟨25, _⟩ => ⟨S4x64x256, .f32⟩
  | .local _ .vmem, ⟨26, _⟩ => ⟨S4x256x256, .f32⟩
  | .local _ .vmem, ⟨27, _⟩ => ⟨S4x256x256, .f32⟩
  | _, _ => ⟨S8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S4x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S4x64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S4x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S8x2048x256 : Shape := ⟨3, ![8, 2048, 256]⟩
abbrev S8x32x256 : Shape := ⟨3, ![8, 32, 256]⟩
abbrev S256 : Shape := ⟨1, ![256]⟩
abbrev S8x2048x4x64 : Shape := ⟨4, ![8, 2048, 4, 64]⟩
abbrev S2048x8x4x64 : Shape := ⟨4, ![2048, 8, 4, 64]⟩
abbrev S8x32x64x256 : Shape := ⟨4, ![8, 32, 64, 256]⟩
abbrev S2048 : Shape := ⟨1, ![2048]⟩
abbrev S_ : Shape := ⟨0, ![]⟩
abbrev S8x4x64x64 : Shape := ⟨4, ![8, 4, 64, 64]⟩
abbrev S1x8x4x64 : Shape := ⟨4, ![1, 8, 4, 64]⟩
abbrev S8x4x64 : Shape := ⟨3, ![8, 4, 64]⟩
abbrev S1 : Shape := ⟨1, ![1]⟩
abbrev S8x4x1x64 : Shape := ⟨4, ![8, 4, 1, 64]⟩
abbrev S8x4x64x1 : Shape := ⟨4, ![8, 4, 64, 1]⟩
abbrev S8x2048x4 : Shape := ⟨3, ![8, 2048, 4]⟩
abbrev S8x2048x4x1 : Shape := ⟨4, ![8, 2048, 4, 1]⟩
abbrev S1x1x256 : Shape := ⟨3, ![1, 1, 256]⟩
abbrev S4x4 : Shape := ⟨2, ![4, 4]⟩
abbrev S8x4x64x1x64 : Shape := ⟨5, ![8, 4, 64, 1, 64]⟩
abbrev S1x4x1x4x1 : Shape := ⟨5, ![1, 4, 1, 4, 1]⟩
abbrev S8x4x64x4x64 : Shape := ⟨5, ![8, 4, 64, 4, 64]⟩
abbrev S8x256x256 : Shape := ⟨3, ![8, 256, 256]⟩

abbrev nBuf : Space → Nat
  | .hbm => 205
  | .vmem => 0
  | .smem => 0
  | _ => 0

abbrev hbmTy0_0 (i : Nat) : BufTy := match i % 128 with
  | 0 => ⟨S8x2048x256, .bf16⟩
  | 1 => ⟨S8x2048x256, .bf16⟩
  | 2 => ⟨S8x2048x256, .bf16⟩
  | 3 => ⟨S8x2048x256, .bf16⟩
  | 4 => ⟨S8x2048x256, .bf16⟩
  | 5 => ⟨S8x2048x256, .bf16⟩
  | 6 => ⟨S8x2048x256, .bf16⟩
  | 7 => ⟨S8x32x256, .f32⟩
  | 8 => ⟨S8x2048x256, .f32⟩
  | 9 => ⟨S8x2048x256, .f32⟩
  | 10 => ⟨S256, .f32⟩
  | 11 => ⟨S256, .f32⟩
  | 12 => ⟨S8x2048x256, .f32⟩
  | 13 => ⟨S8x2048x4x64, .f32⟩
  | 14 => ⟨S2048x8x4x64, .f32⟩
  | 15 => ⟨S8x2048x256, .f32⟩
  | 16 => ⟨S8x2048x4x64, .f32⟩
  | 17 => ⟨S2048x8x4x64, .f32⟩
  | 18 => ⟨S8x2048x256, .f32⟩
  | 19 => ⟨S8x2048x4x64, .f32⟩
  | 20 => ⟨S2048x8x4x64, .f32⟩
  | 21 => ⟨S8x2048x256, .f32⟩
  | 22 => ⟨S8x2048x4x64, .f32⟩
  | 23 => ⟨S2048x8x4x64, .f32⟩
  | 24 => ⟨S8x2048x256, .f32⟩
  | 25 => ⟨S8x2048x4x64, .f32⟩
  | 26 => ⟨S2048x8x4x64, .f32⟩
  | 27 => ⟨S8x2048x256, .f32⟩
  | 28 => ⟨S8x2048x4x64, .f32⟩
  | 29 => ⟨S2048x8x4x64, .f32⟩
  | 30 => ⟨S8x2048x256, .f32⟩
  | 31 => ⟨S8x2048x4x64, .f32⟩
  | 32 => ⟨S2048x8x4x64, .f32⟩
  | 33 => ⟨S8x32x64x256, .f32⟩
  | 34 => ⟨S8x2048x256, .f32⟩
  | 35 => ⟨S8x2048x4x64, .f32⟩
  | 36 => ⟨S2048x8x4x64, .f32⟩
  | 37 => ⟨S2048, .i32⟩
  | 38 => ⟨S_, .f32⟩
  | 39 => ⟨S8x4x64x64, .f32⟩
  | 40 => ⟨S_, .f32⟩
  | 41 => ⟨S2048x8x4x64, .f32⟩
  | 42 => ⟨S_, .i32⟩
  | 43 => ⟨S2048x8x4x64, .f32⟩
  | 44 => ⟨S2048x8x4x64, .f32⟩
  | 45 => ⟨S2048x8x4x64, .f32⟩
  | 46 => ⟨S2048x8x4x64, .f32⟩
  | 47 => ⟨S2048x8x4x64, .f32⟩
  | 48 => ⟨S2048x8x4x64, .f32⟩
  | 49 => ⟨S2048x8x4x64, .f32⟩
  | 50 => ⟨S2048x8x4x64, .f32⟩
  | 51 => ⟨S2048, .i32⟩
  | 52 => ⟨S_, .i32⟩
  | 53 => ⟨S8x4x64x64, .f32⟩
  | 54 => ⟨S8x4x64x64, .f32⟩
  | 55 => ⟨S2048x8x4x64, .f32⟩
  | 56 => ⟨S_, .i32⟩
  | 57 => ⟨S_, .i1⟩
  | 58 => ⟨S_, .i32⟩
  | 59 => ⟨S_, .i32⟩
  | 60 => ⟨S_, .i32⟩
  | 61 => ⟨S1x8x4x64, .f32⟩
  | 62 => ⟨S8x4x64, .f32⟩
  | 63 => ⟨S_, .i32⟩
  | 64 => ⟨S_, .i32⟩
  | 65 => ⟨S_, .i32⟩
  | 66 => ⟨S1x8x4x64, .f32⟩
  | 67 => ⟨S8x4x64, .f32⟩
  | 68 => ⟨S_, .i32⟩
  | 69 => ⟨S_, .i32⟩
  | 70 => ⟨S_, .i32⟩
  | 71 => ⟨S1x8x4x64, .f32⟩
  | 72 => ⟨S8x4x64, .f32⟩
  | 73 => ⟨S_, .i32⟩
  | 74 => ⟨S_, .i32⟩
  | 75 => ⟨S_, .i32⟩
  | 76 => ⟨S1x8x4x64, .f32⟩
  | 77 => ⟨S8x4x64, .f32⟩
  | 78 => ⟨S_, .i32⟩
  | 79 => ⟨S_, .i32⟩
  | 80 => ⟨S_, .i32⟩
  | 81 => ⟨S1x8x4x64, .f32⟩
  | 82 => ⟨S8x4x64, .f32⟩
  | 83 => ⟨S_, .i32⟩
  | 84 => ⟨S_, .i32⟩
  | 85 => ⟨S_, .i32⟩
  | 86 => ⟨S1x8x4x64, .f32⟩
  | 87 => ⟨S8x4x64, .f32⟩
  | 88 => ⟨S_, .i32⟩
  | 89 => ⟨S_, .i32⟩
  | 90 => ⟨S_, .i32⟩
  | 91 => ⟨S1x8x4x64, .f32⟩
  | 92 => ⟨S8x4x64, .f32⟩
  | 93 => ⟨S_, .i32⟩
  | 94 => ⟨S_, .i32⟩
  | 95 => ⟨S_, .i32⟩
  | 96 => ⟨S1x8x4x64, .f32⟩
  | 97 => ⟨S8x4x64, .f32⟩
  | 98 => ⟨S1, .i32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i1⟩
  | 109 => ⟨S_, .i32⟩
  | 110 => ⟨S_, .i1⟩
  | 111 => ⟨S_, .i32⟩
  | 112 => ⟨S_, .i1⟩
  | 113 => ⟨S_, .i1⟩
  | 114 => ⟨S_, .i1⟩
  | 115 => ⟨S_, .i32⟩
  | 116 => ⟨S_, .i32⟩
  | 117 => ⟨S_, .i32⟩
  | 118 => ⟨S_, .i1⟩
  | 119 => ⟨S8x4x64x64, .f32⟩
  | 120 => ⟨S8x4x1x64, .f32⟩
  | 121 => ⟨S8x4x64x64, .f32⟩
  | 122 => ⟨S8x4x64x64, .f32⟩
  | 123 => ⟨S8x4x64x64, .f32⟩
  | 124 => ⟨S8x4x64, .f32⟩
  | 125 => ⟨S8x4x64, .f32⟩
  | 126 => ⟨S8x4x64x1, .f32⟩
  | 127 => ⟨S8x4x1x64, .f32⟩
  | _ => ⟨S8x2048x256, .bf16⟩

abbrev hbmTy0_1 (i : Nat) : BufTy := match i % 128 with
  | 0 => ⟨S8x4x64x64, .f32⟩
  | 1 => ⟨S8x4x64x64, .f32⟩
  | 2 => ⟨S8x4x64x64, .f32⟩
  | 3 => ⟨S8x4x64x64, .f32⟩
  | 4 => ⟨S8x4x64x1, .f32⟩
  | 5 => ⟨S8x4x1x64, .f32⟩
  | 6 => ⟨S8x4x64x64, .f32⟩
  | 7 => ⟨S8x4x64x64, .f32⟩
  | 8 => ⟨S8x4x64x64, .f32⟩
  | 9 => ⟨S8x4x64x64, .f32⟩
  | 10 => ⟨S8x4x64x1, .f32⟩
  | 11 => ⟨S8x4x1x64, .f32⟩
  | 12 => ⟨S8x4x64x64, .f32⟩
  | 13 => ⟨S8x4x64x64, .f32⟩
  | 14 => ⟨S8x4x64x64, .f32⟩
  | 15 => ⟨S8x4x64x64, .f32⟩
  | 16 => ⟨S8x4x64x1, .f32⟩
  | 17 => ⟨S8x4x1x64, .f32⟩
  | 18 => ⟨S8x4x64x64, .f32⟩
  | 19 => ⟨S8x4x64x64, .f32⟩
  | 20 => ⟨S8x4x64x64, .f32⟩
  | 21 => ⟨S8x4x64x64, .f32⟩
  | 22 => ⟨S8x4x64, .f32⟩
  | 23 => ⟨S1x8x4x64, .f32⟩
  | 24 => ⟨S_, .i32⟩
  | 25 => ⟨S_, .i32⟩
  | 26 => ⟨S_, .i32⟩
  | 27 => ⟨S2048x8x4x64, .f32⟩
  | 28 => ⟨S_, .i32⟩
  | 29 => ⟨S_, .i32⟩
  | 30 => ⟨S8x2048x4x64, .f32⟩
  | 31 => ⟨S_, .f32⟩
  | 32 => ⟨S8x2048x4, .f32⟩
  | 33 => ⟨S8x2048x4x1, .f32⟩
  | 34 => ⟨S_, .f32⟩
  | 35 => ⟨S8x2048x4x1, .f32⟩
  | 36 => ⟨S8x2048x4x1, .f32⟩
  | 37 => ⟨S8x2048x4x64, .f32⟩
  | 38 => ⟨S8x2048x4x64, .f32⟩
  | 39 => ⟨S8x2048x4x64, .f32⟩
  | 40 => ⟨S_, .f32⟩
  | 41 => ⟨S8x2048x4, .f32⟩
  | 42 => ⟨S8x2048x4x1, .f32⟩
  | 43 => ⟨S_, .f32⟩
  | 44 => ⟨S8x2048x4x1, .f32⟩
  | 45 => ⟨S8x2048x4x1, .f32⟩
  | 46 => ⟨S8x2048x4x64, .f32⟩
  | 47 => ⟨S8x2048x4x64, .f32⟩
  | 48 => ⟨S_, .f32⟩
  | 49 => ⟨S8x2048x4x1, .f32⟩
  | 50 => ⟨S8x2048x4x1, .f32⟩
  | 51 => ⟨S8x2048x4x1, .f32⟩
  | 52 => ⟨S8x2048x4x64, .f32⟩
  | 53 => ⟨S8x2048x4x64, .f32⟩
  | 54 => ⟨S8x2048x256, .f32⟩
  | 55 => ⟨S1x1x256, .f32⟩
  | 56 => ⟨S8x2048x256, .f32⟩
  | 57 => ⟨S8x2048x256, .f32⟩
  | 58 => ⟨S1x1x256, .f32⟩
  | 59 => ⟨S8x2048x256, .f32⟩
  | 60 => ⟨S8x2048x256, .f32⟩
  | 61 => ⟨S8x2048x256, .f32⟩
  | 62 => ⟨S8x2048x256, .f32⟩
  | 63 => ⟨S4x4, .i32⟩
  | 64 => ⟨S4x4, .i32⟩
  | 65 => ⟨S_, .i32⟩
  | 66 => ⟨S4x4, .i32⟩
  | 67 => ⟨S4x4, .i32⟩
  | 68 => ⟨S4x4, .i1⟩
  | 69 => ⟨S4x4, .f32⟩
  | 70 => ⟨S8x4x64x64, .f32⟩
  | 71 => ⟨S8x4x64x1x64, .f32⟩
  | 72 => ⟨S1x4x1x4x1, .f32⟩
  | 73 => ⟨S8x4x64x4x64, .f32⟩
  | 74 => ⟨S8x4x64x4x64, .f32⟩
  | 75 => ⟨S8x4x64x4x64, .f32⟩
  | 76 => ⟨S8x256x256, .f32⟩
  | _ => ⟨S8x2048x256, .bf16⟩

abbrev hbmTy (i : Nat) : BufTy := match i / 128 with
  | 0 => hbmTy0_0 i
  | 1 => hbmTy0_1 i
  | _ => ⟨S8x2048x256, .bf16⟩

abbrev bufTy : (tb : Table) → Fin (tcTables nBuf tb) → BufTy
  | .hbm, ⟨i, _⟩ => hbmTy i
  | _, _ => ⟨S8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_cst_0 : Ref sig .tc := ⟨.hbm, 40, rfl⟩
abbrev main_v27 : Ref sig .tc := ⟨.hbm, 41, rfl⟩
abbrev main_c : Ref sig .tc := ⟨.hbm, 42, rfl⟩
abbrev main_v28_0 : Ref sig .tc := ⟨.hbm, 43, rfl⟩
abbrev main_v28_1 : Ref sig .tc := ⟨.hbm, 44, rfl⟩
abbrev main_v28_2 : Ref sig .tc := ⟨.hbm, 45, rfl⟩
abbrev main_v28_3 : Ref sig .tc := ⟨.hbm, 46, rfl⟩
abbrev main_v28_4 : Ref sig .tc := ⟨.hbm, 47, rfl⟩
abbrev main_v28_5 : Ref sig .tc := ⟨.hbm, 48, rfl⟩
abbrev main_v28_6 : Ref sig .tc := ⟨.hbm, 49, rfl⟩
abbrev main_v28_7 : Ref sig .tc := ⟨.hbm, 50, rfl⟩
abbrev main_v28_8 : Ref sig .tc := ⟨.hbm, 51, rfl⟩
abbrev main_v28_9 : Ref sig .tc := ⟨.hbm, 52, rfl⟩
abbrev main_v28_10 : Ref sig .tc := ⟨.hbm, 53, rfl⟩
abbrev main_v28_11 : Ref sig .tc := ⟨.hbm, 54, rfl⟩
abbrev main_v28_12 : Ref sig .tc := ⟨.hbm, 55, rfl⟩
abbrev main_while0c_c_19 : Ref sig .tc := ⟨.hbm, 56, rfl⟩
abbrev main_while0c_v70 : Ref sig .tc := ⟨.hbm, 57, rfl⟩
abbrev main_while0b_call0_c : Ref sig .tc := ⟨.hbm, 58, rfl⟩
abbrev main_while0b_call0_c_0 : Ref sig .tc := ⟨.hbm, 59, rfl⟩
abbrev main_while0b_call0_c_1 : Ref sig .tc := ⟨.hbm, 60, rfl⟩
abbrev main_while0b_call0_v0 : Ref sig .tc := ⟨.hbm, 61, rfl⟩
abbrev main_while0b_v70 : Ref sig .tc := ⟨.hbm, 62, rfl⟩
abbrev main_while0b_call1_c : Ref sig .tc := ⟨.hbm, 63, rfl⟩
abbrev main_while0b_call1_c_0 : Ref sig .tc := ⟨.hbm, 64, rfl⟩
abbrev main_while0b_call1_c_1 : Ref sig .tc := ⟨.hbm, 65, rfl⟩
abbrev main_while0b_call1_v0 : Ref sig .tc := ⟨.hbm, 66, rfl⟩
abbrev main_while0b_v71 : Ref sig .tc := ⟨.hbm, 67, rfl⟩
abbrev main_while0b_call2_c : Ref sig .tc := ⟨.hbm, 68, rfl⟩
abbrev main_while0b_call2_c_0 : Ref sig .tc := ⟨.hbm, 69, rfl⟩
abbrev main_while0b_call2_c_1 : Ref sig .tc := ⟨.hbm, 70, rfl⟩
abbrev main_while0b_call2_v0 : Ref sig .tc := ⟨.hbm, 71, rfl⟩
abbrev main_while0b_v72 : Ref sig .tc := ⟨.hbm, 72, rfl⟩
abbrev main_while0b_call3_c : Ref sig .tc := ⟨.hbm, 73, rfl⟩
abbrev main_while0b_call3_c_0 : Ref sig .tc := ⟨.hbm, 74, rfl⟩
abbrev main_while0b_call3_c_1 : Ref sig .tc := ⟨.hbm, 75, rfl⟩
abbrev main_while0b_call3_v0 : Ref sig .tc := ⟨.hbm, 76, rfl⟩
abbrev main_while0b_v73 : Ref sig .tc := ⟨.hbm, 77, rfl⟩
abbrev main_while0b_call4_c : Ref sig .tc := ⟨.hbm, 78, rfl⟩
abbrev main_while0b_call4_c_0 : Ref sig .tc := ⟨.hbm, 79, rfl⟩
abbrev main_while0b_call4_c_1 : Ref sig .tc := ⟨.hbm, 80, rfl⟩
abbrev main_while0b_call4_v0 : Ref sig .tc := ⟨.hbm, 81, rfl⟩
abbrev main_while0b_v74 : Ref sig .tc := ⟨.hbm, 82, rfl⟩
abbrev main_while0b_call5_c : Ref sig .tc := ⟨.hbm, 83, rfl⟩
abbrev main_while0b_call5_c_0 : Ref sig .tc := ⟨.hbm, 84, rfl⟩
abbrev main_while0b_call5_c_1 : Ref sig .tc := ⟨.hbm, 85, rfl⟩
abbrev main_while0b_call5_v0 : Ref sig .tc := ⟨.hbm, 86, rfl⟩
abbrev main_while0b_v75 : Ref sig .tc := ⟨.hbm, 87, rfl⟩
abbrev main_while0b_call6_c : Ref sig .tc := ⟨.hbm, 88, rfl⟩
abbrev main_while0b_call6_c_0 : Ref sig .tc := ⟨.hbm, 89, rfl⟩
abbrev main_while0b_call6_c_1 : Ref sig .tc := ⟨.hbm, 90, rfl⟩
abbrev main_while0b_call6_v0 : Ref sig .tc := ⟨.hbm, 91, rfl⟩
abbrev main_while0b_v76 : Ref sig .tc := ⟨.hbm, 92, rfl⟩
abbrev main_while0b_call7_c : Ref sig .tc := ⟨.hbm, 93, rfl⟩
abbrev main_while0b_call7_c_0 : Ref sig .tc := ⟨.hbm, 94, rfl⟩
abbrev main_while0b_call7_c_1 : Ref sig .tc := ⟨.hbm, 95, rfl⟩
abbrev main_while0b_call7_v0 : Ref sig .tc := ⟨.hbm, 96, rfl⟩
abbrev main_while0b_v77 : Ref sig .tc := ⟨.hbm, 97, rfl⟩
abbrev main_while0b_call8_v0 : Ref sig .tc := ⟨.hbm, 98, rfl⟩
abbrev main_while0b_v78 : Ref sig .tc := ⟨.hbm, 99, rfl⟩
abbrev main_while0b_c_19 : Ref sig .tc := ⟨.hbm, 100, rfl⟩
abbrev main_while0b_call9_v0 : Ref sig .tc := ⟨.hbm, 101, rfl⟩
abbrev main_while0b_call9_c : Ref sig .tc := ⟨.hbm, 102, rfl⟩
abbrev main_while0b_call9_v1 : Ref sig .tc := ⟨.hbm, 103, rfl⟩
abbrev main_while0b_call9_c_0 : Ref sig .tc := ⟨.hbm, 104, rfl⟩
abbrev main_while0b_call9_v2 : Ref sig .tc := ⟨.hbm, 105, rfl⟩
abbrev main_while0b_call9_v3 : Ref sig .tc := ⟨.hbm, 106, rfl⟩
abbrev main_while0b_call9_c_1 : Ref sig .tc := ⟨.hbm, 107, rfl⟩
abbrev main_while0b_call9_v4 : Ref sig .tc := ⟨.hbm, 108, rfl⟩
abbrev main_while0b_call9_c_2 : Ref sig .tc := ⟨.hbm, 109, rfl⟩
abbrev main_while0b_call9_v5 : Ref sig .tc := ⟨.hbm, 110, rfl⟩
abbrev main_while0b_call9_c_3 : Ref sig .tc := ⟨.hbm, 111, rfl⟩
abbrev main_while0b_call9_v6 : Ref sig .tc := ⟨.hbm, 112, rfl⟩
abbrev main_while0b_call9_v7 : Ref sig .tc := ⟨.hbm, 113, rfl⟩
abbrev main_while0b_call9_v8 : Ref sig .tc := ⟨.hbm, 114, rfl⟩
abbrev main_while0b_call9_v9 : Ref sig .tc := ⟨.hbm, 115, rfl⟩
abbrev main_while0b_v79 : Ref sig .tc := ⟨.hbm, 116, rfl⟩
abbrev main_while0b_c_20 : Ref sig .tc := ⟨.hbm, 117, rfl⟩
abbrev main_while0b_v80 : Ref sig .tc := ⟨.hbm, 118, rfl⟩
abbrev main_while0b_v81 : Ref sig .tc := ⟨.hbm, 119, rfl⟩
abbrev main_while0b_v82 : Ref sig .tc := ⟨.hbm, 120, rfl⟩
abbrev main_while0b_v83 : Ref sig .tc := ⟨.hbm, 121, rfl⟩
abbrev main_while0b_v84 : Ref sig .tc := ⟨.hbm, 122, rfl⟩
abbrev main_while0b_v85 : Ref sig .tc := ⟨.hbm, 123, rfl⟩
abbrev main_while0b_v86 : Ref sig .tc := ⟨.hbm, 124, rfl⟩
abbrev main_while0b_v87 : Ref sig .tc := ⟨.hbm, 125, rfl⟩
abbrev main_while0b_v88 : Ref sig .tc := ⟨.hbm, 126, rfl⟩
abbrev main_while0b_v89 : Ref sig .tc := ⟨.hbm, 127, rfl⟩
abbrev main_while0b_v90 : Ref sig .tc := ⟨.hbm, 128, rfl⟩
abbrev main_while0b_v91 : Ref sig .tc := ⟨.hbm, 129, rfl⟩
abbrev main_while0b_v92 : Ref sig .tc := ⟨.hbm, 130, rfl⟩
abbrev main_while0b_v93 : Ref sig .tc := ⟨.hbm, 131, rfl⟩
abbrev main_while0b_v94 : Ref sig .tc := ⟨.hbm, 132, rfl⟩
abbrev main_while0b_v95 : Ref sig .tc := ⟨.hbm, 133, rfl⟩
abbrev main_while0b_v96 : Ref sig .tc := ⟨.hbm, 134, rfl⟩
abbrev main_while0b_v97 : Ref sig .tc := ⟨.hbm, 135, rfl⟩
abbrev main_while0b_v98 : Ref sig .tc := ⟨.hbm, 136, rfl⟩
abbrev main_while0b_v99 : Ref sig .tc := ⟨.hbm, 137, rfl⟩
abbrev main_while0b_v100 : Ref sig .tc := ⟨.hbm, 138, rfl⟩
abbrev main_while0b_v101 : Ref sig .tc := ⟨.hbm, 139, rfl⟩
abbrev main_while0b_v102 : Ref sig .tc := ⟨.hbm, 140, rfl⟩
abbrev main_while0b_v103 : Ref sig .tc := ⟨.hbm, 141, rfl⟩
abbrev main_while0b_v104 : Ref sig .tc := ⟨.hbm, 142, rfl⟩
abbrev main_while0b_v105 : Ref sig .tc := ⟨.hbm, 143, rfl⟩
abbrev main_while0b_v106 : Ref sig .tc := ⟨.hbm, 144, rfl⟩
abbrev main_while0b_v107 : Ref sig .tc := ⟨.hbm, 145, rfl⟩
abbrev main_while0b_v108 : Ref sig .tc := ⟨.hbm, 146, rfl⟩
abbrev main_while0b_v109 : Ref sig .tc := ⟨.hbm, 147, rfl⟩
abbrev main_while0b_v110 : Ref sig .tc := ⟨.hbm, 148, rfl⟩
abbrev main_while0b_v111 : Ref sig .tc := ⟨.hbm, 149, rfl⟩
abbrev main_while0b_v112 : Ref sig .tc := ⟨.hbm, 150, rfl⟩
abbrev main_while0b_call12_v0 : Ref sig .tc := ⟨.hbm, 151, rfl⟩
abbrev main_while0b_call12_c : Ref sig .tc := ⟨.hbm, 152, rfl⟩
abbrev main_while0b_call12_c_0 : Ref sig .tc := ⟨.hbm, 153, rfl⟩
abbrev main_while0b_call12_c_1 : Ref sig .tc := ⟨.hbm, 154, rfl⟩
abbrev main_while0b_v113 : Ref sig .tc := ⟨.hbm, 155, rfl⟩
abbrev main_while0b_c_21 : Ref sig .tc := ⟨.hbm, 156, rfl⟩
abbrev main_while0b_v114 : Ref sig .tc := ⟨.hbm, 157, rfl⟩
abbrev main_v29 : Ref sig .tc := ⟨.hbm, 158, rfl⟩
abbrev main_cst_1 : Ref sig .tc := ⟨.hbm, 159, rfl⟩
abbrev main_v30 : Ref sig .tc := ⟨.hbm, 160, rfl⟩
abbrev main_v31 : Ref sig .tc := ⟨.hbm, 161, rfl⟩
abbrev main_cst_2 : Ref sig .tc := ⟨.hbm, 162, rfl⟩
abbrev main_v32 : Ref sig .tc := ⟨.hbm, 163, rfl⟩
abbrev main_v33 : Ref sig .tc := ⟨.hbm, 164, rfl⟩
abbrev main_v34 : Ref sig .tc := ⟨.hbm, 165, rfl⟩
abbrev main_v35 : Ref sig .tc := ⟨.hbm, 166, rfl⟩
abbrev main_v36 : Ref sig .tc := ⟨.hbm, 167, rfl⟩
abbrev main_cst_3 : Ref sig .tc := ⟨.hbm, 168, rfl⟩
abbrev main_v37 : Ref sig .tc := ⟨.hbm, 169, rfl⟩
abbrev main_v38 : Ref sig .tc := ⟨.hbm, 170, rfl⟩
abbrev main_cst_4 : Ref sig .tc := ⟨.hbm, 171, rfl⟩
abbrev main_v39 : Ref sig .tc := ⟨.hbm, 172, rfl⟩
abbrev main_v40 : Ref sig .tc := ⟨.hbm, 173, rfl⟩
abbrev main_v41 : Ref sig .tc := ⟨.hbm, 174, rfl⟩
abbrev main_v42 : Ref sig .tc := ⟨.hbm, 175, rfl⟩
abbrev main_cst_5 : Ref sig .tc := ⟨.hbm, 176, rfl⟩
abbrev main_v43 : Ref sig .tc := ⟨.hbm, 177, rfl⟩
abbrev main_v44 : Ref sig .tc := ⟨.hbm, 178, rfl⟩
abbrev main_v45 : Ref sig .tc := ⟨.hbm, 179, rfl⟩
abbrev main_v46 : Ref sig .tc := ⟨.hbm, 180, rfl⟩
abbrev main_v47 : Ref sig .tc := ⟨.hbm, 181, rfl⟩
abbrev main_v48 : Ref sig .tc := ⟨.hbm, 182, rfl⟩
abbrev main_v49 : Ref sig .tc := ⟨.hbm, 183, rfl⟩
abbrev main_v50 : Ref sig .tc := ⟨.hbm, 184, rfl⟩
abbrev main_v51 : Ref sig .tc := ⟨.hbm, 185, rfl⟩
abbrev main_v52 : Ref sig .tc := ⟨.hbm, 186, rfl⟩
abbrev main_v53 : Ref sig .tc := ⟨.hbm, 187, rfl⟩
abbrev main_v54 : Ref sig .tc := ⟨.hbm, 188, rfl⟩
abbrev main_v55 : Ref sig .tc := ⟨.hbm, 189, rfl⟩
abbrev main_v56 : Ref sig .tc := ⟨.hbm, 190, rfl⟩
abbrev main_v57 : Ref sig .tc := ⟨.hbm, 191, rfl⟩
abbrev main_v58 : Ref sig .tc := ⟨.hbm, 192, rfl⟩
abbrev main_c_6 : Ref sig .tc := ⟨.hbm, 193, rfl⟩
abbrev main_v59 : Ref sig .tc := ⟨.hbm, 194, rfl⟩
abbrev main_v60 : Ref sig .tc := ⟨.hbm, 195, rfl⟩
abbrev main_v61 : Ref sig .tc := ⟨.hbm, 196, rfl⟩
abbrev main_v62 : Ref sig .tc := ⟨.hbm, 197, rfl⟩
abbrev main_v63 : Ref sig .tc := ⟨.hbm, 198, rfl⟩
abbrev main_v64 : Ref sig .tc := ⟨.hbm, 199, rfl⟩
abbrev main_v65 : Ref sig .tc := ⟨.hbm, 200, rfl⟩
abbrev main_v66 : Ref sig .tc := ⟨.hbm, 201, rfl⟩
abbrev main_v67 : Ref sig .tc := ⟨.hbm, 202, rfl⟩
abbrev main_v68 : Ref sig .tc := ⟨.hbm, 203, rfl⟩
abbrev main_v69 : Ref sig .tc := ⟨.hbm, 204, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S8x2048x1024 : Shape := ⟨3, ![8, 2048, 1024]⟩
abbrev S1024 : Shape := ⟨1, ![1024]⟩
abbrev S8x1x1024 : Shape := ⟨3, ![8, 1, 1024]⟩
abbrev S1024x5632 : Shape := ⟨2, ![1024, 5632]⟩
abbrev S2816x1024 : Shape := ⟨2, ![2816, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024x256 : Shape := ⟨2, ![1024, 256]⟩
abbrev S256x1024 : Shape := ⟨2, ![256, 1024]⟩
abbrev S1024x1024 : Shape := ⟨2, ![1024, 1024]⟩
abbrev S1024x1 : Shape := ⟨2, ![1024, 1]⟩

abbrev nBuf : Space → Nat
  | .hbm => 11
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S1024x5632, .bf16⟩
  | .hbm, ⟨6, _⟩ => ⟨S2816x1024, .bf16⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1024x1024, .bf16⟩
  | .local _ .vmem, ⟨19, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![8, 2, 11], ![false, false, false]⟩

def k0_cond2 (i : grid0.Coords) : BitVec 1 :=
  let arg2 : BitVec 32 := BitVec.ofNat 32 (i 2).val
  let c10_i32 : BitVec 32 := 10#32
  let v25 : BitVec 1 := Scalar.cmpi .eq arg2 c10_i32
  let v26 : BitVec 32 := Scalar.extui v25
  let c0_i32_17 : BitVec 32 := 0#32
  let v27 : BitVec 1 := Scalar.cmpi .ne v26 c0_i32_17
  v27

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference2Ideal.lean ====
abbrev S8x2048x1024 : Shape := ⟨3, ![8, 2048, 1024]⟩
abbrev S1024 : Shape := ⟨1, ![1024]⟩
abbrev S8x1x1024 : Shape := ⟨3, ![8, 1, 1024]⟩
abbrev S1024x5632 : Shape := ⟨2, ![1024, 5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S1024x5632, .bf16⟩
  | .hbm, ⟨6, _⟩ => ⟨S2816x1024, .bf16⟩
  | .hbm, ⟨7, _⟩ => ⟨S1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S1024x5632, .f32⟩
  | .hbm, ⟨32, _⟩ => ⟨S8x2048x5632, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S_, .f32⟩
  | .hbm, ⟨38, _⟩ => ⟨S8x2048x2816, .f32⟩
  | .hbm, ⟨39, _⟩ => ⟨S8x2048x2816, .f32⟩
  | .hbm, ⟨40, _⟩ => ⟨S_, .f32⟩
  | .hbm, ⟨41, _⟩ => ⟨S8x2048x2816, .f32⟩
  | .hbm, ⟨42, _⟩ => ⟨S8x2048x2816, .f32⟩
  | .hbm, ⟨43, _⟩ => ⟨S8x2048x2816, .f32⟩
  | .hbm, ⟨44, _⟩ => ⟨S8x2048x2816, .f32⟩
  | .hbm, ⟨45, _⟩ => ⟨S2816x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S_, .f32⟩
  | .hbm, ⟨58, _⟩ => ⟨S8x2048x1, .f32⟩
  | .hbm, ⟨59, _⟩ => ⟨S8x2048x1, .f32⟩
  | .hbm, ⟨60, _⟩ => ⟨S8x2048x1, .f32⟩
  | .hbm, ⟨61, _⟩ => ⟨S8x2048x1024, .f32⟩
  | .hbm, ⟨62, _⟩ => ⟨S8x2048x1024, .f32⟩
  | .hbm, ⟨63, _⟩ => ⟨S1x1x1024, .f32⟩
  | .hbm, ⟨64, _⟩ => ⟨S8x2048x1024, .f32⟩
  | .hbm, ⟨65, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S8x1x1024 : Shape := ⟨3, ![8, 1, 1024]⟩
abbrev S1024x7296 : Shape := ⟨2, ![1024, 7296]⟩
abbrev S1x1024 : Shape := ⟨2, ![1, 1024]⟩
abbrev S8x2048x7296 : Shape := ⟨3, ![8, 2048, 7296]⟩
abbrev S1x512x1024 : Shape := ⟨3, ![1, 512, 1024]⟩
abbrev S1x1x1024 : Shape := ⟨3, ![1, 1, 1024]⟩
abbrev S1024x2432 : Shape := ⟨2, ![1024, 2432]⟩
abbrev S1x512x2432 : Shape := ⟨3, ![1, 512, 2432]⟩
abbrev S512x1024 : Shape := ⟨2, ![512, 1024]⟩
abbrev S512 : Shape := ⟨1, ![512]⟩
abbrev S512x1 : Shape := ⟨2, ![512, 1]⟩
abbrev S512x2432 : Shape := ⟨2, ![512, 2432]⟩

abbrev nBuf : Space → Nat
  | .hbm => 7
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x7296, .bf16⟩
  | .hbm, ⟨5, _⟩ => ⟨S1x1024, .f32⟩
  | .hbm, ⟨6, _⟩ => ⟨S8x2048x7296, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2432, .bf16⟩
  | .local _ .vmem, ⟨8, _⟩ => ⟨S1024x2432, .bf16⟩
  | .local _ .vmem, ⟨9, _⟩ => ⟨S1x512x2432, .f32⟩
  | .local _ .vmem, ⟨10, _⟩ => ⟨S1x512x2432, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![3, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x2432 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x2432 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference3Ideal.lean ====
abbrev S8x2048x1024 : Shape := ⟨3, ![8, 2048, 1024]⟩
abbrev S1024 : Shape := ⟨1, ![1024]⟩
abbrev S8x1x1024 : Shape := ⟨3, ![8, 1, 1024]⟩
abbrev S1024x7296 : Shape := ⟨2, ![1024, 7296]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x7296 : Shape := ⟨3, ![8, 2048, 7296]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x7296, .bf16⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S1024x7296, .f32⟩
  | .hbm, ⟨29, _⟩ => ⟨S8x2048x7296, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel4.lean ====
abbrev S8x2048x7296 : Shape := ⟨3, ![8, 2048, 7296]⟩
abbrev S8x2048x512 : Shape := ⟨3, ![8, 2048, 512]⟩
abbrev S8x2048x256 : Shape := ⟨3, ![8, 2048, 256]⟩
abbrev S4x256x1024 : Shape := ⟨3, ![4, 256, 1024]⟩
abbrev S1024x1024 : Shape := ⟨2, ![1024, 1024]⟩
abbrev S8x2048x1024 : Shape := ⟨3, ![8, 2048, 1024]⟩
abbrev S8x1x1024 : Shape := ⟨3, ![8, 1, 1024]⟩
abbrev S1x512x4096 : Shape := ⟨3, ![1, 512, 4096]⟩
abbrev S1x512x512 : Shape := ⟨3, ![1, 512, 512]⟩
abbrev S1x512x256 : Shape := ⟨3, ![1, 512, 256]⟩
abbrev S1x512x1024 : Shape := ⟨3, ![1, 512, 1024]⟩
abbrev S1x1x1024 : Shape := ⟨3, ![1, 1, 1024]⟩
abbrev S512x256 : Shape := ⟨2, ![512, 256]⟩
abbrev S1x256x1024 : Shape := ⟨3, ![1, 256, 1024]⟩
abbrev S256x1024 : Shape := ⟨2, ![256, 1024]⟩
abbrev S512x1024 : Shape := ⟨2, ![512, 1024]⟩
abbrev S1x1024 : Shape := ⟨2, ![1, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x2048x7296, .f32⟩
  | .hbm, ⟨1, _⟩ => ⟨S8x2048x512, .f32⟩
  | .hbm, ⟨2, _⟩ => ⟨S8x2048x256, .f32⟩
  | .hbm, ⟨3, _⟩ => ⟨S8x2048x256, .f32⟩
  | .hbm, ⟨4, _⟩ => ⟨S4x256x1024, .bf16⟩
  | .hbm, ⟨5, _⟩ => ⟨S1024x1024, .bf16⟩
  | .hbm, ⟨6, _⟩ => ⟨S8x2048x1024, .f32⟩
  | .hbm, ⟨7, _⟩ => ⟨S8x1x1024, .f32⟩
  | .hbm, ⟨8, _⟩ => ⟨S8x2048x1024, .f32⟩
  | .local _ .vmem, ⟨0, _⟩ => ⟨S1x512x4096, .f32⟩
  | .local _ .vmem, ⟨1, _⟩ => ⟨S1x512x4096, .f32⟩
  | .local _ .vmem, ⟨2, _⟩ => ⟨S1x512x512, .f32⟩
  | .local _ .vmem, ⟨3, _⟩ => ⟨S1x512x512, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S4x256x1024, .bf16⟩
  | .local _ .vmem, ⟨9, _⟩ => ⟨S1024x1024, .bf16⟩
  | .local _ .vmem, ⟨10, _⟩ => ⟨S1x512x1024, .f32⟩
  | .local _ .vmem, ⟨11, _⟩ => ⟨S1x512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x512x1024, .f32⟩
  | .local _ .vmem, ⟨15, _⟩ => ⟨S1x512x1024, .f32⟩
  | _, _ => ⟨S8x2048x7296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8x2048x7296 : Shape := ⟨3, ![8, 2048, 7296]⟩
abbrev S8x2048x512 : Shape := ⟨3, ![8, 2048, 512]⟩
abbrev S8x2048x256 : Shape := ⟨3, ![8, 2048, 256]⟩
abbrev S4x256x1024 : Shape := ⟨3, ![4, 256, 1024]⟩
abbrev S1024x1024 : Shape := ⟨2, ![1024, 1024]⟩
abbrev S8x2048x1024 : Shape := ⟨3, ![8, 2048, 1024]⟩
abbrev S8x1x1024 : Shape := ⟨3, ![8, 1, 1024]⟩
abbrev S1x8x2048x256 : Shape := ⟨4, ![1, 8, 2048, 256]⟩
abbrev S4x8x2048x256 : Shape := ⟨4, ![4, 8, 2048, 256]⟩
abbrev S4x8x2048x1024 : Shape := ⟨4, ![4, 8, 2048, 1024]⟩
abbrev S8x2048x4096 : Shape := ⟨3, ![8, 2048, 4096]⟩
abbrev S8x2048x4x1024 : Shape := ⟨4, ![8, 2048, 4, 1024]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x7296, .f32⟩
  | .hbm, ⟨1, _⟩ => ⟨S8x2048x512, .f32⟩
  | .hbm, ⟨2, _⟩ => ⟨S8x2048x256, .f32⟩
  | .hbm, ⟨3, _⟩ => ⟨S8x2048x256, .f32⟩
  | .hbm, ⟨4, _⟩ => ⟨S4x256x1024, .bf16⟩
  | .hbm, ⟨5, _⟩ => ⟨S1024x1024, .bf16⟩
  | .hbm, ⟨6, _⟩ => ⟨S8x2048x1024, .f32⟩
  | .hbm, ⟨7, _⟩ => ⟨S8x1x1024, .f32⟩
  | .hbm, ⟨8, _⟩ => ⟨S8x2048x256, .f32⟩
  | .hbm, ⟨9, _⟩ => ⟨S8x2048x256, .f32⟩
  | .hbm, ⟨10, _⟩ => ⟨S1x8x2048x256, .f32⟩
  | .hbm, ⟨11, _⟩ => ⟨S1x8x2048x256, .f32⟩
  | .hbm, ⟨12, _⟩ => ⟨S1x8x2048x256, .f32⟩
  | .hbm, ⟨13, _⟩ => ⟨S1x8x2048x256, .f32⟩
  | .hbm, ⟨14, _⟩ => ⟨S4x8x2048x256, .f32⟩
  | .hbm, ⟨15, _⟩ => ⟨S4x256x1024, .f32⟩
  | .hbm, ⟨16, _⟩ => ⟨S4x8x2048x1024, .f32⟩
  | .hbm, ⟨17, _⟩ => ⟨S8x2048x4096, .f32⟩
  | .hbm, ⟨18, _⟩ => ⟨S8x2048x4x1024, .f32⟩
  | .hbm, ⟨19, _⟩ => ⟨S8x2048x4x1024, .f32⟩
  | .hbm, ⟨20, _⟩ => ⟨S8x2048x4x1024, .f32⟩
  | .hbm, ⟨21, _⟩ => ⟨S_, .f32⟩
  | .hbm, ⟨22, _⟩ => ⟨S8x2048x4x1024, .f32⟩
  | .hbm, ⟨23, _⟩ => ⟨S8x2048x4x1024, .f32⟩
  | .hbm, ⟨24, _⟩ => ⟨S_, .f32⟩
  | .hbm, ⟨25, _⟩ => ⟨S8x2048x4x1024, .f32⟩
  | .hbm, ⟨26, _⟩ => ⟨S8x2048x4x1024, .f32⟩
  | .hbm, ⟨27, _⟩ => ⟨S8x2048x1024, .f32⟩
  | .hbm, ⟨28, _⟩ => ⟨S1024x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | _, _ => ⟨S8x2048x7296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel5.lean ====
abbrev S136x1024 : Shape := ⟨2, ![136, 1024]⟩
abbrev S1024x6144 : Shape := ⟨2, ![1024, 6144]⟩
abbrev S6144 : Shape := ⟨1, ![6144]⟩
abbrev S1x6144 : Shape := ⟨2, ![1, 6144]⟩
abbrev S136x6144 : Shape := ⟨2, ![136, 6144]⟩
abbrev S1024x1536 : Shape := ⟨2, ![1024, 1536]⟩
abbrev S1x1536 : Shape := ⟨2, ![1, 1536]⟩
abbrev S136x1536 : Shape := ⟨2, ![136, 1536]⟩

abbrev nBuf : Space → Nat
  | .hbm => 5
  | .vmem => 7
  | .smem => 0
  | _ => 0

abbrev bufTy : (tb : Table) → Fin (tcTables nBuf tb) → BufTy
  | .hbm, ⟨0, _⟩ => ⟨S136x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S136x6144, .f32⟩
  | .local _ .vmem, ⟨0, _⟩ => ⟨S136x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S136x1536, .f32⟩
  | .local _ .vmem, ⟨6, _⟩ => ⟨S136x1536, .f32⟩
  | _, _ => ⟨S136x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S136x1024 : Shape := ⟨2, ![136, 1024]⟩
abbrev S1024x6144 : Shape := ⟨2, ![1024, 6144]⟩
abbrev S6144 : Shape := ⟨1, ![6144]⟩
abbrev S_ : Shape := ⟨0, ![]⟩
abbrev S136x6144 : Shape := ⟨2, ![136, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S136x1024, .f32⟩
  | .hbm, ⟨1, _⟩ => ⟨S1024x6144, .f32⟩
  | .hbm, ⟨2, _⟩ => ⟨S6144, .f32⟩
  | .hbm, ⟨3, _⟩ => ⟨S136x1024, .f32⟩
  | .hbm, ⟨4, _⟩ => ⟨S136x1024, .f32⟩
  | .hbm, ⟨5, _⟩ => ⟨S_, .f32⟩
  | .hbm, ⟨6, _⟩ => ⟨S136x1024, .f32⟩
  | .hbm, ⟨7, _⟩ => ⟨S136x1024, .f32⟩
  | .hbm, ⟨8, _⟩ => ⟨S_, .f32⟩
  | .hbm, ⟨9, _⟩ => ⟨S136x1024, .f32⟩
  | .hbm, ⟨10, _⟩ => ⟨S136x1024, .f32⟩
  | .hbm, ⟨11, _⟩ => ⟨S136x1024, .f32⟩
  | .hbm, ⟨12, _⟩ => ⟨S136x6144, .f32⟩
  | .hbm, ⟨13, _⟩ => ⟨S1x6144, .f32⟩
  | .hbm, ⟨14, _⟩ => ⟨S136x6144, .f32⟩
  | .hbm, ⟨15, _⟩ => ⟨S136x6144, .f32⟩
  | _, _ => ⟨S136x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel6.lean ====
abbrev S8x2048x1024 : Shape := ⟨3, ![8, 2048, 1024]⟩
abbrev S1024 : Shape := ⟨1, ![1024]⟩
abbrev S8x1x1024 : Shape := ⟨3, ![8, 1, 1024]⟩
abbrev S1024x768 : Shape := ⟨2, ![1024, 768]⟩
abbrev S1x1024 : Shape := ⟨2, ![1, 1024]⟩
abbrev S8x2048x768 : Shape := ⟨3, ![8, 2048, 768]⟩
abbrev S1x512x1024 : Shape := ⟨3, ![1, 512, 1024]⟩
abbrev S1x1x1024 : Shape := ⟨3, ![1, 1, 1024]⟩
abbrev S1x512x768 : Shape := ⟨3, ![1, 512, 768]⟩
abbrev S512x1024 : Shape := ⟨2, ![512, 1024]⟩
abbrev S512 : Shape := ⟨1, ![512]⟩
abbrev S512x1 : Shape := ⟨2, ![512, 1]⟩
abbrev S512x768 : Shape := ⟨2, ![512, 768]⟩

abbrev nBuf : Space → Nat
  | .hbm => 11
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x768, .f32⟩
  | .hbm, ⟨5, _⟩ => ⟨S1024x768, .bf16⟩
  | .hbm, ⟨6, _⟩ => ⟨S1024x768, .f32⟩
  | .hbm, ⟨7, _⟩ => ⟨S1024x768, .f32⟩
  | .hbm, ⟨8, _⟩ => ⟨S1024x768, .bf16⟩
  | .hbm, ⟨9, _⟩ => ⟨S1x1024, .f32⟩
  | .hbm, ⟨10, _⟩ => ⟨S8x2048x768, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x768, .bf16⟩
  | .local _ .vmem, ⟨8, _⟩ => ⟨S1024x768, .bf16⟩
  | .local _ .vmem, ⟨9, _⟩ => ⟨S1x512x768, .f32⟩
  | .local _ .vmem, ⟨10, _⟩ => ⟨S1x512x768, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8x2048x1024 : Shape := ⟨3, ![8, 2048, 1024]⟩
abbrev S1024 : Shape := ⟨1, ![1024]⟩
abbrev S8x1x1024 : Shape := ⟨3, ![8, 1, 1024]⟩
abbrev S1024x768 : Shape := ⟨2, ![1024, 768]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x768 : Shape := ⟨3, ![8, 2048, 768]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x768, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x768, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel7.lean ====
abbrev S8x2048x7296 : Shape := ⟨3, ![8, 2048, 7296]⟩
abbrev S256 : Shape := ⟨1, ![256]⟩
abbrev S4x128x128 : Shape := ⟨3, ![4, 128, 128]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S8x2048x256 : Shape := ⟨3, ![8, 2048, 256]⟩
abbrev S1x512x512 : Shape := ⟨3, ![1, 512, 512]⟩
abbrev S1x512x256 : Shape := ⟨3, ![1, 512, 256]⟩
abbrev S128x128 : Shape := ⟨2, ![128, 128]⟩
abbrev S1x128x128 : Shape := ⟨3, ![1, 128, 128]⟩
abbrev S1x128x512 : Shape := ⟨3, ![1, 128, 512]⟩
abbrev S128x512 : Shape := ⟨2, ![128, 512]⟩
abbrev S128 : Shape := ⟨1, ![128]⟩
abbrev S128x1 : Shape := ⟨2, ![128, 1]⟩
abbrev S1x128x256 : Shape := ⟨3, ![1, 128, 256]⟩

abbrev nBuf : Space → Nat
  | .hbm => 11
  | .vmem => 8
  | .smem => 0
  | _ => 0

abbrev bufTy : (tb : Table) → Fin (tcTables nBuf tb) → BufTy
  | .hbm, ⟨0, _⟩ => ⟨S8x2048x7296, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S128x4x64, .f32⟩
  | .hbm, ⟨7, _⟩ => ⟨S128x256, .f32⟩
  | .hbm, ⟨8, _⟩ => ⟨S1x256, .f32⟩
  | .hbm, ⟨9, _⟩ => ⟨S1x256, .f32⟩
  | .hbm, ⟨10, _⟩ => ⟨S8x2048x256, .f32⟩
  | .local _ .vmem, ⟨0, _⟩ => ⟨S1x512x512, .f32⟩
  | .local _ .vmem, ⟨1, _⟩ => ⟨S1x512x512, .f32⟩
  | .local _ .vmem, ⟨2, _⟩ => ⟨S1x256, .f32⟩
  | .local _ .vmem, ⟨3, _⟩ => ⟨S1x256, .f32⟩
  | .local _ .vmem, ⟨4, _⟩ => ⟨S4x128x128, .f32⟩
  | .local _ .vmem, ⟨5, _⟩ => ⟨S128x256, .f32⟩
  | .local _ .vmem, ⟨6, _⟩ => ⟨S1x512x256, .f32⟩
  | .local _ .vmem, ⟨7, _⟩ => ⟨S1x512x256, .f32⟩
  | _, _ => ⟨S8x2048x7296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8x2048x7296 : Shape := ⟨3, ![8, 2048, 7296]⟩
abbrev S256 : Shape := ⟨1, ![256]⟩
abbrev S4x128x128 : Shape := ⟨3, ![4, 128, 128]⟩
abbrev S4x128 : Shape := ⟨2, ![4, 128]⟩
abbrev S8x2048x512 : Shape := ⟨3, ![8, 2048, 512]⟩
abbrev S_ : Shape := ⟨0, ![]⟩
abbrev S8x2048x256 : Shape := ⟨3, ![8, 2048, 256]⟩
abbrev S8x2048 : Shape := ⟨2, ![8, 2048]⟩
abbrev S8x2048x1 : Shape := ⟨3, ![8, 2048, 1]⟩
abbrev S1x1x256 : Shape := ⟨3, ![1, 1, 256]⟩
abbrev S8x16x128x4x64 : Shape := ⟨5, ![8, 16, 128, 4, 64]⟩
abbrev S128x128 : Shape := ⟨2, ![128, 128]⟩
abbrev S1x128x128 : Shape := ⟨3, ![1, 128, 128]⟩
abbrev S4x8x16x64x128 : Shape := ⟨5, ![4, 8, 16, 64, 128]⟩
abbrev S128x4 : Shape := ⟨2, ![128, 4]⟩
abbrev S1x1x128x4x1 : Shape := ⟨5, ![1, 1, 128, 4, 1]⟩

abbrev nBuf : Space → Nat
  | .hbm => 77
  | .vmem => 0
  | .smem => 0
  | _ => 0

abbrev bufTy : (tb : Table) → Fin (tcTables nBuf tb) → BufTy
  | .hbm, ⟨0, _⟩ => ⟨S8x2048x7296, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S8x2048x512, .f32⟩
  | .hbm, ⟨6, _⟩ => ⟨S8x2048x512, .f32⟩
  | .hbm, ⟨7, _⟩ => ⟨S8x2048x512, .f32⟩
  | .hbm, ⟨8, _⟩ => ⟨S_, .f32⟩
  | .hbm, ⟨9, _⟩ => ⟨S8x2048x512, .f32⟩
  | .hbm, ⟨10, _⟩ => ⟨S8x2048x512, .f32⟩
  | .hbm, ⟨11, _⟩ => ⟨S8x2048x512, .f32⟩
  | .hbm, ⟨12, _⟩ => ⟨S_, .f32⟩
  | .hbm, ⟨13, _⟩ => ⟨S8x2048x512, .f32⟩
  | .hbm, ⟨14, _⟩ => ⟨S8x2048x512, .f32⟩
  | .hbm, ⟨15, _⟩ => ⟨S8x2048x512, .f32⟩
  | .hbm, ⟨16, _⟩ => ⟨S_, .f32⟩
  | .hbm, ⟨17, _⟩ => ⟨S8x2048x512, .f32⟩
  | .hbm, ⟨18, _⟩ => ⟨S8x2048x512, .f32⟩
  | .hbm, ⟨19, _⟩ => ⟨S_, .f32⟩
  | .hbm, ⟨20, _⟩ => ⟨S8x2048x512, .f32⟩
  | .hbm, ⟨21, _⟩ => ⟨S8x2048x512, .f32⟩
  | .hbm, ⟨22, _⟩ => ⟨S8x2048x512, .f32⟩
  | .hbm, ⟨23, _⟩ => ⟨S8x2048x256, .f32⟩
  | .hbm, ⟨24, _⟩ => ⟨S8x2048x256, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x256, .f32⟩
  | .hbm, ⟨32, _⟩ => ⟨S8x2048x256, .f32⟩
  | .hbm, ⟨33, _⟩ => ⟨S8x2048x256, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x256, .f32⟩
  | .hbm, ⟨41, _⟩ => ⟨S8x2048x256, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x256, .f32⟩
  | .hbm, ⟨47, _⟩ => ⟨S8x2048x256, .f32⟩
  | .hbm, ⟨48, _⟩ => ⟨S1x1x256, .f32⟩
  | .hbm, ⟨49, _⟩ => ⟨S8x2048x256, .f32⟩
  | .hbm, ⟨50, _⟩ => ⟨S8x2048x256, .f32⟩
  | .hbm, ⟨51, _⟩ => ⟨S1x1x256, .f32⟩
  | .hbm, ⟨52, _⟩ => ⟨S8x2048x256, .f32⟩
  | .hbm, ⟨53, _⟩ => ⟨S8x2048x256, .f32⟩
  | .hbm, ⟨54, _⟩ => ⟨S8x16x128x4x64, .f32⟩
  | .hbm, ⟨55, _⟩ => ⟨S_, .f32⟩
  | .hbm, ⟨56, _⟩ => ⟨S128x128, .f32⟩
  | .hbm, ⟨57, _⟩ => ⟨S128x128, .i32⟩
  | .hbm, ⟨58, _⟩ => ⟨S_, .i32⟩
  | .hbm, ⟨59, _⟩ => ⟨S128x128, .i32⟩
  | .hbm, ⟨60, _⟩ => ⟨S128x128, .i32⟩
  | .hbm, ⟨61, _⟩ => ⟨S128x128, .i32⟩
  | .hbm, ⟨62, _⟩ => ⟨S128x128, .i1⟩
  | .hbm, ⟨63, _⟩ => ⟨S_, .f32⟩
  | .hbm, ⟨64, _⟩ => ⟨S128x128, .f32⟩
  | .hbm, ⟨65, _⟩ => ⟨S128x128, .f32⟩
  | .hbm, ⟨66, _⟩ => ⟨S1x128x128, .f32⟩
  | .hbm, ⟨67, _⟩ => ⟨S4x128x128, .f32⟩
  | .hbm, ⟨68, _⟩ => ⟨S4x128x128, .f32⟩
  | .hbm, ⟨69, _⟩ => ⟨S4x8x16x64x128, .f32⟩
  | .hbm, ⟨70, _⟩ => ⟨S8x16x128x4x64, .f32⟩
  | .hbm, ⟨71, _⟩ => ⟨S128x4, .f32⟩
  | .hbm, ⟨72, _⟩ => ⟨S1x1x128x4x1, .f32⟩
  | .hbm, ⟨73, _⟩ => ⟨S8x16x128x4x64, .f32⟩
  | .hbm, ⟨74, _⟩ => ⟨S8x16x128x4x64, .f32⟩
  | .hbm, ⟨75, _⟩ => ⟨S8x2048x256, .f32⟩
  | .hbm, ⟨76, _⟩ => ⟨S8x2048x256, .f32⟩
  | _, _ => ⟨S8x2048x7296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_call0_v0 : Ref sig .tc := ⟨.hbm, 57, rfl⟩
abbrev main_call0_c : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_cst : Ref sig .tc := ⟨.hbm, 63, rfl⟩
abbrev main_call0_v5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]
-- ==== Kernel8.lean ====
abbrev S1x128x1024 : Shape := ⟨3, ![1, 128, 1024]⟩
abbrev S1024 : Shape := ⟨1, ![1024]⟩
abbrev S1024x7296 : Shape := ⟨2, ![1024, 7296]⟩
abbrev S1x1024 : Shape := ⟨2, ![1, 1024]⟩
abbrev S1x128x7296 : Shape := ⟨3, ![1, 128, 7296]⟩
abbrev S1024x2432 : Shape := ⟨2, ![1024, 2432]⟩
abbrev S1x128x2432 : Shape := ⟨3, ![1, 128, 2432]⟩
abbrev S128x1024 : Shape := ⟨2, ![128, 1024]⟩
abbrev S128 : Shape := ⟨1, ![128]⟩
abbrev S128x1 : Shape := ⟨2, ![128, 1]⟩
abbrev S128x2432 : Shape := ⟨2, ![128, 2432]⟩

abbrev nBuf : Space → Nat
  | .hbm => 7
  | .vmem => 8
  | .smem => 0
  | _ => 0

abbrev bufTy : (tb : Table) → Fin (tcTables nBuf tb) → BufTy
  | .hbm, ⟨0, _⟩ => ⟨S1x128x1024, .f32⟩
  | .hbm, ⟨1, _⟩ => ⟨S1024, .f32⟩
  | .hbm, ⟨2, _⟩ => ⟨S1x128x1024, .f32⟩
  | .hbm, ⟨3, _⟩ => ⟨S1x128x1024, .f32⟩
  | .hbm, ⟨4, _⟩ => ⟨S1024x7296, .bf16⟩
  | .hbm, ⟨5, _⟩ => ⟨S1x1024, .f32⟩
  | .hbm, ⟨6, _⟩ => ⟨S1x128x7296, .f32⟩
  | .local _ .vmem, ⟨0, _⟩ => ⟨S1x128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S1024x2432, .bf16⟩
  | .local _ .vmem, ⟨5, _⟩ => ⟨S1024x2432, .bf16⟩
  | .local _ .vmem, ⟨6, _⟩ => ⟨S1x128x2432, .f32⟩
  | .local _ .vmem, ⟨7, _⟩ => ⟨S1x128x2432, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S1024x2432 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x128x2432 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference8Ideal.lean ====
abbrev S1x128x1024 : Shape := ⟨3, ![1, 128, 1024]⟩
abbrev S1024 : Shape := ⟨1, ![1024]⟩
abbrev S1024x7296 : Shape := ⟨2, ![1024, 7296]⟩
abbrev S_ : Shape := ⟨0, ![]⟩
abbrev S1x128 : Shape := ⟨2, ![1, 128]⟩
abbrev S1x128x1 : Shape := ⟨3, ![1, 128, 1]⟩
abbrev S1x1x1024 : Shape := ⟨3, ![1, 1, 1024]⟩
abbrev S1x128x7296 : Shape := ⟨3, ![1, 128, 7296]⟩

abbrev nBuf : Space → Nat
  | .hbm => 28
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1024, .f32⟩
  | .hbm, ⟨2, _⟩ => ⟨S1x128x1024, .f32⟩
  | .hbm, ⟨3, _⟩ => ⟨S1x128x1024, .f32⟩
  | .hbm, ⟨4, _⟩ => ⟨S1024x7296, .bf16⟩
  | .hbm, ⟨5, _⟩ => ⟨S1x128x1024, .f32⟩
  | .hbm, ⟨6, _⟩ => ⟨S_, .f32⟩
  | .hbm, ⟨7, _⟩ => ⟨S1x128, .f32⟩
  | .hbm, ⟨8, _⟩ => ⟨S1x128x1, .f32⟩
  | .hbm, ⟨9, _⟩ => ⟨S_, .f32⟩
  | .hbm, ⟨10, _⟩ => ⟨S1x128x1, .f32⟩
  | .hbm, ⟨11, _⟩ => ⟨S1x128x1, .f32⟩
  | .hbm, ⟨12, _⟩ => ⟨S_, .f32⟩
  | .hbm, ⟨13, _⟩ => ⟨S1x128x1, .f32⟩
  | .hbm, ⟨14, _⟩ => ⟨S1x128x1, .f32⟩
  | .hbm, ⟨15, _⟩ => ⟨S1x128x1, .f32⟩
  | .hbm, ⟨16, _⟩ => ⟨S1x128x1024, .f32⟩
  | .hbm, ⟨17, _⟩ => ⟨S1x128x1024, .f32⟩
  | .hbm, ⟨18, _⟩ => ⟨S1x1x1024, .f32⟩
  | .hbm, ⟨19, _⟩ => ⟨S1x128x1024, .f32⟩
  | .hbm, ⟨20, _⟩ => ⟨S1x128x1024, .f32⟩
  | .hbm, ⟨21, _⟩ => ⟨S_, .f32⟩
  | .hbm, ⟨22, _⟩ => ⟨S1x128x1024, .f32⟩
  | .hbm, ⟨23, _⟩ => ⟨S1x128x1024, .f32⟩
  | .hbm, ⟨24, _⟩ => ⟨S1x128x1024, .f32⟩
  | .hbm, ⟨25, _⟩ => ⟨S1x128x1024, .f32⟩
  | .hbm, ⟨26, _⟩ => ⟨S1024x7296, .f32⟩
  | .hbm, ⟨27, _⟩ => ⟨S1x128x7296, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel9.lean ====
abbrev S1x128x1024 : Shape := ⟨3, ![1, 128, 1024]⟩
abbrev S1024 : Shape := ⟨1, ![1024]⟩
abbrev S1024x768 : Shape := ⟨2, ![1024, 768]⟩
abbrev S1x1024 : Shape := ⟨2, ![1, 1024]⟩
abbrev S1x128x768 : Shape := ⟨3, ![1, 128, 768]⟩
abbrev S128x1024 : Shape := ⟨2, ![128, 1024]⟩
abbrev S128 : Shape := ⟨1, ![128]⟩
abbrev S128x1 : Shape := ⟨2, ![128, 1]⟩
abbrev S128x768 : Shape := ⟨2, ![128, 768]⟩

abbrev nBuf : Space → Nat
  | .hbm => 11
  | .vmem => 7
  | .smem => 0
  | _ => 0

abbrev bufTy : (tb : Table) → Fin (tcTables nBuf tb) → BufTy
  | .hbm, ⟨0, _⟩ => ⟨S1x128x1024, .f32⟩
  | .hbm, ⟨1, _⟩ => ⟨S1024, .f32⟩
  | .hbm, ⟨2, _⟩ => ⟨S1x128x1024, .f32⟩
  | .hbm, ⟨3, _⟩ => ⟨S1x128x1024, .f32⟩
  | .hbm, ⟨4, _⟩ => ⟨S1024x768, .f32⟩
  | .hbm, ⟨5, _⟩ => ⟨S1024x768, .bf16⟩
  | .hbm, ⟨6, _⟩ => ⟨S1024x768, .f32⟩
  | .hbm, ⟨7, _⟩ => ⟨S1024x768, .f32⟩
  | .hbm, ⟨8, _⟩ => ⟨S1024x768, .bf16⟩
  | .hbm, ⟨9, _⟩ => ⟨S1x1024, .f32⟩
  | .hbm, ⟨10, _⟩ => ⟨S1x128x768, .f32⟩
  | .local _ .vmem, ⟨0, _⟩ => ⟨S1x128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S1024x768, .bf16⟩
  | .local _ .vmem, ⟨5, _⟩ => ⟨S1024x768, .bf16⟩
  | .local _ .vmem, ⟨6, _⟩ => ⟨S1x128x768, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference9Ideal.lean ====
abbrev S1x128x1024 : Shape := ⟨3, ![1, 128, 1024]⟩
abbrev S1024 : Shape := ⟨1, ![1024]⟩
abbrev S1024x768 : Shape := ⟨2, ![1024, 768]⟩
abbrev S_ : Shape := ⟨0, ![]⟩
abbrev S1x128 : Shape := ⟨2, ![1, 128]⟩
abbrev S1x128x1 : Shape := ⟨3, ![1, 128, 1]⟩
abbrev S1x1x1024 : Shape := ⟨3, ![1, 1, 1024]⟩
abbrev S1x128x768 : Shape := ⟨3, ![1, 128, 768]⟩

abbrev nBuf : Space → Nat
  | .hbm => 27
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1024, .f32⟩
  | .hbm, ⟨2, _⟩ => ⟨S1x128x1024, .f32⟩
  | .hbm, ⟨3, _⟩ => ⟨S1x128x1024, .f32⟩
  | .hbm, ⟨4, _⟩ => ⟨S1024x768, .f32⟩
  | .hbm, ⟨5, _⟩ => ⟨S1x128x1024, .f32⟩
  | .hbm, ⟨6, _⟩ => ⟨S_, .f32⟩
  | .hbm, ⟨7, _⟩ => ⟨S1x128, .f32⟩
  | .hbm, ⟨8, _⟩ => ⟨S1x128x1, .f32⟩
  | .hbm, ⟨9, _⟩ => ⟨S_, .f32⟩
  | .hbm, ⟨10, _⟩ => ⟨S1x128x1, .f32⟩
  | .hbm, ⟨11, _⟩ => ⟨S1x128x1, .f32⟩
  | .hbm, ⟨12, _⟩ => ⟨S_, .f32⟩
  | .hbm, ⟨13, _⟩ => ⟨S1x128x1, .f32⟩
  | .hbm, ⟨14, _⟩ => ⟨S1x128x1, .f32⟩
  | .hbm, ⟨15, _⟩ => ⟨S1x128x1, .f32⟩
  | .hbm, ⟨16, _⟩ => ⟨S1x128x1024, .f32⟩
  | .hbm, ⟨17, _⟩ => ⟨S1x128x1024, .f32⟩
  | .hbm, ⟨18, _⟩ => ⟨S1x1x1024, .f32⟩
  | .hbm, ⟨19, _⟩ => ⟨S1x128x1024, .f32⟩
  | .hbm, ⟨20, _⟩ => ⟨S1x128x1024, .f32⟩
  | .hbm, ⟨21, _⟩ => ⟨S_, .f32⟩
  | .hbm, ⟨22, _⟩ => ⟨S1x128x1024, .f32⟩
  | .hbm, ⟨23, _⟩ => ⟨S1x128x1024, .f32⟩
  | .hbm, ⟨24, _⟩ => ⟨S1x128x1024, .f32⟩
  | .hbm, ⟨25, _⟩ => ⟨S1x128x1024, .f32⟩
  | .hbm, ⟨26, _⟩ => ⟨S1x128x768, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel10.lean ====
abbrev S1x128x1024 : Shape := ⟨3, ![1, 128, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x256 : Shape := ⟨2, ![1024, 256]⟩
abbrev S256x1024 : Shape := ⟨2, ![256, 1024]⟩
abbrev S128x1024 : Shape := ⟨2, ![128, 1024]⟩
abbrev S128 : Shape := ⟨1, ![128]⟩
abbrev S128x1 : Shape := ⟨2, ![128, 1]⟩
abbrev S128x256 : Shape := ⟨2, ![128, 256]⟩

abbrev nBuf : Space → Nat
  | .hbm => 11
  | .vmem => 15
  | .smem => 0
  | _ => 0

abbrev bufTy : (tb : Table) → Fin (tcTables nBuf tb) → BufTy
  | .hbm, ⟨0, _⟩ => ⟨S1x128x1024, .f32⟩
  | .hbm, ⟨1, _⟩ => ⟨S1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1024x5632, .bf16⟩
  | .hbm, ⟨6, _⟩ => ⟨S2816x1024, .bf16⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x128x1024, .f32⟩
  | .local _ .vmem, ⟨0, _⟩ => ⟨S1x128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | .local _ .vmem, ⟨12, _⟩ => ⟨S1x128x1024, .f32⟩
  | .local _ .vmem, ⟨13, _⟩ => ⟨S128x1024, .bf16⟩
  | .local _ .vmem, ⟨14, _⟩ => ⟨S128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨3, ![1, 1, 11], ![false, false, false]⟩

def k0_cond2 (i : grid0.Coords) : BitVec 1 :=
  let arg2 : BitVec 32 := BitVec.ofNat 32 (i 2).val
  let c10_i32 : BitVec 32 := 10#32
  let v25 : BitVec 1 := Scalar.cmpi .eq arg2 c10_i32
  let v26 : BitVec 32 := Scalar.extui v25
  let c0_i32_17 : BitVec 32 := 0#32
  let v27 : BitVec 1 := Scalar.cmpi .ne v26 c0_i32_17
  v27

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true, false]
-- ==== Reference10Ideal.lean ====
abbrev S1x128x1024 : Shape := ⟨3, ![1, 128, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1x128 : Shape := ⟨2, ![1, 128]⟩
abbrev S1x128x1 : Shape := ⟨3, ![1, 128, 1]⟩
abbrev S1x1x1024 : Shape := ⟨3, ![1, 1, 1024]⟩
abbrev S1x128x5632 : Shape := ⟨3, ![1, 128, 5632]⟩
abbrev S1x128x2816 : Shape := ⟨3, ![1, 128, 2816]⟩

abbrev nBuf : Space → Nat
  | .hbm => 63
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1024x5632, .bf16⟩
  | .hbm, ⟨6, _⟩ => ⟨S2816x1024, .bf16⟩
  | .hbm, ⟨7, _⟩ => ⟨S1024, .f32⟩
  | .hbm, ⟨8, _⟩ => ⟨S1x128x1024, .f32⟩
  | .hbm, ⟨9, _⟩ => ⟨S_, .f32⟩
  | .hbm, ⟨10, _⟩ => ⟨S1x128, .f32⟩
  | .hbm, ⟨11, _⟩ => ⟨S1x128x1, .f32⟩
  | .hbm, ⟨12, _⟩ => ⟨S_, .f32⟩
  | .hbm, ⟨13, _⟩ => ⟨S1x128x1, .f32⟩
  | .hbm, ⟨14, _⟩ => ⟨S1x128x1, .f32⟩
  | .hbm, ⟨15, _⟩ => ⟨S_, .f32⟩
  | .hbm, ⟨16, _⟩ => ⟨S1x128x1, .f32⟩
  | .hbm, ⟨17, _⟩ => ⟨S1x128x1, .f32⟩
  | .hbm, ⟨18, _⟩ => ⟨S1x128x1, .f32⟩
  | .hbm, ⟨19, _⟩ => ⟨S1x128x1024, .f32⟩
  | .hbm, ⟨20, _⟩ => ⟨S1x128x1024, .f32⟩
  | .hbm, ⟨21, _⟩ => ⟨S1x1x1024, .f32⟩
  | .hbm, ⟨22, _⟩ => ⟨S1x128x1024, .f32⟩
  | .hbm, ⟨23, _⟩ => ⟨S1x128x1024, .f32⟩
  | .hbm, ⟨24, _⟩ => ⟨S_, .f32⟩
  | .hbm, ⟨25, _⟩ => ⟨S1x128x1024, .f32⟩
  | .hbm, ⟨26, _⟩ => ⟨S1x128x1024, .f32⟩
  | .hbm, ⟨27, _⟩ => ⟨S1x128x1024, .f32⟩
  | .hbm, ⟨28, _⟩ => ⟨S1x128x1024, .f32⟩
  | .hbm, ⟨29, _⟩ => ⟨S1024x5632, .f32⟩
  | .hbm, ⟨30, _⟩ => ⟨S1x128x5632, .f32⟩
  | .hbm, ⟨31, _⟩ => ⟨S1x128x2816, .f32⟩
  | .hbm, ⟨32, _⟩ => ⟨S1x128x2816, .f32⟩
  | .hbm, ⟨33, _⟩ => ⟨S1x128x2816, .f32⟩
  | .hbm, ⟨34, _⟩ => ⟨S1x128x2816, .f32⟩
  | .hbm, ⟨35, _⟩ => ⟨S_, .f32⟩
  | .hbm, ⟨36, _⟩ => ⟨S1x128x2816, .f32⟩
  | .hbm, ⟨37, _⟩ => ⟨S1x128x2816, .f32⟩
  | .hbm, ⟨38, _⟩ => ⟨S_, .f32⟩
  | .hbm, ⟨39, _⟩ => ⟨S1x128x2816, .f32⟩
  | .hbm, ⟨40, _⟩ => ⟨S1x128x2816, .f32⟩
  | .hbm, ⟨41, _⟩ => ⟨S1x128x2816, .f32⟩
  | .hbm, ⟨42, _⟩ => ⟨S1x128x2816, .f32⟩
  | .hbm, ⟨43, _⟩ => ⟨S2816x1024, .f32⟩
  | .hbm, ⟨44, _⟩ => ⟨S1x128x1024, .f32⟩
  | .hbm, ⟨45, _⟩ => ⟨S1x128x1024, .f32⟩
  | .hbm, ⟨46, _⟩ => ⟨S1x128x1024, .f32⟩
  | .hbm, ⟨47, _⟩ => ⟨S1x128x1024, .f32⟩
  | .hbm, ⟨48, _⟩ => ⟨S_, .f32⟩
  | .hbm, ⟨49, _⟩ => ⟨S1x128, .f32⟩
  | .hbm, ⟨50, _⟩ => ⟨S1x128x1, .f32⟩
  | .hbm, ⟨51, _⟩ => ⟨S_, .f32⟩
  | .hbm, ⟨52, _⟩ => ⟨S1x128x1, .f32⟩
  | .hbm, ⟨53, _⟩ => ⟨S1x128x1, .f32⟩
  | .hbm, ⟨54, _⟩ => ⟨S_, .f32⟩
  | .hbm, ⟨55, _⟩ => ⟨S1x128x1, .f32⟩
  | .hbm, ⟨56, _⟩ => ⟨S1x128x1, .f32⟩
  | .hbm, ⟨57, _⟩ => ⟨S1x128x1, .f32⟩
  | .hbm, ⟨58, _⟩ => ⟨S1x128x1024, .f32⟩
  | .hbm, ⟨59, _⟩ => ⟨S1x128x1024, .f32⟩
  | .hbm, ⟨60, _⟩ => ⟨S1x1x1024, .f32⟩
  | .hbm, ⟨61, _⟩ => ⟨S1x128x1024, .f32⟩
  | .hbm, ⟨62, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]
-- ==== Proof.ScanBody.lean ====
/-
  What one batch row of one chunk computes, written once: the kernel's body repeats the same operations for the four
  batch rows of its block. Each stage below is a function of the row's operand blocks; the last theorems say that what
  the body stores for every one of the four rows are these functions of that row's blocks.
-/
module

public import proofs.«01_k».proof.Proof.Gen.KernelIdeal.Value

@[expose] public section

noncomputable section

namespace Cert.KernelIdeal.Scan

open Idealize.ShloMosaic Idealize.ShloMosaic.TcCoe Cert.KernelIdeal Cert.KernelIdeal.Gen

variable {F : FTy → Type} [FloatOps F]

/-- The row index of each entry of a 256 by 256 block. -/
def rowIx : IVec S256x256 32 := iota .tc S256x256 32 [0] iota_S256x256_d0_w32
/-- The column index of each entry. -/
def colIx : IVec S256x256 32 := iota .tc S256x256 32 [1] iota_S256x256_d1_w32

/-- The head an index lies in: its quotient by 64, rounded down. -/
def headOf (v : IVec S256x256 32) : IVec S256x256 32 :=
  select
    (andi
      (cmpi .ne (subi (extui 32 (cmpi .sgt v (broadcast S256x256 0#32)) natLt_1_32)
        (extui 32 (cmpi .slt v (broadcast S256x256 0#32)) natLt_1_32)) (broadcast S256x256 1#32))
      (cmpi .ne (remsi v (broadcast S256x256 64#32)) (broadcast S256x256 0#32)))
    (subi (divsi v (broadcast S256x256 64#32)) (broadcast S256x256 1#32))
    (divsi v (broadcast S256x256 64#32))

/-- The place of an index in its head: its remainder by 64. -/
def posOf (v : IVec S256x256 32) : IVec S256x256 32 :=
  select
    (andi
      (xori (cmpi .slt (remsi v (broadcast S256x256 64#32)) (broadcast S256x256 0#32))
        (broadcastTo S256x256 (broadcast S256x256 (Scalar.cmpi .slt 64#32 0#32)) broadcasts_S256x256_S256x256))
      (cmpi .ne (remsi v (broadcast S256x256 64#32)) (broadcast S256x256 0#32)))
    (addi (remsi v (broadcast S256x256 64#32)) (broadcast S256x256 64#32))
    (remsi v (broadcast S256x256 64#32))

/-- Row and column lie in one head. -/
def sameB : IVec S256x256 1 := cmpi .eq (headOf rowIx) (headOf colIx)
/-- … and the column's place is before the row's. -/
def strictB : IVec S256x256 1 := andi sameB (cmpi .slt (posOf colIx) (posOf rowIx))
/-- … or at it. -/
def inclB : IVec S256x256 1 := andi sameB (cmpi .sle (posOf colIx) (posOf rowIx))
/-- … or exactly at it: the diagonal. -/
def diagB : IVec S256x256 1 := andi sameB (cmpi .eq (posOf colIx) (posOf rowIx))

/-- The identity matrix. -/
def eyeV : FVec F S256x256 .f32 :=
  select diagB (broadcast S256x256 (Scalar.ofBits .f32 0x3F800000#32)) (broadcast S256x256 (Scalar.ofBits .f32 0x00000000#32))

/-- One operand's block in block-diagonal form: head `h`'s columns in the rows of head `h`. -/
def bdV (x : Vec F S1x64x256 .bf16) : FVec F S256x256 .bf16 :=
  select sameB
    (concatenate S256x256 0
      [⟨S64x256, shapeCast S64x256 x shapeCasts_S1x64x256_S64x256⟩, ⟨S64x256, shapeCast S64x256 x shapeCasts_S1x64x256_S64x256⟩,
       ⟨S64x256, shapeCast S64x256 x shapeCasts_S1x64x256_S64x256⟩, ⟨S64x256, shapeCast S64x256 x shapeCasts_S1x64x256_S64x256⟩]
      concatenates_S64x256_S64x256_S64x256_S64x256_S256x256_d0)
    (broadcast S256x256 (Scalar.ofBits .bf16 0x0000#16))

/-- All four products of the left operands with the right ones, in one 512 by 512 block. -/
def gramV (kh rh kb bb : FVec F S256x256 .bf16) : FVec F S512x512 .f32 :=
  matmul dot_S512x256_S512x256_S512x512_1_1_0_0_n_n none
    (concatenate S512x256 0 [⟨S256x256, kh⟩, ⟨S256x256, rh⟩] concatenates_S256x256_S256x256_S512x256_d0)
    (concatenate S512x256 0 [⟨S256x256, bb⟩, ⟨S256x256, kb⟩] concatenates_S256x256_S256x256_S512x256_d0)
    (constant S512x512 .f32 0x00000000#32)

/-- A quarter of it, masked. -/
def maskV (b : IVec S256x256 1) (x : FVec F S256x256 .f32) : FVec F S256x256 .f32 :=
  select b x (broadcast S256x256 (Scalar.ofBits .f32 0x00000000#32))
def akbV (g : FVec F S512x512 .f32) : FVec F S256x256 .f32 :=
  maskV strictB (extractStridedSlice S256x256 ![0, 0] g slices_S512x512_o0_0_S256x256)
def akkV (g : FVec F S512x512 .f32) : FVec F S256x256 .f32 :=
  maskV strictB (extractStridedSlice S256x256 ![0, 256] g slices_S512x512_o0_256_S256x256)
def arbV (g : FVec F S512x512 .f32) : FVec F S256x256 .f32 :=
  maskV inclB (extractStridedSlice S256x256 ![256, 0] g slices_S512x512_o256_0_S256x256)
def arkV (g : FVec F S512x512 .f32) : FVec F S256x256 .f32 :=
  maskV inclB (extractStridedSlice S256x256 ![256, 256] g slices_S512x512_o256_256_S256x256)

/-- The product of two 256 by 256 blocks, operands rounded. -/
def mulV (a b : FVec F S256x256 .bf16) : FVec F S256x256 .f32 :=
  matmul dot_S256x256_S256x256_S256x256_1_0_0_1_n_n none a b (constant S256x256 .f32 0x00000000#32)
/-- Rounding to the short format. -/
abbrev rd (a : FVec F S256x256 .f32) : FVec F S256x256 .bf16 := truncf .bf16 a bitsLt_bf16_f32
/-- Negation, as the kernel writes it. -/
def negV (a : FVec F S256x256 .f32) : FVec F S256x256 .f32 :=
  subf (broadcast S256x256 (Scalar.ofBits .f32 0x00000000#32)) a

/-- What the state and the values before give to every key and query, stacked. -/
def zyV (kh rh v : FVec F S256x256 .bf16) (akk ark s : FVec F S256x256 .f32) : FVec F S512x256 .f32 :=
  matmul dot_S512x512_S512x256_S512x256_1_0_0_1_n_n none
    (concatenate S512x512 0
      [⟨S256x512, concatenate S256x512 1 [⟨S256x256, kh⟩, ⟨S256x256, rd akk⟩] concatenates_S256x256_S256x256_S256x512_d1⟩,
       ⟨S256x512, concatenate S256x512 1 [⟨S256x256, rh⟩, ⟨S256x256, rd ark⟩] concatenates_S256x256_S256x256_S256x512_d1⟩]
      concatenates_S256x512_S256x512_S512x512_d0)
    (concatenate S512x256 0 [⟨S256x256, rd s⟩, ⟨S256x256, v⟩] concatenates_S256x256_S256x256_S512x256_d0)
    (constant S512x256 .f32 0x00000000#32)

/-- One step of the product for the inverse: `(t, p)` to `(t + t p, p p)`. -/
def stepV (t : FVec F S256x256 .f32) (p : FVec F S256x256 .bf16) : FVec F S256x256 .f32 := addf t (mulV (rd t) p)

/-- The inverse of the identity plus `akb`, by repeated squaring. -/
def tinvV (akb : FVec F S256x256 .f32) : FVec F S256x256 .f32 :=
  let p1 := rd (mulV (rd (negV akb)) (rd (negV akb)))
  let p2 := rd (mulV p1 p1)
  let p3 := rd (mulV p2 p2)
  let p4 := rd (mulV p3 p3)
  let p5 := rd (mulV p4 p4)
  stepV (stepV (stepV (stepV (stepV (subf eyeV akb) p1) p2) p3) p4) p5

/-- The corrections of the chunk's tokens. -/
def uV (akb : FVec F S256x256 .f32) (zy : FVec F S512x256 .f32) : FVec F S256x256 .bf16 :=
  rd (negV (mulV (rd (tinvV akb)) (rd (extractStridedSlice S256x256 ![0, 0] zy slices_S512x256_o0_0_S256x256))))

/-- The outputs, block-diagonal. -/
def yV (arb : FVec F S256x256 .f32) (zy : FVec F S512x256 .f32) (u : FVec F S256x256 .bf16) : FVec F S256x256 .f32 :=
  addf (extractStridedSlice S256x256 ![256, 0] zy slices_S512x256_o256_0_S256x256) (mulV (rd arb) u)

/-- The chunk's decay, one factor per state row. -/
def peV (pe : Vec F S1x64x256 .f32) : FVec F S256x256 .f32 :=
  let p := shapeCast S64x256 pe shapeCasts_S1x64x256_S64x256
  let q := transpose S256x128 [1, 0]
    (concatenate S128x256 0 [⟨S64x256, p⟩, ⟨S64x256, p⟩] concatenates_S64x256_S64x256_S128x256_d0) transposes_S128x256_p1_0_S256x128
  concatenate S256x256 1 [⟨S256x128, q⟩, ⟨S256x128, q⟩] concatenates_S256x128_S256x128_S256x256_d1

/-- The state after the chunk. -/
def endV (s : FVec F S256x256 .f32) (pe : Vec F S1x64x256 .f32) (kbe bbe v u : FVec F S256x256 .bf16) : FVec F S256x256 .f32 :=
  addf (mulf s (peV pe))
    (matmul dot_S512x256_S512x256_S256x256_0_0_1_1_n_n none
      (concatenate S512x256 0 [⟨S256x256, kbe⟩, ⟨S256x256, bbe⟩] concatenates_S256x256_S256x256_S512x256_d0)
      (concatenate S512x256 0 [⟨S256x256, v⟩, ⟨S256x256, u⟩] concatenates_S256x256_S256x256_S512x256_d0)
      (constant S256x256 .f32 0x00000000#32))

/-- The outputs as one row per token: the four heads' row blocks added. -/
def flatV (y : FVec F S256x256 .f32) : FVec F S64x256 .f32 :=
  addf (addf (addf (extractStridedSlice S64x256 ![0, 0] y slices_S256x256_o0_0_S64x256)
    (extractStridedSlice S64x256 ![64, 0] y slices_S256x256_o64_0_S64x256))
    (extractStridedSlice S64x256 ![128, 0] y slices_S256x256_o128_0_S64x256))
    (extractStridedSlice S64x256 ![192, 0] y slices_S256x256_o192_0_S64x256)

/-- The head of each of the 256 columns. -/
def laneHead : IVec S1x256 32 := shrsi (iota .tc S1x256 32 [1] iota_S1x256_d1_w32) (broadcast S1x256 6#32)
/-- One head's sum of each row, in that head's columns, zero elsewhere. -/
def oneHead (h : BitVec 32) (x : FVec F S64x256 .f32) : FVec F S64x256 .f32 :=
  let msk := broadcastTo S64x256 (shapeCast S1x256 (cmpi .eq laneHead (broadcast S1x256 h)) shapeCasts_S1x256_S1x256) broadcasts_S1x256_S64x256
  select msk
    (broadcastTo S64x256 (shapeCast S64x1 (shapeCast S64x1
        (multiReduction .add [1] S64
          (select msk x (broadcast S64x256 (Scalar.ofBits .f32 0x00000000#32))) 0x00000000#32 reduces_S64x256_S64 (.inl rfl) rfl)
        shapeCasts_S64_S64x1) shapeCasts_S64x1_S64x1) broadcasts_S64x1_S64x256)
    (broadcast S64x256 (Scalar.ofBits .f32 0x00000000#32))
/-- Every head's sum of each row, in that head's columns. -/
def headSumV (x : FVec F S64x256 .f32) : FVec F S64x256 .f32 :=
  addf (addf (addf (addf (broadcast S64x256 (Scalar.ofBits .f32 0x00000000#32)) (oneHead 0#32 x)) (oneHead 1#32 x)) (oneHead 2#32 x)) (oneHead 3#32 x)

/-- The group normalisation of one chunk's outputs, scaled, shifted and gated. -/
def normV (y : FVec F S64x256 .f32) (w b : Vec F S1x256 .f32) (bonus g : Vec F S1x64x256 .f32) : FVec F S1x64x256 .f32 :=
  let inv64 := broadcast S64x256 (Scalar.ofBits .f32 0x3C800000#32)
  let yc := subf y (mulf (headSumV y) inv64)
  let yn := mulf yc (rsqrt (addf (mulf (headSumV (mulf yc yc)) inv64) (broadcast S64x256 (Scalar.ofBits .f32 0x3A27C5AC#32))))
  shapeCast S1x64x256
    (mulf (addf (addf (mulf yn (broadcastTo S64x256 (shapeCast S1x256 w shapeCasts_S1x256_S1x256) broadcasts_S1x256_S64x256))
        (broadcastTo S64x256 (shapeCast S1x256 b shapeCasts_S1x256_S1x256) broadcasts_S1x256_S64x256))
      (shapeCast S64x256 bonus shapeCasts_S1x64x256_S64x256)) (shapeCast S64x256 g shapeCasts_S1x64x256_S64x256))
    shapeCasts_S64x256_S1x64x256

/-- One chunk of one batch row: the corrections … -/
def chunkU (kh rh kb bb v : Vec F S1x64x256 .bf16) (s : Vec F S1x256x256 .f32) : FVec F S256x256 .bf16 :=
  let g := gramV (bdV kh) (bdV rh) (bdV kb) (bdV bb)
  uV (akbV g) (zyV (bdV kh) (bdV rh) (bdV v) (akkV g) (arkV g) (shapeCast S256x256 s shapeCasts_S1x256x256_S256x256))
/-- … the outputs, block-diagonal … -/
def chunkY (kh rh kb bb v : Vec F S1x64x256 .bf16) (s : Vec F S1x256x256 .f32) : FVec F S256x256 .f32 :=
  let g := gramV (bdV kh) (bdV rh) (bdV kb) (bdV bb)
  yV (arbV g) (zyV (bdV kh) (bdV rh) (bdV v) (akkV g) (arkV g) (shapeCast S256x256 s shapeCasts_S1x256x256_S256x256))
    (chunkU kh rh kb bb v s)
/-- … and the state after it. -/
def chunkS (kh rh kb bb kbe bbe v : Vec F S1x64x256 .bf16) (pe : Vec F S1x64x256 .f32) (s : Vec F S1x256x256 .f32) :
    FVec F S256x256 .f32 :=
  endV (shapeCast S256x256 s shapeCasts_S1x256x256_S256x256) pe (bdV kbe) (bdV bbe) (bdV v) (chunkU kh rh kb bb v s)

end Cert.KernelIdeal.Scan

end
-- ==== Proof.ScanPieces.lean ====
/-
  What one point of the grid leaves in its two output blocks: for each of the four batch rows, the chunk's outputs and
  the state after the chunk, computed from that row of every operand's block and the state before it. At the first chunk
  of a batch block the state before is the given first state; later it is what the chunk before left.
-/
module

public import proofs.«01_k».proof.Proof.ScanBody
public import Idealize.ShloMosaic.Lib.Pointwise

@[expose] public section

set_option maxRecDepth 100000

noncomputable section

namespace Cert.KernelIdeal.Scan

open Idealize.ShloMosaic Idealize.ShloMosaic.TcCoe Cert.KernelIdeal Cert.KernelIdeal.Gen

variable {F : FTy → Type} [FloatOps F]

/-- One batch row of a block of four. -/
def rowOf {α : Type} {m n : Nat} (r : Fin 4) (x : (⟨3, ![4, m, n]⟩ : Shape).Idx → α) : (⟨3, ![1, m, n]⟩ : Shape).Idx → α :=
  fun j => x (ix3 r (j 1) (j 2))

/-- A load of one row of a block is that row. -/
theorem load_row {sig : RefSig} {κ : Kind} {sp : Space} {e : EltTy} {m n : Nat} {a : Memref sig κ sp (⟨3, ![4, m, n]⟩ : Shape) e}
    (h : a.IsWhole) (r : Fin 4) (o : Nat) (ho : r.val = o)
    (inb : ∀ d, (![o, 0, 0] : Fin 3 → Nat) d + (⟨3, ![1, m, n]⟩ : Shape).size d ≤ (⟨3, ![4, m, n]⟩ : Shape).size d)
    (x : (⟨3, ![4, m, n]⟩ : Shape).Idx → Elt F e) :
    View.readAt (Elt F) a.view (Rect.unit (s := (⟨3, ![4, m, n]⟩ : Shape)) ![o, 0, 0] (⟨3, ![1, m, n]⟩ : Shape).size inb).toLoadRect
      (h.unread x) = rowOf r x := by
  subst ho
  rw [View.readAt_eq_ld, h.read_unread]
  funext j
  refine congrArg x (funext fun d => Fin.ext ?_)
  match d with
  | ⟨0, _⟩ =>
    have h0 : (j 0).val < 1 := (j 0).isLt
    show r.val + 1 * (j 0).val = r.val
    omega
  | ⟨1, _⟩ => show 0 + 1 * (j 1).val = (j 1).val; omega
  | ⟨2, _⟩ => show 0 + 1 * (j 2).val = (j 2).val; omega

/-- A load of a whole one-row operand is the operand. -/
theorem load_vec {sig : RefSig} {κ : Kind} {sp : Space} {e : EltTy} {n : Nat} {a : Memref sig κ sp (⟨2, ![1, n]⟩ : Shape) e}
    (h : a.IsWhole) (inb : ∀ d, (![0, 0] : Fin 2 → Nat) d + (⟨2, ![1, n]⟩ : Shape).size d ≤ (⟨2, ![1, n]⟩ : Shape).size d)
    (x : (⟨2, ![1, n]⟩ : Shape).Idx → Elt F e) :
    View.readAt (Elt F) a.view (Rect.unit (s := (⟨2, ![1, n]⟩ : Shape)) ![0, 0] (⟨2, ![1, n]⟩ : Shape).size inb).toLoadRect
      (h.unread x) = x := by
  rw [View.readAt_eq_ld, h.read_unread]
  funext j
  refine congrArg x (funext fun d => Fin.ext ?_)
  match d with
  | ⟨0, _⟩ => show 0 + 1 * (j 0).val = (j 0).val; omega
  | ⟨1, _⟩ => show 0 + 1 * (j 1).val = (j 1).val; omega

/-- A row's store covers that row … -/
theorem canon_row_hit {e : EltTy} {m n : Nat} (o : Nat)
    (inb : ∀ d, (![o, 0, 0] : Fin 3 → Nat) d + (⟨3, ![1, m, n]⟩ : Shape).size d ≤ (⟨3, ![4, m, n]⟩ : Shape).size d)
    (w : (⟨3, ![1, m, n]⟩ : Shape).Idx → Elt F e) (L : List (View.Piece (Elt F) (⟨3, ![4, m, n]⟩ : Shape) e))
    (y : (⟨3, ![4, m, n]⟩ : Shape).Idx) (hy : (y 0).val = o) :
    View.canon (⟨Rect.unit (s := (⟨3, ![4, m, n]⟩ : Shape)) ![o, 0, 0] (⟨3, ![1, m, n]⟩ : Shape).size inb, w⟩ :: L) y
      = w (ix3 0 (y 1) (y 2)) := by
  have h := View.canon_cons_emb (Val := Elt F) (Rect.unit (s := (⟨3, ![4, m, n]⟩ : Shape)) ![o, 0, 0] (⟨3, ![1, m, n]⟩ : Shape).size inb) w L
    (ix3 (0 : Fin 1) (y 1 : Fin m) (y 2 : Fin n))
  refine Eq.trans (congrArg _ (funext fun d => Fin.ext ?_)) h
  match d with
  | ⟨0, _⟩ => show (y 0).val = o + 1 * 0; omega
  | ⟨1, _⟩ => show (y 1).val = 0 + 1 * (y 1).val; omega
  | ⟨2, _⟩ => show (y 2).val = 0 + 1 * (y 2).val; omega

/-- … and leaves the other rows. -/
theorem canon_row_miss {e : EltTy} {m n : Nat} (o : Nat)
    (inb : ∀ d, (![o, 0, 0] : Fin 3 → Nat) d + (⟨3, ![1, m, n]⟩ : Shape).size d ≤ (⟨3, ![4, m, n]⟩ : Shape).size d)
    (w : (⟨3, ![1, m, n]⟩ : Shape).Idx → Elt F e) (L : List (View.Piece (Elt F) (⟨3, ![4, m, n]⟩ : Shape) e))
    (y : (⟨3, ![4, m, n]⟩ : Shape).Idx) (hy : (y 0).val ≠ o) :
    View.canon (⟨Rect.unit (s := (⟨3, ![4, m, n]⟩ : Shape)) ![o, 0, 0] (⟨3, ![1, m, n]⟩ : Shape).size inb, w⟩ :: L) y
      = View.canon L y := by
  refine View.canon_cons_of_not_mem _ _ fun hmem => hy ?_
  have h := (Rect.mem_set_unit (s := (⟨3, ![4, m, n]⟩ : Shape)) (inb := inb)).mp hmem (0 : Fin 3)
  have h1 : o ≤ (y 0).val := h.1
  have h2 : (y 0).val < o + 1 := h.2
  omega

/-- Four stores, one per row: the block they leave. -/
theorem canon_rows {e : EltTy} {m n : Nat}
    (inb0 : ∀ d, (![0, 0, 0] : Fin 3 → Nat) d + (⟨3, ![1, m, n]⟩ : Shape).size d ≤ (⟨3, ![4, m, n]⟩ : Shape).size d)
    (inb1 : ∀ d, (![1, 0, 0] : Fin 3 → Nat) d + (⟨3, ![1, m, n]⟩ : Shape).size d ≤ (⟨3, ![4, m, n]⟩ : Shape).size d)
    (inb2 : ∀ d, (![2, 0, 0] : Fin 3 → Nat) d + (⟨3, ![1, m, n]⟩ : Shape).size d ≤ (⟨3, ![4, m, n]⟩ : Shape).size d)
    (inb3 : ∀ d, (![3, 0, 0] : Fin 3 → Nat) d + (⟨3, ![1, m, n]⟩ : Shape).size d ≤ (⟨3, ![4, m, n]⟩ : Shape).size d)
    (w : Fin 4 → (⟨3, ![1, m, n]⟩ : Shape).Idx → Elt F e) (L : List (View.Piece (Elt F) (⟨3, ![4, m, n]⟩ : Shape) e)) :
    View.canon (⟨Rect.unit (s := (⟨3, ![4, m, n]⟩ : Shape)) ![3, 0, 0] (⟨3, ![1, m, n]⟩ : Shape).size inb3, w 3⟩ ::
        ⟨Rect.unit (s := (⟨3, ![4, m, n]⟩ : Shape)) ![2, 0, 0] (⟨3, ![1, m, n]⟩ : Shape).size inb2, w 2⟩ ::
        ⟨Rect.unit (s := (⟨3, ![4, m, n]⟩ : Shape)) ![1, 0, 0] (⟨3, ![1, m, n]⟩ : Shape).size inb1, w 1⟩ ::
        ⟨Rect.unit (s := (⟨3, ![4, m, n]⟩ : Shape)) ![0, 0, 0] (⟨3, ![1, m, n]⟩ : Shape).size inb0, w 0⟩ :: L)
      = fun y => w (y 0) (ix3 0 (y 1) (y 2)) := by
  funext y
  have key : ∀ r : Fin 4, y 0 = r → View.canon (⟨Rect.unit (s := (⟨3, ![4, m, n]⟩ : Shape)) ![3, 0, 0] (⟨3, ![1, m, n]⟩ : Shape).size inb3, w 3⟩ ::
        ⟨Rect.unit (s := (⟨3, ![4, m, n]⟩ : Shape)) ![2, 0, 0] (⟨3, ![1, m, n]⟩ : Shape).size inb2, w 2⟩ ::
        ⟨Rect.unit (s := (⟨3, ![4, m, n]⟩ : Shape)) ![1, 0, 0] (⟨3, ![1, m, n]⟩ : Shape).size inb1, w 1⟩ ::
        ⟨Rect.unit (s := (⟨3, ![4, m, n]⟩ : Shape)) ![0, 0, 0] (⟨3, ![1, m, n]⟩ : Shape).size inb0, w 0⟩ :: L) y
      = w r (ix3 0 (y 1) (y 2)) := by
    intro r hr
    have hv : (y 0).val = r.val := congrArg Fin.val hr
    match r, hv with
    | ⟨0, _⟩, hv =>
      rw [canon_row_miss 3 _ _ _ y (by simp only [] at hv; omega), canon_row_miss 2 _ _ _ y (by simp only [] at hv; omega),
        canon_row_miss 1 _ _ _ y (by simp only [] at hv; omega), canon_row_hit 0 _ _ _ y hv]; rfl
    | ⟨1, _⟩, hv =>
      rw [canon_row_miss 3 _ _ _ y (by simp only [] at hv; omega), canon_row_miss 2 _ _ _ y (by simp only [] at hv; omega),
        canon_row_hit 1 _ _ _ y hv]; rfl
    | ⟨2, _⟩, hv =>
      rw [canon_row_miss 3 _ _ _ y (by simp only [] at hv; omega), canon_row_hit 2 _ _ _ y hv]; rfl
    | ⟨3, _⟩, hv =>
      rw [canon_row_hit 3 _ _ _ y hv]; rfl
  exact key (y 0) rfl

/-- A load of a row that the newest stores, of other rows, left alone. -/
theorem readCov_row_eq {κ : Kind} {sp : Space} {e : EltTy} {m n : Nat} (v : View sig κ sp (⟨3, ![4, m, n]⟩ : Shape) e)
    (r : Fin 4) (o : Nat) (ho : r.val = o)
    (inb : ∀ d, (![o, 0, 0] : Fin 3 → Nat) d + (⟨3, ![1, m, n]⟩ : Shape).size d ≤ (⟨3, ![4, m, n]⟩ : Shape).size d)
    (L : List (View.Piece (Elt F) (⟨3, ![4, m, n]⟩ : Shape) e)) (x : (⟨3, ![4, m, n]⟩ : Shape).Idx → Elt F e)
    (hL : ∀ y : (⟨3, ![4, m, n]⟩ : Shape).Idx, (y 0).val = o → View.canon L y = x y) :
    v.readCov L (Rect.unit (s := (⟨3, ![4, m, n]⟩ : Shape)) ![o, 0, 0] (⟨3, ![1, m, n]⟩ : Shape).size inb).toLoadRect = rowOf r x := by
  subst ho
  rw [View.readCov_eq_canon']
  funext j
  have h0 : (j 0).val < 1 := (j 0).isLt
  refine (hL _ ?_).trans (congrArg x (funext fun d => Fin.ext ?_))
  · show r.val + 1 * (j 0).val = r.val
    omega
  · match d with
    | ⟨0, _⟩ => show r.val + 1 * (j 0).val = r.val; omega
    | ⟨1, _⟩ => show 0 + 1 * (j 1).val = (j 1).val; omega
    | ⟨2, _⟩ => show 0 + 1 * (j 2).val = (j 2).val; omega

/-- The states after one chunk, of the four rows of a block. -/
def nextS (kh rh kb bb kbe bbe v : Vec F S4x64x256 .bf16) (pe : Vec F S4x64x256 .f32) (s : Vec F S4x256x256 .f32) :
    Vec F S4x256x256 .f32 :=
  fun y => shapeCast S1x256x256 (chunkS (rowOf (y 0) kh) (rowOf (y 0) rh) (rowOf (y 0) kb) (rowOf (y 0) bb) (rowOf (y 0) kbe)
    (rowOf (y 0) bbe) (rowOf (y 0) v) (rowOf (y 0) pe) (rowOf (y 0) s)) shapeCasts_S256x256_S1x256x256 (ix3 0 (y 1) (y 2))
/-- The outputs of one chunk, of the four rows of a block. -/
def nextY (kh rh kb bb v : Vec F S4x64x256 .bf16) (g bonus : Vec F S4x64x256 .f32) (w b : Vec F S1x256 .f32)
    (s : Vec F S4x256x256 .f32) : Vec F S4x64x256 .f32 :=
  fun y => normV (flatV (chunkY (rowOf (y 0) kh) (rowOf (y 0) rh) (rowOf (y 0) kb) (rowOf (y 0) bb) (rowOf (y 0) v) (rowOf (y 0) s)))
    w b (rowOf (y 0) bonus) (rowOf (y 0) g) (ix3 0 (y 1) (y 2))

/-- What the body stores of the states at a later chunk of a batch block. -/
theorem piecesB14 (c : Dev nD) (i : grid0.Coords) (arg2 : Memref sig .tc .vmem S4x64x256 .bf16) (harg2 : arg2.IsWhole) (arg3 : Memref sig .tc .vmem S4x64x256 .bf16) (harg3 : arg3.IsWhole) (arg4 : Memref sig .tc .vmem S4x64x256 .bf16) (harg4 : arg4.IsWhole) (arg5 : Memref sig .tc .vmem S4x64x256 .bf16) (harg5 : arg5.IsWhole) (arg6 : Memref sig .tc .vmem S4x64x256 .bf16) (harg6 : arg6.IsWhole) (arg7 : Memref sig .tc .vmem S4x64x256 .bf16) (harg7 : arg7.IsWhole) (arg8 : Memref sig .tc .vmem S4x64x256 .bf16) (harg8 : arg8.IsWhole) (arg9 : Memref sig .tc .vmem S4x64x256 .f32) (harg9 : arg9.IsWhole) (arg10 : Memref sig .tc .vmem S4x64x256 .f32) (harg10 : arg10.IsWhole) (arg11 : Memref sig .tc .vmem S4x64x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S4x256x256 .f32) (harg14 : arg14.IsWhole) (arg15 : Memref sig .tc .vmem S4x64x256 .f32) (harg15 : arg15.IsWhole) (arg16 : Memref sig .tc .vmem S4x256x256 .f32) (harg16 : arg16.IsWhole) (hc0 : ¬ cond0_0 i) (x0 x1 x2 x3 x4 x5 x6 : Vec F S4x64x256 .bf16) (x7 x8 x9 : Vec F S4x64x256 .f32) (x10 x11 : Vec F S1x256 .f32) (x12 : Vec F S4x256x256 .f32) (xo14 : Vec F S4x256x256 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo14).2.1 =
      [⟨Rect.unit (s := S4x256x256) ![3, 0, 0] S1x256x256.size inb_S4x256x256_S1x256x256_3_0_0, shapeCast S1x256x256 (chunkS (View.readAt (Elt F) arg2.view (Rect.unit (s := S4x64x256) ![3, 0, 0] S1x64x256.size inb_S4x64x256_S1x64x256_3_0_0).toLoadRect (harg2.unread x0)) (View.readAt (Elt F) arg3.view (Rect.unit (s := S4x64x256) ![3, 0, 0] S1x64x256.size inb_S4x64x256_S1x64x256_3_0_0).toLoadRect (harg3.unread x1)) (View.readAt (Elt F) arg4.view (Rect.unit (s := S4x64x256) ![3, 0, 0] S1x64x256.size inb_S4x64x256_S1x64x256_3_0_0).toLoadRect (harg4.unread x2)) (View.readAt (Elt F) arg5.view (Rect.unit (s := S4x64x256) ![3, 0, 0] S1x64x256.size inb_S4x64x256_S1x64x256_3_0_0).toLoadRect (harg5.unread x3)) (View.readAt (Elt F) arg6.view (Rect.unit (s := S4x64x256) ![3, 0, 0] S1x64x256.size inb_S4x64x256_S1x64x256_3_0_0).toLoadRect (harg6.unread x4)) (View.readAt (Elt F) arg7.view (Rect.unit (s := S4x64x256) ![3, 0, 0] S1x64x256.size inb_S4x64x256_S1x64x256_3_0_0).toLoadRect (harg7.unread x5)) (View.readAt (Elt F) arg8.view (Rect.unit (s := S4x64x256) ![3, 0, 0] S1x64x256.size inb_S4x64x256_S1x64x256_3_0_0).toLoadRect (harg8.unread x6)) (View.readAt (Elt F) arg9.view (Rect.unit (s := S4x64x256) ![3, 0, 0] S1x64x256.size inb_S4x64x256_S1x64x256_3_0_0).toLoadRect (harg9.unread x7)) (View.readAt (Elt F) arg16.view (Rect.unit (s := S4x256x256) ![3, 0, 0] S1x256x256.size inb_S4x256x256_S1x256x256_3_0_0).toLoadRect (harg16.unread xo14))) shapeCasts_S256x256_S1x256x256⟩,
       ⟨Rect.unit (s := S4x256x256) ![2, 0, 0] S1x256x256.size inb_S4x256x256_S1x256x256_2_0_0, shapeCast S1x256x256 (chunkS (View.readAt (Elt F) arg2.view (Rect.unit (s := S4x64x256) ![2, 0, 0] S1x64x256.size inb_S4x64x256_S1x64x256_2_0_0).toLoadRect (harg2.unread x0)) (View.readAt (Elt F) arg3.view (Rect.unit (s := S4x64x256) ![2, 0, 0] S1x64x256.size inb_S4x64x256_S1x64x256_2_0_0).toLoadRect (harg3.unread x1)) (View.readAt (Elt F) arg4.view (Rect.unit (s := S4x64x256) ![2, 0, 0] S1x64x256.size inb_S4x64x256_S1x64x256_2_0_0).toLoadRect (harg4.unread x2)) (View.readAt (Elt F) arg5.view (Rect.unit (s := S4x64x256) ![2, 0, 0] S1x64x256.size inb_S4x64x256_S1x64x256_2_0_0).toLoadRect (harg5.unread x3)) (View.readAt (Elt F) arg6.view (Rect.unit (s := S4x64x256) ![2, 0, 0] S1x64x256.size inb_S4x64x256_S1x64x256_2_0_0).toLoadRect (harg6.unread x4)) (View.readAt (Elt F) arg7.view (Rect.unit (s := S4x64x256) ![2, 0, 0] S1x64x256.size inb_S4x64x256_S1x64x256_2_0_0).toLoadRect (harg7.unread x5)) (View.readAt (Elt F) arg8.view (Rect.unit (s := S4x64x256) ![2, 0, 0] S1x64x256.size inb_S4x64x256_S1x64x256_2_0_0).toLoadRect (harg8.unread x6)) (View.readAt (Elt F) arg9.view (Rect.unit (s := S4x64x256) ![2, 0, 0] S1x64x256.size inb_S4x64x256_S1x64x256_2_0_0).toLoadRect (harg9.unread x7)) (View.readAt (Elt F) arg16.view (Rect.unit (s := S4x256x256) ![2, 0, 0] S1x256x256.size inb_S4x256x256_S1x256x256_2_0_0).toLoadRect (harg16.unread xo14))) shapeCasts_S256x256_S1x256x256⟩,
       ⟨Rect.unit (s := S4x256x256) ![1, 0, 0] S1x256x256.size inb_S4x256x256_S1x256x256_1_0_0, shapeCast S1x256x256 (chunkS (View.readAt (Elt F) arg2.view (Rect.unit (s := S4x64x256) ![1, 0, 0] S1x64x256.size inb_S4x64x256_S1x64x256_1_0_0).toLoadRect (harg2.unread x0)) (View.readAt (Elt F) arg3.view (Rect.unit (s := S4x64x256) ![1, 0, 0] S1x64x256.size inb_S4x64x256_S1x64x256_1_0_0).toLoadRect (harg3.unread x1)) (View.readAt (Elt F) arg4.view (Rect.unit (s := S4x64x256) ![1, 0, 0] S1x64x256.size inb_S4x64x256_S1x64x256_1_0_0).toLoadRect (harg4.unread x2)) (View.readAt (Elt F) arg5.view (Rect.unit (s := S4x64x256) ![1, 0, 0] S1x64x256.size inb_S4x64x256_S1x64x256_1_0_0).toLoadRect (harg5.unread x3)) (View.readAt (Elt F) arg6.view (Rect.unit (s := S4x64x256) ![1, 0, 0] S1x64x256.size inb_S4x64x256_S1x64x256_1_0_0).toLoadRect (harg6.unread x4)) (View.readAt (Elt F) arg7.view (Rect.unit (s := S4x64x256) ![1, 0, 0] S1x64x256.size inb_S4x64x256_S1x64x256_1_0_0).toLoadRect (harg7.unread x5)) (View.readAt (Elt F) arg8.view (Rect.unit (s := S4x64x256) ![1, 0, 0] S1x64x256.size inb_S4x64x256_S1x64x256_1_0_0).toLoadRect (harg8.unread x6)) (View.readAt (Elt F) arg9.view (Rect.unit (s := S4x64x256) ![1, 0, 0] S1x64x256.size inb_S4x64x256_S1x64x256_1_0_0).toLoadRect (harg9.unread x7)) (View.readAt (Elt F) arg16.view (Rect.unit (s := S4x256x256) ![1, 0, 0] S1x256x256.size inb_S4x256x256_S1x256x256_1_0_0).toLoadRect (harg16.unread xo14))) shapeCasts_S256x256_S1x256x256⟩,
       ⟨Rect.unit (s := S4x256x256) ![0, 0, 0] S1x256x256.size inb_S4x256x256_S1x256x256_0_0_0, shapeCast S1x256x256 (chunkS (View.readAt (Elt F) arg2.view (Rect.unit (s := S4x64x256) ![0, 0, 0] S1x64x256.size inb_S4x64x256_S1x64x256_0_0_0).toLoadRect (harg2.unread x0)) (View.readAt (Elt F) arg3.view (Rect.unit (s := S4x64x256) ![0, 0, 0] S1x64x256.size inb_S4x64x256_S1x64x256_0_0_0).toLoadRect (harg3.unread x1)) (View.readAt (Elt F) arg4.view (Rect.unit (s := S4x64x256) ![0, 0, 0] S1x64x256.size inb_S4x64x256_S1x64x256_0_0_0).toLoadRect (harg4.unread x2)) (View.readAt (Elt F) arg5.view (Rect.unit (s := S4x64x256) ![0, 0, 0] S1x64x256.size inb_S4x64x256_S1x64x256_0_0_0).toLoadRect (harg5.unread x3)) (View.readAt (Elt F) arg6.view (Rect.unit (s := S4x64x256) ![0, 0, 0] S1x64x256.size inb_S4x64x256_S1x64x256_0_0_0).toLoadRect (harg6.unread x4)) (View.readAt (Elt F) arg7.view (Rect.unit (s := S4x64x256) ![0, 0, 0] S1x64x256.size inb_S4x64x256_S1x64x256_0_0_0).toLoadRect (harg7.unread x5)) (View.readAt (Elt F) arg8.view (Rect.unit (s := S4x64x256) ![0, 0, 0] S1x64x256.size inb_S4x64x256_S1x64x256_0_0_0).toLoadRect (harg8.unread x6)) (View.readAt (Elt F) arg9.view (Rect.unit (s := S4x64x256) ![0, 0, 0] S1x64x256.size inb_S4x64x256_S1x64x256_0_0_0).toLoadRect (harg9.unread x7)) (View.readAt (Elt F) arg16.view (Rect.unit (s := S4x256x256) ![0, 0, 0] S1x256x256.size inb_S4x256x256_S1x256x256_0_0_0).toLoadRect (harg16.unread xo14))) shapeCasts_S256x256_S1x256x256⟩] := rfl

/-- What the body stores of the outputs at a later chunk of a batch block. -/
theorem piecesB13 (c : Dev nD) (i : grid0.Coords) (arg2 : Memref sig .tc .vmem S4x64x256 .bf16) (harg2 : arg2.IsWhole) (arg3 : Memref sig .tc .vmem S4x64x256 .bf16) (harg3 : arg3.IsWhole) (arg4 : Memref sig .tc .vmem S4x64x256 .bf16) (harg4 : arg4.IsWhole) (arg5 : Memref sig .tc .vmem S4x64x256 .bf16) (harg5 : arg5.IsWhole) (arg6 : Memref sig .tc .vmem S4x64x256 .bf16) (harg6 : arg6.IsWhole) (arg7 : Memref sig .tc .vmem S4x64x256 .bf16) (harg7 : arg7.IsWhole) (arg8 : Memref sig .tc .vmem S4x64x256 .bf16) (harg8 : arg8.IsWhole) (arg9 : Memref sig .tc .vmem S4x64x256 .f32) (harg9 : arg9.IsWhole) (arg10 : Memref sig .tc .vmem S4x64x256 .f32) (harg10 : arg10.IsWhole) (arg11 : Memref sig .tc .vmem S4x64x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S4x256x256 .f32) (harg14 : arg14.IsWhole) (arg15 : Memref sig .tc .vmem S4x64x256 .f32) (harg15 : arg15.IsWhole) (arg16 : Memref sig .tc .vmem S4x256x256 .f32) (harg16 : arg16.IsWhole) (hc0 : ¬ cond0_0 i) (x0 x1 x2 x3 x4 x5 x6 : Vec F S4x64x256 .bf16) (x7 x8 x9 : Vec F S4x64x256 .f32) (x10 x11 : Vec F S1x256 .f32) (x12 : Vec F S4x256x256 .f32) (xo14 : Vec F S4x256x256 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo14).1 =
      [⟨Rect.unit (s := S4x64x256) ![3, 0, 0] S1x64x256.size inb_S4x64x256_S1x64x256_3_0_0, normV (flatV (chunkY (View.readAt (Elt F) arg2.view (Rect.unit (s := S4x64x256) ![3, 0, 0] S1x64x256.size inb_S4x64x256_S1x64x256_3_0_0).toLoadRect (harg2.unread x0)) (View.readAt (Elt F) arg3.view (Rect.unit (s := S4x64x256) ![3, 0, 0] S1x64x256.size inb_S4x64x256_S1x64x256_3_0_0).toLoadRect (harg3.unread x1)) (View.readAt (Elt F) arg4.view (Rect.unit (s := S4x64x256) ![3, 0, 0] S1x64x256.size inb_S4x64x256_S1x64x256_3_0_0).toLoadRect (harg4.unread x2)) (View.readAt (Elt F) arg5.view (Rect.unit (s := S4x64x256) ![3, 0, 0] S1x64x256.size inb_S4x64x256_S1x64x256_3_0_0).toLoadRect (harg5.unread x3)) (View.readAt (Elt F) arg8.view (Rect.unit (s := S4x64x256) ![3, 0, 0] S1x64x256.size inb_S4x64x256_S1x64x256_3_0_0).toLoadRect (harg8.unread x6)) (View.readAt (Elt F) arg16.view (Rect.unit (s := S4x256x256) ![3, 0, 0] S1x256x256.size inb_S4x256x256_S1x256x256_3_0_0).toLoadRect (harg16.unread xo14)))) (View.readAt (Elt F) arg12.view (Rect.unit (s := S1x256) ![0, 0] S1x256.size inb_S1x256_S1x256_0_0).toLoadRect (harg12.unread x10)) (View.readAt (Elt F) arg13.view (Rect.unit (s := S1x256) ![0, 0] S1x256.size inb_S1x256_S1x256_0_0).toLoadRect (harg13.unread x11)) (View.readAt (Elt F) arg11.view (Rect.unit (s := S4x64x256) ![3, 0, 0] S1x64x256.size inb_S4x64x256_S1x64x256_3_0_0).toLoadRect (harg11.unread x9)) (View.readAt (Elt F) arg10.view (Rect.unit (s := S4x64x256) ![3, 0, 0] S1x64x256.size inb_S4x64x256_S1x64x256_3_0_0).toLoadRect (harg10.unread x8))⟩,
       ⟨Rect.unit (s := S4x64x256) ![2, 0, 0] S1x64x256.size inb_S4x64x256_S1x64x256_2_0_0, normV (flatV (chunkY (View.readAt (Elt F) arg2.view (Rect.unit (s := S4x64x256) ![2, 0, 0] S1x64x256.size inb_S4x64x256_S1x64x256_2_0_0).toLoadRect (harg2.unread x0)) (View.readAt (Elt F) arg3.view (Rect.unit (s := S4x64x256) ![2, 0, 0] S1x64x256.size inb_S4x64x256_S1x64x256_2_0_0).toLoadRect (harg3.unread x1)) (View.readAt (Elt F) arg4.view (Rect.unit (s := S4x64x256) ![2, 0, 0] S1x64x256.size inb_S4x64x256_S1x64x256_2_0_0).toLoadRect (harg4.unread x2)) (View.readAt (Elt F) arg5.view (Rect.unit (s := S4x64x256) ![2, 0, 0] S1x64x256.size inb_S4x64x256_S1x64x256_2_0_0).toLoadRect (harg5.unread x3)) (View.readAt (Elt F) arg8.view (Rect.unit (s := S4x64x256) ![2, 0, 0] S1x64x256.size inb_S4x64x256_S1x64x256_2_0_0).toLoadRect (harg8.unread x6)) (View.readAt (Elt F) arg16.view (Rect.unit (s := S4x256x256) ![2, 0, 0] S1x256x256.size inb_S4x256x256_S1x256x256_2_0_0).toLoadRect (harg16.unread xo14)))) (View.readAt (Elt F) arg12.view (Rect.unit (s := S1x256) ![0, 0] S1x256.size inb_S1x256_S1x256_0_0).toLoadRect (harg12.unread x10)) (View.readAt (Elt F) arg13.view (Rect.unit (s := S1x256) ![0, 0] S1x256.size inb_S1x256_S1x256_0_0).toLoadRect (harg13.unread x11)) (View.readAt (Elt F) arg11.view (Rect.unit (s := S4x64x256) ![2, 0, 0] S1x64x256.size inb_S4x64x256_S1x64x256_2_0_0).toLoadRect (harg11.unread x9)) (View.readAt (Elt F) arg10.view (Rect.unit (s := S4x64x256) ![2, 0, 0] S1x64x256.size inb_S4x64x256_S1x64x256_2_0_0).toLoadRect (harg10.unread x8))⟩,
       ⟨Rect.unit (s := S4x64x256) ![1, 0, 0] S1x64x256.size inb_S4x64x256_S1x64x256_1_0_0, normV (flatV (chunkY (View.readAt (Elt F) arg2.view (Rect.unit (s := S4x64x256) ![1, 0, 0] S1x64x256.size inb_S4x64x256_S1x64x256_1_0_0).toLoadRect (harg2.unread x0)) (View.readAt (Elt F) arg3.view (Rect.unit (s := S4x64x256) ![1, 0, 0] S1x64x256.size inb_S4x64x256_S1x64x256_1_0_0).toLoadRect (harg3.unread x1)) (View.readAt (Elt F) arg4.view (Rect.unit (s := S4x64x256) ![1, 0, 0] S1x64x256.size inb_S4x64x256_S1x64x256_1_0_0).toLoadRect (harg4.unread x2)) (View.readAt (Elt F) arg5.view (Rect.unit (s := S4x64x256) ![1, 0, 0] S1x64x256.size inb_S4x64x256_S1x64x256_1_0_0).toLoadRect (harg5.unread x3)) (View.readAt (Elt F) arg8.view (Rect.unit (s := S4x64x256) ![1, 0, 0] S1x64x256.size inb_S4x64x256_S1x64x256_1_0_0).toLoadRect (harg8.unread x6)) (View.readAt (Elt F) arg16.view (Rect.unit (s := S4x256x256) ![1, 0, 0] S1x256x256.size inb_S4x256x256_S1x256x256_1_0_0).toLoadRect (harg16.unread xo14)))) (View.readAt (Elt F) arg12.view (Rect.unit (s := S1x256) ![0, 0] S1x256.size inb_S1x256_S1x256_0_0).toLoadRect (harg12.unread x10)) (View.readAt (Elt F) arg13.view (Rect.unit (s := S1x256) ![0, 0] S1x256.size inb_S1x256_S1x256_0_0).toLoadRect (harg13.unread x11)) (View.readAt (Elt F) arg11.view (Rect.unit (s := S4x64x256) ![1, 0, 0] S1x64x256.size inb_S4x64x256_S1x64x256_1_0_0).toLoadRect (harg11.unread x9)) (View.readAt (Elt F) arg10.view (Rect.unit (s := S4x64x256) ![1, 0, 0] S1x64x256.size inb_S4x64x256_S1x64x256_1_0_0).toLoadRect (harg10.unread x8))⟩,
       ⟨Rect.unit (s := S4x64x256) ![0, 0, 0] S1x64x256.size inb_S4x64x256_S1x64x256_0_0_0, normV (flatV (chunkY (View.readAt (Elt F) arg2.view (Rect.unit (s := S4x64x256) ![0, 0, 0] S1x64x256.size inb_S4x64x256_S1x64x256_0_0_0).toLoadRect (harg2.unread x0)) (View.readAt (Elt F) arg3.view (Rect.unit (s := S4x64x256) ![0, 0, 0] S1x64x256.size inb_S4x64x256_S1x64x256_0_0_0).toLoadRect (harg3.unread x1)) (View.readAt (Elt F) arg4.view (Rect.unit (s := S4x64x256) ![0, 0, 0] S1x64x256.size inb_S4x64x256_S1x64x256_0_0_0).toLoadRect (harg4.unread x2)) (View.readAt (Elt F) arg5.view (Rect.unit (s := S4x64x256) ![0, 0, 0] S1x64x256.size inb_S4x64x256_S1x64x256_0_0_0).toLoadRect (harg5.unread x3)) (View.readAt (Elt F) arg8.view (Rect.unit (s := S4x64x256) ![0, 0, 0] S1x64x256.size inb_S4x64x256_S1x64x256_0_0_0).toLoadRect (harg8.unread x6)) (View.readAt (Elt F) arg16.view (Rect.unit (s := S4x256x256) ![0, 0, 0] S1x256x256.size inb_S4x256x256_S1x256x256_0_0_0).toLoadRect (harg16.unread xo14)))) (View.readAt (Elt F) arg12.view (Rect.unit (s := S1x256) ![0, 0] S1x256.size inb_S1x256_S1x256_0_0).toLoadRect (harg12.unread x10)) (View.readAt (Elt F) arg13.view (Rect.unit (s := S1x256) ![0, 0] S1x256.size inb_S1x256_S1x256_0_0).toLoadRect (harg13.unread x11)) (View.readAt (Elt F) arg11.view (Rect.unit (s := S4x64x256) ![0, 0, 0] S1x64x256.size inb_S4x64x256_S1x64x256_0_0_0).toLoadRect (harg11.unread x9)) (View.readAt (Elt F) arg10.view (Rect.unit (s := S4x64x256) ![0, 0, 0] S1x64x256.size inb_S4x64x256_S1x64x256_0_0_0).toLoadRect (harg10.unread x8))⟩] := rfl

/-- … so the states' block after the point … -/
theorem outB14 (c : Dev nD) (i : grid0.Coords) (arg2 : Memref sig .tc .vmem S4x64x256 .bf16) (harg2 : arg2.IsWhole) (arg3 : Memref sig .tc .vmem S4x64x256 .bf16) (harg3 : arg3.IsWhole) (arg4 : Memref sig .tc .vmem S4x64x256 .bf16) (harg4 : arg4.IsWhole) (arg5 : Memref sig .tc .vmem S4x64x256 .bf16) (harg5 : arg5.IsWhole) (arg6 : Memref sig .tc .vmem S4x64x256 .bf16) (harg6 : arg6.IsWhole) (arg7 : Memref sig .tc .vmem S4x64x256 .bf16) (harg7 : arg7.IsWhole) (arg8 : Memref sig .tc .vmem S4x64x256 .bf16) (harg8 : arg8.IsWhole) (arg9 : Memref sig .tc .vmem S4x64x256 .f32) (harg9 : arg9.IsWhole) (arg10 : Memref sig .tc .vmem S4x64x256 .f32) (harg10 : arg10.IsWhole) (arg11 : Memref sig .tc .vmem S4x64x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S4x256x256 .f32) (harg14 : arg14.IsWhole) (arg15 : Memref sig .tc .vmem S4x64x256 .f32) (harg15 : arg15.IsWhole) (arg16 : Memref sig .tc .vmem S4x256x256 .f32) (harg16 : arg16.IsWhole) (hc0 : ¬ cond0_0 i) (x0 x1 x2 x3 x4 x5 x6 : Vec F S4x64x256 .bf16) (x7 x8 x9 : Vec F S4x64x256 .f32) (x10 x11 : Vec F S1x256 .f32) (x12 : Vec F S4x256x256 .f32) (xo14 : Vec F S4x256x256 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo14 = nextS x0 x1 x2 x3 x4 x5 x6 x7 xo14 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo14), piecesB14]
  simp only [load_row _ 0 0 rfl, load_row _ 1 1 rfl, load_row _ 2 2 rfl, load_row _ 3 3 rfl]
  have h := canon_rows (F := F) (e := .f32) (m := 256) (n := 256) inb_S4x256x256_S1x256x256_0_0_0 inb_S4x256x256_S1x256x256_1_0_0
    inb_S4x256x256_S1x256x256_2_0_0 inb_S4x256x256_S1x256x256_3_0_0 (fun r => shapeCast S1x256x256 (chunkS (rowOf r x0) (rowOf r x1) (rowOf r x2) (rowOf r x3) (rowOf r x4)
    (rowOf r x5) (rowOf r x6) (rowOf r x7) (rowOf r xo14)) shapeCasts_S256x256_S1x256x256) []
  beta_reduce at h
  unfold nextS
  exact h

/-- … and the outputs' block. -/
theorem outB13 (c : Dev nD) (i : grid0.Coords) (arg2 : Memref sig .tc .vmem S4x64x256 .bf16) (harg2 : arg2.IsWhole) (arg3 : Memref sig .tc .vmem S4x64x256 .bf16) (harg3 : arg3.IsWhole) (arg4 : Memref sig .tc .vmem S4x64x256 .bf16) (harg4 : arg4.IsWhole) (arg5 : Memref sig .tc .vmem S4x64x256 .bf16) (harg5 : arg5.IsWhole) (arg6 : Memref sig .tc .vmem S4x64x256 .bf16) (harg6 : arg6.IsWhole) (arg7 : Memref sig .tc .vmem S4x64x256 .bf16) (harg7 : arg7.IsWhole) (arg8 : Memref sig .tc .vmem S4x64x256 .bf16) (harg8 : arg8.IsWhole) (arg9 : Memref sig .tc .vmem S4x64x256 .f32) (harg9 : arg9.IsWhole) (arg10 : Memref sig .tc .vmem S4x64x256 .f32) (harg10 : arg10.IsWhole) (arg11 : Memref sig .tc .vmem S4x64x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S4x256x256 .f32) (harg14 : arg14.IsWhole) (arg15 : Memref sig .tc .vmem S4x64x256 .f32) (harg15 : arg15.IsWhole) (arg16 : Memref sig .tc .vmem S4x256x256 .f32) (harg16 : arg16.IsWhole) (hc0 : ¬ cond0_0 i) (x0 x1 x2 x3 x4 x5 x6 : Vec F S4x64x256 .bf16) (x7 x8 x9 : Vec F S4x64x256 .f32) (x10 x11 : Vec F S1x256 .f32) (x12 : Vec F S4x256x256 .f32) (xo14 : Vec F S4x256x256 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo14 = nextY x0 x1 x2 x3 x6 x8 x9 x10 x11 xo14 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo14), piecesB13]
  rw [load_vec harg12 inb_S1x256_S1x256_0_0 x10, load_vec harg13 inb_S1x256_S1x256_0_0 x11]
  simp only [load_row _ 0 0 rfl, load_row _ 1 1 rfl, load_row _ 2 2 rfl, load_row _ 3 3 rfl]
  have h := canon_rows (F := F) (e := .f32) (m := 64) (n := 256) inb_S4x64x256_S1x64x256_0_0_0 inb_S4x64x256_S1x64x256_1_0_0
    inb_S4x64x256_S1x64x256_2_0_0 inb_S4x64x256_S1x64x256_3_0_0 (fun r => normV (flatV (chunkY (rowOf r x0) (rowOf r x1) (rowOf r x2) (rowOf r x3) (rowOf r x6) (rowOf r xo14)))
    x10 x11 (rowOf r x9) (rowOf r x8)) []
  beta_reduce at h
  unfold nextY
  exact h

/-- The first store of a first chunk is of the whole block: the given first states. -/
theorem canonA (c : Dev nD) (arg14 : Memref sig .tc .vmem S4x256x256 .f32) (harg14 : arg14.IsWhole) (x12 : Vec F S4x256x256 .f32) :
    View.canon (kernelRun0_A.sl.H14_1 c arg14 harg14 x12) = x12 := by
  unfold kernelRun0_A.sl.H14_1 kernelRun0_A.sl.v1196
  rw [View.canon_unit_zero (by funext d; match d with | ⟨0, _⟩ => rfl | ⟨1, _⟩ => rfl | ⟨2, _⟩ => rfl), shapeCast_self, View.readAt_eq_ld, harg14.read_unread]
  funext j
  refine congrArg x12 (funext fun d => Fin.ext ?_)
  match d with
  | ⟨0, _⟩ => show 0 + 1 * (j 0).val = (j 0).val; omega
  | ⟨1, _⟩ => show 0 + 1 * (j 1).val = (j 1).val; omega
  | ⟨2, _⟩ => show 0 + 1 * (j 2).val = (j 2).val; omega

/-- Row 0 of the state, loaded at a first chunk, is that row of the first states. -/
theorem loadA0 (c : Dev nD) (arg14 : Memref sig .tc .vmem S4x256x256 .f32) (harg14 : arg14.IsWhole) (arg16 : Memref sig .tc .vmem S4x256x256 .f32) (x12 : Vec F S4x256x256 .f32) :
    (arg16.view.readCov (kernelRun0_A.sl.H14_1 c arg14 harg14 x12) (Rect.unit (s := S4x256x256) ![0, 0, 0] S1x256x256.size inb_S4x256x256_S1x256x256_0_0_0).toLoadRect) = rowOf 0 x12 := by
  refine readCov_row_eq _ 0 0 rfl _ _ x12 fun y hy => ?_
  rw [canonA]

/-- Row 1 of the state, loaded at a first chunk, is that row of the first states. -/
theorem loadA1 (c : Dev nD) (arg2 : Memref sig .tc .vmem S4x64x256 .bf16) (harg2 : arg2.IsWhole) (arg3 : Memref sig .tc .vmem S4x64x256 .bf16) (harg3 : arg3.IsWhole) (arg4 : Memref sig .tc .vmem S4x64x256 .bf16) (harg4 : arg4.IsWhole) (arg5 : Memref sig .tc .vmem S4x64x256 .bf16) (harg5 : arg5.IsWhole) (arg6 : Memref sig .tc .vmem S4x64x256 .bf16) (harg6 : arg6.IsWhole) (arg7 : Memref sig .tc .vmem S4x64x256 .bf16) (harg7 : arg7.IsWhole) (arg8 : Memref sig .tc .vmem S4x64x256 .bf16) (harg8 : arg8.IsWhole) (arg9 : Memref sig .tc .vmem S4x64x256 .f32) (harg9 : arg9.IsWhole) (arg14 : Memref sig .tc .vmem S4x256x256 .f32) (harg14 : arg14.IsWhole) (arg16 : Memref sig .tc .vmem S4x256x256 .f32) (x0 x1 x2 x3 x4 x5 x6 : Vec F S4x64x256 .bf16) (x7 : Vec F S4x64x256 .f32) (x12 : Vec F S4x256x256 .f32) :
    (arg16.view.readCov (kernelRun0_A.sl.H14_2 c arg2 harg2 arg3 harg3 arg4 harg4 arg5 harg5 arg6 harg6 arg7 harg7 arg8 harg8 arg9 harg9 arg14 harg14 arg16 x0 x1 x2 x3 x4 x5 x6 x7 x12) (Rect.unit (s := S4x256x256) ![1, 0, 0] S1x256x256.size inb_S4x256x256_S1x256x256_1_0_0).toLoadRect) = rowOf 1 x12 := by
  refine readCov_row_eq _ 1 1 rfl _ _ x12 fun y hy => ?_
  unfold kernelRun0_A.sl.H14_2
  rw [canon_row_miss 0 _ _ _ y (by omega)]
  rw [canonA]

/-- Row 2 of the state, loaded at a first chunk, is that row of the first states. -/
theorem loadA2 (c : Dev nD) (arg2 : Memref sig .tc .vmem S4x64x256 .bf16) (harg2 : arg2.IsWhole) (arg3 : Memref sig .tc .vmem S4x64x256 .bf16) (harg3 : arg3.IsWhole) (arg4 : Memref sig .tc .vmem S4x64x256 .bf16) (harg4 : arg4.IsWhole) (arg5 : Memref sig .tc .vmem S4x64x256 .bf16) (harg5 : arg5.IsWhole) (arg6 : Memref sig .tc .vmem S4x64x256 .bf16) (harg6 : arg6.IsWhole) (arg7 : Memref sig .tc .vmem S4x64x256 .bf16) (harg7 : arg7.IsWhole) (arg8 : Memref sig .tc .vmem S4x64x256 .bf16) (harg8 : arg8.IsWhole) (arg9 : Memref sig .tc .vmem S4x64x256 .f32) (harg9 : arg9.IsWhole) (arg14 : Memref sig .tc .vmem S4x256x256 .f32) (harg14 : arg14.IsWhole) (arg16 : Memref sig .tc .vmem S4x256x256 .f32) (x0 x1 x2 x3 x4 x5 x6 : Vec F S4x64x256 .bf16) (x7 : Vec F S4x64x256 .f32) (x12 : Vec F S4x256x256 .f32) :
    (arg16.view.readCov (kernelRun0_A.sl.H14_3 c arg2 harg2 arg3 harg3 arg4 harg4 arg5 harg5 arg6 harg6 arg7 harg7 arg8 harg8 arg9 harg9 arg14 harg14 arg16 x0 x1 x2 x3 x4 x5 x6 x7 x12) (Rect.unit (s := S4x256x256) ![2, 0, 0] S1x256x256.size inb_S4x256x256_S1x256x256_2_0_0).toLoadRect) = rowOf 2 x12 := by
  refine readCov_row_eq _ 2 2 rfl _ _ x12 fun y hy => ?_
  unfold kernelRun0_A.sl.H14_3
  rw [canon_row_miss 1 _ _ _ y (by omega)]
  unfold kernelRun0_A.sl.H14_2
  rw [canon_row_miss 0 _ _ _ y (by omega)]
  rw [canonA]

/-- Row 3 of the state, loaded at a first chunk, is that row of the first states. -/
theorem loadA3 (c : Dev nD) (arg2 : Memref sig .tc .vmem S4x64x256 .bf16) (harg2 : arg2.IsWhole) (arg3 : Memref sig .tc .vmem S4x64x256 .bf16) (harg3 : arg3.IsWhole) (arg4 : Memref sig .tc .vmem S4x64x256 .bf16) (harg4 : arg4.IsWhole) (arg5 : Memref sig .tc .vmem S4x64x256 .bf16) (harg5 : arg5.IsWhole) (arg6 : Memref sig .tc .vmem S4x64x256 .bf16) (harg6 : arg6.IsWhole) (arg7 : Memref sig .tc .vmem S4x64x256 .bf16) (harg7 : arg7.IsWhole) (arg8 : Memref sig .tc .vmem S4x64x256 .bf16) (harg8 : arg8.IsWhole) (arg9 : Memref sig .tc .vmem S4x64x256 .f32) (harg9 : arg9.IsWhole) (arg14 : Memref sig .tc .vmem S4x256x256 .f32) (harg14 : arg14.IsWhole) (arg16 : Memref sig .tc .vmem S4x256x256 .f32) (x0 x1 x2 x3 x4 x5 x6 : Vec F S4x64x256 .bf16) (x7 : Vec F S4x64x256 .f32) (x12 : Vec F S4x256x256 .f32) :
    (arg16.view.readCov (kernelRun0_A.sl.H14_4 c arg2 harg2 arg3 harg3 arg4 harg4 arg5 harg5 arg6 harg6 arg7 harg7 arg8 harg8 arg9 harg9 arg14 harg14 arg16 x0 x1 x2 x3 x4 x5 x6 x7 x12) (Rect.unit (s := S4x256x256) ![3, 0, 0] S1x256x256.size inb_S4x256x256_S1x256x256_3_0_0).toLoadRect) = rowOf 3 x12 := by
  refine readCov_row_eq _ 3 3 rfl _ _ x12 fun y hy => ?_
  unfold kernelRun0_A.sl.H14_4
  rw [canon_row_miss 2 _ _ _ y (by omega)]
  unfold kernelRun0_A.sl.H14_3
  rw [canon_row_miss 1 _ _ _ y (by omega)]
  unfold kernelRun0_A.sl.H14_2
  rw [canon_row_miss 0 _ _ _ y (by omega)]
  rw [canonA]

/-- What the body stores of the states at a first chunk of a batch block. -/
theorem piecesA14 (c : Dev nD) (i : grid0.Coords) (arg2 : Memref sig .tc .vmem S4x64x256 .bf16) (harg2 : arg2.IsWhole) (arg3 : Memref sig .tc .vmem S4x64x256 .bf16) (harg3 : arg3.IsWhole) (arg4 : Memref sig .tc .vmem S4x64x256 .bf16) (harg4 : arg4.IsWhole) (arg5 : Memref sig .tc .vmem S4x64x256 .bf16) (harg5 : arg5.IsWhole) (arg6 : Memref sig .tc .vmem S4x64x256 .bf16) (harg6 : arg6.IsWhole) (arg7 : Memref sig .tc .vmem S4x64x256 .bf16) (harg7 : arg7.IsWhole) (arg8 : Memref sig .tc .vmem S4x64x256 .bf16) (harg8 : arg8.IsWhole) (arg9 : Memref sig .tc .vmem S4x64x256 .f32) (harg9 : arg9.IsWhole) (arg10 : Memref sig .tc .vmem S4x64x256 .f32) (harg10 : arg10.IsWhole) (arg11 : Memref sig .tc .vmem S4x64x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S4x256x256 .f32) (harg14 : arg14.IsWhole) (arg15 : Memref sig .tc .vmem S4x64x256 .f32) (harg15 : arg15.IsWhole) (arg16 : Memref sig .tc .vmem S4x256x256 .f32) (harg16 : arg16.IsWhole) (hc0 : cond0_0 i) (x0 x1 x2 x3 x4 x5 x6 : Vec F S4x64x256 .bf16) (x7 x8 x9 : Vec F S4x64x256 .f32) (x10 x11 : Vec F S1x256 .f32) (x12 : Vec F S4x256x256 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.1 =
      [⟨Rect.unit (s := S4x256x256) ![3, 0, 0] S1x256x256.size inb_S4x256x256_S1x256x256_3_0_0, shapeCast S1x256x256 (chunkS (View.readAt (Elt F) arg2.view (Rect.unit (s := S4x64x256) ![3, 0, 0] S1x64x256.size inb_S4x64x256_S1x64x256_3_0_0).toLoadRect (harg2.unread x0)) (View.readAt (Elt F) arg3.view (Rect.unit (s := S4x64x256) ![3, 0, 0] S1x64x256.size inb_S4x64x256_S1x64x256_3_0_0).toLoadRect (harg3.unread x1)) (View.readAt (Elt F) arg4.view (Rect.unit (s := S4x64x256) ![3, 0, 0] S1x64x256.size inb_S4x64x256_S1x64x256_3_0_0).toLoadRect (harg4.unread x2)) (View.readAt (Elt F) arg5.view (Rect.unit (s := S4x64x256) ![3, 0, 0] S1x64x256.size inb_S4x64x256_S1x64x256_3_0_0).toLoadRect (harg5.unread x3)) (View.readAt (Elt F) arg6.view (Rect.unit (s := S4x64x256) ![3, 0, 0] S1x64x256.size inb_S4x64x256_S1x64x256_3_0_0).toLoadRect (harg6.unread x4)) (View.readAt (Elt F) arg7.view (Rect.unit (s := S4x64x256) ![3, 0, 0] S1x64x256.size inb_S4x64x256_S1x64x256_3_0_0).toLoadRect (harg7.unread x5)) (View.readAt (Elt F) arg8.view (Rect.unit (s := S4x64x256) ![3, 0, 0] S1x64x256.size inb_S4x64x256_S1x64x256_3_0_0).toLoadRect (harg8.unread x6)) (View.readAt (Elt F) arg9.view (Rect.unit (s := S4x64x256) ![3, 0, 0] S1x64x256.size inb_S4x64x256_S1x64x256_3_0_0).toLoadRect (harg9.unread x7)) (arg16.view.readCov (kernelRun0_A.sl.H14_4 c arg2 harg2 arg3 harg3 arg4 harg4 arg5 harg5 arg6 harg6 arg7 harg7 arg8 harg8 arg9 harg9 arg14 harg14 arg16 x0 x1 x2 x3 x4 x5 x6 x7 x12) (Rect.unit (s := S4x256x256) ![3, 0, 0] S1x256x256.size inb_S4x256x256_S1x256x256_3_0_0).toLoadRect)) shapeCasts_S256x256_S1x256x256⟩,
       ⟨Rect.unit (s := S4x256x256) ![2, 0, 0] S1x256x256.size inb_S4x256x256_S1x256x256_2_0_0, shapeCast S1x256x256 (chunkS (View.readAt (Elt F) arg2.view (Rect.unit (s := S4x64x256) ![2, 0, 0] S1x64x256.size inb_S4x64x256_S1x64x256_2_0_0).toLoadRect (harg2.unread x0)) (View.readAt (Elt F) arg3.view (Rect.unit (s := S4x64x256) ![2, 0, 0] S1x64x256.size inb_S4x64x256_S1x64x256_2_0_0).toLoadRect (harg3.unread x1)) (View.readAt (Elt F) arg4.view (Rect.unit (s := S4x64x256) ![2, 0, 0] S1x64x256.size inb_S4x64x256_S1x64x256_2_0_0).toLoadRect (harg4.unread x2)) (View.readAt (Elt F) arg5.view (Rect.unit (s := S4x64x256) ![2, 0, 0] S1x64x256.size inb_S4x64x256_S1x64x256_2_0_0).toLoadRect (harg5.unread x3)) (View.readAt (Elt F) arg6.view (Rect.unit (s := S4x64x256) ![2, 0, 0] S1x64x256.size inb_S4x64x256_S1x64x256_2_0_0).toLoadRect (harg6.unread x4)) (View.readAt (Elt F) arg7.view (Rect.unit (s := S4x64x256) ![2, 0, 0] S1x64x256.size inb_S4x64x256_S1x64x256_2_0_0).toLoadRect (harg7.unread x5)) (View.readAt (Elt F) arg8.view (Rect.unit (s := S4x64x256) ![2, 0, 0] S1x64x256.size inb_S4x64x256_S1x64x256_2_0_0).toLoadRect (harg8.unread x6)) (View.readAt (Elt F) arg9.view (Rect.unit (s := S4x64x256) ![2, 0, 0] S1x64x256.size inb_S4x64x256_S1x64x256_2_0_0).toLoadRect (harg9.unread x7)) (arg16.view.readCov (kernelRun0_A.sl.H14_3 c arg2 harg2 arg3 harg3 arg4 harg4 arg5 harg5 arg6 harg6 arg7 harg7 arg8 harg8 arg9 harg9 arg14 harg14 arg16 x0 x1 x2 x3 x4 x5 x6 x7 x12) (Rect.unit (s := S4x256x256) ![2, 0, 0] S1x256x256.size inb_S4x256x256_S1x256x256_2_0_0).toLoadRect)) shapeCasts_S256x256_S1x256x256⟩,
       ⟨Rect.unit (s := S4x256x256) ![1, 0, 0] S1x256x256.size inb_S4x256x256_S1x256x256_1_0_0, shapeCast S1x256x256 (chunkS (View.readAt (Elt F) arg2.view (Rect.unit (s := S4x64x256) ![1, 0, 0] S1x64x256.size inb_S4x64x256_S1x64x256_1_0_0).toLoadRect (harg2.unread x0)) (View.readAt (Elt F) arg3.view (Rect.unit (s := S4x64x256) ![1, 0, 0] S1x64x256.size inb_S4x64x256_S1x64x256_1_0_0).toLoadRect (harg3.unread x1)) (View.readAt (Elt F) arg4.view (Rect.unit (s := S4x64x256) ![1, 0, 0] S1x64x256.size inb_S4x64x256_S1x64x256_1_0_0).toLoadRect (harg4.unread x2)) (View.readAt (Elt F) arg5.view (Rect.unit (s := S4x64x256) ![1, 0, 0] S1x64x256.size inb_S4x64x256_S1x64x256_1_0_0).toLoadRect (harg5.unread x3)) (View.readAt (Elt F) arg6.view (Rect.unit (s := S4x64x256) ![1, 0, 0] S1x64x256.size inb_S4x64x256_S1x64x256_1_0_0).toLoadRect (harg6.unread x4)) (View.readAt (Elt F) arg7.view (Rect.unit (s := S4x64x256) ![1, 0, 0] S1x64x256.size inb_S4x64x256_S1x64x256_1_0_0).toLoadRect (harg7.unread x5)) (View.readAt (Elt F) arg8.view (Rect.unit (s := S4x64x256) ![1, 0, 0] S1x64x256.size inb_S4x64x256_S1x64x256_1_0_0).toLoadRect (harg8.unread x6)) (View.readAt (Elt F) arg9.view (Rect.unit (s := S4x64x256) ![1, 0, 0] S1x64x256.size inb_S4x64x256_S1x64x256_1_0_0).toLoadRect (harg9.unread x7)) (arg16.view.readCov (kernelRun0_A.sl.H14_2 c arg2 harg2 arg3 harg3 arg4 harg4 arg5 harg5 arg6 harg6 arg7 harg7 arg8 harg8 arg9 harg9 arg14 harg14 arg16 x0 x1 x2 x3 x4 x5 x6 x7 x12) (Rect.unit (s := S4x256x256) ![1, 0, 0] S1x256x256.size inb_S4x256x256_S1x256x256_1_0_0).toLoadRect)) shapeCasts_S256x256_S1x256x256⟩,
       ⟨Rect.unit (s := S4x256x256) ![0, 0, 0] S1x256x256.size inb_S4x256x256_S1x256x256_0_0_0, shapeCast S1x256x256 (chunkS (View.readAt (Elt F) arg2.view (Rect.unit (s := S4x64x256) ![0, 0, 0] S1x64x256.size inb_S4x64x256_S1x64x256_0_0_0).toLoadRect (harg2.unread x0)) (View.readAt (Elt F) arg3.view (Rect.unit (s := S4x64x256) ![0, 0, 0] S1x64x256.size inb_S4x64x256_S1x64x256_0_0_0).toLoadRect (harg3.unread x1)) (View.readAt (Elt F) arg4.view (Rect.unit (s := S4x64x256) ![0, 0, 0] S1x64x256.size inb_S4x64x256_S1x64x256_0_0_0).toLoadRect (harg4.unread x2)) (View.readAt (Elt F) arg5.view (Rect.unit (s := S4x64x256) ![0, 0, 0] S1x64x256.size inb_S4x64x256_S1x64x256_0_0_0).toLoadRect (harg5.unread x3)) (View.readAt (Elt F) arg6.view (Rect.unit (s := S4x64x256) ![0, 0, 0] S1x64x256.size inb_S4x64x256_S1x64x256_0_0_0).toLoadRect (harg6.unread x4)) (View.readAt (Elt F) arg7.view (Rect.unit (s := S4x64x256) ![0, 0, 0] S1x64x256.size inb_S4x64x256_S1x64x256_0_0_0).toLoadRect (harg7.unread x5)) (View.readAt (Elt F) arg8.view (Rect.unit (s := S4x64x256) ![0, 0, 0] S1x64x256.size inb_S4x64x256_S1x64x256_0_0_0).toLoadRect (harg8.unread x6)) (View.readAt (Elt F) arg9.view (Rect.unit (s := S4x64x256) ![0, 0, 0] S1x64x256.size inb_S4x64x256_S1x64x256_0_0_0).toLoadRect (harg9.unread x7)) (arg16.view.readCov (kernelRun0_A.sl.H14_1 c arg14 harg14 x12) (Rect.unit (s := S4x256x256) ![0, 0, 0] S1x256x256.size inb_S4x256x256_S1x256x256_0_0_0).toLoadRect)) shapeCasts_S256x256_S1x256x256⟩] ++ kernelRun0_A.sl.H14_1 c arg14 harg14 x12 := rfl

/-- What the body stores of the outputs at a first chunk of a batch block. -/
theorem piecesA13 (c : Dev nD) (i : grid0.Coords) (arg2 : Memref sig .tc .vmem S4x64x256 .bf16) (harg2 : arg2.IsWhole) (arg3 : Memref sig .tc .vmem S4x64x256 .bf16) (harg3 : arg3.IsWhole) (arg4 : Memref sig .tc .vmem S4x64x256 .bf16) (harg4 : arg4.IsWhole) (arg5 : Memref sig .tc .vmem S4x64x256 .bf16) (harg5 : arg5.IsWhole) (arg6 : Memref sig .tc .vmem S4x64x256 .bf16) (harg6 : arg6.IsWhole) (arg7 : Memref sig .tc .vmem S4x64x256 .bf16) (harg7 : arg7.IsWhole) (arg8 : Memref sig .tc .vmem S4x64x256 .bf16) (harg8 : arg8.IsWhole) (arg9 : Memref sig .tc .vmem S4x64x256 .f32) (harg9 : arg9.IsWhole) (arg10 : Memref sig .tc .vmem S4x64x256 .f32) (harg10 : arg10.IsWhole) (arg11 : Memref sig .tc .vmem S4x64x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S4x256x256 .f32) (harg14 : arg14.IsWhole) (arg15 : Memref sig .tc .vmem S4x64x256 .f32) (harg15 : arg15.IsWhole) (arg16 : Memref sig .tc .vmem S4x256x256 .f32) (harg16 : arg16.IsWhole) (hc0 : cond0_0 i) (x0 x1 x2 x3 x4 x5 x6 : Vec F S4x64x256 .bf16) (x7 x8 x9 : Vec F S4x64x256 .f32) (x10 x11 : Vec F S1x256 .f32) (x12 : Vec F S4x256x256 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).1 =
      [⟨Rect.unit (s := S4x64x256) ![3, 0, 0] S1x64x256.size inb_S4x64x256_S1x64x256_3_0_0, normV (flatV (chunkY (View.readAt (Elt F) arg2.view (Rect.unit (s := S4x64x256) ![3, 0, 0] S1x64x256.size inb_S4x64x256_S1x64x256_3_0_0).toLoadRect (harg2.unread x0)) (View.readAt (Elt F) arg3.view (Rect.unit (s := S4x64x256) ![3, 0, 0] S1x64x256.size inb_S4x64x256_S1x64x256_3_0_0).toLoadRect (harg3.unread x1)) (View.readAt (Elt F) arg4.view (Rect.unit (s := S4x64x256) ![3, 0, 0] S1x64x256.size inb_S4x64x256_S1x64x256_3_0_0).toLoadRect (harg4.unread x2)) (View.readAt (Elt F) arg5.view (Rect.unit (s := S4x64x256) ![3, 0, 0] S1x64x256.size inb_S4x64x256_S1x64x256_3_0_0).toLoadRect (harg5.unread x3)) (View.readAt (Elt F) arg8.view (Rect.unit (s := S4x64x256) ![3, 0, 0] S1x64x256.size inb_S4x64x256_S1x64x256_3_0_0).toLoadRect (harg8.unread x6)) (arg16.view.readCov (kernelRun0_A.sl.H14_4 c arg2 harg2 arg3 harg3 arg4 harg4 arg5 harg5 arg6 harg6 arg7 harg7 arg8 harg8 arg9 harg9 arg14 harg14 arg16 x0 x1 x2 x3 x4 x5 x6 x7 x12) (Rect.unit (s := S4x256x256) ![3, 0, 0] S1x256x256.size inb_S4x256x256_S1x256x256_3_0_0).toLoadRect))) (View.readAt (Elt F) arg12.view (Rect.unit (s := S1x256) ![0, 0] S1x256.size inb_S1x256_S1x256_0_0).toLoadRect (harg12.unread x10)) (View.readAt (Elt F) arg13.view (Rect.unit (s := S1x256) ![0, 0] S1x256.size inb_S1x256_S1x256_0_0).toLoadRect (harg13.unread x11)) (View.readAt (Elt F) arg11.view (Rect.unit (s := S4x64x256) ![3, 0, 0] S1x64x256.size inb_S4x64x256_S1x64x256_3_0_0).toLoadRect (harg11.unread x9)) (View.readAt (Elt F) arg10.view (Rect.unit (s := S4x64x256) ![3, 0, 0] S1x64x256.size inb_S4x64x256_S1x64x256_3_0_0).toLoadRect (harg10.unread x8))⟩,
       ⟨Rect.unit (s := S4x64x256) ![2, 0, 0] S1x64x256.size inb_S4x64x256_S1x64x256_2_0_0, normV (flatV (chunkY (View.readAt (Elt F) arg2.view (Rect.unit (s := S4x64x256) ![2, 0, 0] S1x64x256.size inb_S4x64x256_S1x64x256_2_0_0).toLoadRect (harg2.unread x0)) (View.readAt (Elt F) arg3.view (Rect.unit (s := S4x64x256) ![2, 0, 0] S1x64x256.size inb_S4x64x256_S1x64x256_2_0_0).toLoadRect (harg3.unread x1)) (View.readAt (Elt F) arg4.view (Rect.unit (s := S4x64x256) ![2, 0, 0] S1x64x256.size inb_S4x64x256_S1x64x256_2_0_0).toLoadRect (harg4.unread x2)) (View.readAt (Elt F) arg5.view (Rect.unit (s := S4x64x256) ![2, 0, 0] S1x64x256.size inb_S4x64x256_S1x64x256_2_0_0).toLoadRect (harg5.unread x3)) (View.readAt (Elt F) arg8.view (Rect.unit (s := S4x64x256) ![2, 0, 0] S1x64x256.size inb_S4x64x256_S1x64x256_2_0_0).toLoadRect (harg8.unread x6)) (arg16.view.readCov (kernelRun0_A.sl.H14_3 c arg2 harg2 arg3 harg3 arg4 harg4 arg5 harg5 arg6 harg6 arg7 harg7 arg8 harg8 arg9 harg9 arg14 harg14 arg16 x0 x1 x2 x3 x4 x5 x6 x7 x12) (Rect.unit (s := S4x256x256) ![2, 0, 0] S1x256x256.size inb_S4x256x256_S1x256x256_2_0_0).toLoadRect))) (View.readAt (Elt F) arg12.view (Rect.unit (s := S1x256) ![0, 0] S1x256.size inb_S1x256_S1x256_0_0).toLoadRect (harg12.unread x10)) (View.readAt (Elt F) arg13.view (Rect.unit (s := S1x256) ![0, 0] S1x256.size inb_S1x256_S1x256_0_0).toLoadRect (harg13.unread x11)) (View.readAt (Elt F) arg11.view (Rect.unit (s := S4x64x256) ![2, 0, 0] S1x64x256.size inb_S4x64x256_S1x64x256_2_0_0).toLoadRect (harg11.unread x9)) (View.readAt (Elt F) arg10.view (Rect.unit (s := S4x64x256) ![2, 0, 0] S1x64x256.size inb_S4x64x256_S1x64x256_2_0_0).toLoadRect (harg10.unread x8))⟩,
       ⟨Rect.unit (s := S4x64x256) ![1, 0, 0] S1x64x256.size inb_S4x64x256_S1x64x256_1_0_0, normV (flatV (chunkY (View.readAt (Elt F) arg2.view (Rect.unit (s := S4x64x256) ![1, 0, 0] S1x64x256.size inb_S4x64x256_S1x64x256_1_0_0).toLoadRect (harg2.unread x0)) (View.readAt (Elt F) arg3.view (Rect.unit (s := S4x64x256) ![1, 0, 0] S1x64x256.size inb_S4x64x256_S1x64x256_1_0_0).toLoadRect (harg3.unread x1)) (View.readAt (Elt F) arg4.view (Rect.unit (s := S4x64x256) ![1, 0, 0] S1x64x256.size inb_S4x64x256_S1x64x256_1_0_0).toLoadRect (harg4.unread x2)) (View.readAt (Elt F) arg5.view (Rect.unit (s := S4x64x256) ![1, 0, 0] S1x64x256.size inb_S4x64x256_S1x64x256_1_0_0).toLoadRect (harg5.unread x3)) (View.readAt (Elt F) arg8.view (Rect.unit (s := S4x64x256) ![1, 0, 0] S1x64x256.size inb_S4x64x256_S1x64x256_1_0_0).toLoadRect (harg8.unread x6)) (arg16.view.readCov (kernelRun0_A.sl.H14_2 c arg2 harg2 arg3 harg3 arg4 harg4 arg5 harg5 arg6 harg6 arg7 harg7 arg8 harg8 arg9 harg9 arg14 harg14 arg16 x0 x1 x2 x3 x4 x5 x6 x7 x12) (Rect.unit (s := S4x256x256) ![1, 0, 0] S1x256x256.size inb_S4x256x256_S1x256x256_1_0_0).toLoadRect))) (View.readAt (Elt F) arg12.view (Rect.unit (s := S1x256) ![0, 0] S1x256.size inb_S1x256_S1x256_0_0).toLoadRect (harg12.unread x10)) (View.readAt (Elt F) arg13.view (Rect.unit (s := S1x256) ![0, 0] S1x256.size inb_S1x256_S1x256_0_0).toLoadRect (harg13.unread x11)) (View.readAt (Elt F) arg11.view (Rect.unit (s := S4x64x256) ![1, 0, 0] S1x64x256.size inb_S4x64x256_S1x64x256_1_0_0).toLoadRect (harg11.unread x9)) (View.readAt (Elt F) arg10.view (Rect.unit (s := S4x64x256) ![1, 0, 0] S1x64x256.size inb_S4x64x256_S1x64x256_1_0_0).toLoadRect (harg10.unread x8))⟩,
       ⟨Rect.unit (s := S4x64x256) ![0, 0, 0] S1x64x256.size inb_S4x64x256_S1x64x256_0_0_0, normV (flatV (chunkY (View.readAt (Elt F) arg2.view (Rect.unit (s := S4x64x256) ![0, 0, 0] S1x64x256.size inb_S4x64x256_S1x64x256_0_0_0).toLoadRect (harg2.unread x0)) (View.readAt (Elt F) arg3.view (Rect.unit (s := S4x64x256) ![0, 0, 0] S1x64x256.size inb_S4x64x256_S1x64x256_0_0_0).toLoadRect (harg3.unread x1)) (View.readAt (Elt F) arg4.view (Rect.unit (s := S4x64x256) ![0, 0, 0] S1x64x256.size inb_S4x64x256_S1x64x256_0_0_0).toLoadRect (harg4.unread x2)) (View.readAt (Elt F) arg5.view (Rect.unit (s := S4x64x256) ![0, 0, 0] S1x64x256.size inb_S4x64x256_S1x64x256_0_0_0).toLoadRect (harg5.unread x3)) (View.readAt (Elt F) arg8.view (Rect.unit (s := S4x64x256) ![0, 0, 0] S1x64x256.size inb_S4x64x256_S1x64x256_0_0_0).toLoadRect (harg8.unread x6)) (arg16.view.readCov (kernelRun0_A.sl.H14_1 c arg14 harg14 x12) (Rect.unit (s := S4x256x256) ![0, 0, 0] S1x256x256.size inb_S4x256x256_S1x256x256_0_0_0).toLoadRect))) (View.readAt (Elt F) arg12.view (Rect.unit (s := S1x256) ![0, 0] S1x256.size inb_S1x256_S1x256_0_0).toLoadRect (harg12.unread x10)) (View.readAt (Elt F) arg13.view (Rect.unit (s := S1x256) ![0, 0] S1x256.size inb_S1x256_S1x256_0_0).toLoadRect (harg13.unread x11)) (View.readAt (Elt F) arg11.view (Rect.unit (s := S4x64x256) ![0, 0, 0] S1x64x256.size inb_S4x64x256_S1x64x256_0_0_0).toLoadRect (harg11.unread x9)) (View.readAt (Elt F) arg10.view (Rect.unit (s := S4x64x256) ![0, 0, 0] S1x64x256.size inb_S4x64x256_S1x64x256_0_0_0).toLoadRect (harg10.unread x8))⟩] := rfl

/-- … so the states' block after the point … -/
theorem outA14 (c : Dev nD) (i : grid0.Coords) (arg2 : Memref sig .tc .vmem S4x64x256 .bf16) (harg2 : arg2.IsWhole) (arg3 : Memref sig .tc .vmem S4x64x256 .bf16) (harg3 : arg3.IsWhole) (arg4 : Memref sig .tc .vmem S4x64x256 .bf16) (harg4 : arg4.IsWhole) (arg5 : Memref sig .tc .vmem S4x64x256 .bf16) (harg5 : arg5.IsWhole) (arg6 : Memref sig .tc .vmem S4x64x256 .bf16) (harg6 : arg6.IsWhole) (arg7 : Memref sig .tc .vmem S4x64x256 .bf16) (harg7 : arg7.IsWhole) (arg8 : Memref sig .tc .vmem S4x64x256 .bf16) (harg8 : arg8.IsWhole) (arg9 : Memref sig .tc .vmem S4x64x256 .f32) (harg9 : arg9.IsWhole) (arg10 : Memref sig .tc .vmem S4x64x256 .f32) (harg10 : arg10.IsWhole) (arg11 : Memref sig .tc .vmem S4x64x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S4x256x256 .f32) (harg14 : arg14.IsWhole) (arg15 : Memref sig .tc .vmem S4x64x256 .f32) (harg15 : arg15.IsWhole) (arg16 : Memref sig .tc .vmem S4x256x256 .f32) (harg16 : arg16.IsWhole) (hc0 : cond0_0 i) (x0 x1 x2 x3 x4 x5 x6 : Vec F S4x64x256 .bf16) (x7 x8 x9 : Vec F S4x64x256 .f32) (x10 x11 : Vec F S1x256 .f32) (x12 : Vec F S4x256x256 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 = nextS x0 x1 x2 x3 x4 x5 x6 x7 x12 := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12), piecesA14]
  rw [loadA0, loadA1, loadA2, loadA3]
  simp only [load_row _ 0 0 rfl, load_row _ 1 1 rfl, load_row _ 2 2 rfl, load_row _ 3 3 rfl, List.cons_append, List.nil_append]
  have h := canon_rows (F := F) (e := .f32) (m := 256) (n := 256) inb_S4x256x256_S1x256x256_0_0_0 inb_S4x256x256_S1x256x256_1_0_0
    inb_S4x256x256_S1x256x256_2_0_0 inb_S4x256x256_S1x256x256_3_0_0 (fun r => shapeCast S1x256x256 (chunkS (rowOf r x0) (rowOf r x1) (rowOf r x2) (rowOf r x3) (rowOf r x4)
    (rowOf r x5) (rowOf r x6) (rowOf r x7) (rowOf r x12)) shapeCasts_S256x256_S1x256x256) (kernelRun0_A.sl.H14_1 c arg14 harg14 x12)
  beta_reduce at h
  unfold nextS
  exact h

/-- … and the outputs' block. -/
theorem outA13 (c : Dev nD) (i : grid0.Coords) (arg2 : Memref sig .tc .vmem S4x64x256 .bf16) (harg2 : arg2.IsWhole) (arg3 : Memref sig .tc .vmem S4x64x256 .bf16) (harg3 : arg3.IsWhole) (arg4 : Memref sig .tc .vmem S4x64x256 .bf16) (harg4 : arg4.IsWhole) (arg5 : Memref sig .tc .vmem S4x64x256 .bf16) (harg5 : arg5.IsWhole) (arg6 : Memref sig .tc .vmem S4x64x256 .bf16) (harg6 : arg6.IsWhole) (arg7 : Memref sig .tc .vmem S4x64x256 .bf16) (harg7 : arg7.IsWhole) (arg8 : Memref sig .tc .vmem S4x64x256 .bf16) (harg8 : arg8.IsWhole) (arg9 : Memref sig .tc .vmem S4x64x256 .f32) (harg9 : arg9.IsWhole) (arg10 : Memref sig .tc .vmem S4x64x256 .f32) (harg10 : arg10.IsWhole) (arg11 : Memref sig .tc .vmem S4x64x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S4x256x256 .f32) (harg14 : arg14.IsWhole) (arg15 : Memref sig .tc .vmem S4x64x256 .f32) (harg15 : arg15.IsWhole) (arg16 : Memref sig .tc .vmem S4x256x256 .f32) (harg16 : arg16.IsWhole) (hc0 : cond0_0 i) (x0 x1 x2 x3 x4 x5 x6 : Vec F S4x64x256 .bf16) (x7 x8 x9 : Vec F S4x64x256 .f32) (x10 x11 : Vec F S1x256 .f32) (x12 : Vec F S4x256x256 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 = nextY x0 x1 x2 x3 x6 x8 x9 x10 x11 x12 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12), piecesA13]
  rw [loadA0, loadA1, loadA2, loadA3]
  rw [load_vec harg12 inb_S1x256_S1x256_0_0 x10, load_vec harg13 inb_S1x256_S1x256_0_0 x11]
  simp only [load_row _ 0 0 rfl, load_row _ 1 1 rfl, load_row _ 2 2 rfl, load_row _ 3 3 rfl]
  have h := canon_rows (F := F) (e := .f32) (m := 64) (n := 256) inb_S4x64x256_S1x64x256_0_0_0 inb_S4x64x256_S1x64x256_1_0_0
    inb_S4x64x256_S1x64x256_2_0_0 inb_S4x64x256_S1x64x256_3_0_0 (fun r => normV (flatV (chunkY (rowOf r x0) (rowOf r x1) (rowOf r x2) (rowOf r x3) (rowOf r x6) (rowOf r x12)))
    x10 x11 (rowOf r x9) (rowOf r x8)) []
  beta_reduce at h
  unfold nextY
  exact h

end Cert.KernelIdeal.Scan

end
-- ==== Proof.ScanMask.lean ====
/-
  Block-diagonal arrays: four 64 by 64 matrices, one per head, laid out as one 256 by 256 array that is zero off the
  diagonal blocks. Their products and sums are the heads' products and sums. And the masks of the kernel, which it
  computes from the row and column numbers: read at a row and a column, each says how head and place compare.
-/
module

public import proofs.«01_k».proof.Proof.ScanPieces

@[expose] public section

noncomputable section

namespace Cert.KernelIdeal.Scan

open Idealize.ShloMosaic Idealize.ShloMosaic.TcCoe Cert.KernelIdeal Cert.KernelIdeal.Gen

/-- The head of one of the 256 columns. -/
def hd (i : Fin 256) : Fin 4 := ⟨i.val / 64, by have := i.isLt; omega⟩
/-- Its place in the head. -/
def ps (i : Fin 256) : Fin 64 := ⟨i.val % 64, by omega⟩
/-- The column at a place of a head. -/
def ixh (h : Fin 4) (t : Fin 64) : Fin 256 := ⟨h.val * 64 + t.val, by have := h.isLt; have := t.isLt; omega⟩

@[simp] theorem hd_ixh (h : Fin 4) (t : Fin 64) : hd (ixh h t) = h := Fin.ext (by have := t.isLt; simp only [hd, ixh]; omega)
@[simp] theorem ps_ixh (h : Fin 4) (t : Fin 64) : ps (ixh h t) = t := Fin.ext (by have := t.isLt; simp only [ps, ixh]; omega)
@[simp] theorem ixh_hd_ps (i : Fin 256) : ixh (hd i) (ps i) = i := Fin.ext (by simp only [hd, ps, ixh]; omega)

/-- A sum over the 256 columns, head by head. -/
theorem sum_heads {M : Type*} [AddCommMonoid M] (f : Fin 256 → M) : ∑ i, f i = ∑ h, ∑ t, f (ixh h t) := by
  rw [← Fintype.sum_prod_type' (f := fun h t => f (ixh h t))]
  exact Fintype.sum_equiv ⟨fun i => (hd i, ps i), fun p => ixh p.1 p.2, fun i => ixh_hd_ps i, fun p => by simp⟩ _ _ (fun i => by simp)

/-- Four 64 by 64 matrices, one per head, as one block-diagonal array. -/
def bd (A : Fin 4 → Matrix (Fin 64) (Fin 64) ℝ) (i j : Fin 256) : ℝ := if hd i = hd j then A (hd i) (ps i) (ps j) else 0
/-- … of extended reals. -/
def bdE (A : Fin 4 → Matrix (Fin 64) (Fin 64) ℝ) : S256x256.Idx → EReal := fun y => ((bd A (y 0) (y 1) : ℝ) : EReal)

theorem bdE_ix2 (A : Fin 4 → Matrix (Fin 64) (Fin 64) ℝ) (i j : Fin 256) : bdE A (ix2 i j) = ((bd A i j : ℝ) : EReal) := rfl

/-- Equal at every pair of coordinates is equal. -/
theorem ext2 {m n : Nat} {α : Type} {f g : (⟨2, ![m, n]⟩ : Shape).Idx → α} (h : ∀ i j, f (ix2 i j) = g (ix2 i j)) : f = g := by
  funext y; rw [eq_ix2 y]; exact h _ _

theorem bd_transpose (A : Fin 4 → Matrix (Fin 64) (Fin 64) ℝ) (i j : Fin 256) : bd A j i = bd (fun h => (A h).transpose) i j := by
  unfold bd
  by_cases h : hd i = hd j
  · rw [if_pos h, if_pos h.symm, h]; rfl
  · rw [if_neg h, if_neg fun e => h e.symm]

/-- The product of block-diagonal arrays is the heads' products. -/
theorem bd_mul (A B : Fin 4 → Matrix (Fin 64) (Fin 64) ℝ) (i j : Fin 256) :
    ∑ k, bd A i k * bd B k j = bd (fun h => A h * B h) i j := by
  rw [sum_heads]
  unfold bd
  rw [Finset.sum_eq_single (hd i)]
  · by_cases h : hd i = hd j
    · simp [h, Matrix.mul_apply]
    · simp [h]
  · intro h _ hne
    exact Finset.sum_eq_zero fun t _ => by simp [Ne.symm hne]
  · simp

/-- Real sums are extended-real sums. -/
theorem coe_sum {ι : Type*} (s : Finset ι) (f : ι → ℝ) : ((∑ i ∈ s, f i : ℝ) : EReal) = ∑ i ∈ s, (f i : EReal) := by
  induction s using Finset.cons_induction with
  | empty => simp
  | cons a s h ih => rw [Finset.sum_cons, Finset.sum_cons, EReal.coe_add, ih]

/-- … in extended reals. -/
theorem bdE_mul (A B : Fin 4 → Matrix (Fin 64) (Fin 64) ℝ) (i j : Fin 256) :
    ∑ k : Fin 256, bdE A (ix2 i k) * bdE B (ix2 k j) = bdE (fun h => A h * B h) (ix2 i j) := by
  simp only [bdE_ix2, ← EReal.coe_mul, ← coe_sum, bd_mul]

theorem bdE_mulT (A B : Fin 4 → Matrix (Fin 64) (Fin 64) ℝ) (i j : Fin 256) :
    ∑ k : Fin 256, bdE A (ix2 i k) * bdE B (ix2 j k) = bdE (fun h => A h * (B h).transpose) (ix2 i j) := by
  simp only [bdE_ix2, ← EReal.coe_mul, ← coe_sum, bd_transpose B, bd_mul]

theorem bdE_Tmul (A B : Fin 4 → Matrix (Fin 64) (Fin 64) ℝ) (i j : Fin 256) :
    ∑ k : Fin 256, bdE A (ix2 k i) * bdE B (ix2 k j) = bdE (fun h => (A h).transpose * B h) (ix2 i j) := by
  simp only [bdE_ix2, ← EReal.coe_mul, ← coe_sum, bd_transpose A, bd_mul]

theorem bdE_add (A B : Fin 4 → Matrix (Fin 64) (Fin 64) ℝ) (y : S256x256.Idx) :
    bdE A y + bdE B y = bdE (fun h => A h + B h) y := by
  unfold bdE bd
  rw [← EReal.coe_add]
  split <;> simp

theorem bdE_sub (A B : Fin 4 → Matrix (Fin 64) (Fin 64) ℝ) (y : S256x256.Idx) :
    bdE A y - bdE B y = bdE (fun h => A h - B h) y := by
  unfold bdE bd
  rw [← EReal.coe_sub]
  split <;> simp

/-! ### The masks -/

theorem rowIx_apply (i j : Fin 256) : rowIx (ix2 i j) = BitVec.ofNat 32 i.val := by
  pointwise [rowIx]
theorem colIx_apply (i j : Fin 256) : colIx (ix2 i j) = BitVec.ofNat 32 j.val := by
  pointwise [colIx]

/-- The head of an index below 256 … -/
theorem headOf_apply (v : IVec S256x256 32) (y : S256x256.Idx) (n : Fin 256) (h : v y = BitVec.ofNat 32 n.val) :
    headOf v y = BitVec.ofNat 32 (hd n).val := by
  pointwise [headOf, h]
  clear h
  revert n
  decide +kernel

/-- … and its place there. -/
theorem posOf_apply (v : IVec S256x256 32) (y : S256x256.Idx) (n : Fin 256) (h : v y = BitVec.ofNat 32 n.val) :
    posOf v y = BitVec.ofNat 32 (ps n).val := by
  pointwise [posOf, h]
  clear h
  revert n
  decide +kernel

theorem cmp_eq4 (a b : Fin 4) : IntOp.cmpi .eq (BitVec.ofNat 32 a.val) (BitVec.ofNat 32 b.val) = if a = b then 1#1 else 0#1 := by
  revert a b; decide +kernel
theorem cmp_eq64 (a b : Fin 64) : IntOp.cmpi .eq (BitVec.ofNat 32 a.val) (BitVec.ofNat 32 b.val) = if a = b then 1#1 else 0#1 := by
  revert a b; decide +kernel
theorem cmp_slt64 (a b : Fin 64) : IntOp.cmpi .slt (BitVec.ofNat 32 a.val) (BitVec.ofNat 32 b.val) = if a < b then 1#1 else 0#1 := by
  revert a b; decide +kernel
theorem cmp_sle64 (a b : Fin 64) : IntOp.cmpi .sle (BitVec.ofNat 32 a.val) (BitVec.ofNat 32 b.val) = if a ≤ b then 1#1 else 0#1 := by
  revert a b; decide +kernel

theorem sameB_apply (i j : Fin 256) : sameB (ix2 i j) = if hd i = hd j then 1#1 else 0#1 := by
  pointwise [sameB, headOf_apply _ _ i (rowIx_apply i j), headOf_apply _ _ j (colIx_apply i j)]
  exact cmp_eq4 _ _

theorem strictB_apply (i j : Fin 256) : strictB (ix2 i j) = if hd i = hd j ∧ ps j < ps i then 1#1 else 0#1 := by
  pointwise [strictB, sameB_apply, posOf_apply _ _ i (rowIx_apply i j), posOf_apply _ _ j (colIx_apply i j), cmp_slt64]
  by_cases h1 : hd i = hd j <;> by_cases h2 : ps j < ps i <;> simp [h1, h2] <;> decide

theorem inclB_apply (i j : Fin 256) : inclB (ix2 i j) = if hd i = hd j ∧ ps j ≤ ps i then 1#1 else 0#1 := by
  pointwise [inclB, sameB_apply, posOf_apply _ _ i (rowIx_apply i j), posOf_apply _ _ j (colIx_apply i j), cmp_sle64]
  by_cases h1 : hd i = hd j <;> by_cases h2 : ps j ≤ ps i <;> simp [h1, h2] <;> decide

theorem diagB_apply (i j : Fin 256) : diagB (ix2 i j) = if hd i = hd j ∧ ps j = ps i then 1#1 else 0#1 := by
  pointwise [diagB, sameB_apply, posOf_apply _ _ i (rowIx_apply i j), posOf_apply _ _ j (colIx_apply i j), cmp_eq64]
  by_cases h1 : hd i = hd j <;> by_cases h2 : ps j = ps i <;> simp [h1, h2] <;> decide

end Cert.KernelIdeal.Scan
end
-- ==== Proof.ScanLift.lean ====
/-
  The kernel's chunk on real data. When the operand blocks hold real numbers and the state is block-diagonal, every
  array inside the chunk is block-diagonal too, and its heads' matrices are given here by matrix formulas: the
  kernel's 256 by 256 products are four 64 by 64 ones.
-/
module

public import proofs.«01_k».proof.Proof.ScanMask

@[expose] public section

noncomputable section

namespace Cert.KernelIdeal.Scan

open Idealize.ShloMosaic Idealize.ShloMosaic.TcCoe Cert.KernelIdeal Cert.KernelIdeal.Gen

/-- One matrix per head. -/
abbrev HM := Fin 4 → Matrix (Fin 64) (Fin 64) ℝ

/-- A token-by-column block of real numbers, as the kernel's operand block. -/
def rowE (x : Fin 64 → Fin 256 → ℝ) : S1x64x256.Idx → EReal := fun y => ((x (y 1) (y 2) : ℝ) : EReal)
theorem rowE_ix3 (x : Fin 64 → Fin 256 → ℝ) (a : Fin 1) (t : Fin 64) (k : Fin 256) : rowE x (ix3 a t k) = ((x t k : ℝ) : EReal) := rfl

/-- A block-diagonal state, as the kernel's state block. -/
def stE (S : HM) : S1x256x256.Idx → EReal := fun y => bdE S (ix2 (y 1) (y 2))

/-- The heads' matrices of a block. -/
def hm (x : Fin 64 → Fin 256 → ℝ) : HM := fun h => Matrix.of fun t k => x t (ixh h k)

/-- Entries before the row's place … -/
def strict (A : Matrix (Fin 64) (Fin 64) ℝ) : Matrix (Fin 64) (Fin 64) ℝ := Matrix.of fun t j => if j < t then A t j else 0
/-- … or at it. -/
def incl (A : Matrix (Fin 64) (Fin 64) ℝ) : Matrix (Fin 64) (Fin 64) ℝ := Matrix.of fun t j => if j ≤ t then A t j else 0

/-- The block-diagonal form of an operand's block. -/
theorem bdV_rowE (x : Fin 64 → Fin 256 → ℝ) : bdV (F := Ideal) (rowE x) = bdE (hm x) := by
  refine ext2 fun i j => ?_
  pointwise [bdV, sameB_apply, rowE_ix3, bdE_ix2]
  have hi := i.isLt
  unfold bd
  split
  · rename_i h
    simp only [hm, h, Matrix.of_apply]
    have e : ∀ (t : Fin 64), t.val = i.val % 64 → x t j = x (ps i) (ixh (hd j) (ps j)) := by
      intro t ht
      rw [ixh_hd_ps, show t = ps i from Fin.ext ht]
    rw [ValueIdx.select_one]
    split
    · exact congrArg _ (e ⟨i.val, _⟩ (by simp only []; omega))
    split
    · exact congrArg _ (e ⟨i.val - 64, _⟩ (by simp only []; omega))
    split
    · exact congrArg _ (e ⟨i.val - 64 - 64, _⟩ (by simp only []; omega))
    · exact congrArg _ (e ⟨i.val - 64 - 64 - 64, _⟩ (by simp only []; omega))
  · simp [Scalar.select]

theorem select_strict (A : HM) (i j : Fin 256) :
    Scalar.select (if hd i = hd j ∧ ps j < ps i then 1#1 else 0#1) (bdE A (ix2 i j)) 0 = bdE (fun h => strict (A h)) (ix2 i j) := by
  rw [bdE_ix2, bdE_ix2]
  unfold bd strict
  by_cases h : hd i = hd j <;> by_cases h2 : ps j < ps i <;> simp [h, h2, Scalar.select]

theorem select_incl (A : HM) (i j : Fin 256) :
    Scalar.select (if hd i = hd j ∧ ps j ≤ ps i then 1#1 else 0#1) (bdE A (ix2 i j)) 0 = bdE (fun h => incl (A h)) (ix2 i j) := by
  rw [bdE_ix2, bdE_ix2]
  unfold bd incl
  by_cases h : hd i = hd j <;> by_cases h2 : ps j ≤ ps i <;> simp [h, h2, Scalar.select]

/-- The four masked quarters of the products. -/
theorem akbV_bdE (K R Kb Bb : HM) :
    akbV (F := Ideal) (gramV (F := Ideal) (bdE K) (bdE R) (bdE Kb) (bdE Bb)) = bdE fun h => strict (K h * (Bb h).transpose) := by
  refine ext2 fun i j => ?_
  pointwise [akbV, maskV, gramV, strictB_apply]
  rw [bdE_mulT, select_strict]
theorem akkV_bdE (K R Kb Bb : HM) :
    akkV (F := Ideal) (gramV (F := Ideal) (bdE K) (bdE R) (bdE Kb) (bdE Bb)) = bdE fun h => strict (K h * (Kb h).transpose) := by
  refine ext2 fun i j => ?_
  pointwise [akkV, maskV, gramV, strictB_apply]
  rw [bdE_mulT, select_strict]
theorem arbV_bdE (K R Kb Bb : HM) :
    arbV (F := Ideal) (gramV (F := Ideal) (bdE K) (bdE R) (bdE Kb) (bdE Bb)) = bdE fun h => incl (R h * (Bb h).transpose) := by
  refine ext2 fun i j => ?_
  pointwise [arbV, maskV, gramV, inclB_apply]
  rw [bdE_mulT, select_incl]
theorem arkV_bdE (K R Kb Bb : HM) :
    arkV (F := Ideal) (gramV (F := Ideal) (bdE K) (bdE R) (bdE Kb) (bdE Bb)) = bdE fun h => incl (R h * (Kb h).transpose) := by
  refine ext2 fun i j => ?_
  pointwise [arkV, maskV, gramV, inclB_apply]
  rw [bdE_mulT, select_incl]

/-- Products, negations and one step of the inverse. -/
theorem mulV_bdE (A B : HM) : mulV (F := Ideal) (bdE A) (bdE B) = bdE fun h => A h * B h := by
  refine ext2 fun i j => ?_
  pointwise [mulV]
  rw [bdE_mul]
theorem rd_bdE (A : HM) : rd (F := Ideal) (bdE A) = bdE A := rfl
theorem negV_bdE (A : HM) : negV (F := Ideal) (bdE A) = bdE fun h => -A h := by
  refine ext2 fun i j => ?_
  pointwise [negV]
  rw [bdE_ix2, bdE_ix2]
  unfold bd
  split <;> simp
theorem stepV_bdE (T P : HM) : stepV (F := Ideal) (bdE T) (bdE P) = bdE fun h => T h + T h * P h := by
  unfold stepV
  rw [rd_bdE, mulV_bdE]
  funext y
  exact bdE_add _ _ y
theorem eye_sub_bdE (A : HM) : subf (F := Ideal) (φ := .f32) (eyeV (F := Ideal)) (bdE A) = bdE fun h => 1 - A h := by
  refine ext2 fun i j => ?_
  pointwise [eyeV, diagB_apply]
  have e : (Scalar.select (if hd i = hd j ∧ ps j = ps i then 1#1 else 0#1) (1 : EReal) 0) = bdE (fun _ => 1) (ix2 i j) := by
    rw [bdE_ix2]
    unfold bd
    simp only [show (ps j = ps i) = (ps i = ps j) from propext eq_comm, Matrix.one_apply]
    by_cases h : hd i = hd j <;> by_cases h2 : ps i = ps j <;> simp [h, h2, Scalar.select]
  rw [e, bdE_sub]

/-- The kernel's product for the inverse of `1 + A`. -/
def tinvM (A : Matrix (Fin 64) (Fin 64) ℝ) : Matrix (Fin 64) (Fin 64) ℝ :=
  let p1 := -A * -A
  let p2 := p1 * p1
  let p3 := p2 * p2
  let p4 := p3 * p3
  let p5 := p4 * p4
  let t1 := (1 - A) + (1 - A) * p1
  let t2 := t1 + t1 * p2
  let t3 := t2 + t2 * p3
  let t4 := t3 + t3 * p4
  t4 + t4 * p5

theorem tinvV_bdE (A : HM) : tinvV (F := Ideal) (bdE A) = bdE fun h => tinvM (A h) := by
  unfold tinvV
  simp only [negV_bdE, rd_bdE, mulV_bdE, eye_sub_bdE, stepV_bdE]
  rfl

/-- The two halves of what state and earlier values give. -/
theorem zyV_lo (K R V Akk Ark S : HM) :
    extractStridedSlice S256x256 ![0, 0] (zyV (F := Ideal) (bdE K) (bdE R) (bdE V) (bdE Akk) (bdE Ark) (bdE S)) slices_S512x256_o0_0_S256x256
      = bdE fun h => K h * S h + Akk h * V h := by
  refine ext2 fun i j => ?_
  pointwise [zyV]
  rw [bdE_mul, bdE_mul, bdE_add]
theorem zyV_hi (K R V Akk Ark S : HM) :
    extractStridedSlice S256x256 ![256, 0] (zyV (F := Ideal) (bdE K) (bdE R) (bdE V) (bdE Akk) (bdE Ark) (bdE S)) slices_S512x256_o256_0_S256x256
      = bdE fun h => R h * S h + Ark h * V h := by
  refine ext2 fun i j => ?_
  pointwise [zyV]
  rw [bdE_mul, bdE_mul, bdE_add]

/-- A state block, read as a matrix. -/
theorem stE_cast (S : HM) : shapeCast S256x256 (stE S) shapeCasts_S1x256x256_S256x256 = bdE S := by
  refine ext2 fun i j => ?_
  pointwise [stE]

/-- The chunk's corrections, one head. -/
def chU (K Kb Bb V S : Matrix (Fin 64) (Fin 64) ℝ) : Matrix (Fin 64) (Fin 64) ℝ :=
  -(tinvM (strict (K * Bb.transpose)) * (K * S + strict (K * Kb.transpose) * V))
/-- The chunk's outputs, one head. -/
def chY (K R Kb Bb V S : Matrix (Fin 64) (Fin 64) ℝ) : Matrix (Fin 64) (Fin 64) ℝ :=
  R * S + incl (R * Kb.transpose) * V + incl (R * Bb.transpose) * chU K Kb Bb V S
/-- The state after the chunk, one head. -/
def chS (K Kb Bb Kbe Bbe V S : Matrix (Fin 64) (Fin 64) ℝ) (p : Fin 64 → ℝ) : Matrix (Fin 64) (Fin 64) ℝ :=
  Matrix.of (fun k v => S k v * p k) + (Kbe.transpose * V + Bbe.transpose * chU K Kb Bb V S)

theorem chunkU_real (kh rh kb bb v : Fin 64 → Fin 256 → ℝ) (S : HM) :
    chunkU (F := Ideal) (rowE kh) (rowE rh) (rowE kb) (rowE bb) (rowE v) (stE S)
      = bdE fun h => chU (hm kh h) (hm kb h) (hm bb h) (hm v h) (S h) := by
  unfold chunkU uV
  simp only [bdV_rowE, stE_cast, akbV_bdE, akkV_bdE, arkV_bdE, tinvV_bdE, rd_bdE]
  rw [zyV_lo, rd_bdE, mulV_bdE, negV_bdE]
  rfl

theorem chunkY_real (kh rh kb bb v : Fin 64 → Fin 256 → ℝ) (S : HM) :
    chunkY (F := Ideal) (rowE kh) (rowE rh) (rowE kb) (rowE bb) (rowE v) (stE S)
      = bdE fun h => chY (hm kh h) (hm rh h) (hm kb h) (hm bb h) (hm v h) (S h) := by
  unfold chunkY yV
  rw [chunkU_real]
  simp only [bdV_rowE, stE_cast, arbV_bdE, akkV_bdE, arkV_bdE, rd_bdE]
  rw [zyV_hi, mulV_bdE]
  funext y
  exact bdE_add _ _ y

theorem chunkS_real (kh rh kb bb kbe bbe v : Fin 64 → Fin 256 → ℝ) (p : Fin 256 → ℝ) (S : HM) :
    chunkS (F := Ideal) (rowE kh) (rowE rh) (rowE kb) (rowE bb) (rowE kbe) (rowE bbe) (rowE v) (rowE fun _ => p) (stE S)
      = bdE fun h => chS (hm kh h) (hm kb h) (hm bb h) (hm kbe h) (hm bbe h) (hm v h) (S h) (fun k => p (ixh h k)) := by
  unfold chunkS
  rw [chunkU_real]
  simp only [bdV_rowE, stE_cast]
  refine ext2 fun i j => ?_
  pointwise [endV, peV, rowE_ix3]
  rw [bdE_Tmul, bdE_Tmul, bdE_add]
  have e : ∀ x : EReal, (if h : j.val < 128 then if h_1 : j.val < 64 then x else x else if h_1 : j.val - 128 < 64 then x else x) = x := by
    intro x; split <;> split <;> rfl
  rw [e]
  have e2 : bdE S (ix2 i j) * ((p i : ℝ) : EReal) = bdE (fun h => Matrix.of fun k v => S h k v * p (ixh h k)) (ix2 i j) := by
    rw [bdE_ix2, bdE_ix2, ← EReal.coe_mul]
    unfold bd
    by_cases h : hd i = hd j
    · rw [if_pos h, if_pos h]
      refine congrArg _ ?_
      show S (hd i) (ps i) (ps j) * p i = S (hd i) (ps i) (ps j) * p (ixh (hd i) (ps i))
      rw [ixh_hd_ps]
    · rw [if_neg h, if_neg h, zero_mul]
  rw [e2, bdE_add]
  rfl

/-- One row per token: entry `(t, column)` is the column's head's. -/
theorem flatV_bdE (Y : HM) (t : Fin 64) (j : Fin 256) : flatV (F := Ideal) (bdE Y) (ix2 t j) = ((Y (hd j) t (ps j) : ℝ) : EReal) := by
  pointwise [flatV]
  have e : ∀ (h : Fin 4) (i : Fin 256), i = ixh h t → bdE Y (ix2 i j) = if hd j = h then ((Y (hd j) t (ps j) : ℝ) : EReal) else 0 := by
    rintro h _ rfl
    rw [bdE_ix2]
    unfold bd
    rw [hd_ixh, ps_ixh]
    by_cases hh : h = hd j
    · simp [hh]
    · simp [hh, Ne.symm hh]
  rw [e 0 _ (Fin.ext (by simp [ixh])), e 1 _ (Fin.ext (by simp [ixh])), e 2 _ (Fin.ext (by simp [ixh])), e 3 _ (Fin.ext (by simp [ixh]))]
  generalize hd j = q
  revert q
  simp [Fin.forall_fin_succ]

end Cert.KernelIdeal.Scan
end
-- ==== Proof.ScanReal.lean ====
/-
  The mathematics of the chunked delta rule, over the real numbers, one head. The recurrence is taken token by token; a
  chunk of 64 tokens is done at once by the kernel: the corrections of its tokens solve a triangular system, whose
  inverse is a product of 1 + powers, and outputs and end state are then matrix products.
-/
module

public import proofs.«01_k».proof.Proof.ScanLift

@[expose] public section

noncomputable section

namespace Cert.KernelIdeal.Scan

abbrev M64 := Matrix (Fin 64) (Fin 64) ℝ

/-- A power of a strictly lower triangular matrix vanishes near the diagonal. -/
theorem strict_pow_zero (A : M64) (m : Nat) (t j : Fin 64) (h : t.val < j.val + m) : (strict A ^ m) t j = 0 := by
  induction m generalizing t with
  | zero =>
    have : t ≠ j := fun e => by subst e; omega
    simp [Matrix.one_apply, this]
  | succ m ih =>
    rw [pow_succ', Matrix.mul_apply]
    refine Finset.sum_eq_zero fun s _ => ?_
    by_cases hs : s < t
    · have h2 : s.val < t.val := hs
      rw [ih s (by omega), mul_zero]
    · have e : strict A t s = 0 := by simp [strict, hs]
      rw [e, zero_mul]

theorem strict_pow_64 (A : M64) : strict A ^ 64 = 0 := by
  ext t j
  rw [strict_pow_zero A 64 t j (by have := t.isLt; omega)]
  rfl

/-- Doubling: from `X t = 1 - p` to `X (t + t p) = 1 - p p`. -/
theorem double_step (X t p : M64) (h : X * t = 1 - p) : X * (t + t * p) = 1 - p * p := by
  rw [mul_add, ← mul_assoc, h]
  noncomm_ring

/-- The kernel's product is the inverse. -/
theorem tinvM_inv (A : M64) : (1 + strict A) * tinvM (strict A) = 1 := by
  have h1 : (1 + strict A) * (1 - strict A) = 1 - -strict A * -strict A := by noncomm_ring
  have h2 := double_step _ _ _ (double_step _ _ _ (double_step _ _ _ (double_step _ _ _ (double_step _ _ _ h1))))
  unfold tinvM
  refine h2.trans ?_
  simp only [neg_mul_neg, ← pow_two, ← pow_mul]
  rw [show 2 ^ 2 * 2 * 2 * 2 * 2 = 64 from rfl, (show Even 64 by decide).neg_pow, strict_pow_64, sub_zero]

/-- The corrections solve the triangular system. -/
theorem chU_eq (K Kb Bb V S : M64) (t v : Fin 64) :
    chU K Kb Bb V S t v = -((K * S) t v + (strict (K * Kb.transpose) * V) t v + (strict (K * Bb.transpose) * chU K Kb Bb V S) t v) := by
  have h : (1 + strict (K * Bb.transpose)) * chU K Kb Bb V S = -(K * S + strict (K * Kb.transpose) * V) := by
    unfold chU
    rw [mul_neg, ← mul_assoc, tinvM_inv, one_mul]
  rw [add_mul, one_mul] at h
  have h2 := congrFun (congrFun h t) v
  simp only [Matrix.add_apply, Matrix.neg_apply] at h2
  linarith

/-- The recurrence's data: one row of 64 numbers per token for each operand. -/
structure Toks where
  (kh rh kb bb kbe bbe v pe : Nat → Fin 64 → ℝ)

namespace Toks
variable (T : Toks)

/-- The running state and the state the next chunk starts with. -/
abbrev St := (Fin 64 → Fin 64 → ℝ) × (Fin 64 → Fin 64 → ℝ)

/-- At the start of a chunk the running state is replaced, and the end state starts from it, decayed. -/
def pre (n : Nat) (s : St) : St :=
  if n % 64 = 0 then (s.2, fun k v => s.2 k v * T.pe n k) else s
/-- The correction of token `n`. -/
def sa (n : Nat) (s : St) (v : Fin 64) : ℝ := ∑ k, s.1 k v * -(T.kh n k)
/-- One token. -/
def step (n : Nat) (s : St) : St :=
  let s := T.pre n s
  (fun k v => s.1 k v + T.sa n s v * T.bb n k + T.v n v * T.kb n k,
   fun k v => s.2 k v + T.sa n s v * T.bbe n k + T.v n v * T.kbe n k)
/-- The states before token `n`. -/
def seq : Nat → St
  | 0 => (fun _ _ => 0, fun _ _ => 0)
  | n + 1 => T.step n (seq n)
/-- The output of token `n`. -/
def out (n : Nat) (v : Fin 64) : ℝ := ∑ k, (T.seq (n + 1)).1 k v * T.rh n k

/-- A chunk's rows of one operand, as a matrix. -/
def rows (x : Nat → Fin 64 → ℝ) (c : Nat) : M64 := Matrix.of fun t k => x (64 * c + t.val) k

/-- Sums over the tokens before `t`, as masked sums. -/
theorem sum_lt (f : Fin 64 → ℝ) (t : Nat) (h : t + 1 ≤ 64) :
    ∑ j : Fin 64, (if j.val < t + 1 then f j else 0) = (∑ j : Fin 64, if j.val < t then f j else 0) + f ⟨t, h⟩ := by
  rw [← Finset.sum_filter, ← Finset.sum_filter]
  have e : (Finset.univ.filter fun j : Fin 64 => j.val < t + 1) = insert ⟨t, h⟩ (Finset.univ.filter fun j : Fin 64 => j.val < t) := by
    ext j
    simp only [Finset.mem_filter, Finset.mem_univ, true_and, Finset.mem_insert, Fin.ext_iff]
    omega
  rw [e, Finset.sum_insert (by simp), add_comm]

section Chunk
variable (c : Nat) (S0 : M64) (p : Fin 64 → ℝ)

/-- The chunk's corrections. -/
def U : M64 := chU (rows T.kh c) (rows T.kb c) (rows T.bb c) (rows T.v c) S0

/-- Where the running state has its closed form, the correction is the chunk's. -/
theorem sa_eq (t : Nat) (ht : t < 64) (s : St)
    (h : ∀ k v, s.1 k v
      = S0 k v + ∑ j : Fin 64, if j.val < t then T.U c S0 j v * rows T.bb c j k + rows T.v c j v * rows T.kb c j k else 0) :
    ∀ v, T.sa (64 * c + t) s v = T.U c S0 ⟨t, ht⟩ v := by
  intro v
  unfold sa
  simp only [h]
  conv_rhs => unfold U; rw [chU_eq]
  change _ = -((rows T.kh c * S0) ⟨t, ht⟩ v + (strict (rows T.kh c * (rows T.kb c).transpose) * rows T.v c) ⟨t, ht⟩ v
    + (strict (rows T.kh c * (rows T.bb c).transpose) * T.U c S0) ⟨t, ht⟩ v)
  have e1 : ∀ (B : M64) (W : M64), (strict (rows T.kh c * B.transpose) * W) ⟨t, ht⟩ v
      = ∑ k, (∑ j : Fin 64, if j.val < t then W j v * B j k else 0) * rows T.kh c ⟨t, ht⟩ k := by
    intro B W
    rw [Matrix.mul_apply]
    simp only [Finset.sum_mul]
    rw [Finset.sum_comm]
    refine Finset.sum_congr rfl fun j _ => ?_
    by_cases hj : j.val < t
    · have hj' : j < (⟨t, ht⟩ : Fin 64) := hj
      simp only [strict, Matrix.of_apply, hj', if_true, hj, Matrix.mul_apply, Matrix.transpose_apply, Finset.sum_mul]
      exact Finset.sum_congr rfl fun k _ => by ring
    · have hj' : ¬ j < (⟨t, ht⟩ : Fin 64) := hj
      simp only [strict, Matrix.of_apply, hj', if_false, hj, zero_mul, Finset.sum_const_zero]
  rw [e1, e1, Matrix.mul_apply, ← Finset.sum_add_distrib, ← Finset.sum_add_distrib, ← Finset.sum_neg_distrib]
  refine Finset.sum_congr rfl fun k _ => ?_
  have e2 : (∑ j : Fin 64, if j.val < t then T.U c S0 j v * rows T.bb c j k + rows T.v c j v * rows T.kb c j k else 0)
      = (∑ j : Fin 64, if j.val < t then T.U c S0 j v * rows T.bb c j k else 0)
        + ∑ j : Fin 64, if j.val < t then rows T.v c j v * rows T.kb c j k else 0 := by
    rw [← Finset.sum_add_distrib]
    exact Finset.sum_congr rfl fun j _ => by split <;> simp
  rw [e2]
  have e3 : T.kh (64 * c + t) k = rows T.kh c ⟨t, ht⟩ k := rfl
  rw [e3]
  ring

/-- The states inside a chunk, in closed form. -/
theorem pre_seq (hp : ∀ k, T.pe (64 * c) k = p k) (hE : ∀ k v, (T.seq (64 * c)).2 k v = S0 k v) (t : Nat) (ht : t < 64) :
    (∀ k v, (T.pre (64 * c + t) (T.seq (64 * c + t))).1 k v
        = S0 k v + ∑ j : Fin 64, if j.val < t then T.U c S0 j v * rows T.bb c j k + rows T.v c j v * rows T.kb c j k else 0) ∧
    (∀ k v, (T.pre (64 * c + t) (T.seq (64 * c + t))).2 k v
        = S0 k v * p k + ∑ j : Fin 64, if j.val < t then T.U c S0 j v * rows T.bbe c j k + rows T.v c j v * rows T.kbe c j k else 0) ∧
    (∀ v, T.sa (64 * c + t) (T.pre (64 * c + t) (T.seq (64 * c + t))) v = T.U c S0 ⟨t, ht⟩ v) := by
  induction t with
  | zero =>
    have h1 : ∀ k v, (T.pre (64 * c + 0) (T.seq (64 * c + 0))).1 k v
        = S0 k v + ∑ j : Fin 64, if j.val < 0 then T.U c S0 j v * rows T.bb c j k + rows T.v c j v * rows T.kb c j k else 0 := by
      intro k v
      simp [pre, hE]
    refine ⟨h1, fun k v => ?_, T.sa_eq c S0 _ ht _ h1⟩
    simp [pre, hE, hp]
  | succ t ih =>
    have ht' : t < 64 := by omega
    obtain ⟨i1, i2, i3⟩ := ih ht'
    have hm : ¬ (64 * c + (t + 1)) % 64 = 0 := by omega
    have h1 : ∀ k v, (T.pre (64 * c + (t + 1)) (T.seq (64 * c + (t + 1)))).1 k v
        = S0 k v + ∑ j : Fin 64, if j.val < t + 1 then T.U c S0 j v * rows T.bb c j k + rows T.v c j v * rows T.kb c j k else 0 := by
      intro k v
      rw [sum_lt _ t ht', pre, if_neg hm]
      show (T.step (64 * c + t) (T.seq (64 * c + t))).1 k v = _
      unfold step
      simp only [i1, i3]
      simp only [rows, Matrix.of_apply]
      ring
    refine ⟨h1, fun k v => ?_, T.sa_eq c S0 _ ht _ h1⟩
    rw [sum_lt _ t ht', pre, if_neg hm]
    show (T.step (64 * c + t) (T.seq (64 * c + t))).2 k v = _
    unfold step
    simp only [i2, i3]
    simp only [rows, Matrix.of_apply]
    ring

/-- The states after a chunk's token. -/
theorem seq_after (hp : ∀ k, T.pe (64 * c) k = p k) (hE : ∀ k v, (T.seq (64 * c)).2 k v = S0 k v) (t : Nat) (ht : t < 64) :
    (∀ k v, (T.seq (64 * c + t + 1)).1 k v
        = S0 k v + ∑ j : Fin 64, if j.val < t + 1 then T.U c S0 j v * rows T.bb c j k + rows T.v c j v * rows T.kb c j k else 0) ∧
    (∀ k v, (T.seq (64 * c + t + 1)).2 k v
        = S0 k v * p k + ∑ j : Fin 64, if j.val < t + 1 then T.U c S0 j v * rows T.bbe c j k + rows T.v c j v * rows T.kbe c j k else 0) := by
  obtain ⟨i1, i2, i3⟩ := T.pre_seq c S0 p hp hE t ht
  constructor
  · intro k v
    rw [sum_lt _ t ht]
    show (T.step (64 * c + t) (T.seq (64 * c + t))).1 k v = _
    unfold step
    simp only [i1, i3]
    simp only [rows, Matrix.of_apply]
    ring
  · intro k v
    rw [sum_lt _ t ht]
    show (T.step (64 * c + t) (T.seq (64 * c + t))).2 k v = _
    unfold step
    simp only [i2, i3]
    simp only [rows, Matrix.of_apply]
    ring

/-- The end state of a chunk is the kernel's. -/
theorem chunk_end (hp : ∀ k, T.pe (64 * c) k = p k) (hE : ∀ k v, (T.seq (64 * c)).2 k v = S0 k v) (k v : Fin 64) :
    (T.seq (64 * (c + 1))).2 k v
      = chS (rows T.kh c) (rows T.kb c) (rows T.bb c) (rows T.kbe c) (rows T.bbe c) (rows T.v c) S0 p k v := by
  rw [show 64 * (c + 1) = 64 * c + 63 + 1 by ring, (T.seq_after c S0 p hp hE 63 (by decide)).2 k v]
  unfold chS
  simp only [Matrix.add_apply, Matrix.of_apply, Matrix.mul_apply, Matrix.transpose_apply]
  rw [← Finset.sum_add_distrib]
  refine congrArg _ (Finset.sum_congr rfl fun j _ => ?_)
  rw [if_pos (by have := j.isLt; omega)]
  show _ = rows T.kbe c j k * rows T.v c j v + rows T.bbe c j k * T.U c S0 j v
  ring

/-- The outputs of a chunk are the kernel's. -/
theorem chunk_out (hp : ∀ k, T.pe (64 * c) k = p k) (hE : ∀ k v, (T.seq (64 * c)).2 k v = S0 k v) (t v : Fin 64) :
    T.out (64 * c + t.val) v = chY (rows T.kh c) (rows T.rh c) (rows T.kb c) (rows T.bb c) (rows T.v c) S0 t v := by
  unfold out
  simp only [(T.seq_after c S0 p hp hE t.val t.isLt).1]
  have e1 : ∀ (B W : M64), (incl (rows T.rh c * B.transpose) * W) t v
      = ∑ k, (∑ j : Fin 64, if j.val < t.val + 1 then W j v * B j k else 0) * rows T.rh c t k := by
    intro B W
    rw [Matrix.mul_apply]
    simp only [Finset.sum_mul]
    rw [Finset.sum_comm]
    refine Finset.sum_congr rfl fun j _ => ?_
    by_cases hj : j.val < t.val + 1
    · have hj' : j ≤ t := Nat.lt_succ_iff.mp hj
      simp only [incl, Matrix.of_apply, hj', if_true, hj, Matrix.mul_apply, Matrix.transpose_apply, Finset.sum_mul]
      exact Finset.sum_congr rfl fun k _ => by ring
    · have hj' : ¬ j ≤ t := fun h => hj (Nat.lt_succ_of_le h)
      simp only [incl, Matrix.of_apply, hj', if_false, hj, zero_mul, Finset.sum_const_zero]
  unfold chY
  show _ = (rows T.rh c * S0) t v + (incl (rows T.rh c * (rows T.kb c).transpose) * rows T.v c) t v
    + (incl (rows T.rh c * (rows T.bb c).transpose) * T.U c S0) t v
  rw [e1, e1, Matrix.mul_apply, ← Finset.sum_add_distrib, ← Finset.sum_add_distrib]
  refine Finset.sum_congr rfl fun k _ => ?_
  have e2 : (∑ j : Fin 64, if j.val < t.val + 1 then T.U c S0 j v * rows T.bb c j k + rows T.v c j v * rows T.kb c j k else 0)
      = (∑ j : Fin 64, if j.val < t.val + 1 then T.U c S0 j v * rows T.bb c j k else 0)
        + ∑ j : Fin 64, if j.val < t.val + 1 then rows T.v c j v * rows T.kb c j k else 0 := by
    rw [← Finset.sum_add_distrib]
    exact Finset.sum_congr rfl fun j _ => by split <;> simp
  rw [e2]
  have e3 : T.rh (64 * c + t.val) k = rows T.rh c t k := rfl
  rw [e3]
  ring

end Chunk
end Toks
end Cert.KernelIdeal.Scan
end
-- ==== Proof.ScanNorm.lean ====
/-
  The group normalisation at one token and one column: it uses the 64 outputs of the column's head at that token. The
  kernel multiplies sums by 1/64; dividing by 64 is the same number.
-/
module

public import proofs.«01_k».proof.Proof.ScanLift

@[expose] public section

noncomputable section

namespace Cert.KernelIdeal.Scan

open Idealize.ShloMosaic Idealize.ShloMosaic.TcCoe Cert.KernelIdeal Cert.KernelIdeal.Gen

theorem laneHead_apply (a : Fin 1) (j : Fin 256) : laneHead (ix2 a j) = BitVec.ofNat 32 (hd j).val := by
  pointwise [laneHead]
  revert j
  decide +kernel

/-- One head's sum. -/
theorem oneHead_apply (h : Fin 4) (b : BitVec 32) (hb : b = BitVec.ofNat 32 h.val) (y : FVec Ideal S64x256 .f32) (t : Fin 64) (j : Fin 256) :
    oneHead (F := Ideal) b y (ix2 t j) = if hd j = h then ∑ v, y (ix2 t (ixh h v)) else 0 := by
  subst hb
  pointwise [oneHead, laneHead_apply, cmp_eq4]
  have e : ∑ x : Fin 256, Scalar.select (if hd x = h then 1#1 else 0#1) (y (ix2 t x)) 0 = ∑ v, y (ix2 t (ixh h v)) := by
    rw [sum_heads, Finset.sum_eq_single h]
    · simp [Scalar.select]
    · intro q _ hq
      exact Finset.sum_eq_zero fun v _ => by simp [Scalar.select, hq]
    · simp
  rw [e]
  by_cases hj : hd j = h <;> simp [hj, Scalar.select]

/-- Every head's sum, at a column. -/
theorem headSumV_apply (y : FVec Ideal S64x256 .f32) (t : Fin 64) (j : Fin 256) :
    headSumV (F := Ideal) y (ix2 t j) = ∑ v, y (ix2 t (ixh (hd j) v)) := by
  pointwise [headSumV, oneHead_apply 0 0#32 rfl, oneHead_apply 1 1#32 rfl, oneHead_apply 2 2#32 rfl, oneHead_apply 3 3#32 rfl]
  generalize hd j = q
  revert q
  simp [Fin.forall_fin_succ]

/-- The normalisation of one head's 64 outputs, with the mean and the variance taken by `avg`. -/
def normE (avg : EReal → EReal) (y : Fin 64 → EReal) (v : Fin 64) (w b bonus g : EReal) : EReal :=
  ((((y v - avg (∑ u, y u)) * Ideal.rsqrt (avg (∑ u', (y u' - avg (∑ u, y u)) * (y u' - avg (∑ u, y u))) + Ideal.ofBits .f32 0x3A27C5AC#32)) * w + b)
    + bonus) * g

/-- The kernel's mean … -/
def avgK (x : EReal) : EReal := x * Ideal.ofBits .f32 0x3C800000#32

theorem normV_apply (y : FVec Ideal S64x256 .f32) (w b : Vec Ideal S1x256 .f32) (bonus g : Vec Ideal S1x64x256 .f32) (a : Fin 1) (t : Fin 64) (j : Fin 256) :
    normV (F := Ideal) y w b bonus g (ix3 a t j)
      = normE avgK (fun v => y (ix2 t (ixh (hd j) v))) (ps j) (w (ix2 0 j)) (b (ix2 0 j)) (bonus (ix3 0 t j)) (g (ix3 0 t j)) := by
  pointwise [normV, headSumV_apply]
  simp only [normE, avgK, hd_ixh, ixh_hd_ps]

/-- … is the quotient by 64. -/
theorem avgK_eq (x : EReal) : avgK x = Ideal.div x (Ideal.ofBits .f32 0x42800000#32) := by
  have h64 : Ideal.ofBits .f32 0x42800000#32 = ((64 : ℝ) : EReal) := by
    simp [Ideal.ofBits, Ideal.ieee, -EReal.coe_mul]; norm_num
  have hinv : Ideal.ofBits .f32 0x3C800000#32 = (((1 : ℝ) / 64 : ℝ) : EReal) := by
    simp [Ideal.ofBits, Ideal.ieee, -EReal.coe_mul]; norm_num
  unfold avgK
  rw [h64, hinv, Ideal.div_coe (by norm_num)]

end Cert.KernelIdeal.Scan
end
-- ==== Proof.ScanData.lean ====
/-
  The scan's operands as plain real arrays, the recurrence of one batch row and one head cut out of them, and what the
  two results hold in those terms. Both programs are read to these functions.
-/
module

public import proofs.«01_k».proof.Proof.ScanReal
public import proofs.«01_k».proof.Proof.ScanNorm

@[expose] public section

noncomputable section

namespace Cert.KernelIdeal.Scan

open Idealize.ShloMosaic Cert.KernelIdeal

/-- The operands the recurrence uses, at batch row, token (chunk, for the decay) and column. -/
structure Ins where
  (kh rh kb bb kbe bbe v : Fin 8 → Fin 2048 → Fin 256 → ℝ)
  pe : Fin 8 → Fin 32 → Fin 256 → ℝ

/-- Token `n`, for any number. -/
def tk (n : Nat) : Fin 2048 := ⟨n % 2048, Nat.mod_lt _ (by decide)⟩
/-- The chunk of token `n`. -/
def ck (n : Nat) : Fin 32 := ⟨n / 64 % 32, Nat.mod_lt _ (by decide)⟩

/-- One batch row, one head. -/
def Ins.toks (X : Ins) (b : Fin 8) (h : Fin 4) : Toks where
  kh n j := X.kh b (tk n) (ixh h j)
  rh n j := X.rh b (tk n) (ixh h j)
  kb n j := X.kb b (tk n) (ixh h j)
  bb n j := X.bb b (tk n) (ixh h j)
  kbe n j := X.kbe b (tk n) (ixh h j)
  bbe n j := X.bbe b (tk n) (ixh h j)
  v n j := X.v b (tk n) (ixh h j)
  pe n j := X.pe b (ck n) (ixh h j)

/-- The chunk-end state after `n` tokens, every head's. -/
def Ins.st (X : Ins) (b : Fin 8) (n : Nat) : HM := fun h => Matrix.of fun k v => ((X.toks b h).seq n).2 k v

/-- The first result. -/
def Ins.res (X : Ins) (bonus g : Fin 8 → Fin 2048 → Fin 256 → EReal) (w b : Fin 256 → EReal) (a : Fin 8) (n : Fin 2048) (j : Fin 256) : EReal :=
  normE avgK (fun v => (((X.toks a (hd j)).out n.val v : ℝ) : EReal)) (ps j) (w j) (b j) (bonus a n j) (g a n j)

/-- The second result. -/
def Ins.fin (X : Ins) (a : Fin 8) (i j : Fin 256) : EReal := bdE (X.st a 2048) (ix2 i j)

theorem Ins.st_zero (X : Ins) (b : Fin 8) : X.st b 0 = 0 := by
  funext h; ext k v; rfl

theorem tk_val (n : Fin 2048) : tk n.val = n := Fin.ext (Nat.mod_eq_of_lt n.isLt)

end Cert.KernelIdeal.Scan

end
-- ==== Proof.ScanBlocks.lean ====
/-
  What the kernel's windows hold: each block in terms of the argument arrays, at the point's batch block and chunk.
-/
module

public import proofs.«01_k».proof.Proof.Gen.KernelIdeal.Value
public import proofs.«01_k».proof.Proof.ScanPieces
public import proofs.«01_k».proof.Proof.ScanData

@[expose] public section

noncomputable section

namespace Cert.KernelIdeal.Scan

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

theorem lt64 (t : Fin cfg0.N) : t.val < 64 := t.isLt

/-- The batch row of row `r` of the point's blocks. -/
def bat (t : Fin cfg0.N) (r : Fin 4) : Fin 8 := ⟨4 * (t.val / 32) + r.val, by have := lt64 t; omega⟩
/-- The token of row `s` of the point's chunk. -/
def tok (t : Fin cfg0.N) (s : Fin 64) : Fin 2048 := ⟨64 * (t.val % 32) + s.val, by omega⟩

/-! ## The arrays the host builds -/

theorem V_v1 : V m c main_v1 = shapeCast S8x2048x256 (broadcastInDim S8x32x64x256 ![0, 1, 3] bcast_S8x32x256_S8x32x64x256_0_1_3 (m ((c : Thread nD τ).loc main_arg7))) shapeCasts_S8x32x64x256_S8x2048x256 := by
  unfold V
  after_results
  rfl

theorem V_v2 : (V m c main_v2 : Vec Ideal S8x256x256 .f32) = broadcastInDim S8x256x256 ![] bcast_S_S8x256x256 (constant (F := Ideal) S_ .f32 0x00000000#32) := by
  unfold V
  after_results

theorem V_v3 : V m c main_v3 = shapeCast S1x256 (m ((c : Thread nD τ).loc main_arg10)) shapeCasts_S256_S1x256 := by
  unfold V
  after_results
  rfl

theorem V_v4 : V m c main_v4 = shapeCast S1x256 (m ((c : Thread nD τ).loc main_arg11)) shapeCasts_S256_S1x256 := by
  unfold V
  after_results
  rfl

/-- The decay, a row per token, is the chunk's. -/
theorem pe_rows (x : Vec Ideal S8x32x256 .f32) (b : Fin 8) (n : Fin 2048) (j : Fin 256) :
    shapeCast S8x2048x256 (broadcastInDim S8x32x64x256 ![0, 1, 3] bcast_S8x32x256_S8x32x64x256_0_1_3 x) shapeCasts_S8x32x64x256_S8x2048x256 (ix3 b n j)
      = x (ix3 b ⟨n.val / 64, by omega⟩ j) := by
  pointwise

theorem row_vec (x : Vec Ideal S256 .f32) (a : Fin 1) (j : Fin 256) : shapeCast S1x256 x shapeCasts_S256_S1x256 (ix2 a j) = x (ix1 j) := by
  pointwise

theorem zero_vec (i : S8x256x256.Idx) : (broadcastInDim S8x256x256 ![] bcast_S_S8x256x256 (constant (F := Ideal) S_ .f32 0x00000000#32) : Vec Ideal S8x256x256 .f32) i = 0 := by
  rw [eq_ix3 i]
  pointwise

/-! ## The blocks -/

theorem idx0 : ∀ t : Fin cfg0.N, win0_0.index t 0 = t.val / 32 ∧ win0_0.index t 1 = t.val % 32 ∧ win0_0.index t 2 = 0 :=
  (by decide +kernel : ∀ t : Fin grid0.N, win0_0.index t 0 = t.val / 32 ∧ win0_0.index t 1 = t.val % 32 ∧ win0_0.index t 2 = 0)

theorem emb0 (t : Fin cfg0.N) (j : S4x64x256.Idx) : ((cfg0.win 0).blk t).view.emb j = ix3 (bat t (j 0)) (tok t (j 1)) (j 2) := by
  obtain ⟨e0, e1, e2⟩ := idx0 t
  funext a; apply Fin.ext
  match a with
  | ⟨0, _⟩ => show win0_0.index t (0 : Fin 3) * 4 + 1 * (j 0).val = 4 * (t.val / 32) + (j 0).val; omega
  | ⟨1, _⟩ => show win0_0.index t (1 : Fin 3) * 64 + 1 * (j 1).val = 64 * (t.val % 32) + (j 1).val; omega
  | ⟨2, _⟩ => show win0_0.index t (2 : Fin 3) * 256 + 1 * (j 2).val = (j 2).val; omega

theorem idx1 : ∀ t : Fin cfg0.N, win0_1.index t 0 = t.val / 32 ∧ win0_1.index t 1 = t.val % 32 ∧ win0_1.index t 2 = 0 :=
  (by decide +kernel : ∀ t : Fin grid0.N, win0_1.index t 0 = t.val / 32 ∧ win0_1.index t 1 = t.val % 32 ∧ win0_1.index t 2 = 0)

theorem emb1 (t : Fin cfg0.N) (j : S4x64x256.Idx) : ((cfg0.win 1).blk t).view.emb j = ix3 (bat t (j 0)) (tok t (j 1)) (j 2) := by
  obtain ⟨e0, e1, e2⟩ := idx1 t
  funext a; apply Fin.ext
  match a with
  | ⟨0, _⟩ => show win0_1.index t (0 : Fin 3) * 4 + 1 * (j 0).val = 4 * (t.val / 32) + (j 0).val; omega
  | ⟨1, _⟩ => show win0_1.index t (1 : Fin 3) * 64 + 1 * (j 1).val = 64 * (t.val % 32) + (j 1).val; omega
  | ⟨2, _⟩ => show win0_1.index t (2 : Fin 3) * 256 + 1 * (j 2).val = (j 2).val; omega

theorem idx2 : ∀ t : Fin cfg0.N, win0_2.index t 0 = t.val / 32 ∧ win0_2.index t 1 = t.val % 32 ∧ win0_2.index t 2 = 0 :=
  (by decide +kernel : ∀ t : Fin grid0.N, win0_2.index t 0 = t.val / 32 ∧ win0_2.index t 1 = t.val % 32 ∧ win0_2.index t 2 = 0)

theorem emb2 (t : Fin cfg0.N) (j : S4x64x256.Idx) : ((cfg0.win 2).blk t).view.emb j = ix3 (bat t (j 0)) (tok t (j 1)) (j 2) := by
  obtain ⟨e0, e1, e2⟩ := idx2 t
  funext a; apply Fin.ext
  match a with
  | ⟨0, _⟩ => show win0_2.index t (0 : Fin 3) * 4 + 1 * (j 0).val = 4 * (t.val / 32) + (j 0).val; omega
  | ⟨1, _⟩ => show win0_2.index t (1 : Fin 3) * 64 + 1 * (j 1).val = 64 * (t.val % 32) + (j 1).val; omega
  | ⟨2, _⟩ => show win0_2.index t (2 : Fin 3) * 256 + 1 * (j 2).val = (j 2).val; omega

theorem idx3 : ∀ t : Fin cfg0.N, win0_3.index t 0 = t.val / 32 ∧ win0_3.index t 1 = t.val % 32 ∧ win0_3.index t 2 = 0 :=
  (by decide +kernel : ∀ t : Fin grid0.N, win0_3.index t 0 = t.val / 32 ∧ win0_3.index t 1 = t.val % 32 ∧ win0_3.index t 2 = 0)

theorem emb3 (t : Fin cfg0.N) (j : S4x64x256.Idx) : ((cfg0.win 3).blk t).view.emb j = ix3 (bat t (j 0)) (tok t (j 1)) (j 2) := by
  obtain ⟨e0, e1, e2⟩ := idx3 t
  funext a; apply Fin.ext
  match a with
  | ⟨0, _⟩ => show win0_3.index t (0 : Fin 3) * 4 + 1 * (j 0).val = 4 * (t.val / 32) + (j 0).val; omega
  | ⟨1, _⟩ => show win0_3.index t (1 : Fin 3) * 64 + 1 * (j 1).val = 64 * (t.val % 32) + (j 1).val; omega
  | ⟨2, _⟩ => show win0_3.index t (2 : Fin 3) * 256 + 1 * (j 2).val = (j 2).val; omega

theorem idx4 : ∀ t : Fin cfg0.N, win0_4.index t 0 = t.val / 32 ∧ win0_4.index t 1 = t.val % 32 ∧ win0_4.index t 2 = 0 :=
  (by decide +kernel : ∀ t : Fin grid0.N, win0_4.index t 0 = t.val / 32 ∧ win0_4.index t 1 = t.val % 32 ∧ win0_4.index t 2 = 0)

theorem emb4 (t : Fin cfg0.N) (j : S4x64x256.Idx) : ((cfg0.win 4).blk t).view.emb j = ix3 (bat t (j 0)) (tok t (j 1)) (j 2) := by
  obtain ⟨e0, e1, e2⟩ := idx4 t
  funext a; apply Fin.ext
  match a with
  | ⟨0, _⟩ => show win0_4.index t (0 : Fin 3) * 4 + 1 * (j 0).val = 4 * (t.val / 32) + (j 0).val; omega
  | ⟨1, _⟩ => show win0_4.index t (1 : Fin 3) * 64 + 1 * (j 1).val = 64 * (t.val % 32) + (j 1).val; omega
  | ⟨2, _⟩ => show win0_4.index t (2 : Fin 3) * 256 + 1 * (j 2).val = (j 2).val; omega

theorem idx5 : ∀ t : Fin cfg0.N, win0_5.index t 0 = t.val / 32 ∧ win0_5.index t 1 = t.val % 32 ∧ win0_5.index t 2 = 0 :=
  (by decide +kernel : ∀ t : Fin grid0.N, win0_5.index t 0 = t.val / 32 ∧ win0_5.index t 1 = t.val % 32 ∧ win0_5.index t 2 = 0)

theorem emb5 (t : Fin cfg0.N) (j : S4x64x256.Idx) : ((cfg0.win 5).blk t).view.emb j = ix3 (bat t (j 0)) (tok t (j 1)) (j 2) := by
  obtain ⟨e0, e1, e2⟩ := idx5 t
  funext a; apply Fin.ext
  match a with
  | ⟨0, _⟩ => show win0_5.index t (0 : Fin 3) * 4 + 1 * (j 0).val = 4 * (t.val / 32) + (j 0).val; omega
  | ⟨1, _⟩ => show win0_5.index t (1 : Fin 3) * 64 + 1 * (j 1).val = 64 * (t.val % 32) + (j 1).val; omega
  | ⟨2, _⟩ => show win0_5.index t (2 : Fin 3) * 256 + 1 * (j 2).val = (j 2).val; omega

theorem idx6 : ∀ t : Fin cfg0.N, win0_6.index t 0 = t.val / 32 ∧ win0_6.index t 1 = t.val % 32 ∧ win0_6.index t 2 = 0 :=
  (by decide +kernel : ∀ t : Fin grid0.N, win0_6.index t 0 = t.val / 32 ∧ win0_6.index t 1 = t.val % 32 ∧ win0_6.index t 2 = 0)

theorem emb6 (t : Fin cfg0.N) (j : S4x64x256.Idx) : ((cfg0.win 6).blk t).view.emb j = ix3 (bat t (j 0)) (tok t (j 1)) (j 2) := by
  obtain ⟨e0, e1, e2⟩ := idx6 t
  funext a; apply Fin.ext
  match a with
  | ⟨0, _⟩ => show win0_6.index t (0 : Fin 3) * 4 + 1 * (j 0).val = 4 * (t.val / 32) + (j 0).val; omega
  | ⟨1, _⟩ => show win0_6.index t (1 : Fin 3) * 64 + 1 * (j 1).val = 64 * (t.val % 32) + (j 1).val; omega
  | ⟨2, _⟩ => show win0_6.index t (2 : Fin 3) * 256 + 1 * (j 2).val = (j 2).val; omega

theorem idx7 : ∀ t : Fin cfg0.N, win0_7.index t 0 = t.val / 32 ∧ win0_7.index t 1 = t.val % 32 ∧ win0_7.index t 2 = 0 :=
  (by decide +kernel : ∀ t : Fin grid0.N, win0_7.index t 0 = t.val / 32 ∧ win0_7.index t 1 = t.val % 32 ∧ win0_7.index t 2 = 0)

theorem emb7 (t : Fin cfg0.N) (j : S4x64x256.Idx) : ((cfg0.win 7).blk t).view.emb j = ix3 (bat t (j 0)) (tok t (j 1)) (j 2) := by
  obtain ⟨e0, e1, e2⟩ := idx7 t
  funext a; apply Fin.ext
  match a with
  | ⟨0, _⟩ => show win0_7.index t (0 : Fin 3) * 4 + 1 * (j 0).val = 4 * (t.val / 32) + (j 0).val; omega
  | ⟨1, _⟩ => show win0_7.index t (1 : Fin 3) * 64 + 1 * (j 1).val = 64 * (t.val % 32) + (j 1).val; omega
  | ⟨2, _⟩ => show win0_7.index t (2 : Fin 3) * 256 + 1 * (j 2).val = (j 2).val; omega

theorem idx8 : ∀ t : Fin cfg0.N, win0_8.index t 0 = t.val / 32 ∧ win0_8.index t 1 = t.val % 32 ∧ win0_8.index t 2 = 0 :=
  (by decide +kernel : ∀ t : Fin grid0.N, win0_8.index t 0 = t.val / 32 ∧ win0_8.index t 1 = t.val % 32 ∧ win0_8.index t 2 = 0)

theorem emb8 (t : Fin cfg0.N) (j : S4x64x256.Idx) : ((cfg0.win 8).blk t).view.emb j = ix3 (bat t (j 0)) (tok t (j 1)) (j 2) := by
  obtain ⟨e0, e1, e2⟩ := idx8 t
  funext a; apply Fin.ext
  match a with
  | ⟨0, _⟩ => show win0_8.index t (0 : Fin 3) * 4 + 1 * (j 0).val = 4 * (t.val / 32) + (j 0).val; omega
  | ⟨1, _⟩ => show win0_8.index t (1 : Fin 3) * 64 + 1 * (j 1).val = 64 * (t.val % 32) + (j 1).val; omega
  | ⟨2, _⟩ => show win0_8.index t (2 : Fin 3) * 256 + 1 * (j 2).val = (j 2).val; omega

theorem idx9 : ∀ t : Fin cfg0.N, win0_9.index t 0 = t.val / 32 ∧ win0_9.index t 1 = t.val % 32 ∧ win0_9.index t 2 = 0 :=
  (by decide +kernel : ∀ t : Fin grid0.N, win0_9.index t 0 = t.val / 32 ∧ win0_9.index t 1 = t.val % 32 ∧ win0_9.index t 2 = 0)

theorem emb9 (t : Fin cfg0.N) (j : S4x64x256.Idx) : ((cfg0.win 9).blk t).view.emb j = ix3 (bat t (j 0)) (tok t (j 1)) (j 2) := by
  obtain ⟨e0, e1, e2⟩ := idx9 t
  funext a; apply Fin.ext
  match a with
  | ⟨0, _⟩ => show win0_9.index t (0 : Fin 3) * 4 + 1 * (j 0).val = 4 * (t.val / 32) + (j 0).val; omega
  | ⟨1, _⟩ => show win0_9.index t (1 : Fin 3) * 64 + 1 * (j 1).val = 64 * (t.val % 32) + (j 1).val; omega
  | ⟨2, _⟩ => show win0_9.index t (2 : Fin 3) * 256 + 1 * (j 2).val = (j 2).val; omega

theorem idx13 : ∀ t : Fin cfg0.N, win0_13.index t 0 = t.val / 32 ∧ win0_13.index t 1 = t.val % 32 ∧ win0_13.index t 2 = 0 :=
  (by decide +kernel : ∀ t : Fin grid0.N, win0_13.index t 0 = t.val / 32 ∧ win0_13.index t 1 = t.val % 32 ∧ win0_13.index t 2 = 0)

theorem emb13 (t : Fin cfg0.N) (j : S4x64x256.Idx) : ((cfg0.win 13).blk t).view.emb j = ix3 (bat t (j 0)) (tok t (j 1)) (j 2) := by
  obtain ⟨e0, e1, e2⟩ := idx13 t
  funext a; apply Fin.ext
  match a with
  | ⟨0, _⟩ => show win0_13.index t (0 : Fin 3) * 4 + 1 * (j 0).val = 4 * (t.val / 32) + (j 0).val; omega
  | ⟨1, _⟩ => show win0_13.index t (1 : Fin 3) * 64 + 1 * (j 1).val = 64 * (t.val % 32) + (j 1).val; omega
  | ⟨2, _⟩ => show win0_13.index t (2 : Fin 3) * 256 + 1 * (j 2).val = (j 2).val; omega

theorem idx10 : ∀ t : Fin cfg0.N, win0_10.index t 0 = 0 ∧ win0_10.index t 1 = 0 :=
  (by decide +kernel : ∀ t : Fin grid0.N, win0_10.index t 0 = 0 ∧ win0_10.index t 1 = 0)

theorem emb10 (t : Fin cfg0.N) (j : S1x256.Idx) : ((cfg0.win 10).blk t).view.emb j = j := by
  obtain ⟨e0, e1⟩ := idx10 t
  funext a; apply Fin.ext
  match a with
  | ⟨0, _⟩ => show win0_10.index t (0 : Fin 2) * 1 + 1 * (j 0).val = (j 0).val; omega
  | ⟨1, _⟩ => show win0_10.index t (1 : Fin 2) * 256 + 1 * (j 1).val = (j 1).val; omega

theorem idx11 : ∀ t : Fin cfg0.N, win0_11.index t 0 = 0 ∧ win0_11.index t 1 = 0 :=
  (by decide +kernel : ∀ t : Fin grid0.N, win0_11.index t 0 = 0 ∧ win0_11.index t 1 = 0)

theorem emb11 (t : Fin cfg0.N) (j : S1x256.Idx) : ((cfg0.win 11).blk t).view.emb j = j := by
  obtain ⟨e0, e1⟩ := idx11 t
  funext a; apply Fin.ext
  match a with
  | ⟨0, _⟩ => show win0_11.index t (0 : Fin 2) * 1 + 1 * (j 0).val = (j 0).val; omega
  | ⟨1, _⟩ => show win0_11.index t (1 : Fin 2) * 256 + 1 * (j 1).val = (j 1).val; omega

theorem idx12 : ∀ t : Fin cfg0.N, win0_12.index t 0 = t.val / 32 ∧ win0_12.index t 1 = 0 ∧ win0_12.index t 2 = 0 :=
  (by decide +kernel : ∀ t : Fin grid0.N, win0_12.index t 0 = t.val / 32 ∧ win0_12.index t 1 = 0 ∧ win0_12.index t 2 = 0)

theorem emb12 (t : Fin cfg0.N) (j : S4x256x256.Idx) : ((cfg0.win 12).blk t).view.emb j = ix3 (bat t (j 0)) (j 1) (j 2) := by
  obtain ⟨e0, e1, e2⟩ := idx12 t
  funext a; apply Fin.ext
  match a with
  | ⟨0, _⟩ => show win0_12.index t (0 : Fin 3) * 4 + 1 * (j 0).val = 4 * (t.val / 32) + (j 0).val; omega
  | ⟨1, _⟩ => show win0_12.index t (1 : Fin 3) * 256 + 1 * (j 1).val = (j 1).val; omega
  | ⟨2, _⟩ => show win0_12.index t (2 : Fin 3) * 256 + 1 * (j 2).val = (j 2).val; omega

theorem idx14 : ∀ t : Fin cfg0.N, win0_14.index t 0 = t.val / 32 ∧ win0_14.index t 1 = 0 ∧ win0_14.index t 2 = 0 :=
  (by decide +kernel : ∀ t : Fin grid0.N, win0_14.index t 0 = t.val / 32 ∧ win0_14.index t 1 = 0 ∧ win0_14.index t 2 = 0)

theorem emb14 (t : Fin cfg0.N) (j : S4x256x256.Idx) : ((cfg0.win 14).blk t).view.emb j = ix3 (bat t (j 0)) (j 1) (j 2) := by
  obtain ⟨e0, e1, e2⟩ := idx14 t
  funext a; apply Fin.ext
  match a with
  | ⟨0, _⟩ => show win0_14.index t (0 : Fin 3) * 4 + 1 * (j 0).val = 4 * (t.val / 32) + (j 0).val; omega
  | ⟨1, _⟩ => show win0_14.index t (1 : Fin 3) * 256 + 1 * (j 1).val = (j 1).val; omega
  | ⟨2, _⟩ => show win0_14.index t (2 : Fin 3) * 256 + 1 * (j 2).val = (j 2).val; omega

theorem blk0 (t : Fin cfg0.N) (j : S4x64x256.Idx) : (iblk m c 0 t : Vec Ideal S4x64x256 .bf16) j = (m ((c : Thread nD τ).loc main_arg0) : Vec Ideal S8x2048x256 .bf16) (ix3 (bat t (j 0)) (tok t (j 1)) (j 2)) := by
  show V m c main_arg0 (((cfg0.win 0).blk t).view.emb j) = _
  rw [emb0, V_main_arg0]
  rfl

theorem blk1 (t : Fin cfg0.N) (j : S4x64x256.Idx) : (iblk m c 1 t : Vec Ideal S4x64x256 .bf16) j = (m ((c : Thread nD τ).loc main_arg1) : Vec Ideal S8x2048x256 .bf16) (ix3 (bat t (j 0)) (tok t (j 1)) (j 2)) := by
  show V m c main_arg1 (((cfg0.win 1).blk t).view.emb j) = _
  rw [emb1, V_main_arg1]
  rfl

theorem blk2 (t : Fin cfg0.N) (j : S4x64x256.Idx) : (iblk m c 2 t : Vec Ideal S4x64x256 .bf16) j = (m ((c : Thread nD τ).loc main_arg2) : Vec Ideal S8x2048x256 .bf16) (ix3 (bat t (j 0)) (tok t (j 1)) (j 2)) := by
  show V m c main_arg2 (((cfg0.win 2).blk t).view.emb j) = _
  rw [emb2, V_main_arg2]
  rfl

theorem blk3 (t : Fin cfg0.N) (j : S4x64x256.Idx) : (iblk m c 3 t : Vec Ideal S4x64x256 .bf16) j = (m ((c : Thread nD τ).loc main_arg3) : Vec Ideal S8x2048x256 .bf16) (ix3 (bat t (j 0)) (tok t (j 1)) (j 2)) := by
  show V m c main_arg3 (((cfg0.win 3).blk t).view.emb j) = _
  rw [emb3, V_main_arg3]
  rfl

theorem blk4 (t : Fin cfg0.N) (j : S4x64x256.Idx) : (iblk m c 4 t : Vec Ideal S4x64x256 .bf16) j = (m ((c : Thread nD τ).loc main_arg4) : Vec Ideal S8x2048x256 .bf16) (ix3 (bat t (j 0)) (tok t (j 1)) (j 2)) := by
  show V m c main_arg4 (((cfg0.win 4).blk t).view.emb j) = _
  rw [emb4, V_main_arg4]
  rfl

theorem blk5 (t : Fin cfg0.N) (j : S4x64x256.Idx) : (iblk m c 5 t : Vec Ideal S4x64x256 .bf16) j = (m ((c : Thread nD τ).loc main_arg5) : Vec Ideal S8x2048x256 .bf16) (ix3 (bat t (j 0)) (tok t (j 1)) (j 2)) := by
  show V m c main_arg5 (((cfg0.win 5).blk t).view.emb j) = _
  rw [emb5, V_main_arg5]
  rfl

theorem blk6 (t : Fin cfg0.N) (j : S4x64x256.Idx) : (iblk m c 6 t : Vec Ideal S4x64x256 .bf16) j = (m ((c : Thread nD τ).loc main_arg6) : Vec Ideal S8x2048x256 .bf16) (ix3 (bat t (j 0)) (tok t (j 1)) (j 2)) := by
  show V m c main_arg6 (((cfg0.win 6).blk t).view.emb j) = _
  rw [emb6, V_main_arg6]
  rfl

theorem blk8 (t : Fin cfg0.N) (j : S4x64x256.Idx) : (iblk m c 8 t : Vec Ideal S4x64x256 .f32) j = (m ((c : Thread nD τ).loc main_arg8) : Vec Ideal S8x2048x256 .f32) (ix3 (bat t (j 0)) (tok t (j 1)) (j 2)) := by
  show V m c main_arg8 (((cfg0.win 8).blk t).view.emb j) = _
  rw [emb8, V_main_arg8]
  rfl

theorem blk9 (t : Fin cfg0.N) (j : S4x64x256.Idx) : (iblk m c 9 t : Vec Ideal S4x64x256 .f32) j = (m ((c : Thread nD τ).loc main_arg9) : Vec Ideal S8x2048x256 .f32) (ix3 (bat t (j 0)) (tok t (j 1)) (j 2)) := by
  show V m c main_arg9 (((cfg0.win 9).blk t).view.emb j) = _
  rw [emb9, V_main_arg9]
  rfl

/-- The decay's block: every row is the chunk's. -/
theorem blk7 (t : Fin cfg0.N) (j : S4x64x256.Idx) : (iblk m c 7 t : Vec Ideal S4x64x256 .f32) j
    = (m ((c : Thread nD τ).loc main_arg7) : Vec Ideal S8x32x256 .f32) (ix3 (bat t (j 0)) ⟨t.val % 32, by omega⟩ (j 2)) := by
  show V m c main_v1 (((cfg0.win 7).blk t).view.emb j) = _
  rw [emb7, V_v1]
  refine (pe_rows _ _ _ _).trans ?_
  have e : (tok t (j 1)).val / 64 = t.val % 32 := by
    have h : (j 1).val < 64 := (j 1).isLt
    show (64 * (t.val % 32) + (j 1).val) / 64 = t.val % 32
    omega
  simp only [e]

theorem blk10 (t : Fin cfg0.N) (a : Fin 1) (j : Fin 256) : (iblk m c 10 t : Vec Ideal S1x256 .f32) (ix2 a j) = (m ((c : Thread nD τ).loc main_arg10) : Vec Ideal S256 .f32) (ix1 j) := by
  show V m c main_v3 (((cfg0.win 10).blk t).view.emb (ix2 a j)) = _
  rw [emb10, V_v3]
  exact row_vec _ _ _

theorem blk11 (t : Fin cfg0.N) (a : Fin 1) (j : Fin 256) : (iblk m c 11 t : Vec Ideal S1x256 .f32) (ix2 a j) = (m ((c : Thread nD τ).loc main_arg11) : Vec Ideal S256 .f32) (ix1 j) := by
  show V m c main_v4 (((cfg0.win 11).blk t).view.emb (ix2 a j)) = _
  rw [emb11, V_v4]
  exact row_vec _ _ _

theorem blk12 (t : Fin cfg0.N) (j : S4x256x256.Idx) : (iblk m c 12 t : Vec Ideal S4x256x256 .f32) j = (0 : EReal) := by
  show (V m c main_v2 : Vec Ideal S8x256x256 .f32) (((cfg0.win 12).blk t).view.emb j) = (0 : EReal)
  rw [V_v2]
  exact zero_vec _

end Cert.KernelIdeal.Scan

end
-- ==== Proof.ScanKernel.lean ====
/-
  The kernel's two result arrays. Point by point: the state block after a point is the recurrence's chunk-end state after
  the point's chunk, and the output block is the normalised outputs of the chunk's tokens. The blocks tile the arrays.
-/
module

public import proofs.«01_k».proof.Proof.ScanBlocks

@[expose] public section

noncomputable section

namespace Cert.KernelIdeal.Scan

open Idealize.ShloMosaic Idealize.ShloMosaic.TcCoe Idealize.ShloMosaic.Tactic Cert.KernelIdeal Cert.KernelIdeal.Gen

/-- The arguments of the recurrence, on device `c`, are the real arrays `X`. -/
structure Holds (m : (ℓ : Loc nD τ sig) → Buf (Elt Ideal) ℓ) (c : Dev nD) (X : Ins) : Prop where
  kh : ∀ b n j, (m ((c : Thread nD τ).loc main_arg0) : Vec Ideal S8x2048x256 .bf16) (ix3 b n j) = ((X.kh b n j : ℝ) : EReal)
  rh : ∀ b n j, (m ((c : Thread nD τ).loc main_arg1) : Vec Ideal S8x2048x256 .bf16) (ix3 b n j) = ((X.rh b n j : ℝ) : EReal)
  kb : ∀ b n j, (m ((c : Thread nD τ).loc main_arg2) : Vec Ideal S8x2048x256 .bf16) (ix3 b n j) = ((X.kb b n j : ℝ) : EReal)
  bb : ∀ b n j, (m ((c : Thread nD τ).loc main_arg3) : Vec Ideal S8x2048x256 .bf16) (ix3 b n j) = ((X.bb b n j : ℝ) : EReal)
  kbe : ∀ b n j, (m ((c : Thread nD τ).loc main_arg4) : Vec Ideal S8x2048x256 .bf16) (ix3 b n j) = ((X.kbe b n j : ℝ) : EReal)
  bbe : ∀ b n j, (m ((c : Thread nD τ).loc main_arg5) : Vec Ideal S8x2048x256 .bf16) (ix3 b n j) = ((X.bbe b n j : ℝ) : EReal)
  v : ∀ b n j, (m ((c : Thread nD τ).loc main_arg6) : Vec Ideal S8x2048x256 .bf16) (ix3 b n j) = ((X.v b n j : ℝ) : EReal)
  pe : ∀ b n j, (m ((c : Thread nD τ).loc main_arg7) : Vec Ideal S8x32x256 .f32) (ix3 b n j) = ((X.pe b n j : ℝ) : EReal)

variable (m : (ℓ : Loc nD τ sig) → Buf (Elt Ideal) ℓ) (c : Dev nD)

/-- What a point leaves, when a chunk starts a batch block … -/
theorem pointA (t : Fin cfg0.N) (h0 : t.val % 32 = 0) : outsAt0 m c t.val t.isLt
    = (nextY (iblk m c 0 t) (iblk m c 1 t) (iblk m c 2 t) (iblk m c 3 t) (iblk m c 6 t) (iblk m c 8 t) (iblk m c 9 t) (iblk m c 10 t) (iblk m c 11 t) (iblk m c 12 t),
       nextS (iblk m c 0 t) (iblk m c 1 t) (iblk m c 2 t) (iblk m c 3 t) (iblk m c 4 t) (iblk m c 5 t) (iblk m c 6 t) (iblk m c 7 t) (iblk m c 12 t)) := by
  rw [outsAt0_A m c t h0, outA13, outA14]

/-- … and when it follows a chunk. -/
theorem pointB (t : Fin cfg0.N) (h0 : ¬t.val % 32 = 0) (s : Vec Ideal S4x256x256 .f32)
    (hs : (outsAt0 m c (t.val - 1) (Nat.lt_of_le_of_lt (Nat.sub_le _ _) t.isLt)).2 = s) : outsAt0 m c t.val t.isLt
    = (nextY (iblk m c 0 t) (iblk m c 1 t) (iblk m c 2 t) (iblk m c 3 t) (iblk m c 6 t) (iblk m c 8 t) (iblk m c 9 t) (iblk m c 10 t) (iblk m c 11 t) s,
       nextS (iblk m c 0 t) (iblk m c 1 t) (iblk m c 2 t) (iblk m c 3 t) (iblk m c 4 t) (iblk m c 5 t) (iblk m c 6 t) (iblk m c 7 t) s) := by
  subst hs
  rw [outsAt0_B m c t h0, outB13, outB14]

variable {m c}
variable {X : Ins} (H : Holds m c X)
include H

theorem row_kh (t : Fin cfg0.N) (r : Fin 4) : rowOf r (iblk m c 0 t : Vec Ideal S4x64x256 .bf16) = rowE fun s j => X.kh (bat t r) (tok t s) j := by
  funext y
  exact (blk0 m c t _).trans (H.kh _ _ _)

theorem row_rh (t : Fin cfg0.N) (r : Fin 4) : rowOf r (iblk m c 1 t : Vec Ideal S4x64x256 .bf16) = rowE fun s j => X.rh (bat t r) (tok t s) j := by
  funext y
  exact (blk1 m c t _).trans (H.rh _ _ _)

theorem row_kb (t : Fin cfg0.N) (r : Fin 4) : rowOf r (iblk m c 2 t : Vec Ideal S4x64x256 .bf16) = rowE fun s j => X.kb (bat t r) (tok t s) j := by
  funext y
  exact (blk2 m c t _).trans (H.kb _ _ _)

theorem row_bb (t : Fin cfg0.N) (r : Fin 4) : rowOf r (iblk m c 3 t : Vec Ideal S4x64x256 .bf16) = rowE fun s j => X.bb (bat t r) (tok t s) j := by
  funext y
  exact (blk3 m c t _).trans (H.bb _ _ _)

theorem row_kbe (t : Fin cfg0.N) (r : Fin 4) : rowOf r (iblk m c 4 t : Vec Ideal S4x64x256 .bf16) = rowE fun s j => X.kbe (bat t r) (tok t s) j := by
  funext y
  exact (blk4 m c t _).trans (H.kbe _ _ _)

theorem row_bbe (t : Fin cfg0.N) (r : Fin 4) : rowOf r (iblk m c 5 t : Vec Ideal S4x64x256 .bf16) = rowE fun s j => X.bbe (bat t r) (tok t s) j := by
  funext y
  exact (blk5 m c t _).trans (H.bbe _ _ _)

theorem row_v (t : Fin cfg0.N) (r : Fin 4) : rowOf r (iblk m c 6 t : Vec Ideal S4x64x256 .bf16) = rowE fun s j => X.v (bat t r) (tok t s) j := by
  funext y
  exact (blk6 m c t _).trans (H.v _ _ _)

theorem row_pe (t : Fin cfg0.N) (r : Fin 4) : rowOf r (iblk m c 7 t : Vec Ideal S4x64x256 .f32) = rowE fun _ j => X.pe (bat t r) ⟨t.val % 32, by omega⟩ j := by
  funext y
  exact (blk7 m c t _).trans (H.pe _ _ _)

omit H in
theorem tk_tok (t : Fin cfg0.N) (s : Fin 64) : tk (64 * (t.val % 32) + s.val) = tok t s := tk_val (tok t s)

omit H
theorem rows_kh (X : Ins) (t : Fin cfg0.N) (r : Fin 4) (h : Fin 4) :
    Toks.rows (X.toks (bat t r) h).kh (t.val % 32) = hm (fun s j => X.kh (bat t r) (tok t s) j) h := by
  ext s k
  show X.kh (bat t r) (tk (64 * (t.val % 32) + s.val)) (ixh h k) = X.kh (bat t r) (tok t s) (ixh h k)
  rw [tk_tok]

theorem rows_rh (X : Ins) (t : Fin cfg0.N) (r : Fin 4) (h : Fin 4) :
    Toks.rows (X.toks (bat t r) h).rh (t.val % 32) = hm (fun s j => X.rh (bat t r) (tok t s) j) h := by
  ext s k
  show X.rh (bat t r) (tk (64 * (t.val % 32) + s.val)) (ixh h k) = X.rh (bat t r) (tok t s) (ixh h k)
  rw [tk_tok]

theorem rows_kb (X : Ins) (t : Fin cfg0.N) (r : Fin 4) (h : Fin 4) :
    Toks.rows (X.toks (bat t r) h).kb (t.val % 32) = hm (fun s j => X.kb (bat t r) (tok t s) j) h := by
  ext s k
  show X.kb (bat t r) (tk (64 * (t.val % 32) + s.val)) (ixh h k) = X.kb (bat t r) (tok t s) (ixh h k)
  rw [tk_tok]

theorem rows_bb (X : Ins) (t : Fin cfg0.N) (r : Fin 4) (h : Fin 4) :
    Toks.rows (X.toks (bat t r) h).bb (t.val % 32) = hm (fun s j => X.bb (bat t r) (tok t s) j) h := by
  ext s k
  show X.bb (bat t r) (tk (64 * (t.val % 32) + s.val)) (ixh h k) = X.bb (bat t r) (tok t s) (ixh h k)
  rw [tk_tok]

theorem rows_kbe (X : Ins) (t : Fin cfg0.N) (r : Fin 4) (h : Fin 4) :
    Toks.rows (X.toks (bat t r) h).kbe (t.val % 32) = hm (fun s j => X.kbe (bat t r) (tok t s) j) h := by
  ext s k
  show X.kbe (bat t r) (tk (64 * (t.val % 32) + s.val)) (ixh h k) = X.kbe (bat t r) (tok t s) (ixh h k)
  rw [tk_tok]

theorem rows_bbe (X : Ins) (t : Fin cfg0.N) (r : Fin 4) (h : Fin 4) :
    Toks.rows (X.toks (bat t r) h).bbe (t.val % 32) = hm (fun s j => X.bbe (bat t r) (tok t s) j) h := by
  ext s k
  show X.bbe (bat t r) (tk (64 * (t.val % 32) + s.val)) (ixh h k) = X.bbe (bat t r) (tok t s) (ixh h k)
  rw [tk_tok]

theorem rows_v (X : Ins) (t : Fin cfg0.N) (r : Fin 4) (h : Fin 4) :
    Toks.rows (X.toks (bat t r) h).v (t.val % 32) = hm (fun s j => X.v (bat t r) (tok t s) j) h := by
  ext s k
  show X.v (bat t r) (tk (64 * (t.val % 32) + s.val)) (ixh h k) = X.v (bat t r) (tok t s) (ixh h k)
  rw [tk_tok]

theorem pe_tok (X : Ins) (t : Fin cfg0.N) (r h : Fin 4) (k : Fin 64) :
    (X.toks (bat t r) h).pe (64 * (t.val % 32)) k = X.pe (bat t r) ⟨t.val % 32, by omega⟩ (ixh h k) := by
  have e : ck (64 * (t.val % 32)) = ⟨t.val % 32, by omega⟩ := Fin.ext (show 64 * (t.val % 32) / 64 % 32 = t.val % 32 by omega)
  show X.pe (bat t r) (ck (64 * (t.val % 32))) (ixh h k) = _
  rw [e]

theorem bdE_zero (i j : Fin 256) : bdE 0 (ix2 i j) = 0 := by
  rw [bdE_ix2]
  simp [bd]

/-- A row of the state block, from that row's chunk. -/
theorem rowOf_nextS (kh rh kb bb kbe bbe v : Vec Ideal S4x64x256 .bf16) (pe : Vec Ideal S4x64x256 .f32) (s : Vec Ideal S4x256x256 .f32) (r : Fin 4) (S : HM)
    (e : chunkS (rowOf r kh) (rowOf r rh) (rowOf r kb) (rowOf r bb) (rowOf r kbe) (rowOf r bbe) (rowOf r v) (rowOf r pe) (rowOf r s) = bdE S) :
    rowOf r (nextS kh rh kb bb kbe bbe v pe s) = stE S := by
  funext y
  have h := congrFun (congrArg (fun z => shapeCast S1x256x256 z shapeCasts_S256x256_S1x256x256) e) (ix3 0 (y 1 : Fin 256) (y 2 : Fin 256))
  refine Eq.trans h ?_
  pointwise [stE]

/-- A batch block's first chunk starts from zero. -/
theorem start_row (t : Fin cfg0.N) (r : Fin 4) (h0 : t.val % 32 = 0) :
    rowOf r (iblk m c 12 t : Vec Ideal S4x256x256 .f32) = stE (X.st (bat t r) (64 * (t.val % 32))) := by
  rw [h0, Nat.mul_zero, X.st_zero]
  funext y
  refine (blk12 m c t _).trans ?_
  exact (bdE_zero (y 1) (y 2)).symm

/-- A later chunk starts from the state that the chunk before left. -/
theorem prev_row (t : Fin cfg0.N) (r : Fin 4) (h0 : ¬t.val % 32 = 0) :
    stE (X.st (bat ⟨t.val - 1, Nat.lt_of_le_of_lt (Nat.sub_le _ _) t.isLt⟩ r) (64 * ((t.val - 1) % 32 + 1))) = stE (X.st (bat t r) (64 * (t.val % 32))) := by
  have e1 : bat ⟨t.val - 1, Nat.lt_of_le_of_lt (Nat.sub_le _ _) t.isLt⟩ r = bat t r :=
    Fin.ext (show 4 * ((t.val - 1) / 32) + r.val = 4 * (t.val / 32) + r.val by omega)
  rw [e1, show (t.val - 1) % 32 + 1 = t.val % 32 by omega]

include H

/-- One point, from a state block that holds the recurrence's state at the chunk's start: the state block after it … -/
theorem stepS (t : Fin cfg0.N) (s : Vec Ideal S4x256x256 .f32) (r : Fin 4)
    (hs : rowOf r s = stE (X.st (bat t r) (64 * (t.val % 32)))) :
    rowOf r (nextS (iblk m c 0 t) (iblk m c 1 t) (iblk m c 2 t) (iblk m c 3 t) (iblk m c 4 t) (iblk m c 5 t) (iblk m c 6 t) (iblk m c 7 t) s)
      = stE (X.st (bat t r) (64 * (t.val % 32 + 1))) := by
  have e : (chunkS (rowOf r (iblk m c 0 t : Vec Ideal S4x64x256 .bf16)) (rowOf r (iblk m c 1 t)) (rowOf r (iblk m c 2 t)) (rowOf r (iblk m c 3 t)) (rowOf r (iblk m c 4 t))
      (rowOf r (iblk m c 5 t)) (rowOf r (iblk m c 6 t)) (rowOf r (iblk m c 7 t : Vec Ideal S4x64x256 .f32)) (rowOf r s)) = bdE (X.st (bat t r) (64 * (t.val % 32 + 1))) := by
    rw [row_kh H, row_rh H, row_kb H, row_bb H, row_kbe H, row_bbe H, row_v H, row_pe H, hs, chunkS_real]
    congr 1
    funext h
    ext k v
    show _ = ((X.toks (bat t r) h).seq (64 * (t.val % 32 + 1))).2 k v
    rw [(X.toks (bat t r) h).chunk_end (t.val % 32) (X.st (bat t r) (64 * (t.val % 32)) h) (fun k => X.pe (bat t r) ⟨t.val % 32, by omega⟩ (ixh h k))
      (pe_tok X t r h) (fun _ _ => rfl), rows_kh, rows_kb, rows_bb, rows_kbe, rows_bbe, rows_v]
  exact rowOf_nextS _ _ _ _ _ _ _ _ _ r _ e

/-- … and the output block. -/
theorem stepY (t : Fin cfg0.N) (s : Vec Ideal S4x256x256 .f32) (r : Fin 4) (tt : Fin 64) (j : Fin 256)
    (hs : rowOf r s = stE (X.st (bat t r) (64 * (t.val % 32)))) :
    nextY (iblk m c 0 t) (iblk m c 1 t) (iblk m c 2 t) (iblk m c 3 t) (iblk m c 6 t) (iblk m c 8 t) (iblk m c 9 t) (iblk m c 10 t) (iblk m c 11 t) s (ix3 r tt j)
      = X.res (fun a n j => (m ((c : Thread nD τ).loc main_arg9) : Vec Ideal S8x2048x256 .f32) (ix3 a n j))
          (fun a n j => (m ((c : Thread nD τ).loc main_arg8) : Vec Ideal S8x2048x256 .f32) (ix3 a n j))
          (fun j => (m ((c : Thread nD τ).loc main_arg10) : Vec Ideal S256 .f32) (ix1 j))
          (fun j => (m ((c : Thread nD τ).loc main_arg11) : Vec Ideal S256 .f32) (ix1 j)) (bat t r) (tok t tt) j := by
  have e : chunkY (rowOf r (iblk m c 0 t : Vec Ideal S4x64x256 .bf16)) (rowOf r (iblk m c 1 t)) (rowOf r (iblk m c 2 t)) (rowOf r (iblk m c 3 t))
      (rowOf r (iblk m c 6 t)) (rowOf r s)
      = bdE fun h => Matrix.of fun t' v => (X.toks (bat t r) h).out (64 * (t.val % 32) + t'.val) v := by
    rw [row_kh H, row_rh H, row_kb H, row_bb H, row_v H, hs, chunkY_real]
    congr 1
    funext h
    ext t' v
    show _ = (X.toks (bat t r) h).out (64 * (t.val % 32) + t'.val) v
    rw [(X.toks (bat t r) h).chunk_out (t.val % 32) (X.st (bat t r) (64 * (t.val % 32)) h) (fun k => X.pe (bat t r) ⟨t.val % 32, by omega⟩ (ixh h k))
      (pe_tok X t r h) (fun _ _ => rfl), rows_kh, rows_rh, rows_kb, rows_bb, rows_v]
  show normV (flatV (chunkY (rowOf r _) (rowOf r _) (rowOf r _) (rowOf r _) (rowOf r _) (rowOf r _))) _ _ (rowOf r _) (rowOf r _) (ix3 0 tt j) = _
  rw [e, normV_apply]
  simp only [flatV_bdE, hd_ixh, ps_ixh]
  unfold Ins.res
  congr 1
  · exact blk10 m c t 0 j
  · exact blk11 m c t 0 j
  · exact blk9 m c t _
  · exact blk8 m c t _

/-- The state block after point `n`. -/
theorem state_at (n : Nat) (hn : n < cfg0.N) (r : Fin 4) :
    rowOf r (outsAt0 m c n hn).2 = stE (X.st (bat ⟨n, hn⟩ r) (64 * (n % 32 + 1))) := by
  induction n using Nat.strong_induction_on with
  | _ n ih =>
    by_cases h0 : n % 32 = 0
    · rw [show outsAt0 m c n hn = _ from pointA m c ⟨n, hn⟩ h0]
      exact stepS H ⟨n, hn⟩ _ r (start_row ⟨n, hn⟩ r h0)
    · rw [show outsAt0 m c n hn = _ from pointB m c ⟨n, hn⟩ h0 _ rfl]
      refine stepS H ⟨n, hn⟩ _ r ?_
      exact (ih (n - 1) (by omega) (by omega)).trans (prev_row ⟨n, hn⟩ r h0)

/-- The output block after point `t`. -/
theorem out_at (t : Fin cfg0.N) (r : Fin 4) (tt : Fin 64) (j : Fin 256) :
    (outsAt0 m c t.val t.isLt).1 (ix3 r tt j)
      = X.res (fun a n j => (m ((c : Thread nD τ).loc main_arg9) : Vec Ideal S8x2048x256 .f32) (ix3 a n j))
          (fun a n j => (m ((c : Thread nD τ).loc main_arg8) : Vec Ideal S8x2048x256 .f32) (ix3 a n j))
          (fun j => (m ((c : Thread nD τ).loc main_arg10) : Vec Ideal S256 .f32) (ix1 j))
          (fun j => (m ((c : Thread nD τ).loc main_arg11) : Vec Ideal S256 .f32) (ix1 j)) (bat t r) (tok t tt) j := by
  by_cases h0 : t.val % 32 = 0
  · rw [pointA m c t h0]
    exact stepY H t _ r tt j (start_row t r h0)
  · rw [pointB m c t h0 _ rfl]
    exact stepY H t _ r tt j ((state_at H (t.val - 1) _ r).trans (prev_row t r h0))

/-- The point of a batch row and a chunk, and where its blocks lie. -/
def pt (a : Fin 8) (k : Fin 32) : Fin cfg0.N := ⟨32 * (a.val / 4) + k.val, show 32 * (a.val / 4) + k.val < 64 by omega⟩
def rw4 (a : Fin 8) : Fin 4 := ⟨a.val % 4, by omega⟩

omit H in
theorem bat_pt (a : Fin 8) (k : Fin 32) : bat (pt a k) (rw4 a) = a :=
  Fin.ext (show 4 * ((32 * (a.val / 4) + k.val) / 32) + a.val % 4 = a.val by omega)

omit H in
theorem tok_pt (a : Fin 8) (n : Fin 2048) : tok (pt a ⟨n.val / 64, by omega⟩) ⟨n.val % 64, by omega⟩ = n :=
  Fin.ext (show 64 * ((32 * (a.val / 4) + n.val / 64) % 32) + n.val % 64 = n.val by omega)

variable (m c X) in
/-- The first result, as an array. -/
def resArr : Vec Ideal S8x2048x256 .f32 := fun i =>
  X.res (fun a n j => (m ((c : Thread nD τ).loc main_arg9) : Vec Ideal S8x2048x256 .f32) (ix3 a n j))
    (fun a n j => (m ((c : Thread nD τ).loc main_arg8) : Vec Ideal S8x2048x256 .f32) (ix3 a n j))
    (fun j => (m ((c : Thread nD τ).loc main_arg10) : Vec Ideal S256 .f32) (ix1 j))
    (fun j => (m ((c : Thread nD τ).loc main_arg11) : Vec Ideal S256 .f32) (ix1 j)) (i 0) (i 1) (i 2)

variable (X) in
/-- The second result, as an array. -/
def finArr : Vec Ideal S8x256x256 .f32 := fun i => X.fin (i 0) (i 1) (i 2)

theorem flushed13_eq (t : Fin cfg0.N) : (dats m 0 c).flushed 13 t = ((cfg0.win 13).blk t).view.read (Elt Ideal) (resArr m c X) := by
  rw [Value.flushed13]
  funext y
  have h : (outsAt0 m c t.val t.isLt).1 y = resArr m c X (((cfg0.win 13).blk t).view.emb y) := by
    rw [emb13 t y]
    refine Eq.trans ?_ (out_at H t (y 0) (y 1) (y 2))
    exact congrArg (outsAt0 m c t.val t.isLt).1 (eq_ix3 (n0 := 4) (n1 := 64) (n2 := 256) y)
  exact h

omit H in
theorem cell13 (t : Fin cfg0.N) (r : Fin 4) (s : Fin 64) (j : Fin 256) (i : S8x2048x256.Idx) (hi : ix3 (bat t r) (tok t s) j = i) :
    i ∈ ((cfg0.win 13).blk t).view.set := by
  subst hi
  have h := ((cfg0.win 13).blk t).view.emb_mem_set (ix3 r s j)
  rw [emb13] at h
  exact h

omit H in
theorem cover13 (i : S8x2048x256.Idx) : ∃ t : Fin cfg0.N, (cfg0.win 13).flush t = true ∧ i ∈ ((cfg0.win 13).blk t).view.set := by
  have key : ∀ (a : Fin 8) (n : Fin 2048) (j : Fin 256), ix3 a n j = i → ∃ t : Fin cfg0.N, (cfg0.win 13).flush t = true ∧ i ∈ ((cfg0.win 13).blk t).view.set := by
    intro a n j h
    refine ⟨pt a ⟨n.val / 64, by omega⟩, flush0_13 _, cell13 _ (rw4 a) ⟨n.val % 64, by omega⟩ j i ?_⟩
    rw [bat_pt, tok_pt]
    exact h
  exact key (i 0) (i 1) (i 2) (eq_ix3 (n0 := 8) (n1 := 2048) (n2 := 256) i).symm

/-- The first result array. -/
theorem final13 : (dats m 0 c).arrAt 13 cfg0.N = resArr m c X :=
  (dats m 0 c).arrAt_eq_of_cover 13 (resArr m c X) (fun t _ => flushed13_eq H t) cover13

theorem flushed14_eq (t : Fin cfg0.N) (hf : (cfg0.win 14).flush t = true) : (dats m 0 c).flushed 14 t = ((cfg0.win 14).blk t).view.read (Elt Ideal) (finArr X) := by
  have h31 : t.val % 32 = 31 := (flush0_14 t).mp hf
  rw [Value.flushed14]
  funext y
  have h : (outsAt0 m c t.val t.isLt).2 y = finArr X (((cfg0.win 14).blk t).view.emb y) := by
    rw [emb14 t y]
    have h := congrFun (state_at H t.val t.isLt (y 0)) (ix3 0 (y 1 : Fin 256) (y 2 : Fin 256))
    rw [h31] at h
    refine Eq.trans ?_ h
    exact congrArg (outsAt0 m c t.val t.isLt).2 (eq_ix3 (n0 := 4) (n1 := 256) (n2 := 256) y)
  exact h

omit H in
theorem cell14 (t : Fin cfg0.N) (r : Fin 4) (k j : Fin 256) (i : S8x256x256.Idx) (hi : ix3 (bat t r) k j = i) : i ∈ ((cfg0.win 14).blk t).view.set := by
  subst hi
  have h := ((cfg0.win 14).blk t).view.emb_mem_set (ix3 r k j)
  rw [emb14] at h
  exact h

omit H in
theorem cover14 (i : S8x256x256.Idx) : ∃ t : Fin cfg0.N, (cfg0.win 14).flush t = true ∧ i ∈ ((cfg0.win 14).blk t).view.set := by
  have key : ∀ (a : Fin 8) (k j : Fin 256), ix3 a k j = i → ∃ t : Fin cfg0.N, (cfg0.win 14).flush t = true ∧ i ∈ ((cfg0.win 14).blk t).view.set := by
    intro a k j h
    refine ⟨pt a 31, (flush0_14 _).mpr (show (32 * (a.val / 4) + 31) % 32 = 31 by omega), cell14 _ (rw4 a) k j i ?_⟩
    rw [bat_pt]
    exact h
  exact key (i 0) (i 1) (i 2) (eq_ix3 (n0 := 8) (n1 := 256) (n2 := 256) i).symm

/-- The second result array. -/
theorem final14 : (dats m 0 c).arrAt 14 cfg0.N = finArr X :=
  (dats m 0 c).arrAt_eq_of_cover 14 (finArr X) (fun t hf => flushed14_eq H t hf) cover14

end Cert.KernelIdeal.Scan

end
-- ==== Proof.RefStep.lean ====
/-
  One trip of the reference's loop, stretch by stretch: the rows that the trip slices out of the scanned arrays, the
  recurrence's operations on them, and the row that it writes.
-/
module
public import proofs.«01_k».proof.Proof.Gen.ReferenceIdeal.Run
public import Idealize.ShloMosaic.Lib.Pointwise
public import Idealize.ShloMosaic.Lib.WordCmp
public import Idealize.ShloMosaic.Lib.DynamicIndex
public import Idealize.ShloMosaic.Lib.WordCmp

@[expose] public section
noncomputable section
namespace Cert.ReferenceIdeal.Scan
open Idealize.ShloMosaic Idealize.ShloMosaic.TcCoe Idealize.ShloMosaic.Tactic Idealize.ShloMosaic.StableHlo
open Cert.ReferenceIdeal Cert.ReferenceIdeal.Value Cert.ReferenceIdeal.Gen

/-- A one-row slice at a start is that row. -/
theorem slice_row {F : FTy → Type} [FloatOps F] (x : Vec F S2048x8x4x64 .f32) (start : Fin 4 → Int) (h : S2048x8x4x64.Slices (fun _ => 0) S1x8x4x64)
    (h' : S1x8x4x64.ShapeCasts S8x4x64) (n : Fin 2048) (h0 : start 0 = (n.val : Int)) (h1 : start 1 = 0) (h2 : start 2 = 0) (h3 : start 3 = 0) :
    shapeCast S8x4x64 (Host.dynamicSlice S1x8x4x64 x start h) h' = fun y => x (ix4 n (y 0) (y 1) (y 2)) := by
  have e : Host.dynamicSlice S1x8x4x64 x start h = fun j => x (ix4 n (j 1) (j 2) (j 3)) := by
    rw [Host.dynamicSlice_eq_extractStridedSlice S1x8x4x64 x start ![n.val, 0, 0, 0] h
      ⟨rfl, fun a => by match a with
        | ⟨0, _⟩ => have := n.isLt; show n.val + 1 ≤ 2048; omega
        | ⟨1, _⟩ => exact Nat.le_refl _
        | ⟨2, _⟩ => exact Nat.le_refl _
        | ⟨3, _⟩ => exact Nat.le_refl _⟩
      (fun a => by match a with
        | ⟨0, _⟩ => exact h0
        | ⟨1, _⟩ => exact h1
        | ⟨2, _⟩ => exact h2
        | ⟨3, _⟩ => exact h3)]
    funext j
    unfold extractStridedSlice
    refine congrArg x (funext fun a => Fin.ext ?_)
    match a with
    | ⟨0, _⟩ =>
      have : (j 0).val < 1 := (j 0).isLt
      show n.val + (j 0).val = n.val; omega
    | ⟨1, _⟩ => show 0 + (j 1).val = (j 1).val; omega
    | ⟨2, _⟩ => show 0 + (j 2).val = (j 2).val; omega
    | ⟨3, _⟩ => show 0 + (j 3).val = (j 3).val; omega
  rw [e]
  funext y
  rw [eq_ix3 (n0 := 8) (n1 := 4) (n2 := 64) y]
  pointwise

/-- A token's number as a word, read back. -/
theorem ofNat_toInt (n : Fin 2048) : (BitVec.ofNat 32 n.val).toInt = (n.val : Int) := by
  have := n.isLt
  rw [BitVec.toInt_eq_toNat_of_lt (by rw [BitVec.toNat_ofNat]; omega), BitVec.toNat_ofNat]
  omega

/-- The row that the trip takes out of this scanned array. -/
theorem sl0 (X : Valuation τ sig (Elt Ideal)) (n : Fin 2048) (hX : X (Proc.devRef .tc main_v28_9) = fun _ => BitVec.ofNat 32 n.val) :
    (after (while0Ops0 (F := Ideal)) X (Proc.devRef .tc main_while0b_v70) : Vec Ideal S8x4x64 .f32)
      = fun y => (X (Proc.devRef .tc main_v28_0) : Vec Ideal S2048x8x4x64 .f32) (ix4 n (y 0) (y 1) (y 2)) := by
  after_results
  refine slice_row (F := Ideal) (X (Proc.devRef .tc main_v28_0)) _ sliceFits_S2048x8x4x64_S1x8x4x64 shapeCasts_S1x8x4x64_S8x4x64 n ?_ ?_ ?_ ?_
  · after_results
    show BitVec.toInt (X (Proc.tc.devRef main_v28_9) _) = _
    rw [hX]
    exact ofNat_toInt n
  all_goals (after_results; rfl)

/-- The row that the trip takes out of this scanned array. -/
theorem sl1 (X : Valuation τ sig (Elt Ideal)) (n : Fin 2048) (hX : X (Proc.devRef .tc main_v28_9) = fun _ => BitVec.ofNat 32 n.val) :
    (after (while0Ops0_1 (F := Ideal)) X (Proc.devRef .tc main_while0b_v71) : Vec Ideal S8x4x64 .f32)
      = fun y => (X (Proc.devRef .tc main_v28_1) : Vec Ideal S2048x8x4x64 .f32) (ix4 n (y 0) (y 1) (y 2)) := by
  after_results
  refine slice_row (F := Ideal) (X (Proc.devRef .tc main_v28_1)) _ sliceFits_S2048x8x4x64_S1x8x4x64 shapeCasts_S1x8x4x64_S8x4x64 n ?_ ?_ ?_ ?_
  · after_results
    show BitVec.toInt (X (Proc.tc.devRef main_v28_9) _) = _
    rw [hX]
    exact ofNat_toInt n
  all_goals (after_results; rfl)

/-- The row that the trip takes out of this scanned array. -/
theorem sl2 (X : Valuation τ sig (Elt Ideal)) (n : Fin 2048) (hX : X (Proc.devRef .tc main_v28_9) = fun _ => BitVec.ofNat 32 n.val) :
    (after (while0Ops0_2 (F := Ideal)) X (Proc.devRef .tc main_while0b_v72) : Vec Ideal S8x4x64 .f32)
      = fun y => (X (Proc.devRef .tc main_v28_2) : Vec Ideal S2048x8x4x64 .f32) (ix4 n (y 0) (y 1) (y 2)) := by
  after_results
  refine slice_row (F := Ideal) (X (Proc.devRef .tc main_v28_2)) _ sliceFits_S2048x8x4x64_S1x8x4x64 shapeCasts_S1x8x4x64_S8x4x64 n ?_ ?_ ?_ ?_
  · after_results
    show BitVec.toInt (X (Proc.tc.devRef main_v28_9) _) = _
    rw [hX]
    exact ofNat_toInt n
  all_goals (after_results; rfl)

/-- The row that the trip takes out of this scanned array. -/
theorem sl3 (X : Valuation τ sig (Elt Ideal)) (n : Fin 2048) (hX : X (Proc.devRef .tc main_v28_9) = fun _ => BitVec.ofNat 32 n.val) :
    (after (while0Ops0_3 (F := Ideal)) X (Proc.devRef .tc main_while0b_v73) : Vec Ideal S8x4x64 .f32)
      = fun y => (X (Proc.devRef .tc main_v28_3) : Vec Ideal S2048x8x4x64 .f32) (ix4 n (y 0) (y 1) (y 2)) := by
  after_results
  refine slice_row (F := Ideal) (X (Proc.devRef .tc main_v28_3)) _ sliceFits_S2048x8x4x64_S1x8x4x64 shapeCasts_S1x8x4x64_S8x4x64 n ?_ ?_ ?_ ?_
  · after_results
    show BitVec.toInt (X (Proc.tc.devRef main_v28_9) _) = _
    rw [hX]
    exact ofNat_toInt n
  all_goals (after_results; rfl)

/-- The row that the trip takes out of this scanned array. -/
theorem sl4 (X : Valuation τ sig (Elt Ideal)) (n : Fin 2048) (hX : X (Proc.devRef .tc main_v28_9) = fun _ => BitVec.ofNat 32 n.val) :
    (after (while0Ops0_4 (F := Ideal)) X (Proc.devRef .tc main_while0b_v74) : Vec Ideal S8x4x64 .f32)
      = fun y => (X (Proc.devRef .tc main_v28_4) : Vec Ideal S2048x8x4x64 .f32) (ix4 n (y 0) (y 1) (y 2)) := by
  after_results
  refine slice_row (F := Ideal) (X (Proc.devRef .tc main_v28_4)) _ sliceFits_S2048x8x4x64_S1x8x4x64 shapeCasts_S1x8x4x64_S8x4x64 n ?_ ?_ ?_ ?_
  · after_results
    show BitVec.toInt (X (Proc.tc.devRef main_v28_9) _) = _
    rw [hX]
    exact ofNat_toInt n
  all_goals (after_results; rfl)

/-- The row that the trip takes out of this scanned array. -/
theorem sl5 (X : Valuation τ sig (Elt Ideal)) (n : Fin 2048) (hX : X (Proc.devRef .tc main_v28_9) = fun _ => BitVec.ofNat 32 n.val) :
    (after (while0Ops0_5 (F := Ideal)) X (Proc.devRef .tc main_while0b_v75) : Vec Ideal S8x4x64 .f32)
      = fun y => (X (Proc.devRef .tc main_v28_5) : Vec Ideal S2048x8x4x64 .f32) (ix4 n (y 0) (y 1) (y 2)) := by
  after_results
  refine slice_row (F := Ideal) (X (Proc.devRef .tc main_v28_5)) _ sliceFits_S2048x8x4x64_S1x8x4x64 shapeCasts_S1x8x4x64_S8x4x64 n ?_ ?_ ?_ ?_
  · after_results
    show BitVec.toInt (X (Proc.tc.devRef main_v28_9) _) = _
    rw [hX]
    exact ofNat_toInt n
  all_goals (after_results; rfl)

/-- The row that the trip takes out of this scanned array. -/
theorem sl6 (X : Valuation τ sig (Elt Ideal)) (n : Fin 2048) (hX : X (Proc.devRef .tc main_v28_9) = fun _ => BitVec.ofNat 32 n.val) :
    (after (while0Ops0_6 (F := Ideal)) X (Proc.devRef .tc main_while0b_v76) : Vec Ideal S8x4x64 .f32)
      = fun y => (X (Proc.devRef .tc main_v28_6) : Vec Ideal S2048x8x4x64 .f32) (ix4 n (y 0) (y 1) (y 2)) := by
  after_results
  refine slice_row (F := Ideal) (X (Proc.devRef .tc main_v28_6)) _ sliceFits_S2048x8x4x64_S1x8x4x64 shapeCasts_S1x8x4x64_S8x4x64 n ?_ ?_ ?_ ?_
  · after_results
    show BitVec.toInt (X (Proc.tc.devRef main_v28_9) _) = _
    rw [hX]
    exact ofNat_toInt n
  all_goals (after_results; rfl)

/-- The row that the trip takes out of this scanned array. -/
theorem sl7 (X : Valuation τ sig (Elt Ideal)) (n : Fin 2048) (hX : X (Proc.devRef .tc main_v28_9) = fun _ => BitVec.ofNat 32 n.val) :
    (after (while0Ops0_7 (F := Ideal)) X (Proc.devRef .tc main_while0b_v77) : Vec Ideal S8x4x64 .f32)
      = fun y => (X (Proc.devRef .tc main_v28_7) : Vec Ideal S2048x8x4x64 .f32) (ix4 n (y 0) (y 1) (y 2)) := by
  after_results
  refine slice_row (F := Ideal) (X (Proc.devRef .tc main_v28_7)) _ sliceFits_S2048x8x4x64_S1x8x4x64 shapeCasts_S1x8x4x64_S8x4x64 n ?_ ?_ ?_ ?_
  · after_results
    show BitVec.toInt (X (Proc.tc.devRef main_v28_9) _) = _
    rw [hX]
    exact ofNat_toInt n
  all_goals (after_results; rfl)

/-- This stretch leaves what it does not write. -/
theorem keep0 (X : Valuation τ sig (Elt Ideal)) (b : Ref sig .tc) (h : b ∉ while0Ops0_W) :
    after (while0Ops0 (F := Ideal)) X (Proc.devRef .tc b) = X (Proc.devRef .tc b) := after_of_writes_sub while0Ops0 X while0Ops0_writes h

/-- This stretch leaves what it does not write. -/
theorem keep1 (X : Valuation τ sig (Elt Ideal)) (b : Ref sig .tc) (h : b ∉ while0Ops0_1_W) :
    after (while0Ops0_1 (F := Ideal)) X (Proc.devRef .tc b) = X (Proc.devRef .tc b) := after_of_writes_sub while0Ops0_1 X while0Ops0_1_writes h

/-- This stretch leaves what it does not write. -/
theorem keep2 (X : Valuation τ sig (Elt Ideal)) (b : Ref sig .tc) (h : b ∉ while0Ops0_2_W) :
    after (while0Ops0_2 (F := Ideal)) X (Proc.devRef .tc b) = X (Proc.devRef .tc b) := after_of_writes_sub while0Ops0_2 X while0Ops0_2_writes h

/-- This stretch leaves what it does not write. -/
theorem keep3 (X : Valuation τ sig (Elt Ideal)) (b : Ref sig .tc) (h : b ∉ while0Ops0_3_W) :
    after (while0Ops0_3 (F := Ideal)) X (Proc.devRef .tc b) = X (Proc.devRef .tc b) := after_of_writes_sub while0Ops0_3 X while0Ops0_3_writes h

/-- This stretch leaves what it does not write. -/
theorem keep4 (X : Valuation τ sig (Elt Ideal)) (b : Ref sig .tc) (h : b ∉ while0Ops0_4_W) :
    after (while0Ops0_4 (F := Ideal)) X (Proc.devRef .tc b) = X (Proc.devRef .tc b) := after_of_writes_sub while0Ops0_4 X while0Ops0_4_writes h

/-- This stretch leaves what it does not write. -/
theorem keep5 (X : Valuation τ sig (Elt Ideal)) (b : Ref sig .tc) (h : b ∉ while0Ops0_5_W) :
    after (while0Ops0_5 (F := Ideal)) X (Proc.devRef .tc b) = X (Proc.devRef .tc b) := after_of_writes_sub while0Ops0_5 X while0Ops0_5_writes h

/-- This stretch leaves what it does not write. -/
theorem keep6 (X : Valuation τ sig (Elt Ideal)) (b : Ref sig .tc) (h : b ∉ while0Ops0_6_W) :
    after (while0Ops0_6 (F := Ideal)) X (Proc.devRef .tc b) = X (Proc.devRef .tc b) := after_of_writes_sub while0Ops0_6 X while0Ops0_6_writes h

/-- This stretch leaves what it does not write. -/
theorem keep7 (X : Valuation τ sig (Elt Ideal)) (b : Ref sig .tc) (h : b ∉ while0Ops0_7_W) :
    after (while0Ops0_7 (F := Ideal)) X (Proc.devRef .tc b) = X (Proc.devRef .tc b) := after_of_writes_sub while0Ops0_7 X while0Ops0_7_writes h

/-- This stretch leaves what it does not write. -/
theorem keep8 (X : Valuation τ sig (Elt Ideal)) (b : Ref sig .tc) (h : b ∉ while0Ops0_8_W) :
    after (while0Ops0_8 (F := Ideal)) X (Proc.devRef .tc b) = X (Proc.devRef .tc b) := after_of_writes_sub while0Ops0_8 X while0Ops0_8_writes h

/-- This stretch leaves what it does not write. -/
theorem keep9 (X : Valuation τ sig (Elt Ideal)) (b : Ref sig .tc) (h : b ∉ while0Ops0_9_W) :
    after (while0Ops0_9 (F := Ideal)) X (Proc.devRef .tc b) = X (Proc.devRef .tc b) := after_of_writes_sub while0Ops0_9 X while0Ops0_9_writes h

/-- This stretch leaves what it does not write. -/
theorem keep10 (X : Valuation τ sig (Elt Ideal)) (b : Ref sig .tc) (h : b ∉ while0Ops0_10_W) :
    after (while0Ops0_10 (F := Ideal)) X (Proc.devRef .tc b) = X (Proc.devRef .tc b) := after_of_writes_sub while0Ops0_10 X while0Ops0_10_writes h

/-- This stretch leaves what it does not write. -/
theorem keep11 (X : Valuation τ sig (Elt Ideal)) (b : Ref sig .tc) (h : b ∉ while0Ops0_11_W) :
    after (while0Ops0_11 (F := Ideal)) X (Proc.devRef .tc b) = X (Proc.devRef .tc b) := after_of_writes_sub while0Ops0_11 X while0Ops0_11_writes h

/-- This stretch leaves what it does not write. -/
theorem keep12 (X : Valuation τ sig (Elt Ideal)) (b : Ref sig .tc) (h : b ∉ while0Ops0_12_W) :
    after (while0Ops0_12 (F := Ideal)) X (Proc.devRef .tc b) = X (Proc.devRef .tc b) := after_of_writes_sub while0Ops0_12 X while0Ops0_12_writes h

/-- This stretch leaves what it does not write. -/
theorem keep13 (X : Valuation τ sig (Elt Ideal)) (b : Ref sig .tc) (h : b ∉ while0Ops0_13_W) :
    after (while0Ops0_13 (F := Ideal)) X (Proc.devRef .tc b) = X (Proc.devRef .tc b) := after_of_writes_sub while0Ops0_13 X while0Ops0_13_writes h

/-- This stretch leaves what it does not write. -/
theorem keep14 (X : Valuation τ sig (Elt Ideal)) (b : Ref sig .tc) (h : b ∉ while0Ops0_14_W) :
    after (while0Ops0_14 (F := Ideal)) X (Proc.devRef .tc b) = X (Proc.devRef .tc b) := after_of_writes_sub while0Ops0_14 X while0Ops0_14_writes h

/-- This stretch leaves what it does not write. -/
theorem keep15 (X : Valuation τ sig (Elt Ideal)) (b : Ref sig .tc) (h : b ∉ while0Ops0_15_W) :
    after (while0Ops0_15 (F := Ideal)) X (Proc.devRef .tc b) = X (Proc.devRef .tc b) := after_of_writes_sub while0Ops0_15 X while0Ops0_15_writes h

/-- This stretch leaves what it does not write. -/
theorem keep16 (X : Valuation τ sig (Elt Ideal)) (b : Ref sig .tc) (h : b ∉ while0Ops0_16_W) :
    after (while0Ops0_16 (F := Ideal)) X (Proc.devRef .tc b) = X (Proc.devRef .tc b) := after_of_writes_sub while0Ops0_16 X while0Ops0_16_writes h

/-- This stretch leaves what it does not write. -/
theorem keep17 (X : Valuation τ sig (Elt Ideal)) (b : Ref sig .tc) (h : b ∉ while0Ops0_17_W) :
    after (while0Ops0_17 (F := Ideal)) X (Proc.devRef .tc b) = X (Proc.devRef .tc b) := after_of_writes_sub while0Ops0_17 X while0Ops0_17_writes h

/-- A one-element slice, read as a scalar, is that element. -/
theorem index_one (x : IVec S2048 32) (start : Fin 1 → Int) (h : S2048.Slices (fun _ => 0) S1) (h' : S1.ShapeCasts S_) (n : Fin 2048)
    (h0 : start 0 = (n.val : Int)) : shapeCast S_ (Host.dynamicSlice S1 x start h) h' = fun _ => x (ix1 n) := by
  have e : Host.dynamicSlice S1 x start h = fun _ => x (ix1 n) := by
    rw [Host.dynamicSlice_eq_extractStridedSlice S1 x start ![n.val] h
      ⟨rfl, fun a => by match a with
        | ⟨0, _⟩ => have := n.isLt; show n.val + 1 ≤ 2048; omega⟩
      (fun a => by match a with
        | ⟨0, _⟩ => exact h0)]
    funext j
    unfold extractStridedSlice
    refine congrArg x (funext fun a => Fin.ext ?_)
    match a with
    | ⟨0, _⟩ =>
      have : (j 0).val < 1 := (j 0).isLt
      show n.val + (j 0).val = n.val; omega
  rw [e]
  rfl

/-- A one-row update leaves the row at its place and the others as they were. -/
theorem upd_row {F : FTy → Type} [FloatOps F] (x : Vec F S2048x8x4x64 .f32) (u : Vec F S1x8x4x64 .f32) (start : Fin 4 → Int)
    (h : S2048x8x4x64.Slices (fun _ => 0) S1x8x4x64) (n : Fin 2048) (h0 : start 0 = (n.val : Int)) (h1 : start 1 = 0) (h2 : start 2 = 0) (h3 : start 3 = 0)
    (t : Fin 2048) (b : Fin 8) (g : Fin 4) (v : Fin 64) :
    Host.dynamicUpdateSlice x u start h (ix4 t b g v) = if t = n then u (ix4 0 b g v) else x (ix4 t b g v) := by
  rw [WordCmp.dynamicUpdateSlice_eq_update x u start h ![n.val, 0, 0, 0]
      ⟨rfl, fun a => by match a with
        | ⟨0, _⟩ => have := n.isLt; show n.val + 1 ≤ 2048; omega
        | ⟨1, _⟩ => exact Nat.le_refl _
        | ⟨2, _⟩ => exact Nat.le_refl _
        | ⟨3, _⟩ => exact Nat.le_refl _⟩
      (fun a => by match a with
        | ⟨0, _⟩ => exact h0
        | ⟨1, _⟩ => exact h1
        | ⟨2, _⟩ => exact h2
        | ⟨3, _⟩ => exact h3)]
  unfold updateSlice
  by_cases e : t = n
  · subst e
    rw [if_pos rfl, dif_pos (fun a => by match a with
      | ⟨0, _⟩ => exact ⟨Nat.le_refl _, Nat.lt_succ_self _⟩
      | ⟨1, _⟩ => exact ⟨Nat.zero_le _, by have := b.isLt; show b.val < 0 + 8; omega⟩
      | ⟨2, _⟩ => exact ⟨Nat.zero_le _, by have := g.isLt; show g.val < 0 + 4; omega⟩
      | ⟨3, _⟩ => exact ⟨Nat.zero_le _, by have := v.isLt; show v.val < 0 + 64; omega⟩)]
    refine congrArg u (funext fun a => Fin.ext ?_)
    match a with
    | ⟨0, _⟩ => exact Nat.sub_self _
    | ⟨1, _⟩ => rfl
    | ⟨2, _⟩ => rfl
    | ⟨3, _⟩ => rfl
  · rw [if_neg e, dif_neg]
    intro hin
    have w := hin 0
    exact e (Fin.ext (Nat.le_antisymm (Nat.lt_succ_iff.mp w.2) w.1))

/-- The row that the trip takes out of this scanned array. -/
theorem sl8 (X : Valuation τ sig (Elt Ideal)) (n : Fin 2048) (hX : X (Proc.devRef .tc main_v28_9) = fun _ => BitVec.ofNat 32 n.val)
    (hI : (X (Proc.devRef .tc main_v28_8) : IVec S2048 32) = fun i => BitVec.ofNat 32 (i 0).val) :
    (after (while0Ops0_8 (F := Ideal)) X (Proc.devRef .tc main_while0b_v78) : IVec S_ 32) = fun _ => BitVec.ofNat 32 n.val := by
  after_results
  funext i
  refine (congrFun (index_one (X (Proc.devRef .tc main_v28_8)) _ sliceFits_S2048_S1 shapeCasts_S1_S_ n ?_) i).trans ?_
  · after_results
    show BitVec.toInt (X (Proc.tc.devRef main_v28_9) _) = _
    rw [hX]
    exact ofNat_toInt n
  · rw [hI]
    rfl

/-- The test for a chunk's first token. -/
theorem first (X : Valuation τ sig (Elt Ideal)) (n : Fin 2048) (hX : (X (Proc.devRef .tc main_while0b_v78) : IVec S_ 32) = fun _ => BitVec.ofNat 32 n.val) :
    (after (while0Ops0_11 (F := Ideal)) (after while0Ops0_10 (after while0Ops0_9 X)) (Proc.devRef .tc main_while0b_v80) : IVec S_ 1) = fun _ => if n.val % 64 = 0 then 1#1 else 0#1 := by
  after_results
  generalize hw : X (Proc.devRef .tc (TRef.of main_while0b_v78 _ _ _).ref) = w
  obtain rfl : w = fun _ => BitVec.ofNat 32 n.val := hw.symm.trans hX
  clear hw hX
  funext i
  obtain rfl : i = fun a => a.elim0 := funext fun a => a.elim0
  clear X
  revert n
  decide +kernel

/-- An entry of a `[8, 4, 64, 64]` array. -/
abbrev r4 (x : Vec Ideal S8x4x64x64 .f32) (b : Fin 8) (h : Fin 4) (v k : Fin 64) : EReal := x (ix4 b h v k)
/-- An entry of a `[8, 4, 64]` array. -/
abbrev r3 (x : Vec Ideal S8x4x64 .f32) (b : Fin 8) (h : Fin 4) (v : Fin 64) : EReal := x (ix3 b h v)

/-- The state a chunk starts from: at a first token, the state of the last chunk's end. -/
theorem st12 (X : Valuation τ sig (Elt Ideal)) (n : Fin 2048) (hX : (X (Proc.devRef .tc main_while0b_v80) : IVec S_ 1) = fun _ => if n.val % 64 = 0 then 1#1 else 0#1)
    (b : Fin 8) (h : Fin 4) (v k : Fin 64) :
    r4 (after (while0Ops0_12 (F := Ideal)) X (Proc.devRef .tc main_while0b_v81)) b h v k
      = if n.val % 64 = 0 then r4 (X (Proc.devRef .tc main_v28_11)) b h v k else r4 (X (Proc.devRef .tc main_v28_10)) b h v k := by
  after_results
  show Scalar.select ((X (Proc.devRef .tc main_while0b_v80) : IVec S_ 1) _) (r4 (X (Proc.devRef .tc main_v28_11)) b h v k) (r4 (X (Proc.devRef .tc main_v28_10)) b h v k) = _
  rw [hX]
  by_cases e : n.val % 64 = 0
  · simp only [if_pos e]; rfl
  · simp only [if_neg e]; rfl

/-- The chunk-end state: at a first token, decayed. -/
theorem st14 (X : Valuation τ sig (Elt Ideal)) (n : Fin 2048) (hX : (X (Proc.devRef .tc main_while0b_v80) : IVec S_ 1) = fun _ => if n.val % 64 = 0 then 1#1 else 0#1)
    (b : Fin 8) (h : Fin 4) (v k : Fin 64) :
    r4 (after (while0Ops0_14 (F := Ideal)) (after while0Ops0_13 X) (Proc.devRef .tc main_while0b_v85)) b h v k
      = if n.val % 64 = 0 then r4 (X (Proc.devRef .tc main_v28_11)) b h v k * r3 (X (Proc.devRef .tc main_while0b_v77)) b h k
        else r4 (X (Proc.devRef .tc main_v28_11)) b h v k := by
  after_results
  have e1 : r4 (mulf (F := Ideal) (φ := .f32) (X (Proc.devRef .tc main_v28_11) : Vec Ideal S8x4x64x64 .f32)
            (broadcastInDim S8x4x64x64 ![0, 1, 2, 3] bcast_S8x4x1x64_S8x4x64x64_0_1_2_3
              (broadcastInDim S8x4x1x64 ![0, 1, 3] bcast_S8x4x64_S8x4x1x64_0_1_3
                (X (Proc.devRef .tc main_while0b_v77) : Vec Ideal S8x4x64 .f32)))) b h v k
        = r4 (X (Proc.devRef .tc main_v28_11)) b h v k * r3 (X (Proc.devRef .tc main_while0b_v77)) b h k := by
    pointwise
  rw [← e1]
  show Scalar.select ((X (Proc.devRef .tc main_while0b_v80) : IVec S_ 1) _) _ (r4 (X (Proc.devRef .tc main_v28_11)) b h v k) = _
  rw [hX]
  by_cases e : n.val % 64 = 0
  · simp only [if_pos e]; rfl
  · simp only [if_neg e]; rfl

/-- The state's step. -/
theorem st15S (X : Valuation τ sig (Elt Ideal)) (b : Fin 8) (h : Fin 4) (v k : Fin 64) :
    r4 (after (while0Ops0_15 (F := Ideal)) X (Proc.devRef .tc main_while0b_v99)) b h v k
      = r4 (X (Proc.devRef .tc main_while0b_v81)) b h v k
        + (∑ x : Fin 64, r4 (X (Proc.devRef .tc main_while0b_v81)) b h v x * -r3 (X (Proc.devRef .tc main_while0b_v70)) b h x)
          * r3 (X (Proc.devRef .tc main_while0b_v73)) b h k
        + r3 (X (Proc.devRef .tc main_while0b_v76)) b h v * r3 (X (Proc.devRef .tc main_while0b_v72)) b h k := by
  after_results
  pointwise

/-- The chunk-end state's step. -/
theorem st15E (X : Valuation τ sig (Elt Ideal)) (b : Fin 8) (h : Fin 4) (v k : Fin 64) :
    r4 (after (while0Ops0_15 (F := Ideal)) X (Proc.devRef .tc main_while0b_v111)) b h v k
      = r4 (X (Proc.devRef .tc main_while0b_v85)) b h v k
        + (∑ x : Fin 64, r4 (X (Proc.devRef .tc main_while0b_v81)) b h v x * -r3 (X (Proc.devRef .tc main_while0b_v70)) b h x)
          * r3 (X (Proc.devRef .tc main_while0b_v75)) b h k
        + r3 (X (Proc.devRef .tc main_while0b_v76)) b h v * r3 (X (Proc.devRef .tc main_while0b_v74)) b h k := by
  after_results
  pointwise

/-- The token's output. -/
theorem st15O (X : Valuation τ sig (Elt Ideal)) (b : Fin 8) (h : Fin 4) (v : Fin 64) :
    r3 (after (while0Ops0_15 (F := Ideal)) X (Proc.devRef .tc main_while0b_v112)) b h v
      = ∑ k : Fin 64, r4 (after (while0Ops0_15 (F := Ideal)) X (Proc.devRef .tc main_while0b_v99)) b h v k
          * r3 (X (Proc.devRef .tc main_while0b_v71)) b h k := by
  refine Eq.trans ?_ (Finset.sum_congr rfl fun k _ => congrArg (· * r3 (X (Proc.devRef .tc main_while0b_v71)) b h k) (st15S X b h v k).symm)
  after_results
  unfold r3 r4
  pointwise

/-- The output's row written. -/
theorem st16 (X : Valuation τ sig (Elt Ideal)) (n : Fin 2048) (hX : X (Proc.devRef .tc main_v28_9) = fun _ => BitVec.ofNat 32 n.val)
    (t : Fin 2048) (b : Fin 8) (h : Fin 4) (v : Fin 64) :
    (after (while0Ops0_16 (F := Ideal)) X (Proc.devRef .tc main_while0b_v113) : Vec Ideal S2048x8x4x64 .f32) (ix4 t b h v)
      = if t = n then r3 (X (Proc.devRef .tc main_while0b_v112)) b h v
        else (X (Proc.devRef .tc main_v28_12) : Vec Ideal S2048x8x4x64 .f32) (ix4 t b h v) := by
  after_results
  refine (upd_row (F := Ideal) (X (Proc.devRef .tc main_v28_12)) (broadcastInDim S1x8x4x64 ![1, 2, 3] bcast_S8x4x64_S1x8x4x64_1_2_3 (X (Proc.devRef .tc main_while0b_v112) : Vec Ideal S8x4x64 .f32)) _ updateFits_S2048x8x4x64_S1x8x4x64 n ?_ ?_ ?_ ?_ t b h v).trans ?_
  · after_results
    show BitVec.toInt (X (Proc.tc.devRef main_v28_9) _) = _
    rw [hX]
    exact ofNat_toInt n
  iterate 3 (after_results; rfl)
  have e1 : broadcastInDim S1x8x4x64 ![1, 2, 3] bcast_S8x4x64_S1x8x4x64_1_2_3 (X (Proc.devRef .tc main_while0b_v112) : Vec Ideal S8x4x64 .f32) (ix4 0 b h v)
      = r3 (X (Proc.devRef .tc main_while0b_v112)) b h v := by pointwise
  rw [e1]

/-- The state carried to the next trip. -/
theorem st17S (X : Valuation τ sig (Elt Ideal)) :
    (after (while0Ops0_17 (F := Ideal)) X (Proc.devRef .tc main_v28_10)) = X (Proc.devRef .tc main_while0b_v99) := by
  after_results
  rfl

/-- The chunk-end state carried to the next trip. -/
theorem st17E (X : Valuation τ sig (Elt Ideal)) :
    (after (while0Ops0_17 (F := Ideal)) X (Proc.devRef .tc main_v28_11)) = X (Proc.devRef .tc main_while0b_v111) := by
  after_results
  rfl

/-- The outputs carried to the next trip. -/
theorem st17O (X : Valuation τ sig (Elt Ideal)) :
    (after (while0Ops0_17 (F := Ideal)) X (Proc.devRef .tc main_v28_12)) = X (Proc.devRef .tc main_while0b_v113) := by
  after_results
  rfl

end Cert.ReferenceIdeal.Scan
end
-- ==== Proof.RefTrip.lean ====
/-
  A whole trip of the reference's loop: what it makes of the two states and of the outputs, and what it leaves.
-/
module
public import proofs.«01_k».proof.Proof.RefStep

@[expose] public section
noncomputable section
namespace Cert.ReferenceIdeal.Scan
open Idealize.ShloMosaic Idealize.ShloMosaic.TcCoe Idealize.ShloMosaic.Tactic Idealize.ShloMosaic.StableHlo
open Cert.ReferenceIdeal Cert.ReferenceIdeal.Value Cert.ReferenceIdeal.Gen

/-- A token's entry of an array that is scanned over. -/
abbrev rn (x : Vec Ideal S2048x8x4x64 .f32) (n : Fin 2048) (b : Fin 8) (h : Fin 4) (k : Fin 64) : EReal := x (ix4 n b h k)

section
variable (X : Valuation τ sig (Elt Ideal)) (n : Fin 2048)

/-- The contents after the eight slices and the token's number. -/
def X8 : Valuation τ sig (Elt Ideal) := after (while0Ops0_8 (F := Ideal)) (after while0Ops0_7 (after while0Ops0_6 (after while0Ops0_5 (after while0Ops0_4 (after while0Ops0_3 (after while0Ops0_2 (after while0Ops0_1 (after while0Ops0 X))))))))
/-- … and the test whether a chunk begins. -/
def X11 : Valuation τ sig (Elt Ideal) := after (while0Ops0_11 (F := Ideal)) (after while0Ops0_10 (after while0Ops0_9 (X8 X)))
/-- … and the choice of the two states. -/
def X14 : Valuation τ sig (Elt Ideal) := after (while0Ops0_14 (F := Ideal)) (after while0Ops0_13 (after while0Ops0_12 (X11 X)))

/-- A trip, cut before the recurrence's operations. -/
theorem trip_eq : afterL (bodyI (F := Ideal)) X = after while0Ops0_17 (after while0Ops0_16 (after while0Ops0_15 (X14 X))) := rfl

/-- A row of the trip, where the recurrence reads it. -/
theorem x14_v70 (hX : X (Proc.devRef .tc main_v28_9) = fun _ => BitVec.ofNat 32 n.val) (b : Fin 8) (h : Fin 4) (k : Fin 64) :
    r3 (X14 X (Proc.devRef .tc main_while0b_v70)) b h k = rn (X (Proc.devRef .tc main_v28_0)) n b h k := by
  unfold X14 X11 X8
  simp (disch := decide +kernel) only [keep1 _ main_while0b_v70, keep2 _ main_while0b_v70, keep3 _ main_while0b_v70, keep4 _ main_while0b_v70, keep5 _ main_while0b_v70, keep6 _ main_while0b_v70, keep7 _ main_while0b_v70, keep8 _ main_while0b_v70, keep9 _ main_while0b_v70, keep10 _ main_while0b_v70, keep11 _ main_while0b_v70, keep12 _ main_while0b_v70, keep13 _ main_while0b_v70, keep14 _ main_while0b_v70]
  refine (congrFun (sl0 _ n ?_) _).trans ?_
  · exact hX
  · rfl

/-- A row of the trip, where the recurrence reads it. -/
theorem x14_v71 (hX : X (Proc.devRef .tc main_v28_9) = fun _ => BitVec.ofNat 32 n.val) (b : Fin 8) (h : Fin 4) (k : Fin 64) :
    r3 (X14 X (Proc.devRef .tc main_while0b_v71)) b h k = rn (X (Proc.devRef .tc main_v28_1)) n b h k := by
  unfold X14 X11 X8
  simp (disch := decide +kernel) only [keep2 _ main_while0b_v71, keep3 _ main_while0b_v71, keep4 _ main_while0b_v71, keep5 _ main_while0b_v71, keep6 _ main_while0b_v71, keep7 _ main_while0b_v71, keep8 _ main_while0b_v71, keep9 _ main_while0b_v71, keep10 _ main_while0b_v71, keep11 _ main_while0b_v71, keep12 _ main_while0b_v71, keep13 _ main_while0b_v71, keep14 _ main_while0b_v71]
  refine (congrFun (sl1 _ n ?_) _).trans ?_
  · simp (disch := decide +kernel) only [keep0 _ main_v28_9]
    exact hX
  · simp (disch := decide +kernel) only [keep0 _ main_v28_1]
    rfl

/-- A row of the trip, where the recurrence reads it. -/
theorem x14_v72 (hX : X (Proc.devRef .tc main_v28_9) = fun _ => BitVec.ofNat 32 n.val) (b : Fin 8) (h : Fin 4) (k : Fin 64) :
    r3 (X14 X (Proc.devRef .tc main_while0b_v72)) b h k = rn (X (Proc.devRef .tc main_v28_2)) n b h k := by
  unfold X14 X11 X8
  simp (disch := decide +kernel) only [keep3 _ main_while0b_v72, keep4 _ main_while0b_v72, keep5 _ main_while0b_v72, keep6 _ main_while0b_v72, keep7 _ main_while0b_v72, keep8 _ main_while0b_v72, keep9 _ main_while0b_v72, keep10 _ main_while0b_v72, keep11 _ main_while0b_v72, keep12 _ main_while0b_v72, keep13 _ main_while0b_v72, keep14 _ main_while0b_v72]
  refine (congrFun (sl2 _ n ?_) _).trans ?_
  · simp (disch := decide +kernel) only [keep0 _ main_v28_9, keep1 _ main_v28_9]
    exact hX
  · simp (disch := decide +kernel) only [keep0 _ main_v28_2, keep1 _ main_v28_2]
    rfl

/-- A row of the trip, where the recurrence reads it. -/
theorem x14_v73 (hX : X (Proc.devRef .tc main_v28_9) = fun _ => BitVec.ofNat 32 n.val) (b : Fin 8) (h : Fin 4) (k : Fin 64) :
    r3 (X14 X (Proc.devRef .tc main_while0b_v73)) b h k = rn (X (Proc.devRef .tc main_v28_3)) n b h k := by
  unfold X14 X11 X8
  simp (disch := decide +kernel) only [keep4 _ main_while0b_v73, keep5 _ main_while0b_v73, keep6 _ main_while0b_v73, keep7 _ main_while0b_v73, keep8 _ main_while0b_v73, keep9 _ main_while0b_v73, keep10 _ main_while0b_v73, keep11 _ main_while0b_v73, keep12 _ main_while0b_v73, keep13 _ main_while0b_v73, keep14 _ main_while0b_v73]
  refine (congrFun (sl3 _ n ?_) _).trans ?_
  · simp (disch := decide +kernel) only [keep0 _ main_v28_9, keep1 _ main_v28_9, keep2 _ main_v28_9]
    exact hX
  · simp (disch := decide +kernel) only [keep0 _ main_v28_3, keep1 _ main_v28_3, keep2 _ main_v28_3]
    rfl

/-- A row of the trip, where the recurrence reads it. -/
theorem x14_v74 (hX : X (Proc.devRef .tc main_v28_9) = fun _ => BitVec.ofNat 32 n.val) (b : Fin 8) (h : Fin 4) (k : Fin 64) :
    r3 (X14 X (Proc.devRef .tc main_while0b_v74)) b h k = rn (X (Proc.devRef .tc main_v28_4)) n b h k := by
  unfold X14 X11 X8
  simp (disch := decide +kernel) only [keep5 _ main_while0b_v74, keep6 _ main_while0b_v74, keep7 _ main_while0b_v74, keep8 _ main_while0b_v74, keep9 _ main_while0b_v74, keep10 _ main_while0b_v74, keep11 _ main_while0b_v74, keep12 _ main_while0b_v74, keep13 _ main_while0b_v74, keep14 _ main_while0b_v74]
  refine (congrFun (sl4 _ n ?_) _).trans ?_
  · simp (disch := decide +kernel) only [keep0 _ main_v28_9, keep1 _ main_v28_9, keep2 _ main_v28_9, keep3 _ main_v28_9]
    exact hX
  · simp (disch := decide +kernel) only [keep0 _ main_v28_4, keep1 _ main_v28_4, keep2 _ main_v28_4, keep3 _ main_v28_4]
    rfl

/-- A row of the trip, where the recurrence reads it. -/
theorem x14_v75 (hX : X (Proc.devRef .tc main_v28_9) = fun _ => BitVec.ofNat 32 n.val) (b : Fin 8) (h : Fin 4) (k : Fin 64) :
    r3 (X14 X (Proc.devRef .tc main_while0b_v75)) b h k = rn (X (Proc.devRef .tc main_v28_5)) n b h k := by
  unfold X14 X11 X8
  simp (disch := decide +kernel) only [keep6 _ main_while0b_v75, keep7 _ main_while0b_v75, keep8 _ main_while0b_v75, keep9 _ main_while0b_v75, keep10 _ main_while0b_v75, keep11 _ main_while0b_v75, keep12 _ main_while0b_v75, keep13 _ main_while0b_v75, keep14 _ main_while0b_v75]
  refine (congrFun (sl5 _ n ?_) _).trans ?_
  · simp (disch := decide +kernel) only [keep0 _ main_v28_9, keep1 _ main_v28_9, keep2 _ main_v28_9, keep3 _ main_v28_9, keep4 _ main_v28_9]
    exact hX
  · simp (disch := decide +kernel) only [keep0 _ main_v28_5, keep1 _ main_v28_5, keep2 _ main_v28_5, keep3 _ main_v28_5, keep4 _ main_v28_5]
    rfl

/-- A row of the trip, where the recurrence reads it. -/
theorem x14_v76 (hX : X (Proc.devRef .tc main_v28_9) = fun _ => BitVec.ofNat 32 n.val) (b : Fin 8) (h : Fin 4) (k : Fin 64) :
    r3 (X14 X (Proc.devRef .tc main_while0b_v76)) b h k = rn (X (Proc.devRef .tc main_v28_6)) n b h k := by
  unfold X14 X11 X8
  simp (disch := decide +kernel) only [keep7 _ main_while0b_v76, keep8 _ main_while0b_v76, keep9 _ main_while0b_v76, keep10 _ main_while0b_v76, keep11 _ main_while0b_v76, keep12 _ main_while0b_v76, keep13 _ main_while0b_v76, keep14 _ main_while0b_v76]
  refine (congrFun (sl6 _ n ?_) _).trans ?_
  · simp (disch := decide +kernel) only [keep0 _ main_v28_9, keep1 _ main_v28_9, keep2 _ main_v28_9, keep3 _ main_v28_9, keep4 _ main_v28_9, keep5 _ main_v28_9]
    exact hX
  · simp (disch := decide +kernel) only [keep0 _ main_v28_6, keep1 _ main_v28_6, keep2 _ main_v28_6, keep3 _ main_v28_6, keep4 _ main_v28_6, keep5 _ main_v28_6]
    rfl

/-- A row of the trip, where the recurrence reads it. -/
theorem x14_v77 (hX : X (Proc.devRef .tc main_v28_9) = fun _ => BitVec.ofNat 32 n.val) (b : Fin 8) (h : Fin 4) (k : Fin 64) :
    r3 (X14 X (Proc.devRef .tc main_while0b_v77)) b h k = rn (X (Proc.devRef .tc main_v28_7)) n b h k := by
  unfold X14 X11 X8
  simp (disch := decide +kernel) only [keep8 _ main_while0b_v77, keep9 _ main_while0b_v77, keep10 _ main_while0b_v77, keep11 _ main_while0b_v77, keep12 _ main_while0b_v77, keep13 _ main_while0b_v77, keep14 _ main_while0b_v77]
  refine (congrFun (sl7 _ n ?_) _).trans ?_
  · simp (disch := decide +kernel) only [keep0 _ main_v28_9, keep1 _ main_v28_9, keep2 _ main_v28_9, keep3 _ main_v28_9, keep4 _ main_v28_9, keep5 _ main_v28_9, keep6 _ main_v28_9]
    exact hX
  · simp (disch := decide +kernel) only [keep0 _ main_v28_7, keep1 _ main_v28_7, keep2 _ main_v28_7, keep3 _ main_v28_7, keep4 _ main_v28_7, keep5 _ main_v28_7, keep6 _ main_v28_7]
    rfl

/-- The first-token test, as the recurrence reads it. -/
theorem x11_v80 (hX : X (Proc.devRef .tc main_v28_9) = fun _ => BitVec.ofNat 32 n.val)
    (hI : (X (Proc.devRef .tc main_v28_8) : IVec S2048 32) = fun i => BitVec.ofNat 32 (i 0).val) :
    (X11 X (Proc.devRef .tc main_while0b_v80) : IVec S_ 1) = fun _ => if n.val % 64 = 0 then 1#1 else 0#1 := by
  unfold X11 X8
  refine first _ n (sl8 _ n ?_ ?_)
  · simp (disch := decide +kernel) only [keep0 _ main_v28_9, keep1 _ main_v28_9, keep2 _ main_v28_9, keep3 _ main_v28_9, keep4 _ main_v28_9, keep5 _ main_v28_9, keep6 _ main_v28_9, keep7 _ main_v28_9]
    exact hX
  · simp (disch := decide +kernel) only [keep0 _ main_v28_8, keep1 _ main_v28_8, keep2 _ main_v28_8, keep3 _ main_v28_8, keep4 _ main_v28_8, keep5 _ main_v28_8, keep6 _ main_v28_8, keep7 _ main_v28_8]
    exact hI

/-- The state is untouched before the recurrence. -/
theorem x11_S : X11 X (Proc.devRef .tc main_v28_10) = X (Proc.devRef .tc main_v28_10) := by
  unfold X11 X8
  simp (disch := decide +kernel) only [keep0 _ main_v28_10, keep1 _ main_v28_10, keep2 _ main_v28_10, keep3 _ main_v28_10, keep4 _ main_v28_10, keep5 _ main_v28_10, keep6 _ main_v28_10, keep7 _ main_v28_10, keep8 _ main_v28_10, keep9 _ main_v28_10, keep10 _ main_v28_10, keep11 _ main_v28_10]

/-- The chunk-end state is untouched before the recurrence. -/
theorem x11_E : X11 X (Proc.devRef .tc main_v28_11) = X (Proc.devRef .tc main_v28_11) := by
  unfold X11 X8
  simp (disch := decide +kernel) only [keep0 _ main_v28_11, keep1 _ main_v28_11, keep2 _ main_v28_11, keep3 _ main_v28_11, keep4 _ main_v28_11, keep5 _ main_v28_11, keep6 _ main_v28_11, keep7 _ main_v28_11, keep8 _ main_v28_11, keep9 _ main_v28_11, keep10 _ main_v28_11, keep11 _ main_v28_11]

/-- The state that the step starts from. -/
theorem x14_S (hX : X (Proc.devRef .tc main_v28_9) = fun _ => BitVec.ofNat 32 n.val)
    (hI : (X (Proc.devRef .tc main_v28_8) : IVec S2048 32) = fun i => BitVec.ofNat 32 (i 0).val) (b : Fin 8) (h : Fin 4) (v k : Fin 64) :
    r4 (X14 X (Proc.devRef .tc main_while0b_v81)) b h v k
      = if n.val % 64 = 0 then r4 (X (Proc.devRef .tc main_v28_11)) b h v k else r4 (X (Proc.devRef .tc main_v28_10)) b h v k := by
  unfold X14
  simp (disch := decide +kernel) only [keep13 _ main_while0b_v81, keep14 _ main_while0b_v81]
  have e := st12 (X11 X) n (x11_v80 X n hX hI) b h v k
  rw [x11_S, x11_E] at e
  exact e

/-- The chunk-end state that the step starts from. -/
theorem x14_E (hX : X (Proc.devRef .tc main_v28_9) = fun _ => BitVec.ofNat 32 n.val)
    (hI : (X (Proc.devRef .tc main_v28_8) : IVec S2048 32) = fun i => BitVec.ofNat 32 (i 0).val) (b : Fin 8) (h : Fin 4) (v k : Fin 64) :
    r4 (X14 X (Proc.devRef .tc main_while0b_v85)) b h v k
      = if n.val % 64 = 0 then r4 (X (Proc.devRef .tc main_v28_11)) b h v k * rn (X (Proc.devRef .tc main_v28_7)) n b h k
        else r4 (X (Proc.devRef .tc main_v28_11)) b h v k := by
  have e := st14 (after while0Ops0_12 (X11 X)) n (by
    simp (disch := decide +kernel) only [keep12 _ main_while0b_v80]
    exact x11_v80 X n hX hI) b h v k
  have p := x14_v77 X n hX b h k
  unfold X14 at p
  simp (disch := decide +kernel) only [keep12 _ main_v28_11, keep13 _ main_v28_11, keep14 _ main_v28_11, keep12 _ main_while0b_v77, keep13 _ main_while0b_v77, keep14 _ main_while0b_v77] at p e
  rw [x11_E, p] at e
  exact e

/-- The state after a trip. -/
theorem trip_S (hX : X (Proc.devRef .tc main_v28_9) = fun _ => BitVec.ofNat 32 n.val)
    (hI : (X (Proc.devRef .tc main_v28_8) : IVec S2048 32) = fun i => BitVec.ofNat 32 (i 0).val) (b : Fin 8) (h : Fin 4) (v k : Fin 64) :
    r4 (afterL (bodyI (F := Ideal)) X (Proc.devRef .tc main_v28_10)) b h v k
      = r4 (X14 X (Proc.devRef .tc main_while0b_v81)) b h v k
        + (∑ x : Fin 64, r4 (X14 X (Proc.devRef .tc main_while0b_v81)) b h v x * -rn (X (Proc.devRef .tc main_v28_0)) n b h x)
          * rn (X (Proc.devRef .tc main_v28_3)) n b h k
        + rn (X (Proc.devRef .tc main_v28_6)) n b h v * rn (X (Proc.devRef .tc main_v28_2)) n b h k := by
  rw [trip_eq, st17S]
  simp (disch := decide +kernel) only [keep16 _ main_while0b_v99]
  rw [st15S, x14_v73 X n hX, x14_v76 X n hX, x14_v72 X n hX]
  simp only [x14_v70 X n hX]

/-- The chunk-end state after a trip. -/
theorem trip_E (hX : X (Proc.devRef .tc main_v28_9) = fun _ => BitVec.ofNat 32 n.val)
    (hI : (X (Proc.devRef .tc main_v28_8) : IVec S2048 32) = fun i => BitVec.ofNat 32 (i 0).val) (b : Fin 8) (h : Fin 4) (v k : Fin 64) :
    r4 (afterL (bodyI (F := Ideal)) X (Proc.devRef .tc main_v28_11)) b h v k
      = r4 (X14 X (Proc.devRef .tc main_while0b_v85)) b h v k
        + (∑ x : Fin 64, r4 (X14 X (Proc.devRef .tc main_while0b_v81)) b h v x * -rn (X (Proc.devRef .tc main_v28_0)) n b h x)
          * rn (X (Proc.devRef .tc main_v28_5)) n b h k
        + rn (X (Proc.devRef .tc main_v28_6)) n b h v * rn (X (Proc.devRef .tc main_v28_4)) n b h k := by
  rw [trip_eq, st17E]
  simp (disch := decide +kernel) only [keep16 _ main_while0b_v111]
  rw [st15E, x14_v75 X n hX, x14_v76 X n hX, x14_v74 X n hX]
  simp only [x14_v70 X n hX]

/-- The outputs after a trip. -/
theorem trip_O (hX : X (Proc.devRef .tc main_v28_9) = fun _ => BitVec.ofNat 32 n.val)
    (t : Fin 2048) (b : Fin 8) (h : Fin 4) (v : Fin 64) :
    rn (afterL (bodyI (F := Ideal)) X (Proc.devRef .tc main_v28_12)) t b h v
      = if t = n then ∑ k : Fin 64, r4 (afterL (bodyI (F := Ideal)) X (Proc.devRef .tc main_v28_10)) b h v k * rn (X (Proc.devRef .tc main_v28_1)) n b h k
        else rn (X (Proc.devRef .tc main_v28_12)) t b h v := by
  rw [trip_eq, st17O, st17S]
  refine (st16 _ n ?_ t b h v).trans ?_
  · unfold X14 X11 X8
    simp (disch := decide +kernel) only [keep0 _ main_v28_9, keep1 _ main_v28_9, keep2 _ main_v28_9, keep3 _ main_v28_9, keep4 _ main_v28_9, keep5 _ main_v28_9, keep6 _ main_v28_9, keep7 _ main_v28_9, keep8 _ main_v28_9, keep9 _ main_v28_9, keep10 _ main_v28_9, keep11 _ main_v28_9, keep12 _ main_v28_9, keep13 _ main_v28_9, keep14 _ main_v28_9, keep15 _ main_v28_9]
    exact hX
  have e : after (while0Ops0_15 (F := Ideal)) (X14 X) (Proc.devRef .tc main_v28_12) = X (Proc.devRef .tc main_v28_12) := by
    unfold X14 X11 X8
    simp (disch := decide +kernel) only [keep0 _ main_v28_12, keep1 _ main_v28_12, keep2 _ main_v28_12, keep3 _ main_v28_12, keep4 _ main_v28_12, keep5 _ main_v28_12, keep6 _ main_v28_12, keep7 _ main_v28_12, keep8 _ main_v28_12, keep9 _ main_v28_12, keep10 _ main_v28_12, keep11 _ main_v28_12, keep12 _ main_v28_12, keep13 _ main_v28_12, keep14 _ main_v28_12, keep15 _ main_v28_12]
  rw [e, st15O]
  simp (disch := decide +kernel) only [keep16 _ main_while0b_v99]
  simp only [x14_v71 X n hX]

/-- What the trip leaves alone. -/
theorem trip_keep (r : Ref sig .tc) (hr : ∀ W ∈ [while0Ops0_W, while0Ops0_1_W, while0Ops0_2_W, while0Ops0_3_W, while0Ops0_4_W, while0Ops0_5_W, while0Ops0_6_W, while0Ops0_7_W, while0Ops0_8_W, while0Ops0_9_W, while0Ops0_10_W, while0Ops0_11_W, while0Ops0_12_W, while0Ops0_13_W, while0Ops0_14_W, while0Ops0_15_W, while0Ops0_16_W, while0Ops0_17_W], r ∉ W) :
    afterL (bodyI (F := Ideal)) X (Proc.devRef .tc r) = X (Proc.devRef .tc r) := by
  rw [trip_eq]
  unfold X14 X11 X8
  rw [keep17 _ _ (hr _ (by simp)), keep16 _ _ (hr _ (by simp)), keep15 _ _ (hr _ (by simp)), keep14 _ _ (hr _ (by simp)), keep13 _ _ (hr _ (by simp)), keep12 _ _ (hr _ (by simp)), keep11 _ _ (hr _ (by simp)), keep10 _ _ (hr _ (by simp)), keep9 _ _ (hr _ (by simp)), keep8 _ _ (hr _ (by simp)), keep7 _ _ (hr _ (by simp)), keep6 _ _ (hr _ (by simp)), keep5 _ _ (hr _ (by simp)), keep4 _ _ (hr _ (by simp)), keep3 _ _ (hr _ (by simp)), keep2 _ _ (hr _ (by simp)), keep1 _ _ (hr _ (by simp)), keep0 _ _ (hr _ (by simp))]

end
end Cert.ReferenceIdeal.Scan
end
-- ==== Proof.ScanRefLoop.lean ====
/-
  The reference's scan, read back: the arrays it scans over at their entries, the invariant of its loop, and the two
  results its last operations make of the outputs and the final state.
-/
module
public import proofs.«01_k».proof.Proof.RefTrip
public import proofs.«01_k».proof.Proof.ScanData

@[expose] public section
noncomputable section
namespace Cert.ReferenceIdeal.Scan
open Idealize.ShloMosaic Idealize.ShloMosaic.TcCoe Idealize.ShloMosaic.Tactic Idealize.ShloMosaic.StableHlo
open Cert.ReferenceIdeal Cert.ReferenceIdeal.Value Cert.ReferenceIdeal.Gen
open Cert.KernelIdeal.Scan (Ins Toks tk ck ixh hd ps tk_val)

variable (m : (ℓ : Loc nD τ sig) → Buf (Elt Ideal) ℓ) (c : Dev nD) (X : Ins)

/-- The reference's operands hold the real arrays `X`. -/
structure Holds : Prop where
  kh : ∀ b n j, (m ((c : Thread nD τ).loc main_arg0) : Vec Ideal S8x2048x256 .bf16) (ix3 b n j) = ((X.kh b n j : ℝ) : EReal)
  rh : ∀ b n j, (m ((c : Thread nD τ).loc main_arg1) : Vec Ideal S8x2048x256 .bf16) (ix3 b n j) = ((X.rh b n j : ℝ) : EReal)
  kb : ∀ b n j, (m ((c : Thread nD τ).loc main_arg2) : Vec Ideal S8x2048x256 .bf16) (ix3 b n j) = ((X.kb b n j : ℝ) : EReal)
  bb : ∀ b n j, (m ((c : Thread nD τ).loc main_arg3) : Vec Ideal S8x2048x256 .bf16) (ix3 b n j) = ((X.bb b n j : ℝ) : EReal)
  kbe : ∀ b n j, (m ((c : Thread nD τ).loc main_arg4) : Vec Ideal S8x2048x256 .bf16) (ix3 b n j) = ((X.kbe b n j : ℝ) : EReal)
  bbe : ∀ b n j, (m ((c : Thread nD τ).loc main_arg5) : Vec Ideal S8x2048x256 .bf16) (ix3 b n j) = ((X.bbe b n j : ℝ) : EReal)
  v : ∀ b n j, (m ((c : Thread nD τ).loc main_arg6) : Vec Ideal S8x2048x256 .bf16) (ix3 b n j) = ((X.v b n j : ℝ) : EReal)
  pe : ∀ b n j, (m ((c : Thread nD τ).loc main_arg7) : Vec Ideal S8x32x256 .f32) (ix3 b n j) = ((X.pe b n j : ℝ) : EReal)

/-- An array the loop starts with, at an entry. -/
theorem entry0 (n : Fin 2048) (b : Fin 8) (h : Fin 4) (k : Fin 64) :
    rn (entryContents preI m c (Proc.devRef .tc main_v28_0)) n b h k = (m ((c : Thread nD τ).loc main_arg0) : Vec Ideal S8x2048x256 .bf16) (ix3 b n (ixh h k)) := by
  show rn (after (hostOps0 (F := Ideal)) (launchContents m c) (Proc.devRef .tc main_v28_0)) n b h k = _
  after_results
  unfold rn
  simp only [id_eq]
  pointwise
  rfl

/-- An array the loop starts with, at an entry. -/
theorem entry1 (n : Fin 2048) (b : Fin 8) (h : Fin 4) (k : Fin 64) :
    rn (entryContents preI m c (Proc.devRef .tc main_v28_1)) n b h k = (m ((c : Thread nD τ).loc main_arg1) : Vec Ideal S8x2048x256 .bf16) (ix3 b n (ixh h k)) := by
  show rn (after (hostOps0 (F := Ideal)) (launchContents m c) (Proc.devRef .tc main_v28_1)) n b h k = _
  after_results
  unfold rn
  simp only [id_eq]
  pointwise
  rfl

/-- An array the loop starts with, at an entry. -/
theorem entry2 (n : Fin 2048) (b : Fin 8) (h : Fin 4) (k : Fin 64) :
    rn (entryContents preI m c (Proc.devRef .tc main_v28_2)) n b h k = (m ((c : Thread nD τ).loc main_arg2) : Vec Ideal S8x2048x256 .bf16) (ix3 b n (ixh h k)) := by
  show rn (after (hostOps0 (F := Ideal)) (launchContents m c) (Proc.devRef .tc main_v28_2)) n b h k = _
  after_results
  unfold rn
  simp only [id_eq]
  pointwise
  rfl

/-- An array the loop starts with, at an entry. -/
theorem entry3 (n : Fin 2048) (b : Fin 8) (h : Fin 4) (k : Fin 64) :
    rn (entryContents preI m c (Proc.devRef .tc main_v28_3)) n b h k = (m ((c : Thread nD τ).loc main_arg3) : Vec Ideal S8x2048x256 .bf16) (ix3 b n (ixh h k)) := by
  show rn (after (hostOps0 (F := Ideal)) (launchContents m c) (Proc.devRef .tc main_v28_3)) n b h k = _
  after_results
  unfold rn
  simp only [id_eq]
  pointwise
  rfl

/-- An array the loop starts with, at an entry. -/
theorem entry4 (n : Fin 2048) (b : Fin 8) (h : Fin 4) (k : Fin 64) :
    rn (entryContents preI m c (Proc.devRef .tc main_v28_4)) n b h k = (m ((c : Thread nD τ).loc main_arg4) : Vec Ideal S8x2048x256 .bf16) (ix3 b n (ixh h k)) := by
  show rn (after (hostOps0 (F := Ideal)) (launchContents m c) (Proc.devRef .tc main_v28_4)) n b h k = _
  after_results
  unfold rn
  simp only [id_eq]
  pointwise
  rfl

/-- An array the loop starts with, at an entry. -/
theorem entry5 (n : Fin 2048) (b : Fin 8) (h : Fin 4) (k : Fin 64) :
    rn (entryContents preI m c (Proc.devRef .tc main_v28_5)) n b h k = (m ((c : Thread nD τ).loc main_arg5) : Vec Ideal S8x2048x256 .bf16) (ix3 b n (ixh h k)) := by
  show rn (after (hostOps0 (F := Ideal)) (launchContents m c) (Proc.devRef .tc main_v28_5)) n b h k = _
  after_results
  unfold rn
  simp only [id_eq]
  pointwise
  rfl

/-- An array the loop starts with, at an entry. -/
theorem entry6 (n : Fin 2048) (b : Fin 8) (h : Fin 4) (k : Fin 64) :
    rn (entryContents preI m c (Proc.devRef .tc main_v28_6)) n b h k = (m ((c : Thread nD τ).loc main_arg6) : Vec Ideal S8x2048x256 .bf16) (ix3 b n (ixh h k)) := by
  show rn (after (hostOps0 (F := Ideal)) (launchContents m c) (Proc.devRef .tc main_v28_6)) n b h k = _
  after_results
  unfold rn
  simp only [id_eq]
  pointwise
  rfl

/-- An array the loop starts with, at an entry. -/
theorem entry7 (n : Fin 2048) (b : Fin 8) (h : Fin 4) (k : Fin 64) :
    rn (entryContents preI m c (Proc.devRef .tc main_v28_7)) n b h k = (m ((c : Thread nD τ).loc main_arg7) : Vec Ideal S8x32x256 .f32) (ix3 b (ck n.val) (ixh h k)) := by
  show rn (after (hostOps0 (F := Ideal)) (launchContents m c) (Proc.devRef .tc main_v28_7)) n b h k = _
  after_results
  unfold rn
  simp only [id_eq]
  pointwise
  refine congrArg (m ((c : Thread nD τ).loc main_arg7) : Vec Ideal S8x32x256 .f32) ?_
  refine congrArg (fun t : Fin 32 => (ix3 b t (ixh h k) : S8x32x256.Idx)) (Fin.ext ?_)
  show n.val / 64 = n.val / 64 % 32
  have := n.isLt
  omega

/-- An array the loop starts with, at an entry. -/
theorem entry8 : (entryContents preI m c (Proc.devRef .tc main_v28_8) : IVec S2048 32) = fun i => BitVec.ofNat 32 (i 0).val := by
  show after (hostOps0 (F := Ideal)) (launchContents m c) (Proc.devRef .tc main_v28_8) = _
  after_results
  rfl

/-- An array the loop starts with, at an entry. -/
theorem entry10 (b : Fin 8) (h : Fin 4) (v k : Fin 64) : r4 (entryContents preI m c (Proc.devRef .tc main_v28_10)) b h v k = 0 := by
  show r4 (after (hostOps0 (F := Ideal)) (launchContents m c) (Proc.devRef .tc main_v28_10)) b h v k = _
  after_results
  unfold r4
  simp only [id_eq]
  pointwise

/-- An array the loop starts with, at an entry. -/
theorem entry11 (b : Fin 8) (h : Fin 4) (v k : Fin 64) : r4 (entryContents preI m c (Proc.devRef .tc main_v28_11)) b h v k = 0 := by
  show r4 (after (hostOps0 (F := Ideal)) (launchContents m c) (Proc.devRef .tc main_v28_11)) b h v k = _
  after_results
  unfold r4
  simp only [id_eq]
  pointwise

/-- What the loop only reads. -/
theorem kept (r : Ref sig .tc) (h0 : r ∉ condOps_W) (hr : ∀ W ∈ [while0Ops0_W, while0Ops0_1_W, while0Ops0_2_W, while0Ops0_3_W, while0Ops0_4_W, while0Ops0_5_W, while0Ops0_6_W, while0Ops0_7_W, while0Ops0_8_W, while0Ops0_9_W, while0Ops0_10_W, while0Ops0_11_W, while0Ops0_12_W, while0Ops0_13_W, while0Ops0_14_W, while0Ops0_15_W, while0Ops0_16_W, while0Ops0_17_W], r ∉ W) :
    ∀ k, atK m k c (Proc.devRef .tc r) = entryContents preI m c (Proc.devRef .tc r)
  | 0 => rfl
  | k + 1 => by
    show afterL (bodyI (F := Ideal)) (after condOps (atK m k c)) (Proc.devRef .tc r) = _
    rw [trip_keep _ r hr, after_of_writes_sub condOps _ condOps_writes h0]
    exact kept r h0 hr k

/-- The contents a trip's body starts from. -/
def at' (k : Nat) : Valuation τ sig (Elt Ideal) := after condOps (atK m k c)

/-- The counter, before a trip's body. -/
theorem at'_ctr (n : Fin 2048) : at' m c n.val (Proc.devRef .tc main_v28_9) = fun _ => BitVec.ofNat 32 n.val := by
  unfold at'
  rw [ctr_cond, atK_ctr]
  funext _
  show (0#32 + BitVec.ofNat 32 n.val * 1#32) = _
  simp

/-- The condition's stretch leaves the rest. -/
theorem at'_keep (k : Nat) (r : Ref sig .tc) (h0 : r ∉ condOps_W) : at' m c k (Proc.devRef .tc r) = atK m k c (Proc.devRef .tc r) :=
  after_of_writes_sub condOps _ condOps_writes h0

/-- An array the loop scans, before a trip's body. -/
theorem at'_0 (n : Fin 2048) (k : Nat) (b : Fin 8) (h : Fin 4) (j : Fin 64) (H : Holds m c X) :
    rn (at' m c k (Proc.devRef .tc main_v28_0)) n b h j = (((X.toks b h).kh n.val j : ℝ) : EReal) := by
  rw [at'_keep m c k _ (by decide +kernel), kept m c main_v28_0 (by decide +kernel) (by decide +kernel) k, entry0, H.kh]
  unfold Ins.toks
  simp only [tk_val]

/-- An array the loop scans, before a trip's body. -/
theorem at'_1 (n : Fin 2048) (k : Nat) (b : Fin 8) (h : Fin 4) (j : Fin 64) (H : Holds m c X) :
    rn (at' m c k (Proc.devRef .tc main_v28_1)) n b h j = (((X.toks b h).rh n.val j : ℝ) : EReal) := by
  rw [at'_keep m c k _ (by decide +kernel), kept m c main_v28_1 (by decide +kernel) (by decide +kernel) k, entry1, H.rh]
  unfold Ins.toks
  simp only [tk_val]

/-- An array the loop scans, before a trip's body. -/
theorem at'_2 (n : Fin 2048) (k : Nat) (b : Fin 8) (h : Fin 4) (j : Fin 64) (H : Holds m c X) :
    rn (at' m c k (Proc.devRef .tc main_v28_2)) n b h j = (((X.toks b h).kb n.val j : ℝ) : EReal) := by
  rw [at'_keep m c k _ (by decide +kernel), kept m c main_v28_2 (by decide +kernel) (by decide +kernel) k, entry2, H.kb]
  unfold Ins.toks
  simp only [tk_val]

/-- An array the loop scans, before a trip's body. -/
theorem at'_3 (n : Fin 2048) (k : Nat) (b : Fin 8) (h : Fin 4) (j : Fin 64) (H : Holds m c X) :
    rn (at' m c k (Proc.devRef .tc main_v28_3)) n b h j = (((X.toks b h).bb n.val j : ℝ) : EReal) := by
  rw [at'_keep m c k _ (by decide +kernel), kept m c main_v28_3 (by decide +kernel) (by decide +kernel) k, entry3, H.bb]
  unfold Ins.toks
  simp only [tk_val]

/-- An array the loop scans, before a trip's body. -/
theorem at'_4 (n : Fin 2048) (k : Nat) (b : Fin 8) (h : Fin 4) (j : Fin 64) (H : Holds m c X) :
    rn (at' m c k (Proc.devRef .tc main_v28_4)) n b h j = (((X.toks b h).kbe n.val j : ℝ) : EReal) := by
  rw [at'_keep m c k _ (by decide +kernel), kept m c main_v28_4 (by decide +kernel) (by decide +kernel) k, entry4, H.kbe]
  unfold Ins.toks
  simp only [tk_val]

/-- An array the loop scans, before a trip's body. -/
theorem at'_5 (n : Fin 2048) (k : Nat) (b : Fin 8) (h : Fin 4) (j : Fin 64) (H : Holds m c X) :
    rn (at' m c k (Proc.devRef .tc main_v28_5)) n b h j = (((X.toks b h).bbe n.val j : ℝ) : EReal) := by
  rw [at'_keep m c k _ (by decide +kernel), kept m c main_v28_5 (by decide +kernel) (by decide +kernel) k, entry5, H.bbe]
  unfold Ins.toks
  simp only [tk_val]

/-- An array the loop scans, before a trip's body. -/
theorem at'_6 (n : Fin 2048) (k : Nat) (b : Fin 8) (h : Fin 4) (j : Fin 64) (H : Holds m c X) :
    rn (at' m c k (Proc.devRef .tc main_v28_6)) n b h j = (((X.toks b h).v n.val j : ℝ) : EReal) := by
  rw [at'_keep m c k _ (by decide +kernel), kept m c main_v28_6 (by decide +kernel) (by decide +kernel) k, entry6, H.v]
  unfold Ins.toks
  simp only [tk_val]

/-- An array the loop scans, before a trip's body. -/
theorem at'_7 (n : Fin 2048) (k : Nat) (b : Fin 8) (h : Fin 4) (j : Fin 64) (H : Holds m c X) :
    rn (at' m c k (Proc.devRef .tc main_v28_7)) n b h j = (((X.toks b h).pe n.val j : ℝ) : EReal) := by
  rw [at'_keep m c k _ (by decide +kernel), kept m c main_v28_7 (by decide +kernel) (by decide +kernel) k, entry7, H.pe]
  unfold Ins.toks
  simp only [tk_val]

/-- An array the loop scans, before a trip's body. -/
theorem at'_8 (k : Nat) : (at' m c k (Proc.devRef .tc main_v28_8) : IVec S2048 32) = fun i => BitVec.ofNat 32 (i 0).val := by
  rw [at'_keep m c k _ (by decide +kernel), kept m c main_v28_8 (by decide +kernel) (by decide +kernel) k, entry8]

variable (H : Holds m c X)
include H

/-- The two states after `k` tokens. -/
theorem states : ∀ k, k ≤ 2048 → ∀ (b : Fin 8) (h : Fin 4) (v j : Fin 64),
    r4 (atK m k c (Proc.devRef .tc main_v28_10)) b h v j = ((((X.toks b h).seq k).1 j v : ℝ) : EReal)
    ∧ r4 (atK m k c (Proc.devRef .tc main_v28_11)) b h v j = ((((X.toks b h).seq k).2 j v : ℝ) : EReal)
  | 0, _, b, h, v, j => ⟨entry10 m c b h v j, entry11 m c b h v j⟩
  | k + 1, hk, b, h, v, j => by
    have ih := states k (by omega)
    have e10 : at' m c k (Proc.devRef .tc main_v28_10) = atK m k c (Proc.devRef .tc main_v28_10) := at'_keep m c k _ (by decide +kernel)
    have e11 : at' m c k (Proc.devRef .tc main_v28_11) = atK m k c (Proc.devRef .tc main_v28_11) := at'_keep m c k _ (by decide +kernel)
    have hc := at'_ctr m c ⟨k, hk⟩
    have hi := at'_8 m c k
    have pS : ∀ x, r4 (X14 (at' m c k) (Proc.devRef .tc main_while0b_v81)) b h v x
        = ((((X.toks b h).pre k ((X.toks b h).seq k)).1 x v : ℝ) : EReal) := fun x => by
      rw [x14_S (at' m c k) ⟨k, hk⟩ hc hi b h v x, e10, e11, (ih b h v x).1, (ih b h v x).2]
      unfold Toks.pre
      by_cases e : k % 64 = 0
      · simp only [if_pos e]
      · simp only [if_neg e]
    have pE : r4 (X14 (at' m c k) (Proc.devRef .tc main_while0b_v85)) b h v j
        = ((((X.toks b h).pre k ((X.toks b h).seq k)).2 j v : ℝ) : EReal) := by
      rw [x14_E (at' m c k) ⟨k, hk⟩ hc hi b h v j, e11, (ih b h v j).2, at'_7 m c X ⟨k, hk⟩ k b h j H]
      unfold Toks.pre
      by_cases e : k % 64 = 0
      · simp only [if_pos e, EReal.coe_mul]
      · simp only [if_neg e]
    have a := trip_S (at' m c k) ⟨k, hk⟩ hc hi b h v j
    have d := trip_E (at' m c k) ⟨k, hk⟩ hc hi b h v j
    simp only [pS, pE, at'_0 m c X ⟨k, hk⟩ k b h _ H, at'_2 m c X ⟨k, hk⟩ k b h _ H, at'_3 m c X ⟨k, hk⟩ k b h _ H, at'_4 m c X ⟨k, hk⟩ k b h _ H,
      at'_5 m c X ⟨k, hk⟩ k b h _ H, at'_6 m c X ⟨k, hk⟩ k b h _ H, ← EReal.coe_neg, ← EReal.coe_mul, ← Cert.KernelIdeal.Scan.coe_sum, ← EReal.coe_add] at a d
    exact ⟨a, d⟩

/-- The outputs of the tokens so far. -/
theorem outs : ∀ k, k ≤ 2048 → ∀ (t : Fin 2048) (b : Fin 8) (h : Fin 4) (v : Fin 64), t.val < k →
    rn (atK m k c (Proc.devRef .tc main_v28_12)) t b h v = (((X.toks b h).out t.val v : ℝ) : EReal)
  | 0, _, t, _, _, _, ht => absurd ht (Nat.not_lt_zero _)
  | k + 1, hk, t, b, h, v, ht => by
    have e12 : at' m c k (Proc.devRef .tc main_v28_12) = atK m k c (Proc.devRef .tc main_v28_12) := at'_keep m c k _ (by decide +kernel)
    have a := trip_O (at' m c k) ⟨k, hk⟩ (at'_ctr m c ⟨k, hk⟩) t b h v
    refine a.trans ?_
    by_cases e : t = ⟨k, hk⟩
    · rw [if_pos e]
      subst e
      have s : ∀ x, r4 (afterL (bodyI (F := Ideal)) (at' m c k) (Proc.devRef .tc main_v28_10)) b h v x = ((((X.toks b h).seq (k + 1)).1 x v : ℝ) : EReal) :=
        fun x => (states m c X H (k + 1) hk b h v x).1
      simp only [s, at'_1 m c X ⟨k, hk⟩ k b h _ H, ← EReal.coe_mul, ← Cert.KernelIdeal.Scan.coe_sum]
      rfl
    · rw [if_neg e, e12]
      refine outs k (by omega) t b h v ?_
      have : t.val ≠ k := fun h' => e (Fin.ext h')
      omega

end Cert.ReferenceIdeal.Scan
end
-- ==== Proof.RefRun.lean ====
/-
  The run of the reference with its counters: the library's loop kit over the stretches before the loop, the loop and
  the stretches after it, read at the end for the buffers and for the semaphores both.
-/
module
public import proofs.«01_k».proof.Proof.Gen.ReferenceIdeal.Run
public import Idealize.ShloMosaic.Lib.Pointwise

@[expose] public section
set_option maxRecDepth 1332
noncomputable section
namespace Cert.ReferenceIdeal.Scan
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ReferenceIdeal Cert.ReferenceIdeal.Value Cert.ReferenceIdeal.Gen

local notation "𝕄" => MT nD τ sig Unit (Elt Ideal) ℕ (Option PUnit) ℕ

/-- No pipeline, so nothing is admitted … -/
abbrev noAdm : (p : Fin 0) → ((pcfgs (F := Ideal)) p).Adm := fun p => p.elim0
/-- … and there is no ticket. -/
abbrev noTk : Fin 0 → Pipeline.Ticket (Ix := Unit) (Name := ℕ) (U := Option PUnit) (Lvl := ℕ) (nD := nD) (τ := τ) (pcfgs (F := Ideal)) noAdm := fun j => j.elim0
/-- No semaphore is levelled. -/
abbrev noL : GSem nD τ sig → Finset Unit := fun _ => ∅
/-- … at any level. -/
abbrev noLv : GSem nD τ sig → Unit → ℕ := fun _ _ => 0

/-- Nothing is numbered twice, there being nothing. -/
theorem noCell : Function.Injective (Pipeline.cellOf (nD := nD) (τ := τ) (Pipeline.pin (pcfgs (F := Ideal)) noAdm)) := fun k => k.1.elim0

/-- What rides along: the core owes nothing. -/
abbrev owed (c : Dev nD) : sProp 𝕄 := iprop(∃ W, owes (c : Thread nD τ) (0 : CellTallies nD τ sig Unit) W)

variable (m : (ℓ : Loc nD τ sig) → Buf (Elt Ideal) ℓ)

/-- The loop's test, with what rides along. -/
theorem loopCond : LoopCond (pcfgs (F := Ideal)) defs₀ Variants.none loops owed (main_while0_cond (F := Ideal)) condOps bodyI (entryContents preI m) 2048 := fun k hk c bd => by
  have hc := cond_spec m k hk c bd
  have hpost : ∀ v : Elt Ideal .i1, iprop((⌜v = 1#1 ↔ k < 2048⌝ ∗ boundary (c : Thread nD τ) ∗ held (c : Thread nD τ) (Pipeline.ucRefs τ sig) (after condOps (atTrip condOps bodyI (entryContents preI m) k c))) ∗ owed c)
      ⊢ (iprop(⌜v = 1#1 ↔ k < 2048⌝ ∗ boundary (c : Thread nD τ) ∗ held (c : Thread nD τ) (Pipeline.ucRefs τ sig) (after condOps (atTrip condOps bodyI (entryContents preI m) k c)) ∗ owed c) : sProp 𝕄) := fun v => by
    iintro ⟨⟨%hv, Hb, Hh⟩, HR⟩
    isplitr
    · ipureintro; exact hv
    isplitl [Hb]
    · iexact Hb
    isplitl [Hh] <;> iassumption
  refine BIBase.Entails.trans ?_ (((sep_mono_left hc).trans (wp_frame_r _ _ _)).trans (wp_mono _ _ _ hpost))
  iintro ⟨Hb, Hh, HR⟩
  isplitl [Hb Hh]
  · isplitl [Hb] <;> iassumption
  · iexact HR

/-- @main's segments. -/
def segs : List (Pipeline.CSeg (pcfgs (F := Ideal)) noAdm defs₀ Variants.none noL noLv loops noTk) :=
  segsOf _ _ _ _ _ _ _ _ owed preI hpre (launchContents m)
    ++ loopSeg _ _ _ _ _ _ _ _ 0 main_while0_cond main_while0_body rfl condOps bodyI hbodyI (by rw [while0_body_chain]; rfl) 2048 (entryContents preI m) owed (loopCond m)
      :: segsOf _ _ _ _ _ _ _ _ owed postI hpost (fun c => after condOps (atTrip condOps bodyI (entryContents preI m) 2048 c))

/-- Their programs, in order. -/
theorem segs_prog : (segs m).map Pipeline.CSeg.prog
    = (preI.map fun ops => (seq ops : Prog _ PUnit)) ++ HostLoop.enter 0 :: postI.map fun ops => (seq ops : Prog _ PUnit) := by
  unfold segs
  rw [List.map_append, List.map_cons, segsOf_prog, segsOf_prog]
  rfl

/-- @main is their chain. -/
theorem main_segs (c : Dev nD) : main (F := Ideal) c = Pipeline.chain ((segs m).map Pipeline.CSeg.prog) :=
  (main_chain c).trans (congrArg Pipeline.chain (segs_prog m).symm)

/-- The contents at the end. -/
abbrev fin' (c : Dev nD) : Valuation τ sig (Elt Ideal) := finalContents condOps preI bodyI postI 2048 m c

/-- Each starts from what the last one left. -/
theorem segs_chains : Pipeline.CSeg.Chains (fun c => iprop(held (c : Thread nD τ) (Pipeline.ucRefs τ sig) (launchContents m c) ∗ owed c)) (segs m)
    (fun c => iprop(iprop(held (c : Thread nD τ) (Pipeline.ucRefs τ sig) (fin' m c)) ∗ ∃ W, owes (c : Thread nD τ) (0 : CellTallies nD τ sig Unit) W)) := by
  unfold segs
  exact Pipeline.CSeg.Chains.append (segsOf_chains _ _ _ _ _ _ _ _ owed preI hpre _) ⟨fun _ => .rfl, segsOf_chains _ _ _ _ _ _ _ _ owed postI hpost _⟩

/-- No semaphore outlives a region. -/
theorem no_unscoped : ∀ sm : SemLoc sig, sm.isScoped .tc = true := by decide

set_option backward.isDefEq.respectTransparency.types false in
/-- Every execution ends with the buffers at the fold and every counter at zero. -/
theorem run_quiet (ρ : Dev nD → PrngReg) : θ_run (defs (F := Ideal)) (onTc (τ := τ) (main (F := Ideal))) ⟨m, fun _ => 0, ρ⟩
    (fun r => (∀ (c : Dev nD), ∀ b ∈ Pipeline.ucRefs τ sig, r.2.mem ((c : Dev nD), b) = fin' m c b) ∧ r.2.sem = fun _ => 0) :=
  Pipeline.θ_run_regions_loop_kit_sems (Ix := Unit) (Name := ℕ) (U := Option PUnit) (Lvl := ℕ) (J := Fin 0) (P := Fin 0) (Val := Elt Ideal)
    (pcfgs (F := Ideal)) noAdm noCell defs₀ Variants.none noL noLv loops noTk m ρ main (segs m)
    (fun c Q => by
      rw [main_segs m c]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (Pipeline.ucRefs τ sig) (launchContents m c) ∗ owed c))
    (Tₙ := fun c => iprop(held (c : Thread nD τ) (Pipeline.ucRefs τ sig) (fin' m c)))
    (hch := segs_chains m)
    (hinit := by
      refine Pipeline.initEach noL noLv fun c => ?_
      rw [show unscopedBufs c (fun b => m ((c : Thread nD τ).loc b)) = held (c : Thread nD τ) (Pipeline.ucRefs τ sig) (launchContents m c) from Pipeline.unscopedBufs_held c (launchContents m c)]
      iintro ⟨⟨Hh, -, HO, -, -, -⟩, -⟩
      imodintro
      isplitl [Hh]
      · iexact Hh
      · iexists ∅; iexact HO)
    (QY := fun c s => ∀ b ∈ Pipeline.ucRefs τ sig, s.mem ((c : Dev nD), b) = fin' m c b)
    (hfin := fun c s' => by
      unfold held
      iintro ⟨Hh, HSI⟩
      ihave Hr := (pointsTo_read_all (Pipeline.ucRefs τ sig) (fun b => ((c : Dev nD), b)) (fun b => fin' m c b) s') $$ [Hh HSI]
      · isplitl [Hh] <;> iassumption
      icases Hr with ⟨%h, HSI⟩
      imodintro
      isplitr
      · ipureintro; exact h
      · iexact HSI)
    (hQ := fun _ h hz => ⟨h, funext fun g => hz g (.inr (no_unscoped g.2))⟩)

end Cert.ReferenceIdeal.Scan
end
-- ==== Proof.ScanRefEnd.lean ====
/-
  The reference's end: what its last operations make of the outputs and of the final state, and every argument as it was.
-/
module
public import proofs.«01_k».proof.Proof.ScanRefLoop
public import proofs.«01_k».proof.Proof.RefRun
public import proofs.«01_k».proof.Proof.ScanNorm

@[expose] public section
noncomputable section
namespace Cert.ReferenceIdeal.Scan
open Idealize.ShloMosaic Idealize.ShloMosaic.TcCoe Idealize.ShloMosaic.Tactic Idealize.ShloMosaic.StableHlo
open Cert.ReferenceIdeal Cert.ReferenceIdeal.Value Cert.ReferenceIdeal.Gen
open Cert.KernelIdeal.Scan (Ins Toks tk ck ixh hd ps tk_val normE avgK avgK_eq bd bdE bdE_ix2)

/-- The first result at an entry: the head's output normalised, scaled, shifted, plus the bonus, gated. -/
theorem post_res (V : Valuation τ sig (Elt Ideal)) (b : Fin 8) (n : Fin 2048) (j : Fin 256) :
    (after (hostOps0_1 (F := Ideal)) V (Proc.devRef .tc main_v56) : Vec Ideal S8x2048x256 .f32) (ix3 b n j)
      = normE (fun x => Ideal.div x (Ideal.ofBits .f32 0x42800000#32)) (fun v => rn (V (Proc.devRef .tc main_v28_12)) n b (hd j) v) (ps j)
          ((V (Proc.devRef .tc main_arg10) : Vec Ideal S256 .f32) (ix1 j)) ((V (Proc.devRef .tc main_arg11) : Vec Ideal S256 .f32) (ix1 j))
          ((V (Proc.devRef .tc main_arg9) : Vec Ideal S8x2048x256 .f32) (ix3 b n j)) ((V (Proc.devRef .tc main_arg8) : Vec Ideal S8x2048x256 .f32) (ix3 b n j)) := by
  after_results
  pointwise
  rfl

/-- A mask bit as a factor. -/
theorem keep_if (p : Prop) [Decidable p] (x : EReal) : x * (FloatOps.uitofp (F := Ideal) .f32 (if p then 1#1 else 0#1 : BitVec 1) : EReal) = if p then x else 0 := by
  by_cases h : p
  · rw [if_pos h, if_pos h]
    show x * (((BitVec.toNat 1#1 : ℕ) : ℝ) : EReal) = x
    simp
  · rw [if_neg h, if_neg h]
    show x * (((BitVec.toNat 0#1 : ℕ) : ℝ) : EReal) = 0
    simp

/-- The second result at an entry: the state on the diagonal blocks, zero off them. -/
theorem post_fin (V : Valuation τ sig (Elt Ideal)) (b : Fin 8) (i j : Fin 256) :
    (after (hostOps0_1 (F := Ideal)) V (Proc.devRef .tc main_v69) : Vec Ideal S8x256x256 .f32) (ix3 b i j)
      = if hd i = hd j then r4 (V (Proc.devRef .tc main_v28_11)) b (hd i) (ps j) (ps i) else (0 : EReal) := by
  after_results
  pointwise
  have hm : IntOp.cmpi .eq (IntOp.addi (BitVec.ofNat 32 (i.val / 64)) 0#32) (BitVec.ofNat 32 (j.val / 64)) = if hd i = hd j then 1#1 else 0#1 := by
    have h : ∀ p q : Fin 4, IntOp.cmpi .eq (IntOp.addi (BitVec.ofNat 32 p.val) 0#32) (BitVec.ofNat 32 q.val) = if p = q then 1#1 else 0#1 := by decide
    exact h (hd i) (hd j)
  rw [hm]
  exact keep_if _ _
variable (m : (ℓ : Loc nD τ sig) → Buf (Elt Ideal) ℓ) (c : Dev nD)

/-- A buffer nothing in the loop or after it writes. -/
theorem kept' (k : Nat) (r : Ref sig .tc) (h : r ∉ hostOps0_W) (h0 : r ∉ condOps_W)
    (hr : ∀ W ∈ [while0Ops0_W, while0Ops0_1_W, while0Ops0_2_W, while0Ops0_3_W, while0Ops0_4_W, while0Ops0_5_W, while0Ops0_6_W, while0Ops0_7_W, while0Ops0_8_W, while0Ops0_9_W, while0Ops0_10_W, while0Ops0_11_W, while0Ops0_12_W, while0Ops0_13_W, while0Ops0_14_W, while0Ops0_15_W, while0Ops0_16_W, while0Ops0_17_W], r ∉ W) :
    at' m c k (Proc.devRef .tc r) = m ((c : Thread nD τ).loc r) := by
  rw [at'_keep m c k r h0, kept m c r h0 hr k]
  exact after_of_writes_sub hostOps0 _ hostOps0_writes h

/-- A buffer nothing writes ends as it began. -/
theorem fin_keep (r : Ref sig .tc) (h : r ∉ hostOps0_W) (h1 : r ∉ hostOps0_1_W) (h0 : r ∉ condOps_W)
    (hr : ∀ W ∈ [while0Ops0_W, while0Ops0_1_W, while0Ops0_2_W, while0Ops0_3_W, while0Ops0_4_W, while0Ops0_5_W, while0Ops0_6_W, while0Ops0_7_W, while0Ops0_8_W, while0Ops0_9_W, while0Ops0_10_W, while0Ops0_11_W, while0Ops0_12_W, while0Ops0_13_W, while0Ops0_14_W, while0Ops0_15_W, while0Ops0_16_W, while0Ops0_17_W], r ∉ W) :
    fin' m c (Proc.devRef .tc r) = m ((c : Thread nD τ).loc r) := by
  show after (hostOps0_1 (F := Ideal)) (at' m c 2048) (Proc.devRef .tc r) = _
  rw [after_of_writes_sub hostOps0_1 _ hostOps0_1_writes h1]
  exact kept' m c 2048 r h h0 hr

variable {m c} {X : Ins} (H : Holds m c X)
include H

/-- The first result. -/
theorem fin_res (b : Fin 8) (n : Fin 2048) (j : Fin 256) : (fin' m c (Proc.devRef .tc main_v56) : Vec Ideal S8x2048x256 .f32) (ix3 b n j)
    = X.res (fun a n j => (m ((c : Thread nD τ).loc main_arg9) : Vec Ideal S8x2048x256 .f32) (ix3 a n j))
        (fun a n j => (m ((c : Thread nD τ).loc main_arg8) : Vec Ideal S8x2048x256 .f32) (ix3 a n j))
        (fun j => (m ((c : Thread nD τ).loc main_arg10) : Vec Ideal S256 .f32) (ix1 j))
        (fun j => (m ((c : Thread nD τ).loc main_arg11) : Vec Ideal S256 .f32) (ix1 j)) b n j := by
  refine (post_res (at' m c 2048) b n j).trans ?_
  rw [kept' m c 2048 main_arg8 (by decide +kernel) (by decide +kernel) (by decide +kernel),
    kept' m c 2048 main_arg9 (by decide +kernel) (by decide +kernel) (by decide +kernel),
    kept' m c 2048 main_arg10 (by decide +kernel) (by decide +kernel) (by decide +kernel),
    kept' m c 2048 main_arg11 (by decide +kernel) (by decide +kernel) (by decide +kernel),
    at'_keep m c 2048 main_v28_12 (by decide +kernel)]
  unfold Ins.res
  rw [show avgK = fun x => Ideal.div x (Ideal.ofBits .f32 0x42800000#32) from funext avgK_eq]
  rw [show (fun v => rn (atK m 2048 c (Proc.devRef .tc main_v28_12)) n b (hd j) v) = fun v => (((X.toks b (hd j)).out n.val v : ℝ) : EReal) from
    funext fun v => outs m c X H 2048 le_rfl n b (hd j) v n.isLt]

/-- The second result. -/
theorem fin_fin (b : Fin 8) (i j : Fin 256) : (fin' m c (Proc.devRef .tc main_v69) : Vec Ideal S8x256x256 .f32) (ix3 b i j) = X.fin b i j := by
  refine (post_fin (at' m c 2048) b i j).trans ?_
  rw [at'_keep m c 2048 main_v28_11 (by decide +kernel), (states m c X H 2048 le_rfl b (hd i) (ps j) (ps i)).2]
  unfold Ins.fin
  rw [bdE_ix2]
  unfold bd Ins.st
  by_cases h : hd i = hd j
  · rw [if_pos h, if_pos h]
    rfl
  · rw [if_neg h, if_neg h]
    rfl

end Cert.ReferenceIdeal.Scan
end
-- ==== Proof.ScanPre.lean ====
/-
  The precondition read: it says of eight arguments that every entry lies below infinity in absolute value, so every
  entry is a real number.
-/
module
public import proofs.«01_k».proof.Proof.ScanKernel
public import proofs.«01_k».proof.Proof.ScanRefEnd
public import proofs.«01_k».proof.Proof.Gen.Pre_finite
public import Idealize.ShloMosaic.Lib.ReduceAll

@[expose] public section
noncomputable section
namespace Cert.Scan
open Idealize.ShloMosaic Idealize.ShloMosaic.TcCoe Idealize.ShloMosaic.Tactic
open Cert.KernelIdeal.Scan (Ins)

instance : Subsingleton (Cert.Pre_finite.S_).Idx := ⟨fun a b => funext fun k => k.elim0⟩

/-- An extended real below infinity in absolute value is a real number. -/
theorem real_of_abs {x : EReal} (h : Ideal.cmp .olt (max x (-x)) (Ideal.ofBits .f32 0x7F800000#32) = 1#1) : x = ((x.toReal : ℝ) : EReal) := by
  have ht : Ideal.ofBits .f32 0x7F800000#32 = (⊤ : EReal) := by simp [Ideal.ofBits, Ideal.ieee]
  rw [ht] at h
  have hlt : max x (-x) < ⊤ := by
    by_contra hn
    simp [Ideal.cmp, hn] at h
  refine (EReal.coe_toReal ?_ ?_).symm
  · rintro rfl
    simp at hlt
  · rintro rfl
    simp at hlt

/-- One conjunct of the precondition. -/
theorem real_all {s : Shape} (x : FVec Ideal s .f32) (hb : (Cert.Pre_finite.S_).BroadcastsInDim s ![]) {axes : List (Fin s.rank)} (hr : s.ReducesTo axes Cert.Pre_finite.S_) (hu : 0 < (Cert.Pre_finite.S_).numel)
    (j : (Cert.Pre_finite.S_).Idx)
    (h : Host.reduce IntOp.andi (cmpf .olt (Host.absf x) (broadcastInDim s ![] hb (constant Cert.Pre_finite.S_ .f32 0x7F800000#32))) (constantI Cert.Pre_finite.S_ 1 1#1) hr hu j = 1#1) (i : s.Idx) :
    (x i : EReal) = (((x i : EReal).toReal : ℝ) : EReal) :=
  real_of_abs (Host.reduce_andi_all _ _ hr hu j h i)

open Cert.KernelIdeal in
/-- The real arrays the kernel's arguments hold. -/
def insOf (m : (ℓ : Loc nD τ sig) → Buf (Elt Ideal) ℓ) (c : Dev nD) : Ins where
  kh b n j := ((m ((c : Thread nD τ).loc main_arg0) : Vec Ideal S8x2048x256 .bf16) (ix3 b n j) : EReal).toReal
  rh b n j := ((m ((c : Thread nD τ).loc main_arg1) : Vec Ideal S8x2048x256 .bf16) (ix3 b n j) : EReal).toReal
  kb b n j := ((m ((c : Thread nD τ).loc main_arg2) : Vec Ideal S8x2048x256 .bf16) (ix3 b n j) : EReal).toReal
  bb b n j := ((m ((c : Thread nD τ).loc main_arg3) : Vec Ideal S8x2048x256 .bf16) (ix3 b n j) : EReal).toReal
  kbe b n j := ((m ((c : Thread nD τ).loc main_arg4) : Vec Ideal S8x2048x256 .bf16) (ix3 b n j) : EReal).toReal
  bbe b n j := ((m ((c : Thread nD τ).loc main_arg5) : Vec Ideal S8x2048x256 .bf16) (ix3 b n j) : EReal).toReal
  v b n j := ((m ((c : Thread nD τ).loc main_arg6) : Vec Ideal S8x2048x256 .bf16) (ix3 b n j) : EReal).toReal
  pe b n j := ((m ((c : Thread nD τ).loc main_arg7) : Vec Ideal S8x32x256 .f32) (ix3 b n j) : EReal).toReal

open Cert.KernelIdeal in
/-- They hold them, where the precondition does. -/
theorem holds (m : (ℓ : Loc nD τ sig) → Buf (Elt Ideal) ℓ) (c : Dev nD)
    (h : Cert.Pre_finite.fn (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11)) = fun _ => 1#1) :
    Cert.KernelIdeal.Scan.Holds m c (insOf m c) := by
  have e := congrFun h (fun k => k.elim0)
  unfold Cert.Pre_finite.fn Cert.Pre_finite.fn_part1 Cert.Pre_finite.fn_part2 at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨e, h1⟩ := IntOp.andi_eq_one.1 e
  obtain ⟨h7, h0⟩ := IntOp.andi_eq_one.1 e
  exact {
    kh := fun b n j => real_all _ _ _ _ _ h0 (ix3 b n j)
    rh := fun b n j => real_all _ _ _ _ _ h1 (ix3 b n j)
    kb := fun b n j => real_all _ _ _ _ _ h2 (ix3 b n j)
    bb := fun b n j => real_all _ _ _ _ _ h3 (ix3 b n j)
    kbe := fun b n j => real_all _ _ _ _ _ h4 (ix3 b n j)
    bbe := fun b n j => real_all _ _ _ _ _ h5 (ix3 b n j)
    v := fun b n j => real_all _ _ _ _ _ h6 (ix3 b n j)
    pe := fun b n j => real_all _ _ _ _ _ h7 (ix3 b n j) }

end Cert.Scan
end
-- ==== Proof.ScanEq.lean ====
/-
  The claims of the recurrence: the reference's run with every argument unchanged and every counter at zero, and the two
  programs' results equal.
-/
module
public import proofs.«01_k».proof.Defs
public import proofs.«01_k».proof.Proof.ScanPre
public import proofs.«01_k».proof.Proof.Gen.KernelIdeal.Value

@[expose] public section
noncomputable section
namespace Cert.ReferenceIdeal.Scan
open Idealize.ShloMosaic Idealize.ShloMosaic.TcCoe Idealize.ShloMosaic.StableHlo
open Cert.ReferenceIdeal Cert.ReferenceIdeal.Value Cert.ReferenceIdeal.Gen

variable (m : (ℓ : Loc nD τ sig) → Buf (Elt Ideal) ℓ) (ρ : Dev nD → PrngReg)

/-- The reference's run: each result as its last operations leave it, the arguments unchanged, every counter at zero. -/
theorem run_ends : θ_run (defs (F := Ideal)) (onTc (τ := τ) (main (F := Ideal))) ⟨m, fun _ => 0, ρ⟩ (fun r => (∀ c : Dev nD,
      r.2.mem ((c : Thread nD τ).loc main_v56) = fin' m c (Proc.devRef .tc main_v56)
      ∧ r.2.mem ((c : Thread nD τ).loc main_v69) = fin' m c (Proc.devRef .tc main_v69)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11))
      ∧ r.2.sem = fun _ => 0) :=
  θ_run_mono (run_quiet m ρ) fun r h => ⟨fun c => by
    have e : ∀ b : Ref sig .tc, (Proc.devRef .tc b : DevRef τ sig).isScoped = false → r.2.mem ((c : Thread nD τ).loc b) = fin' m c (Proc.devRef .tc b) :=
      fun b hb => h.1 c _ (devRef_mem_ucRefs b hb)
    exact ⟨e main_v56 rfl, e main_v69 rfl, (e main_arg0 rfl).trans (fin_keep m c main_arg0 (by decide +kernel) (by decide +kernel) (by decide +kernel) (by decide +kernel)),
      (e main_arg1 rfl).trans (fin_keep m c main_arg1 (by decide +kernel) (by decide +kernel) (by decide +kernel) (by decide +kernel)),
      (e main_arg2 rfl).trans (fin_keep m c main_arg2 (by decide +kernel) (by decide +kernel) (by decide +kernel) (by decide +kernel)),
      (e main_arg3 rfl).trans (fin_keep m c main_arg3 (by decide +kernel) (by decide +kernel) (by decide +kernel) (by decide +kernel)),
      (e main_arg4 rfl).trans (fin_keep m c main_arg4 (by decide +kernel) (by decide +kernel) (by decide +kernel) (by decide +kernel)),
      (e main_arg5 rfl).trans (fin_keep m c main_arg5 (by decide +kernel) (by decide +kernel) (by decide +kernel) (by decide +kernel)),
      (e main_arg6 rfl).trans (fin_keep m c main_arg6 (by decide +kernel) (by decide +kernel) (by decide +kernel) (by decide +kernel)),
      (e main_arg7 rfl).trans (fin_keep m c main_arg7 (by decide +kernel) (by decide +kernel) (by decide +kernel) (by decide +kernel)),
      (e main_arg8 rfl).trans (fin_keep m c main_arg8 (by decide +kernel) (by decide +kernel) (by decide +kernel) (by decide +kernel)),
      (e main_arg9 rfl).trans (fin_keep m c main_arg9 (by decide +kernel) (by decide +kernel) (by decide +kernel) (by decide +kernel)),
      (e main_arg10 rfl).trans (fin_keep m c main_arg10 (by decide +kernel) (by decide +kernel) (by decide +kernel) (by decide +kernel)),
      (e main_arg11 rfl).trans (fin_keep m c main_arg11 (by decide +kernel) (by decide +kernel) (by decide +kernel) (by decide +kernel))⟩, h.2⟩

end Cert.ReferenceIdeal.Scan

namespace Cert.Scan
open Idealize.ShloMosaic Idealize.ShloMosaic.TcCoe Idealize.ShloMosaic.Tactic
open Cert.KernelIdeal.Scan (Ins resArr finArr)

/-- The reference's claims: its run with the arguments unchanged and every counter at zero. -/
theorem quiescent : Cert.quiescent_ReferenceIdeal := fun m g _ =>
  θ_run_mono (Cert.ReferenceIdeal.Scan.run_ends m g) fun _ h => ⟨fun c => (h.1 c).2.2, h.2⟩

/-- The recurrence's claim: the chunked kernel and the token-by-token reference end with equal results. -/
theorem equal : Cert.algebraic_KernelIdeal_ReferenceIdeal_pre_finite := fun m g m' g' hp he => by
  have H := fun c => holds m c (hp c)
  have H' : ∀ c : Dev Cert.KernelIdeal.nD, Cert.ReferenceIdeal.Scan.Holds m' c (insOf m c) := fun c => by
    obtain ⟨e0, e1, e2, e3, e4, e5, e6, e7, -⟩ := he c
    exact {
      kh := fun b n j => (congrFun e0 (ix3 b n j)).trans ((H c).kh b n j)
      rh := fun b n j => (congrFun e1 (ix3 b n j)).trans ((H c).rh b n j)
      kb := fun b n j => (congrFun e2 (ix3 b n j)).trans ((H c).kb b n j)
      bb := fun b n j => (congrFun e3 (ix3 b n j)).trans ((H c).bb b n j)
      kbe := fun b n j => (congrFun e4 (ix3 b n j)).trans ((H c).kbe b n j)
      bbe := fun b n j => (congrFun e5 (ix3 b n j)).trans ((H c).bbe b n j)
      v := fun b n j => (congrFun e6 (ix3 b n j)).trans ((H c).v b n j)
      pe := fun b n j => (congrFun e7 (ix3 b n j)).trans ((H c).pe b n j) }
  refine ⟨fun c => resArr m c (insOf m c), fun c => finArr (insOf m c), ?_, ?_⟩
  · refine θ_run_mono (Cert.KernelIdeal.Value.run_blocks m g) fun r h c => ?_
    obtain ⟨h0, h1, hk⟩ := h c
    exact ⟨h0.trans (Cert.KernelIdeal.Scan.final13 (H c)), h1.trans (Cert.KernelIdeal.Scan.final14 (H c)), hk⟩
  · refine θ_run_mono (Cert.ReferenceIdeal.Scan.run_ends m' g') fun r h c => ?_
    obtain ⟨h0, h1, hk⟩ := h.1 c
    refine ⟨h0.trans ?_, h1.trans ?_, hk⟩
    · funext i
      refine (congrArg (Cert.ReferenceIdeal.Scan.fin' m' c (Proc.devRef (τ := Cert.ReferenceIdeal.τ) .tc Cert.ReferenceIdeal.main_v56)) (eq_ix3 (n0 := 8) (n1 := 2048) (n2 := 256) i)).trans ?_
      refine (Cert.ReferenceIdeal.Scan.fin_res (H' c) (i 0) (i 1) (i 2)).trans ?_
      obtain ⟨-, -, -, -, -, -, -, -, e8, e9, e10, e11⟩ := he c
      rw [e8, e9, e10, e11]
      rfl
    · funext i
      refine (congrArg (Cert.ReferenceIdeal.Scan.fin' m' c (Proc.devRef (τ := Cert.ReferenceIdeal.τ) .tc Cert.ReferenceIdeal.main_v69)) (eq_ix3 (n0 := 8) (n1 := 256) (n2 := 256) i)).trans ?_
      exact Cert.ReferenceIdeal.Scan.fin_fin (H' c) (i 0) (i 1) (i 2)

end Cert.Scan
end
-- ==== Proof.FfnWindows.lean ====
/-
  The feed-forward call's blocks: which entries of the arguments each window shows at each grid point.
-/
module

public import proofs.«01_k».proof.Proof.Gen.Kernel2Ideal.Value
public import Idealize.ShloMosaic.Lib.Pointwise

@[expose] public section

noncomputable section

namespace Cert.Kernel2Ideal.Ffn

open Idealize.ShloMosaic Idealize.ShloMosaic.TcCoe Idealize.ShloMosaic.Tactic Cert.Kernel2Ideal Cert.Kernel2Ideal.Gen

variable (m : (ℓ : Loc nD τ sig) → Buf (Elt Ideal) ℓ) (c : Dev nD)

theorem lt176 (t : Fin cfg0.N) : t.val < 176 := t.isLt

/-- The point's batch row. -/
def bat (t : Fin cfg0.N) : Fin 8 := ⟨t.val / 22 % 8, by omega⟩
/-- The token of row `s` of the point's block. -/
def tok (t : Fin cfg0.N) (s : Fin 1024) : Fin 2048 := ⟨1024 * (t.val / 11 % 2) + s.val, by omega⟩
/-- The inner entry of entry `v` of the point's chunk. -/
def mid (t : Fin cfg0.N) (v : Fin 256) : Fin 2816 := ⟨(256 * (t.val % 11) + v.val) % 2816, Nat.mod_lt _ (by norm_num)⟩
/-- Its column in the first half of the widened product. -/
def colG (t : Fin cfg0.N) (v : Fin 256) : Fin 5632 := ⟨256 * (t.val % 11) + v.val, by omega⟩
/-- Its column in the second half. -/
def colU (t : Fin cfg0.N) (v : Fin 256) : Fin 5632 := ⟨2816 + (256 * (t.val % 11) + v.val), by omega⟩

/-- The first gain, as the host hands it over. -/
theorem V_v0 : V m c main_v0 = shapeCast S1x1024 (m ((c : Thread nD τ).loc main_arg1)) shapeCasts_S1024_S1x1024 := by
  unfold V
  after_results
  rfl

/-- The last gain, as the host hands it over. -/
theorem V_v1 : V m c main_v1 = shapeCast S1x1024 (m ((c : Thread nD τ).loc main_arg7)) shapeCasts_S1024_S1x1024 := by
  unfold V
  after_results
  rfl

theorem row_vec (x : Vec Ideal S1024 .f32) (a : Fin 1) (j : Fin 1024) : shapeCast S1x1024 x shapeCasts_S1024_S1x1024 (ix2 a j) = x (ix1 j) := by
  pointwise

/-! ## Where each window's block lies -/

theorem idx0 : ∀ t : Fin cfg0.N, win0_0.index t 0 = t.val / 22 % 8 ∧ win0_0.index t 1 = t.val / 11 % 2 ∧ win0_0.index t 2 = 0 :=
  (by decide +kernel : ∀ t : Fin grid0.N, win0_0.index t 0 = t.val / 22 % 8 ∧ win0_0.index t 1 = t.val / 11 % 2 ∧ win0_0.index t 2 = 0)

theorem emb0 (t : Fin cfg0.N) (j : S1x1024x1024.Idx) : ((cfg0.win 0).blk t).view.emb j = ix3 (bat t) (tok t (j 1)) (j 2) := by
  obtain ⟨e0, e1, e2⟩ := idx0 t
  have h0 : (j 0).val < 1 := (j 0).isLt
  funext a; apply Fin.ext
  match a with
  | ⟨0, _⟩ => show win0_0.index t (0 : Fin 3) * 1 + 1 * (j 0).val = t.val / 22 % 8; omega
  | ⟨1, _⟩ => show win0_0.index t (1 : Fin 3) * 1024 + 1 * (j 1).val = 1024 * (t.val / 11 % 2) + (j 1).val; omega
  | ⟨2, _⟩ => show win0_0.index t (2 : Fin 3) * 1024 + 1 * (j 2).val = (j 2).val; omega

theorem idx1 : ∀ t : Fin cfg0.N, win0_1.index t 0 = 0 ∧ win0_1.index t 1 = 0 :=
  (by decide +kernel : ∀ t : Fin grid0.N, win0_1.index t 0 = 0 ∧ win0_1.index t 1 = 0)

theorem emb1 (t : Fin cfg0.N) (j : S1x1024.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem idx2 : ∀ t : Fin cfg0.N, win0_2.index t 0 = t.val / 22 % 8 ∧ win0_2.index t 1 = 0 ∧ win0_2.index t 2 = 0 :=
  (by decide +kernel : ∀ t : Fin grid0.N, win0_2.index t 0 = t.val / 22 % 8 ∧ win0_2.index t 1 = 0 ∧ win0_2.index t 2 = 0)

theorem emb2 (t : Fin cfg0.N) (j : S1x1x1024.Idx) : ((cfg0.win 2).blk t).view.emb j = ix3 (bat t) (j 1) (j 2) := by
  obtain ⟨e0, e1, e2⟩ := idx2 t
  have h0 : (j 0).val < 1 := (j 0).isLt
  funext a; apply Fin.ext
  match a with
  | ⟨0, _⟩ => show win0_2.index t (0 : Fin 3) * 1 + 1 * (j 0).val = t.val / 22 % 8; omega
  | ⟨1, _⟩ => show win0_2.index t (1 : Fin 3) * 1 + 1 * (j 1).val = (j 1).val; omega
  | ⟨2, _⟩ => show win0_2.index t (2 : Fin 3) * 1024 + 1 * (j 2).val = (j 2).val; omega

theorem idx3 : ∀ t : Fin cfg0.N, win0_3.index t 0 = t.val / 22 % 8 ∧ win0_3.index t 1 = 0 ∧ win0_3.index t 2 = 0 :=
  (by decide +kernel : ∀ t : Fin grid0.N, win0_3.index t 0 = t.val / 22 % 8 ∧ win0_3.index t 1 = 0 ∧ win0_3.index t 2 = 0)

theorem emb3 (t : Fin cfg0.N) (j : S1x1x1024.Idx) : ((cfg0.win 3).blk t).view.emb j = ix3 (bat t) (j 1) (j 2) := by
  obtain ⟨e0, e1, e2⟩ := idx3 t
  have h0 : (j 0).val < 1 := (j 0).isLt
  funext a; apply Fin.ext
  match a with
  | ⟨0, _⟩ => show win0_3.index t (0 : Fin 3) * 1 + 1 * (j 0).val = t.val / 22 % 8; omega
  | ⟨1, _⟩ => show win0_3.index t (1 : Fin 3) * 1 + 1 * (j 1).val = (j 1).val; omega
  | ⟨2, _⟩ => show win0_3.index t (2 : Fin 3) * 1024 + 1 * (j 2).val = (j 2).val; omega

theorem idx4 : ∀ t : Fin cfg0.N, win0_4.index t 0 = t.val / 22 % 8 ∧ win0_4.index t 1 = 0 ∧ win0_4.index t 2 = 0 :=
  (by decide +kernel : ∀ t : Fin grid0.N, win0_4.index t 0 = t.val / 22 % 8 ∧ win0_4.index t 1 = 0 ∧ win0_4.index t 2 = 0)

theorem emb4 (t : Fin cfg0.N) (j : S1x1x1024.Idx) : ((cfg0.win 4).blk t).view.emb j = ix3 (bat t) (j 1) (j 2) := by
  obtain ⟨e0, e1, e2⟩ := idx4 t
  have h0 : (j 0).val < 1 := (j 0).isLt
  funext a; apply Fin.ext
  match a with
  | ⟨0, _⟩ => show win0_4.index t (0 : Fin 3) * 1 + 1 * (j 0).val = t.val / 22 % 8; omega
  | ⟨1, _⟩ => show win0_4.index t (1 : Fin 3) * 1 + 1 * (j 1).val = (j 1).val; omega
  | ⟨2, _⟩ => show win0_4.index t (2 : Fin 3) * 1024 + 1 * (j 2).val = (j 2).val; omega

theorem idx5 : ∀ t : Fin cfg0.N, win0_5.index t 0 = 0 ∧ win0_5.index t 1 = t.val % 11 :=
  (by decide +kernel : ∀ t : Fin grid0.N, win0_5.index t 0 = 0 ∧ win0_5.index t 1 = t.val % 11)

theorem emb5 (t : Fin cfg0.N) (j : S1024x256.Idx) : ((cfg0.win 5).blk t).view.emb j = ix2 (j 0) (colG t (j 1)) := by
  obtain ⟨e0, e1⟩ := idx5 t
  funext a; apply Fin.ext
  match a with
  | ⟨0, _⟩ => show win0_5.index t (0 : Fin 2) * 1024 + 1 * (j 0).val = (j 0).val; omega
  | ⟨1, _⟩ => show win0_5.index t (1 : Fin 2) * 256 + 1 * (j 1).val = 256 * (t.val % 11) + (j 1).val; omega

theorem idx6 : ∀ t : Fin cfg0.N, win0_6.index t 0 = 0 ∧ win0_6.index t 1 = 11 + t.val % 11 :=
  (by decide +kernel : ∀ t : Fin grid0.N, win0_6.index t 0 = 0 ∧ win0_6.index t 1 = 11 + t.val % 11)

theorem emb6 (t : Fin cfg0.N) (j : S1024x256.Idx) : ((cfg0.win 6).blk t).view.emb j = ix2 (j 0) (colU t (j 1)) := by
  obtain ⟨e0, e1⟩ := idx6 t
  funext a; apply Fin.ext
  match a with
  | ⟨0, _⟩ => show win0_6.index t (0 : Fin 2) * 1024 + 1 * (j 0).val = (j 0).val; omega
  | ⟨1, _⟩ => show win0_6.index t (1 : Fin 2) * 256 + 1 * (j 1).val = 2816 + (256 * (t.val % 11) + (j 1).val); omega

theorem idx7 : ∀ t : Fin cfg0.N, win0_7.index t 0 = t.val % 11 ∧ win0_7.index t 1 = 0 :=
  (by decide +kernel : ∀ t : Fin grid0.N, win0_7.index t 0 = t.val % 11 ∧ win0_7.index t 1 = 0)

theorem emb7 (t : Fin cfg0.N) (j : S256x1024.Idx) : ((cfg0.win 7).blk t).view.emb j = ix2 (mid t (j 0)) (j 1) := by
  obtain ⟨e0, e1⟩ := idx7 t
  have h0 : (j 0).val < 256 := (j 0).isLt
  funext a; apply Fin.ext
  match a with
  | ⟨0, _⟩ => show win0_7.index t (0 : Fin 2) * 256 + 1 * (j 0).val = (256 * (t.val % 11) + (j 0).val) % 2816; omega
  | ⟨1, _⟩ => show win0_7.index t (1 : Fin 2) * 1024 + 1 * (j 1).val = (j 1).val; omega

theorem idx8 : ∀ t : Fin cfg0.N, win0_8.index t 0 = 0 ∧ win0_8.index t 1 = 0 :=
  (by decide +kernel : ∀ t : Fin grid0.N, win0_8.index t 0 = 0 ∧ win0_8.index t 1 = 0)

theorem emb8 (t : Fin cfg0.N) (j : S1x1024.Idx) : ((cfg0.win 8).blk t).view.emb j = j := by
  obtain ⟨e0, e1⟩ := idx8 t
  funext a; apply Fin.ext
  match a with
  | ⟨0, _⟩ => show win0_8.index t (0 : Fin 2) * 1 + 1 * (j 0).val = (j 0).val; omega
  | ⟨1, _⟩ => show win0_8.index t (1 : Fin 2) * 1024 + 1 * (j 1).val = (j 1).val; omega

theorem idx9 : ∀ t : Fin cfg0.N, win0_9.index t 0 = t.val / 22 % 8 ∧ win0_9.index t 1 = t.val / 11 % 2 ∧ win0_9.index t 2 = 0 :=
  (by decide +kernel : ∀ t : Fin grid0.N, win0_9.index t 0 = t.val / 22 % 8 ∧ win0_9.index t 1 = t.val / 11 % 2 ∧ win0_9.index t 2 = 0)

theorem emb9 (t : Fin cfg0.N) (j : S1x1024x1024.Idx) : ((cfg0.win 9).blk t).view.emb j = ix3 (bat t) (tok t (j 1)) (j 2) := by
  obtain ⟨e0, e1, e2⟩ := idx9 t
  have h0 : (j 0).val < 1 := (j 0).isLt
  funext a; apply Fin.ext
  match a with
  | ⟨0, _⟩ => show win0_9.index t (0 : Fin 3) * 1 + 1 * (j 0).val = t.val / 22 % 8; omega
  | ⟨1, _⟩ => show win0_9.index t (1 : Fin 3) * 1024 + 1 * (j 1).val = 1024 * (t.val / 11 % 2) + (j 1).val; omega
  | ⟨2, _⟩ => show win0_9.index t (2 : Fin 3) * 1024 + 1 * (j 2).val = (j 2).val; omega

/-! ## What each window's block shows -/

theorem blk0 (t : Fin cfg0.N) (j : S1x1024x1024.Idx) : (iblk m c 0 t : Vec Ideal S1x1024x1024 .f32) j = (m ((c : Thread nD τ).loc main_arg0) : Vec Ideal S8x2048x1024 .f32) (ix3 (bat t) (tok t (j 1)) (j 2)) := by
  show V m c main_arg0 (((cfg0.win 0).blk t).view.emb j) = _
  rw [emb0, V_main_arg0]
  rfl

theorem blk1 (t : Fin cfg0.N) (a : Fin 1) (j : Fin 1024) : (iblk m c 1 t : Vec Ideal S1x1024 .f32) (ix2 a j) = (m ((c : Thread nD τ).loc main_arg1) : Vec Ideal S1024 .f32) (ix1 j) := by
  show V m c main_v0 (((cfg0.win 1).blk t).view.emb (ix2 a j)) = _
  rw [emb1, V_v0]
  exact row_vec _ a j

theorem blk2 (t : Fin cfg0.N) (j : S1x1x1024.Idx) : (iblk m c 2 t : Vec Ideal S1x1x1024 .f32) j = (m ((c : Thread nD τ).loc main_arg2) : Vec Ideal S8x1x1024 .f32) (ix3 (bat t) (j 1) (j 2)) := by
  show V m c main_arg2 (((cfg0.win 2).blk t).view.emb j) = _
  rw [emb2, V_main_arg2]
  rfl

theorem blk3 (t : Fin cfg0.N) (j : S1x1x1024.Idx) : (iblk m c 3 t : Vec Ideal S1x1x1024 .f32) j = (m ((c : Thread nD τ).loc main_arg3) : Vec Ideal S8x1x1024 .f32) (ix3 (bat t) (j 1) (j 2)) := by
  show V m c main_arg3 (((cfg0.win 3).blk t).view.emb j) = _
  rw [emb3, V_main_arg3]
  rfl

theorem blk4 (t : Fin cfg0.N) (j : S1x1x1024.Idx) : (iblk m c 4 t : Vec Ideal S1x1x1024 .f32) j = (m ((c : Thread nD τ).loc main_arg4) : Vec Ideal S8x1x1024 .f32) (ix3 (bat t) (j 1) (j 2)) := by
  show V m c main_arg4 (((cfg0.win 4).blk t).view.emb j) = _
  rw [emb4, V_main_arg4]
  rfl

theorem blk5 (t : Fin cfg0.N) (j : S1024x256.Idx) : (iblk m c 5 t : Vec Ideal S1024x256 .bf16) j = (m ((c : Thread nD τ).loc main_arg5) : Vec Ideal S1024x5632 .bf16) (ix2 (j 0) (colG t (j 1))) := by
  show V m c main_arg5 (((cfg0.win 5).blk t).view.emb j) = _
  rw [emb5, V_main_arg5]
  rfl

theorem blk6 (t : Fin cfg0.N) (j : S1024x256.Idx) : (iblk m c 6 t : Vec Ideal S1024x256 .bf16) j = (m ((c : Thread nD τ).loc main_arg5) : Vec Ideal S1024x5632 .bf16) (ix2 (j 0) (colU t (j 1))) := by
  show V m c main_arg5 (((cfg0.win 6).blk t).view.emb j) = _
  rw [emb6, V_main_arg5]
  rfl

theorem blk7 (t : Fin cfg0.N) (j : S256x1024.Idx) : (iblk m c 7 t : Vec Ideal S256x1024 .bf16) j = (m ((c : Thread nD τ).loc main_arg6) : Vec Ideal S2816x1024 .bf16) (ix2 (mid t (j 0)) (j 1)) := by
  show V m c main_arg6 (((cfg0.win 7).blk t).view.emb j) = _
  rw [emb7, V_main_arg6]
  rfl

theorem blk8 (t : Fin cfg0.N) (a : Fin 1) (j : Fin 1024) : (iblk m c 8 t : Vec Ideal S1x1024 .f32) (ix2 a j) = (m ((c : Thread nD τ).loc main_arg7) : Vec Ideal S1024 .f32) (ix1 j) := by
  show V m c main_v1 (((cfg0.win 8).blk t).view.emb (ix2 a j)) = _
  rw [emb8, V_v1]
  exact row_vec _ a j

end Cert.Kernel2Ideal.Ffn

end
-- ==== Proof.FfnCases.lean ====
/-
  The feed-forward call's three kinds of step: what each leaves in the token scratch, in the accumulator and in the
  result's block, as the body's own expressions of the blocks and of what the step before left.
-/
module

public import proofs.«01_k».proof.Proof.Gen.Kernel2Ideal.Value
public import Idealize.ShloMosaic.Lib.Tactic
public import Idealize.ShloMosaic.Lib.Pointwise

@[expose] public section

noncomputable section

namespace Cert.Kernel2Ideal.Ffn

open Idealize.ShloMosaic Idealize.ShloMosaic.TcCoe Idealize.ShloMosaic.Tactic Cert.Kernel2Ideal Cert.Kernel2Ideal.Gen

theorem hz3 : (![0, 0, 0] : Fin 3 → Nat) = fun _ => 0 := funext fun a => by fin_cases a <;> rfl
theorem hz2 : (![0, 0] : Fin 2 → Nat) = fun _ => 0 := funext fun a => by fin_cases a <;> rfl

variable (c : Dev nD) (i : grid0.Coords) (arg3 : Memref sig .tc .vmem S1x1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S1024x1024 .f32) (harg14 : arg14.IsWhole)

section first

variable (hc0 : cond0_0 i) (hc1 : ¬cond0_1 i) (x0 : Vec Ideal S1x1024x1024 .f32) (x1 : Vec Ideal S1x1024 .f32) (x2 x3 x4 : Vec Ideal S1x1x1024 .f32) (x5 x6 : Vec Ideal S1024x256 .bf16) (x7 : Vec Ideal S256x1024 .bf16) (x8 : Vec Ideal S1x1024 .f32)

/-- The first step keeps the normalised tokens. -/
theorem keep_A : sout0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay1 (F := Ideal) x0 x1 x3 x2 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1024) hz3, View.ld_unit_zero (S := S1x1x1024) hz3, View.ld_unit_zero (S := S1x1024) hz2, View.ld_unit_zero (S := S1024x256) hz2, View.ld_unit_zero (S := S256x1024) hz2, View.ld_unit_zero (S := S1024x1024) hz2]

/-- The first step's accumulator is its own chunk added to zero. -/
theorem acc_A : sout0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay3 (F := Ideal) (k0_pay1 (F := Ideal) x0 x1 x3 x2) x5 x6 (k0_pay2 (F := Ideal)) x7 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S1024x1024) hz2]
  simp only [View.readCov_unit_zero (S := S1024x1024) _ hz2, View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1024) hz3, View.ld_unit_zero (S := S1x1x1024) hz3, View.ld_unit_zero (S := S1x1024) hz2, View.ld_unit_zero (S := S1024x256) hz2, View.ld_unit_zero (S := S256x1024) hz2, View.ld_unit_zero (S := S1024x1024) hz2]

end first

section later

variable (x0 : Vec Ideal S1x1024x1024 .f32) (x1 : Vec Ideal S1x1024 .f32) (x2 x3 x4 : Vec Ideal S1x1x1024 .f32) (x5 x6 : Vec Ideal S1024x256 .bf16) (x7 : Vec Ideal S256x1024 .bf16) (x8 : Vec Ideal S1x1024 .f32) (xs0 : Vec Ideal S1024x1024 .bf16) (xs1 : Vec Ideal S1024x1024 .f32)

/-- A middle step adds its chunk to the accumulator. -/
theorem acc_B (hc0 : ¬cond0_0 i) (hc1 : ¬cond0_1 i) : sout0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay3 (F := Ideal) xs0 x5 x6 xs1 x7 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1024) hz3, View.ld_unit_zero (S := S1x1x1024) hz3, View.ld_unit_zero (S := S1x1024) hz2, View.ld_unit_zero (S := S1024x256) hz2, View.ld_unit_zero (S := S256x1024) hz2, View.ld_unit_zero (S := S1024x1024) hz2]

/-- The last step's result is that of the accumulator with its own chunk added. -/
theorem out_C (hc0 : ¬cond0_0 i) (hc1 : cond0_1 i) :
    out0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay4 (F := Ideal) x0 x4 (k0_pay3 (F := Ideal) xs0 x5 x6 xs1 x7) x8 := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  sl_unfold_words
  rw [View.canon_unit_zero hz3]
  simp only [View.readCov_unit_zero (S := S1024x1024) _ hz2, View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1024) hz3, View.ld_unit_zero (S := S1x1x1024) hz3, View.ld_unit_zero (S := S1x1024) hz2, View.ld_unit_zero (S := S1024x256) hz2, View.ld_unit_zero (S := S256x1024) hz2, View.ld_unit_zero (S := S1024x1024) hz2]

end later

end Cert.Kernel2Ideal.Ffn

end
-- ==== Proof.Rms.lean ====
/-
  The root-mean-square normalisation of one token's features with its modulation, as one expression in the extended
  reals: each feature over the root of the mean square, by the gain, by one plus the scale, plus the shift.
-/
module

public import Idealize.ShloMosaic.Lib.Pointwise

@[expose] public section

noncomputable section

namespace Cert.Layer

open Idealize.ShloMosaic

/-- What a token's features are multiplied by: the inverse root of their mean square. -/
def rmsE (x : Fin 1024 → EReal) : EReal :=
  Ideal.rsqrt (Ideal.div (∑ u, x u * x u) (Ideal.ofBits .f32 0x44800000#32) + Ideal.ofBits .f32 0x358637BD#32)

/-- One feature, normalised and modulated. -/
def modE (x : Fin 1024 → EReal) (g sc sh : Fin 1024 → EReal) (u : Fin 1024) : EReal :=
  ((x u * rmsE x) * g u) * (1 + sc u) + sh u

end Cert.Layer

end
-- ==== Proof.Gate.lean ====
/-
  The logistic function two ways: as half a hyperbolic tangent plus a half, and as one over one plus an exponential.
  The two are equal at every extended real, the infinities included.
-/
module

public import Idealize.ShloMosaic.Lib.Pointwise

@[expose] public section

noncomputable section

namespace Cert.Layer

open Idealize.ShloMosaic

/-- The constant one half. -/
theorem half_bits : Ideal.ofBits .f32 0x3F000000#32 = ((1 / 2 : ℝ) : EReal) := by
  simp [Ideal.ofBits, Ideal.ieee, -EReal.coe_mul]; norm_num

/-- Half a hyperbolic tangent of half the argument, plus a half. -/
def halfTanh (x : EReal) : EReal :=
  Ideal.ofBits .f32 0x3F000000#32 * Ideal.tanh (Ideal.ofBits .f32 0x3F000000#32 * x) + Ideal.ofBits .f32 0x3F000000#32

/-- On the reals, by the exponentials on both sides. -/
theorem halfTanh_real (r : ℝ) : 1 / 2 * Real.tanh (1 / 2 * r) + 1 / 2 = (1 + Real.exp (-r))⁻¹ := by
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, e1]
  generalize Real.exp (1 / 2 * r) = a at *
  generalize Real.exp (-(1 / 2 * r)) = b at *
  have hb : b = a⁻¹ := by field_simp; linarith
  subst hb
  field_simp
  ring

/-- The two forms agree everywhere. -/
theorem halfTanh_eq (x : EReal) : halfTanh x = Ideal.logistic x := by
  unfold halfTanh
  rw [half_bits]
  induction x with
  | bot => rw [EReal.coe_mul_bot_of_pos (by norm_num), Ideal.tanh_bot, Ideal.logistic_bot]
           rw [show (-1 : EReal) = ((-1 : ℝ) : EReal) by simp, ← EReal.coe_mul, ← EReal.coe_add]; norm_num
  | top => rw [EReal.coe_mul_top_of_pos (by norm_num), Ideal.tanh_top, Ideal.logistic_top]
           rw [show (1 : EReal) = ((1 : ℝ) : EReal) by simp, ← EReal.coe_mul, ← EReal.coe_add]; norm_num
  | coe r => rw [← EReal.coe_mul, Ideal.tanh_coe, ← EReal.coe_mul, ← EReal.coe_add, Ideal.logistic_coe, halfTanh_real]

/-- The half-tangent form, folded back where it appears. -/
theorem halfTanh_def (x : EReal) :
    Ideal.ofBits .f32 0x3F000000#32 * Ideal.tanh (Ideal.ofBits .f32 0x3F000000#32 * x) + Ideal.ofBits .f32 0x3F000000#32 = Ideal.logistic x :=
  halfTanh_eq x

end Cert.Layer

end
-- ==== Proof.FfnBlock.lean ====
/-
  The feed-forward call, one step of the body: the normalised tokens, one chunk's addition to the accumulator, and the
  result from the accumulator, each read at one entry.
-/
module

public import proofs.«01_k».proof.Proof.Gen.Kernel2Ideal.Skeleton
public import proofs.«01_k».proof.Proof.Rms
public import proofs.«01_k».proof.Proof.Gate

@[expose] public section

set_option maxRecDepth 100000

noncomputable section

namespace Cert.Kernel2Ideal.Ffn

open Idealize.ShloMosaic Idealize.ShloMosaic.TcCoe Cert.Kernel2Ideal Cert.Kernel2Ideal.Gen Cert.Layer

/-- The tokens the first step keeps are the normalised and modulated ones. -/
theorem h_apply (x : Vec Ideal S1x1024x1024 .f32) (g : Vec Ideal S1x1024 .f32) (sc sh : Vec Ideal S1x1x1024 .f32) (r u : Fin 1024) :
    k0_pay1 (F := Ideal) x g sc sh (ix2 r u)
      = modE (fun u => x (ix3 0 r u)) (fun u => g (ix2 0 u)) (fun u => sc (ix3 0 0 u)) (fun u => sh (ix3 0 0 u)) u := by
  pointwise [k0_pay1]
  simp only [modE, rmsE]

/-- The accumulator starts at zero. -/
theorem zero_apply (r u : Fin 1024) : k0_pay2 (F := Ideal) (ix2 r u) = (0 : EReal) := by
  pointwise [k0_pay2]

/-- One chunk adds its 256 products. -/
theorem acc_apply (h : Vec Ideal S1024x1024 .bf16) (wg wu : Vec Ideal S1024x256 .bf16) (acc : Vec Ideal S1024x1024 .f32) (wd : Vec Ideal S256x1024 .bf16)
    (r j : Fin 1024) :
    k0_pay3 (F := Ideal) h wg wu acc wd (ix2 r j)
      = acc (ix2 r j) + ∑ v : Fin 256, (((∑ u : Fin 1024, h (ix2 r u) * wg (ix2 u v)) * Ideal.logistic (∑ u : Fin 1024, h (ix2 r u) * wg (ix2 u v))) * (∑ u : Fin 1024, h (ix2 r u) * wu (ix2 u v))) * wd (ix2 v j) := by
  pointwise [k0_pay3]
  simp only [halfTanh_def]

/-- The result normalises the residual sum and multiplies by the last gain. -/
theorem res_apply (x : Vec Ideal S1x1024x1024 .f32) (gt : Vec Ideal S1x1x1024 .f32) (acc : Vec Ideal S1024x1024 .f32) (fg : Vec Ideal S1x1024 .f32)
    (a : Fin 1) (r j : Fin 1024) :
    k0_pay4 (F := Ideal) x gt acc fg (ix3 a r j)
      = ((x (ix3 0 r j) + gt (ix3 0 0 j) * acc (ix2 r j) : EReal) * rmsE fun u => x (ix3 0 r u) + gt (ix3 0 0 u) * acc (ix2 r u)) * fg (ix2 0 j) := by
  pointwise [k0_pay4]
  simp only [rmsE]

end Cert.Kernel2Ideal.Ffn

end
-- ==== Proof.Ffn.lean ====
/-
  The feed-forward network of one token as one expression in the extended reals, and its inner sum of 2816 products as
  eleven chunks of 256.
-/
module

public import proofs.«01_k».proof.Proof.Rms
public import proofs.«01_k».proof.Proof.Gate

@[expose] public section

noncomputable section

namespace Cert.Layer

open Idealize.ShloMosaic

/-- One entry of the widened product. -/
def wideE (h : Fin 1024 → EReal) (w : Fin 1024 → Fin 5632 → EReal) (j : Fin 5632) : EReal := ∑ u, h u * w u j

/-- One entry of the first half through its own logistic function, times the second half. -/
def actE (h : Fin 1024 → EReal) (w : Fin 1024 → Fin 5632 → EReal) (v : Fin 2816) : EReal :=
  (wideE h w ⟨v.val, by omega⟩ * Ideal.logistic (wideE h w ⟨v.val, by omega⟩)) * wideE h w ⟨2816 + v.val, by omega⟩

/-- The product of inner entry `v` that goes to column `j`. -/
def prodE (h : Fin 1024 → EReal) (w : Fin 1024 → Fin 5632 → EReal) (wo : Fin 2816 → Fin 1024 → EReal) (j : Fin 1024) (v : Fin 2816) : EReal :=
  actE h w v * wo v j

/-- One entry of the residual sum. -/
def residE (x gt h : Fin 1024 → EReal) (w : Fin 1024 → Fin 5632 → EReal) (wo : Fin 2816 → Fin 1024 → EReal) (j : Fin 1024) : EReal :=
  x j + gt j * ∑ v, prodE h w wo j v

/-- One entry of the result: the residual sum over its root mean square, times the last gain. -/
def ffnE (x gt fg h : Fin 1024 → EReal) (w : Fin 1024 → Fin 5632 → EReal) (wo : Fin 2816 → Fin 1024 → EReal) (j : Fin 1024) : EReal :=
  (residE x gt h w wo j * rmsE (residE x gt h w wo)) * fg j

/-- Chunk `k` of a sum of 2816 terms. -/
def chunkE (f : Fin 2816 → EReal) (k : ℕ) : EReal := ∑ v : Fin 256, f ⟨(256 * k + v.val) % 2816, Nat.mod_lt _ (by norm_num)⟩

/-- The eleven chunks make up the sum. -/
theorem chunks_sum (f : Fin 2816 → EReal) : ∑ k ∈ Finset.range 11, chunkE f k = ∑ v, f v := by
  rw [← Fin.sum_univ_eq_sum_range (fun k => chunkE f k) 11]
  unfold chunkE
  rw [← Finset.sum_product', Finset.univ_product_univ]
  refine Fintype.sum_equiv (finProdFinEquiv (m := 11) (n := 256)) _ _ fun p => congrArg f (Fin.ext ?_)
  show (256 * p.1.val + p.2.val) % 2816 = p.2.val + 256 * p.1.val
  omega

end Cert.Layer

end
-- ==== Proof.FfnSteps.lean ====
/-
  The feed-forward call's eleven steps of a block: the token scratch holds the normalised tokens from the first step on,
  and after step `k` the accumulator holds the first `k + 1` chunks' sum.
-/
module

public import proofs.«01_k».proof.Proof.FfnWindows
public import proofs.«01_k».proof.Proof.FfnCases
public import proofs.«01_k».proof.Proof.FfnBlock
public import proofs.«01_k».proof.Proof.Ffn

@[expose] public section

noncomputable section

namespace Cert.Kernel2Ideal.Ffn

open Idealize.ShloMosaic Idealize.ShloMosaic.TcCoe Cert.Kernel2Ideal Cert.Kernel2Ideal.Gen Cert.Layer

variable (m : (ℓ : Loc nD τ sig) → Buf (Elt Ideal) ℓ) (c : Dev nD)

/-- Token `n` of batch row `b`. -/
def xE (b : Fin 8) (n : Fin 2048) (u : Fin 1024) : EReal := (m ((c : Thread nD τ).loc main_arg0) : Vec Ideal S8x2048x1024 .f32) (ix3 b n u)
/-- The token normalised and modulated. -/
def hE (b : Fin 8) (n : Fin 2048) : Fin 1024 → EReal :=
  modE (xE m c b n) (fun u => (m ((c : Thread nD τ).loc main_arg1) : Vec Ideal S1024 .f32) (ix1 u))
    (fun u => (m ((c : Thread nD τ).loc main_arg3) : Vec Ideal S8x1x1024 .f32) (ix3 b 0 u))
    (fun u => (m ((c : Thread nD τ).loc main_arg2) : Vec Ideal S8x1x1024 .f32) (ix3 b 0 u))
/-- The widening weight. -/
def wE (u : Fin 1024) (j : Fin 5632) : EReal := (m ((c : Thread nD τ).loc main_arg5) : Vec Ideal S1024x5632 .bf16) (ix2 u j)
/-- The narrowing weight. -/
def woE (v : Fin 2816) (j : Fin 1024) : EReal := (m ((c : Thread nD τ).loc main_arg6) : Vec Ideal S2816x1024 .bf16) (ix2 v j)
/-- The gate of batch row `b`. -/
def gtE (b : Fin 8) (u : Fin 1024) : EReal := (m ((c : Thread nD τ).loc main_arg4) : Vec Ideal S8x1x1024 .f32) (ix3 b 0 u)
/-- The last gain. -/
def fgE (u : Fin 1024) : EReal := (m ((c : Thread nD τ).loc main_arg7) : Vec Ideal S1024 .f32) (ix1 u)

/-- The products a token's column sums. -/
def pE (b : Fin 8) (n : Fin 2048) (j : Fin 1024) : Fin 2816 → EReal := prodE (hE m c b n) (wE m c) (woE m c) j

/-- The tokens the first step keeps. -/
theorem keep_first (t : Fin cfg0.N) (r u : Fin 1024) :
    k0_pay1 (F := Ideal) (iblk m c 0 t) (iblk m c 1 t) (iblk m c 3 t) (iblk m c 2 t) (ix2 r u) = hE m c (bat t) (tok t r) u := by
  refine (h_apply _ _ _ _ r u).trans ?_
  unfold hE
  congr 1
  · funext u; exact blk0 m c t _
  · funext u; exact blk1 m c t 0 u
  · funext u; exact blk3 m c t _
  · funext u; exact blk2 m c t _

theorem wide_first (t : Fin cfg0.N) (hv : Vec Ideal S1024x1024 .bf16) (r : Fin 1024) (v : Fin 256)
    (hh : ∀ u : Fin 1024, hv (ix2 r u) = hE m c (bat t) (tok t r) u) :
    ∑ u : Fin 1024, hv (ix2 r u) * (iblk m c 5 t : Vec Ideal S1024x256 .bf16) (ix2 u v)
      = wideE (hE m c (bat t) (tok t r)) (wE m c) ⟨(mid t v).val, by omega⟩ := by
  refine Finset.sum_congr rfl fun u _ => ?_
  rw [hh u]
  congr 1
  refine (blk5 m c t _).trans ?_
  show wE m c u (colG t v) = _
  congr 1
  apply Fin.ext
  show 256 * (t.val % 11) + v.val = (256 * (t.val % 11) + v.val) % 2816
  omega

theorem wide_second (t : Fin cfg0.N) (hv : Vec Ideal S1024x1024 .bf16) (r : Fin 1024) (v : Fin 256)
    (hh : ∀ u : Fin 1024, hv (ix2 r u) = hE m c (bat t) (tok t r) u) :
    ∑ u : Fin 1024, hv (ix2 r u) * (iblk m c 6 t : Vec Ideal S1024x256 .bf16) (ix2 u v)
      = wideE (hE m c (bat t) (tok t r)) (wE m c) ⟨2816 + (mid t v).val, by omega⟩ := by
  refine Finset.sum_congr rfl fun u _ => ?_
  rw [hh u]
  congr 1
  refine (blk6 m c t _).trans ?_
  show wE m c u (colU t v) = _
  congr 1
  apply Fin.ext
  show 2816 + (256 * (t.val % 11) + v.val) = 2816 + (256 * (t.val % 11) + v.val) % 2816
  omega

/-- What one step adds to the accumulator is its chunk of the sum. -/
theorem step_eq (t : Fin cfg0.N) (hv : Vec Ideal S1024x1024 .bf16) (acc : Vec Ideal S1024x1024 .f32) (r j : Fin 1024)
    (hh : ∀ u : Fin 1024, hv (ix2 r u) = hE m c (bat t) (tok t r) u) :
    k0_pay3 (F := Ideal) hv (iblk m c 5 t) (iblk m c 6 t) acc (iblk m c 7 t) (ix2 r j)
      = (acc (ix2 r j) : EReal) + chunkE (pE m c (bat t) (tok t r) j) (t.val % 11) := by
  refine (acc_apply _ _ _ _ _ r j).trans ?_
  congr 1
  refine Finset.sum_congr rfl fun v _ => ?_
  rw [wide_first m c t hv r v hh, wide_second m c t hv r v hh]
  show _ = actE (hE m c (bat t) (tok t r)) (wE m c) (mid t v) * woE m c (mid t v) j
  unfold actE
  congr 1
  exact blk7 m c t _

/-- What the scratches hold after a step that is not its block's last. -/
theorem held : ∀ (n : ℕ) (h : n < cfg0.N), n % 11 ≠ 10 → ∀ r : Fin 1024,
    (∀ u : Fin 1024, (outsAt0 m c n h).2.1 (ix2 r u) = hE m c (bat ⟨n, h⟩) (tok ⟨n, h⟩ r) u)
      ∧ ∀ j : Fin 1024, (outsAt0 m c n h).2.2 (ix2 r j)
          = (∑ k ∈ Finset.range (n % 11 + 1), chunkE (pE m c (bat ⟨n, h⟩) (tok ⟨n, h⟩ r) j) k : EReal) := by
  intro n
  induction n with
  | zero =>
    intro h hn r
    have e := outsAt0_A m c ⟨0, h⟩ rfl hn
    refine ⟨fun u => ?_, fun j => ?_⟩
    · refine (congrFun (congrArg (fun p => p.2.1) e) (ix2 r u)).trans ?_
      dsimp only
      rw [keep_A]
      exact keep_first m c ⟨0, h⟩ r u
    · refine (congrFun (congrArg (fun p => p.2.2) e) (ix2 r j)).trans ?_
      dsimp only
      rw [acc_A]
      refine (step_eq m c ⟨0, h⟩ _ _ r j fun u => keep_first m c ⟨0, h⟩ r u).trans ?_
      rw [zero_apply, zero_add]
      simp
  | succ n ih =>
    intro h hn r
    by_cases h0 : (n + 1) % 11 = 0
    · have e := outsAt0_A m c ⟨n + 1, h⟩ h0 hn
      refine ⟨fun u => ?_, fun j => ?_⟩
      · refine (congrFun (congrArg (fun p => p.2.1) e) (ix2 r u)).trans ?_
        dsimp only
        rw [keep_A]
        exact keep_first m c ⟨n + 1, h⟩ r u
      · refine (congrFun (congrArg (fun p => p.2.2) e) (ix2 r j)).trans ?_
        dsimp only
        rw [acc_A]
        refine (step_eq m c ⟨n + 1, h⟩ _ _ r j fun u => keep_first m c ⟨n + 1, h⟩ r u).trans ?_
        rw [zero_apply, zero_add, h0]
        simp [h0]
    · have e := outsAt0_B m c ⟨n + 1, h⟩ h0 hn
      have hb : bat ⟨n, Nat.lt_of_succ_lt h⟩ = bat ⟨n + 1, h⟩ := Fin.ext (show n / 22 % 8 = (n + 1) / 22 % 8 by omega)
      have ht : tok ⟨n, Nat.lt_of_succ_lt h⟩ r = tok ⟨n + 1, h⟩ r := Fin.ext (show 1024 * (n / 11 % 2) + r.val = 1024 * ((n + 1) / 11 % 2) + r.val by omega)
      obtain ⟨i1, i2⟩ := ih (Nat.lt_of_succ_lt h) (by omega) r
      rw [hb, ht] at i1 i2
      refine ⟨fun u => ?_, fun j => ?_⟩
      · refine (congrFun (congrArg (fun p => p.2.1) e) (ix2 r u)).trans ?_
        exact i1 u
      · refine (congrFun (congrArg (fun p => p.2.2) e) (ix2 r j)).trans ?_
        dsimp only
        rw [acc_B]
        refine (step_eq m c ⟨n + 1, h⟩ _ _ r j i1).trans ?_
        rw [show (n + 1) % 11 = n % 11 + 1 by omega, Finset.sum_range_succ _ (n % 11 + 1)]
        exact congrArg (· + _) (i2 j)

/-- The accumulator with the last chunk added holds the whole sum. -/
theorem whole (t : Fin cfg0.N) (h0 : ¬t.val % 11 = 0) (h1 : t.val % 11 = 10) (r j : Fin 1024) :
    k0_pay3 (F := Ideal) (outsAt0 m c (t.val - 1) (Nat.lt_of_le_of_lt (Nat.sub_le _ _) t.isLt)).2.1 (iblk m c 5 t) (iblk m c 6 t)
        (outsAt0 m c (t.val - 1) (Nat.lt_of_le_of_lt (Nat.sub_le _ _) t.isLt)).2.2 (iblk m c 7 t) (ix2 r j)
      = (∑ v, pE m c (bat t) (tok t r) j v : EReal) := by
  have hp : t.val - 1 < cfg0.N := Nat.lt_of_le_of_lt (Nat.sub_le _ _) t.isLt
  have hb : bat ⟨t.val - 1, hp⟩ = bat t := Fin.ext (show (t.val - 1) / 22 % 8 = t.val / 22 % 8 by omega)
  have ht : tok ⟨t.val - 1, hp⟩ r = tok t r := Fin.ext (show 1024 * ((t.val - 1) / 11 % 2) + r.val = 1024 * (t.val / 11 % 2) + r.val by omega)
  obtain ⟨i1, i2⟩ := held m c (t.val - 1) hp (by omega) r
  rw [hb, ht] at i1 i2
  refine (step_eq m c t _ _ r j i1).trans ?_
  rw [i2 j, h1, show (t.val - 1) % 11 + 1 = 10 by omega, ← Finset.sum_range_succ, chunks_sum]

end Cert.Kernel2Ideal.Ffn

end
-- ==== Proof.FfnKernel.lean ====
/-
  The feed-forward call's result array: at each entry the feed-forward network of that token.
-/
module

public import proofs.«01_k».proof.Proof.FfnSteps

@[expose] public section

noncomputable section

namespace Cert.Kernel2Ideal.Ffn

open Idealize.ShloMosaic Idealize.ShloMosaic.TcCoe Cert.Kernel2Ideal Cert.Kernel2Ideal.Gen Cert.Layer

variable (m : (ℓ : Loc nD τ sig) → Buf (Elt Ideal) ℓ) (c : Dev nD)

/-- What the result array holds. -/
def arr : Vec Ideal S8x2048x1024 .f32 := fun i =>
  ffnE (xE m c (i 0 : Fin 8) (i 1 : Fin 2048)) (gtE m c (i 0 : Fin 8)) (fgE m c) (hE m c (i 0 : Fin 8) (i 1 : Fin 2048)) (wE m c) (woE m c) (i 2 : Fin 1024)

/-- The last step's result from what its blocks and the accumulator hold. -/
theorem res_ffn (x : Vec Ideal S1x1024x1024 .f32) (gt : Vec Ideal S1x1x1024 .f32) (acc : Vec Ideal S1024x1024 .f32) (fg : Vec Ideal S1x1024 .f32)
    (a : Fin 1) (r j : Fin 1024) {xe ge fe h : Fin 1024 → EReal} {w : Fin 1024 → Fin 5632 → EReal} {wo : Fin 2816 → Fin 1024 → EReal}
    (hx : ∀ u, x (ix3 0 r u) = xe u) (hg : ∀ u, gt (ix3 0 0 u) = ge u) (ha : ∀ u, acc (ix2 r u) = ∑ v, prodE h w wo u v) (hf : fg (ix2 0 j) = fe j) :
    k0_pay4 (F := Ideal) x gt acc fg (ix3 a r j) = ffnE xe ge fe h w wo j := by
  refine (res_apply x gt acc fg a r j).trans ?_
  simp only [hx, hg, ha, hf]
  rfl

/-- What the last step of a block leaves in the result's block. -/
theorem out_at (t : Fin cfg0.N) (h0 : ¬t.val % 11 = 0) (h1 : t.val % 11 = 10) (a : Fin 1) (r j : Fin 1024) :
    k0_pay4 (F := Ideal) (iblk m c 0 t) (iblk m c 4 t)
        (k0_pay3 (F := Ideal) (outsAt0 m c (t.val - 1) (Nat.lt_of_le_of_lt (Nat.sub_le _ _) t.isLt)).2.1 (iblk m c 5 t) (iblk m c 6 t)
          (outsAt0 m c (t.val - 1) (Nat.lt_of_le_of_lt (Nat.sub_le _ _) t.isLt)).2.2 (iblk m c 7 t)) (iblk m c 8 t) (ix3 a r j)
      = arr m c (ix3 (bat t) (tok t r) j) := by
  exact res_ffn _ _ _ _ a r j (fun u => blk0 m c t _) (fun u => blk4 m c t _) (fun u => whole m c t h0 h1 r u) (blk8 m c t 0 j)

theorem flush_mod (t : Fin cfg0.N) (hf : (cfg0.win 9).flush t = true) : t.val % 11 = 10 :=
  (by decide +kernel : ∀ t : Fin grid0.N, win0_9.flush t = true → t.val % 11 = 10) t hf

theorem mod_flush (t : Fin cfg0.N) (h : t.val % 11 = 10) : (cfg0.win 9).flush t = true :=
  (by decide +kernel : ∀ t : Fin grid0.N, t.val % 11 = 10 → win0_9.flush t = true) t h

theorem flushed_eq (t : Fin cfg0.N) (hf : (cfg0.win 9).flush t = true) :
    (dats m 0 c).flushed 9 t = ((cfg0.win 9).blk t).view.read (Elt Ideal) (arr m c) := by
  have h1 := flush_mod t hf
  have h0 : ¬t.val % 11 = 0 := by omega
  rw [Value.flushed9_C m c t h0 h1, out_C]
  funext y
  refine Eq.trans ?_ (congrArg (arr m c) (emb9 t y).symm)
  refine Eq.trans ?_ (out_at m c t h0 h1 (y 0) (y 1) (y 2))
  exact congrArg (k0_pay4 (F := Ideal) (iblk m c 0 t) (iblk m c 4 t)
        (k0_pay3 (F := Ideal) (outsAt0 m c (t.val - 1) (Nat.lt_of_le_of_lt (Nat.sub_le _ _) t.isLt)).2.1 (iblk m c 5 t) (iblk m c 6 t)
          (outsAt0 m c (t.val - 1) (Nat.lt_of_le_of_lt (Nat.sub_le _ _) t.isLt)).2.2 (iblk m c 7 t)) (iblk m c 8 t)) (eq_ix3 (n0 := 1) (n1 := 1024) (n2 := 1024) y)

theorem cell (t : Fin cfg0.N) (r j : Fin 1024) (i : S8x2048x1024.Idx) (hi : ix3 (bat t) (tok t r) j = i) :
    i ∈ ((cfg0.win 9).blk t).view.set := by
  subst hi
  have h := ((cfg0.win 9).blk t).view.emb_mem_set (ix3 0 r j)
  rw [emb9] at h
  exact h

/-- The point that writes batch row `a`, token block `s`. -/
def pt (a : Fin 8) (s : Fin 2) : Fin cfg0.N := ⟨22 * a.val + 11 * s.val + 10, by show _ < 176; omega⟩

theorem cover (i : S8x2048x1024.Idx) : ∃ t : Fin cfg0.N, (cfg0.win 9).flush t = true ∧ i ∈ ((cfg0.win 9).blk t).view.set := by
  have key : ∀ (a : Fin 8) (n : Fin 2048) (j : Fin 1024), ix3 a n j = i → ∃ t : Fin cfg0.N, (cfg0.win 9).flush t = true ∧ i ∈ ((cfg0.win 9).blk t).view.set := by
    intro a n j h
    have e0 : bat (pt a ⟨n.val / 1024, by omega⟩) = a :=
      Fin.ext (show (22 * a.val + 11 * (n.val / 1024) + 10) / 22 % 8 = a.val by omega)
    have e1 : tok (pt a ⟨n.val / 1024, by omega⟩) ⟨n.val % 1024, by omega⟩ = n :=
      Fin.ext (show 1024 * ((22 * a.val + 11 * (n.val / 1024) + 10) / 11 % 2) + n.val % 1024 = n.val by omega)
    refine ⟨pt a ⟨n.val / 1024, by omega⟩, mod_flush _ (show (22 * a.val + 11 * (n.val / 1024) + 10) % 11 = 10 by omega), cell _ ⟨n.val % 1024, by omega⟩ j i ?_⟩
    rw [e0, e1]
    exact h
  exact key (i 0) (i 1) (i 2) (eq_ix3 (n0 := 8) (n1 := 2048) (n2 := 1024) i).symm

/-- The result array. -/
theorem final : (dats m 0 c).arrAt 9 cfg0.N = arr m c :=
  (dats m 0 c).arrAt_eq_of_cover 9 (arr m c) (fun t hf => flushed_eq m c t hf) cover

end Cert.Kernel2Ideal.Ffn

end
-- ==== Proof.FfnRef.lean ====
/-
  The feed-forward call's reference, stage by stage: the normalised tokens, the widened product, its gated half, the
  residual sum and the last normalisation, each read at one entry.
-/
module

public import proofs.«01_k».proof.Proof.Gen.Reference2Ideal.Run
public import proofs.«01_k».proof.Proof.Ffn

@[expose] public section

set_option maxRecDepth 100000

noncomputable section

namespace Cert.Reference2Ideal.Ffn

open Idealize.ShloMosaic Idealize.ShloMosaic.TcCoe Cert.Reference2Ideal Cert.Reference2Ideal.Gen Cert.Layer

/-- Every token over the root of its mean square. -/
def nrm (x : FVec Ideal S8x2048x1024 .f32) : FVec Ideal S8x2048x1024 .f32 :=
  mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))

/-- A row of gains, over every token. -/
def gain (g : FVec Ideal S1024 .f32) : FVec Ideal S8x2048x1024 .f32 :=
  broadcastInDim S8x2048x1024 ![0, 1, 2] bcast_S1x1x1024_S8x2048x1024_0_1_2 (broadcastInDim S1x1x1024 ![2] bcast_S1024_S1x1x1024_2 g)

/-- The widened product of the normalised and modulated tokens. -/
def wide (x : FVec Ideal S8x2048x1024 .f32) (g : FVec Ideal S1024 .f32) (sh sc : FVec Ideal S8x1x1024 .f32) (w : FVec Ideal S1024x5632 .bf16) : FVec Ideal S8x2048x5632 .f32 :=
  Host.dotGeneral (F := Ideal) (so := S8x2048x5632) (φ₁ := .f32) (φ₂ := .f32) dot_S8x2048x1024_S1024x5632_S8x2048x5632_2_0_01_1_n_n none (addf (mulf (mulf (nrm x) (gain g)) (broadcastInDim S8x2048x1024 ![0, 1, 2] bcast_S8x1x1024_S8x2048x1024_0_1_2 (addf (broadcastInDim S8x1x1024 ![] bcast_S_S8x1x1024 (constant S_ .f32 0x3F800000#32)) sc))) (broadcastInDim S8x2048x1024 ![0, 1, 2] bcast_S8x1x1024_S8x2048x1024_0_1_2 sh)) (extf .f32 w bitsLt_bf16_f32)

/-- The first half through its own logistic function, times the second half. -/
def gated (z : FVec Ideal S8x2048x5632 .f32) : FVec Ideal S8x2048x2816 .f32 :=
  mulf (mulf (extractStridedSlice S8x2048x2816 ![0, 0, 0] z slices_S8x2048x5632_S8x2048x2816_0_0_0) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (extractStridedSlice S8x2048x2816 ![0, 0, 0] z slices_S8x2048x5632_S8x2048x2816_0_0_0)))))) (extractStridedSlice S8x2048x2816 ![0, 0, 2816] z slices_S8x2048x5632_S8x2048x2816_0_0_2816)

/-- The residual sum. -/
def resid (x : FVec Ideal S8x2048x1024 .f32) (gt : FVec Ideal S8x1x1024 .f32) (a : FVec Ideal S8x2048x2816 .f32) (w : FVec Ideal S2816x1024 .bf16) : FVec Ideal S8x2048x1024 .f32 :=
  addf x (mulf (broadcastInDim S8x2048x1024 ![0, 1, 2] bcast_S8x1x1024_S8x2048x1024_0_1_2 gt) (Host.dotGeneral (F := Ideal) (so := S8x2048x1024) (φ₁ := .f32) (φ₂ := .f32) dot_S8x2048x2816_S2816x1024_S8x2048x1024_2_0_01_1_n_n none a (extf .f32 w bitsLt_bf16_f32)))

theorem res_eq (m : (ℓ : Loc nD τ sig) → Buf (Elt Ideal) ℓ) (c : Dev nD) :
    Value.res_main_v42 (F := Ideal) m c
      = mulf (nrm (resid (m ((c.tc : Thread nD τ).loc main_arg0)) (m ((c.tc : Thread nD τ).loc main_arg4))
          (gated (wide (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))))
          (m ((c.tc : Thread nD τ).loc main_arg6)))) (gain (m ((c.tc : Thread nD τ).loc main_arg7))) := rfl

theorem nrm_apply (x : FVec Ideal S8x2048x1024 .f32) (b : Fin 8) (n : Fin 2048) (u : Fin 1024) :
    nrm x (ix3 b n u) = (x (ix3 b n u) : EReal) * rmsE fun u => x (ix3 b n u) := by
  unfold nrm
  pointwise
  simp only [rmsE]

theorem gain_apply (g : FVec Ideal S1024 .f32) (b : Fin 8) (n : Fin 2048) (u : Fin 1024) : gain g (ix3 b n u) = g (ix1 u) := by
  unfold gain
  pointwise

theorem wide_apply (x : FVec Ideal S8x2048x1024 .f32) (g : FVec Ideal S1024 .f32) (sh sc : FVec Ideal S8x1x1024 .f32) (w : FVec Ideal S1024x5632 .bf16)
    (b : Fin 8) (n : Fin 2048) (j : Fin 5632) :
    wide x g sh sc w (ix3 b n j)
      = ∑ u : Fin 1024, modE (fun u => x (ix3 b n u)) (fun u => g (ix1 u)) (fun u => sc (ix3 b 0 u)) (fun u => sh (ix3 b 0 u)) u * w (ix2 u j) := by
  unfold wide
  pointwise
  simp only [nrm_apply, gain_apply, modE]

theorem gated_apply (z : FVec Ideal S8x2048x5632 .f32) (b : Fin 8) (n : Fin 2048) (v : Fin 2816) :
    gated z (ix3 b n v)
      = ((z (ix3 b n ⟨v.val, by omega⟩) : EReal) * Ideal.logistic (z (ix3 b n ⟨v.val, by omega⟩))) * z (ix3 b n ⟨2816 + v.val, by omega⟩) := by
  unfold gated
  pointwise
  rfl

theorem resid_apply (x : FVec Ideal S8x2048x1024 .f32) (gt : FVec Ideal S8x1x1024 .f32) (a : FVec Ideal S8x2048x2816 .f32) (w : FVec Ideal S2816x1024 .bf16)
    (b : Fin 8) (n : Fin 2048) (j : Fin 1024) :
    resid x gt a w (ix3 b n j) = (x (ix3 b n j) : EReal) + gt (ix3 b 0 j) * ∑ v : Fin 2816, a (ix3 b n v) * w (ix2 v j) := by
  unfold resid
  pointwise

/-- The whole reference at one entry: the feed-forward network of that token. -/
theorem ref_apply (x : FVec Ideal S8x2048x1024 .f32) (g : FVec Ideal S1024 .f32) (sh sc gt : FVec Ideal S8x1x1024 .f32) (w : FVec Ideal S1024x5632 .bf16)
    (wo : FVec Ideal S2816x1024 .bf16) (fg : FVec Ideal S1024 .f32) (b : Fin 8) (n : Fin 2048) (j : Fin 1024) :
    mulf (nrm (resid x gt (gated (wide x g sh sc w)) wo)) (gain fg) (ix3 b n j)
      = ffnE (fun u => x (ix3 b n u)) (fun u => gt (ix3 b 0 u)) (fun u => fg (ix1 u))
          (modE (fun u => x (ix3 b n u)) (fun u => g (ix1 u)) (fun u => sc (ix3 b 0 u)) (fun u => sh (ix3 b 0 u)))
          (fun u j => w (ix2 u j)) (fun v j => wo (ix2 v j)) j := by
  show (nrm (resid x gt (gated (wide x g sh sc w)) wo) (ix3 b n j) : EReal) * gain fg (ix3 b n j) = _
  rw [nrm_apply, gain_apply]
  simp only [resid_apply, gated_apply, wide_apply]
  rfl

end Cert.Reference2Ideal.Ffn

end
-- ==== Proof.FfnEq.lean ====
/-
  The feed-forward call's claims: the tiled kernel and the plain reference end with equal results.
-/
module

public import proofs.«01_k».proof.Defs
public import proofs.«01_k».proof.Proof.FfnKernel
public import proofs.«01_k».proof.Proof.FfnRef
public import Idealize.ShloMosaic.Lib.Quiescent

@[expose] public section

set_option maxRecDepth 100000

noncomputable section

namespace Cert.Ffn

open Idealize.ShloMosaic Idealize.ShloMosaic.TcCoe

/-- The reference runs, leaves its arguments as they were, and has no semaphore to leave behind. -/
theorem quiescent : Cert.quiescent_Reference2Ideal := fun m g _ =>
  θ_run_mono (Cert.Reference2Ideal.Value.run (F := Ideal) m g) fun r h => ⟨fun c => (h c).2, sem_eq_zero_of_no_sems (by decide) r.2⟩

/-- The kernel's and the reference's results are equal at every entry. -/
theorem equal : Cert.algebraic_Kernel2Ideal_Reference2Ideal := fun m g m' g' _ he => by
  refine ⟨fun c => Cert.Kernel2Ideal.Ffn.arr m c, ?_, ?_⟩
  · refine θ_run_mono (Cert.Kernel2Ideal.Value.run_blocks m g) fun r h c => ?_
    obtain ⟨h0, hk⟩ := h c
    exact ⟨h0.trans (Cert.Kernel2Ideal.Ffn.final m c), hk⟩
  · refine θ_run_mono (Cert.Reference2Ideal.Value.run (F := Ideal) m' g') fun r h c => ?_
    obtain ⟨h0, hk⟩ := h c
    refine ⟨h0.trans ?_, hk⟩
    rw [Cert.Reference2Ideal.Ffn.res_eq]
    obtain ⟨e0, e1, e2, e3, e4, e5, e6, e7⟩ := he c
    rw [e0, e1, e2, e3, e4, e5, e6, e7]
    funext i
    rw [eq_ix3 (n0 := 8) (n1 := 2048) (n2 := 1024) i]
    exact Cert.Reference2Ideal.Ffn.ref_apply _ _ _ _ _ _ _ _ _ _ _

end Cert.Ffn

end
-- ==== Proof.InprojBlock.lean ====
/-
  The input projection, one block: every entry of the block is the product of one normalised and modulated token with
  one column of the weight.
-/
module

public import proofs.«01_k».proof.Proof.Gen.Kernel3Ideal.Skeleton
public import proofs.«01_k».proof.Proof.Rms

@[expose] public section

set_option maxRecDepth 100000

noncomputable section

namespace Cert.Kernel3Ideal.Inproj

open Idealize.ShloMosaic Idealize.ShloMosaic.TcCoe Cert.Kernel3Ideal Cert.Kernel3Ideal.Gen Cert.Layer

theorem block_apply (x : Vec Ideal S1x512x1024 .f32) (g : Vec Ideal S1x1024 .f32) (sc sh : Vec Ideal S1x1x1024 .f32) (w : Vec Ideal S1024x2432 .bf16)
    (a : Fin 1) (r : Fin 512) (j : Fin 2432) :
    k0_pay1 (F := Ideal) x g sc sh w (ix3 a r j)
      = ∑ u : Fin 1024, modE (fun u => x (ix3 0 r u)) (fun u => g (ix2 0 u)) (fun u => sc (ix3 0 0 u)) (fun u => sh (ix3 0 0 u)) u * w (ix2 u j) := by
  pointwise [k0_pay1]
  simp only [modE, rmsE]

end Cert.Kernel3Ideal.Inproj

end
-- ==== Proof.InprojKernel.lean ====
/-
  The input projection's result array: block by block the body's result of the blocks, and so at each entry the product
  of one normalised and modulated token with one column of the weight.
-/
module

public import proofs.«01_k».proof.Proof.Gen.Kernel3Ideal.Value
public import proofs.«01_k».proof.Proof.InprojBlock

@[expose] public section

noncomputable section

namespace Cert.Kernel3Ideal.Inproj

open Idealize.ShloMosaic Idealize.ShloMosaic.TcCoe Idealize.ShloMosaic.Tactic Cert.Kernel3Ideal Cert.Kernel3Ideal.Gen Cert.Layer

variable (m : (ℓ : Loc nD τ sig) → Buf (Elt Ideal) ℓ) (c : Dev nD)

theorem lt96 (t : Fin cfg0.N) : t.val < 96 := t.isLt

/-- The point's batch row. -/
def bat (t : Fin cfg0.N) : Fin 8 := ⟨t.val / 4 % 8, by omega⟩
/-- The token of row `s` of the point's block. -/
def tok (t : Fin cfg0.N) (s : Fin 512) : Fin 2048 := ⟨512 * (t.val % 4) + s.val, by omega⟩
/-- The column of column `j` of the point's block. -/
def col (t : Fin cfg0.N) (j : Fin 2432) : Fin 7296 := ⟨2432 * (t.val / 32) + j.val, by have := lt96 t; omega⟩

/-- The gain, as the host hands it over. -/
theorem V_v0 : V m c main_v0 = shapeCast S1x1024 (m ((c : Thread nD τ).loc main_arg1)) shapeCasts_S1024_S1x1024 := by
  unfold V
  after_results
  rfl

theorem row_vec (x : Vec Ideal S1024 .f32) (a : Fin 1) (j : Fin 1024) : shapeCast S1x1024 x shapeCasts_S1024_S1x1024 (ix2 a j) = x (ix1 j) := by
  pointwise

/-! ## The blocks -/

theorem idx0 : ∀ t : Fin cfg0.N, win0_0.index t 0 = t.val / 4 % 8 ∧ win0_0.index t 1 = t.val % 4 ∧ win0_0.index t 2 = 0 :=
  (by decide +kernel : ∀ t : Fin grid0.N, win0_0.index t 0 = t.val / 4 % 8 ∧ win0_0.index t 1 = t.val % 4 ∧ win0_0.index t 2 = 0)

theorem emb0 (t : Fin cfg0.N) (j : S1x512x1024.Idx) : ((cfg0.win 0).blk t).view.emb j = ix3 (bat t) (tok t (j 1)) (j 2) := by
  obtain ⟨e0, e1, e2⟩ := idx0 t
  have h0 : (j 0).val < 1 := (j 0).isLt
  funext a; apply Fin.ext
  match a with
  | ⟨0, _⟩ => show win0_0.index t (0 : Fin 3) * 1 + 1 * (j 0).val = t.val / 4 % 8; omega
  | ⟨1, _⟩ => show win0_0.index t (1 : Fin 3) * 512 + 1 * (j 1).val = 512 * (t.val % 4) + (j 1).val; omega
  | ⟨2, _⟩ => show win0_0.index t (2 : Fin 3) * 1024 + 1 * (j 2).val = (j 2).val; omega

theorem idx1 : ∀ t : Fin cfg0.N, win0_1.index t 0 = 0 ∧ win0_1.index t 1 = 0 :=
  (by decide +kernel : ∀ t : Fin grid0.N, win0_1.index t 0 = 0 ∧ win0_1.index t 1 = 0)

theorem emb1 (t : Fin cfg0.N) (j : S1x1024.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem idx2 : ∀ t : Fin cfg0.N, win0_2.index t 0 = t.val / 4 % 8 ∧ win0_2.index t 1 = 0 ∧ win0_2.index t 2 = 0 :=
  (by decide +kernel : ∀ t : Fin grid0.N, win0_2.index t 0 = t.val / 4 % 8 ∧ win0_2.index t 1 = 0 ∧ win0_2.index t 2 = 0)

theorem emb2 (t : Fin cfg0.N) (j : S1x1x1024.Idx) : ((cfg0.win 2).blk t).view.emb j = ix3 (bat t) (j 1) (j 2) := by
  obtain ⟨e0, e1, e2⟩ := idx2 t
  have h0 : (j 0).val < 1 := (j 0).isLt
  funext a; apply Fin.ext
  match a with
  | ⟨0, _⟩ => show win0_2.index t (0 : Fin 3) * 1 + 1 * (j 0).val = t.val / 4 % 8; omega
  | ⟨1, _⟩ => show win0_2.index t (1 : Fin 3) * 1 + 1 * (j 1).val = (j 1).val; omega
  | ⟨2, _⟩ => show win0_2.index t (2 : Fin 3) * 1024 + 1 * (j 2).val = (j 2).val; omega

theorem idx3 : ∀ t : Fin cfg0.N, win0_3.index t 0 = t.val / 4 % 8 ∧ win0_3.index t 1 = 0 ∧ win0_3.index t 2 = 0 :=
  (by decide +kernel : ∀ t : Fin grid0.N, win0_3.index t 0 = t.val / 4 % 8 ∧ win0_3.index t 1 = 0 ∧ win0_3.index t 2 = 0)

theorem emb3 (t : Fin cfg0.N) (j : S1x1x1024.Idx) : ((cfg0.win 3).blk t).view.emb j = ix3 (bat t) (j 1) (j 2) := by
  obtain ⟨e0, e1, e2⟩ := idx3 t
  have h0 : (j 0).val < 1 := (j 0).isLt
  funext a; apply Fin.ext
  match a with
  | ⟨0, _⟩ => show win0_3.index t (0 : Fin 3) * 1 + 1 * (j 0).val = t.val / 4 % 8; omega
  | ⟨1, _⟩ => show win0_3.index t (1 : Fin 3) * 1 + 1 * (j 1).val = (j 1).val; omega
  | ⟨2, _⟩ => show win0_3.index t (2 : Fin 3) * 1024 + 1 * (j 2).val = (j 2).val; omega

theorem idx4 : ∀ t : Fin cfg0.N, win0_4.index t 0 = 0 ∧ win0_4.index t 1 = t.val / 32 :=
  (by decide +kernel : ∀ t : Fin grid0.N, win0_4.index t 0 = 0 ∧ win0_4.index t 1 = t.val / 32)

theorem emb4 (t : Fin cfg0.N) (j : S1024x2432.Idx) : ((cfg0.win 4).blk t).view.emb j = ix2 (j 0) (col t (j 1)) := by
  obtain ⟨e0, e1⟩ := idx4 t
  funext a; apply Fin.ext
  match a with
  | ⟨0, _⟩ => show win0_4.index t (0 : Fin 2) * 1024 + 1 * (j 0).val = (j 0).val; omega
  | ⟨1, _⟩ => show win0_4.index t (1 : Fin 2) * 2432 + 1 * (j 1).val = 2432 * (t.val / 32) + (j 1).val; omega

theorem idx5 : ∀ t : Fin cfg0.N, win0_5.index t 0 = t.val / 4 % 8 ∧ win0_5.index t 1 = t.val % 4 ∧ win0_5.index t 2 = t.val / 32 :=
  (by decide +kernel : ∀ t : Fin grid0.N, win0_5.index t 0 = t.val / 4 % 8 ∧ win0_5.index t 1 = t.val % 4 ∧ win0_5.index t 2 = t.val / 32)

theorem emb5 (t : Fin cfg0.N) (j : S1x512x2432.Idx) : ((cfg0.win 5).blk t).view.emb j = ix3 (bat t) (tok t (j 1)) (col t (j 2)) := by
  obtain ⟨e0, e1, e2⟩ := idx5 t
  have h0 : (j 0).val < 1 := (j 0).isLt
  funext a; apply Fin.ext
  match a with
  | ⟨0, _⟩ => show win0_5.index t (0 : Fin 3) * 1 + 1 * (j 0).val = t.val / 4 % 8; omega
  | ⟨1, _⟩ => show win0_5.index t (1 : Fin 3) * 512 + 1 * (j 1).val = 512 * (t.val % 4) + (j 1).val; omega
  | ⟨2, _⟩ => show win0_5.index t (2 : Fin 3) * 2432 + 1 * (j 2).val = 2432 * (t.val / 32) + (j 2).val; omega

theorem blk0 (t : Fin cfg0.N) (j : S1x512x1024.Idx) : (iblk m c 0 t : Vec Ideal S1x512x1024 .f32) j = (m ((c : Thread nD τ).loc main_arg0) : Vec Ideal S8x2048x1024 .f32) (ix3 (bat t) (tok t (j 1)) (j 2)) := by
  show V m c main_arg0 (((cfg0.win 0).blk t).view.emb j) = _
  rw [emb0, V_main_arg0]
  rfl

theorem blk1 (t : Fin cfg0.N) (a : Fin 1) (j : Fin 1024) : (iblk m c 1 t : Vec Ideal S1x1024 .f32) (ix2 a j) = (m ((c : Thread nD τ).loc main_arg1) : Vec Ideal S1024 .f32) (ix1 j) := by
  show V m c main_v0 (((cfg0.win 1).blk t).view.emb (ix2 a j)) = _
  rw [emb1, V_v0]
  exact row_vec _ a j

theorem blk2 (t : Fin cfg0.N) (j : S1x1x1024.Idx) : (iblk m c 2 t : Vec Ideal S1x1x1024 .f32) j = (m ((c : Thread nD τ).loc main_arg2) : Vec Ideal S8x1x1024 .f32) (ix3 (bat t) (j 1) (j 2)) := by
  show V m c main_arg2 (((cfg0.win 2).blk t).view.emb j) = _
  rw [emb2, V_main_arg2]
  rfl

theorem blk3 (t : Fin cfg0.N) (j : S1x1x1024.Idx) : (iblk m c 3 t : Vec Ideal S1x1x1024 .f32) j = (m ((c : Thread nD τ).loc main_arg3) : Vec Ideal S8x1x1024 .f32) (ix3 (bat t) (j 1) (j 2)) := by
  show V m c main_arg3 (((cfg0.win 3).blk t).view.emb j) = _
  rw [emb3, V_main_arg3]
  rfl

theorem blk4 (t : Fin cfg0.N) (j : S1024x2432.Idx) : (iblk m c 4 t : Vec Ideal S1024x2432 .bf16) j = (m ((c : Thread nD τ).loc main_arg4) : Vec Ideal S1024x7296 .bf16) (ix2 (j 0) (col t (j 1))) := by
  show V m c main_arg4 (((cfg0.win 4).blk t).view.emb j) = _
  rw [emb4, V_main_arg4]
  rfl

/-! ## The result array -/

/-- What the result array holds. -/
def arr : Vec Ideal S8x2048x7296 .f32 := fun i =>
  ∑ u : Fin 1024, modE (fun u => (m ((c : Thread nD τ).loc main_arg0) : Vec Ideal S8x2048x1024 .f32) (ix3 (i 0 : Fin 8) (i 1 : Fin 2048) u))
    (fun u => (m ((c : Thread nD τ).loc main_arg1) : Vec Ideal S1024 .f32) (ix1 u))
    (fun u => (m ((c : Thread nD τ).loc main_arg3) : Vec Ideal S8x1x1024 .f32) (ix3 (i 0 : Fin 8) 0 u))
    (fun u => (m ((c : Thread nD τ).loc main_arg2) : Vec Ideal S8x1x1024 .f32) (ix3 (i 0 : Fin 8) 0 u)) u
    * (m ((c : Thread nD τ).loc main_arg4) : Vec Ideal S1024x7296 .bf16) (ix2 u (i 2 : Fin 7296))

theorem hz3 : (![0, 0, 0] : Fin 3 → Nat) = fun _ => 0 := funext fun a => by fin_cases a <;> rfl
theorem hz2 : (![0, 0] : Fin 2 → Nat) = fun _ => 0 := funext fun a => by fin_cases a <;> rfl

/-- The body's one store is of the whole block, and its loads are of whole blocks. -/
theorem out_eq (x0 : Vec Ideal S1x512x1024 .f32) (x1 : Vec Ideal S1x1024 .f32) (x2 x3 : Vec Ideal S1x1x1024 .f32) (x4 : Vec Ideal S1024x2432 .bf16) :
    out0_5 x0 x1 x2 x3 x4 = k0_pay1 (F := Ideal) x0 x1 x3 x2 x4 := by
  unfold out0_5
  rw [View.canon_unit_zero hz3]
  simp only [View.ld_unit_zero (S := S1x512x1024) hz3, View.ld_unit_zero (S := S1x1024) hz2, View.ld_unit_zero (S := S1x1x1024) hz3, View.ld_unit_zero (S := S1024x2432) hz2]

theorem out_at (t : Fin cfg0.N) (a : Fin 1) (r : Fin 512) (j : Fin 2432) :
    out0_5 (iblk m c 0 t) (iblk m c 1 t) (iblk m c 2 t) (iblk m c 3 t) (iblk m c 4 t) (ix3 a r j) = arr m c (ix3 (bat t) (tok t r) (col t j)) := by
  rw [out_eq]
  refine (block_apply _ _ _ _ _ a r j).trans ?_
  refine Finset.sum_congr rfl fun u _ => ?_
  congr 1
  · congr 1
    · funext u; exact blk0 m c t _
    · funext u; exact blk1 m c t 0 u
    · funext u; exact blk3 m c t _
    · funext u; exact blk2 m c t _
  · exact blk4 m c t _

theorem flushed_eq (t : Fin cfg0.N) : (dats m 0 c).flushed 5 t = ((cfg0.win 5).blk t).view.read (Elt Ideal) (arr m c) := by
  rw [Value.flushed5]
  funext y
  have h : out0_5 (iblk m c 0 t) (iblk m c 1 t) (iblk m c 2 t) (iblk m c 3 t) (iblk m c 4 t) y = arr m c (((cfg0.win 5).blk t).view.emb y) := by
    rw [emb5 t y]
    refine Eq.trans ?_ (out_at m c t (y 0) (y 1) (y 2))
    exact congrArg (out0_5 (iblk m c 0 t) (iblk m c 1 t) (iblk m c 2 t) (iblk m c 3 t) (iblk m c 4 t)) (eq_ix3 (n0 := 1) (n1 := 512) (n2 := 2432) y)
  exact h

theorem cell (t : Fin cfg0.N) (r : Fin 512) (j : Fin 2432) (i : S8x2048x7296.Idx) (hi : ix3 (bat t) (tok t r) (col t j) = i) :
    i ∈ ((cfg0.win 5).blk t).view.set := by
  subst hi
  have h := ((cfg0.win 5).blk t).view.emb_mem_set (ix3 0 r j)
  rw [emb5] at h
  exact h

/-- The point that writes batch row `a`, row block `s`, column block `q`. -/
def pt (q : Fin 3) (a : Fin 8) (s : Fin 4) : Fin cfg0.N := ⟨32 * q.val + 4 * a.val + s.val, by show _ < 96; omega⟩

theorem cover (i : S8x2048x7296.Idx) : ∃ t : Fin cfg0.N, (cfg0.win 5).flush t = true ∧ i ∈ ((cfg0.win 5).blk t).view.set := by
  have key : ∀ (a : Fin 8) (n : Fin 2048) (j : Fin 7296), ix3 a n j = i → ∃ t : Fin cfg0.N, (cfg0.win 5).flush t = true ∧ i ∈ ((cfg0.win 5).blk t).view.set := by
    intro a n j h
    have e0 : bat (pt ⟨j.val / 2432, by omega⟩ a ⟨n.val / 512, by omega⟩) = a :=
      Fin.ext (show (32 * (j.val / 2432) + 4 * a.val + n.val / 512) / 4 % 8 = a.val by omega)
    have e1 : tok (pt ⟨j.val / 2432, by omega⟩ a ⟨n.val / 512, by omega⟩) ⟨n.val % 512, by omega⟩ = n :=
      Fin.ext (show 512 * ((32 * (j.val / 2432) + 4 * a.val + n.val / 512) % 4) + n.val % 512 = n.val by omega)
    have e2 : col (pt ⟨j.val / 2432, by omega⟩ a ⟨n.val / 512, by omega⟩) ⟨j.val % 2432, by omega⟩ = j :=
      Fin.ext (show 2432 * ((32 * (j.val / 2432) + 4 * a.val + n.val / 512) / 32) + j.val % 2432 = j.val by omega)
    refine ⟨pt ⟨j.val / 2432, by omega⟩ a ⟨n.val / 512, by omega⟩, flush0_5 _, cell _ ⟨n.val % 512, by omega⟩ ⟨j.val % 2432, by omega⟩ i ?_⟩
    rw [e0, e1, e2]
    exact h
  exact key (i 0) (i 1) (i 2) (eq_ix3 (n0 := 8) (n1 := 2048) (n2 := 7296) i).symm

/-- The result array. -/
theorem final : (dats m 0 c).arrAt 5 cfg0.N = arr m c :=
  (dats m 0 c).arrAt_eq_of_cover 5 (arr m c) (fun t _ => flushed_eq m c t) cover

end Cert.Kernel3Ideal.Inproj

end
-- ==== Proof.InprojRef.lean ====
/-
  The input projection's reference, read at one entry: the product of one normalised and modulated token with one column
  of the weight.
-/
module

public import proofs.«01_k».proof.Proof.Gen.Reference3Ideal.Run
public import proofs.«01_k».proof.Proof.Rms

@[expose] public section

set_option maxRecDepth 100000

noncomputable section

namespace Cert.Reference3Ideal.Inproj

open Idealize.ShloMosaic Idealize.ShloMosaic.TcCoe Cert.Reference3Ideal Cert.Reference3Ideal.Gen Cert.Layer

theorem ref_apply (x : Vec Ideal S8x2048x1024 .f32) (g : Vec Ideal S1024 .f32) (sh sc : Vec Ideal S8x1x1024 .f32) (w : Vec Ideal S1024x7296 .bf16)
    (b : Fin 8) (n : Fin 2048) (j : Fin 7296) :
    Host.dotGeneral (F := Ideal) (so := S8x2048x7296) (φ₁ := .f32) (φ₂ := .f32) dot_S8x2048x1024_S1024x7296_S8x2048x7296_2_0_01_1_n_n none (addf (mulf (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) (broadcastInDim S8x2048x1024 ![0, 1, 2] bcast_S8x1x1024_S8x2048x1024_0_1_2 (addf (broadcastInDim S8x1x1024 ![] bcast_S_S8x1x1024 (constant S_ .f32 0x3F800000#32)) sc))) (broadcastInDim S8x2048x1024 ![0, 1, 2] bcast_S8x1x1024_S8x2048x1024_0_1_2 sh)) (extf .f32 w bitsLt_bf16_f32) (ix3 b n j)
      = ∑ u : Fin 1024, modE (fun u => x (ix3 b n u)) (fun u => g (ix1 u)) (fun u => sc (ix3 b 0 u)) (fun u => sh (ix3 b 0 u)) u * w (ix2 u j) := by
  pointwise
  simp only [modE, rmsE]

end Cert.Reference3Ideal.Inproj

end
-- ==== Proof.InprojEq.lean ====
/-
  The input projection's claims: the tiled kernel and the plain reference end with equal results.
-/
module

public import proofs.«01_k».proof.Defs
public import proofs.«01_k».proof.Proof.InprojKernel
public import proofs.«01_k».proof.Proof.InprojRef
public import Idealize.ShloMosaic.Lib.Quiescent

@[expose] public section

set_option maxRecDepth 100000

noncomputable section

namespace Cert.Inproj

open Idealize.ShloMosaic Idealize.ShloMosaic.TcCoe

/-- The reference runs, leaves its arguments as they were, and has no semaphore to leave behind. -/
theorem quiescent : Cert.quiescent_Reference3Ideal := fun m g _ =>
  θ_run_mono (Cert.Reference3Ideal.Value.run (F := Ideal) m g) fun r h => ⟨fun c => (h c).2, sem_eq_zero_of_no_sems (by decide) r.2⟩

/-- The kernel's and the reference's results are equal at every entry. -/
theorem equal : Cert.algebraic_Kernel3Ideal_Reference3Ideal := fun m g m' g' _ he => by
  refine ⟨fun c => Cert.Kernel3Ideal.Inproj.arr m c, ?_, ?_⟩
  · refine θ_run_mono (Cert.Kernel3Ideal.Value.run_blocks m g) fun r h c => ?_
    obtain ⟨h0, hk⟩ := h c
    exact ⟨h0.trans (Cert.Kernel3Ideal.Inproj.final m c), hk⟩
  · refine θ_run_mono (Cert.Reference3Ideal.Value.run (F := Ideal) m' g') fun r h c => ?_
    obtain ⟨h0, hk⟩ := h c
    refine ⟨h0.trans ?_, hk⟩
    obtain ⟨e0, e1, e2, e3, e4⟩ := he c
    rw [e0, e1, e2, e3, e4]
    funext i
    rw [eq_ix3 (n0 := 8) (n1 := 2048) (n2 := 7296) i]
    exact Cert.Reference3Ideal.Inproj.ref_apply _ _ _ _ _ _ _ _

end Cert.Inproj

end
-- ==== Proof.Merge.lean ====
/-
  The merge of one token's four branches as one expression in the extended reals.
-/
module

public import proofs.«01_k».proof.Proof.Gate

@[expose] public section

noncomputable section

namespace Cert.Layer

open Idealize.ShloMosaic

/-- One entry: the token plus its gate times the projected sum of the four branches' products, each through the logistic
    function of its own gate. -/
def mergeE (x gt : Fin 1024 → EReal) (z : Fin 4 → Fin 1024 → EReal) (o : Fin 4 → Fin 256 → EReal) (w : Fin 4 → Fin 256 → Fin 1024 → EReal)
    (wo : Fin 1024 → Fin 1024 → EReal) (j : Fin 1024) : EReal :=
  x j + gt j * ∑ d, (∑ e, Ideal.logistic (z e d) * ∑ k, o e k * w e k d) * wo d j

/-- The four branches' outputs of one token: two halves of the attention's, the convolution's, the recurrence's. -/
def fourE (a : Fin 512 → EReal) (c r : Fin 256 → EReal) : Fin 4 → Fin 256 → EReal :=
  ![fun k => a ⟨k.val, by omega⟩, fun k => a ⟨256 + k.val, by omega⟩, c, r]

/-- Column `d` of gate `e` of the gate columns. -/
def gateCol {N : ℕ} (hN : 4096 ≤ N) (e : Fin 4) (d : Fin 1024) : Fin N := ⟨1024 * e.val + d.val, by omega⟩

end Cert.Layer

end
-- ==== Proof.MergeBlock.lean ====
/-
  The merge, one block: every entry is the merge of one token's four branches.
-/
module

public import proofs.«01_k».proof.Proof.Gen.Kernel4Ideal.Value
public import proofs.«01_k».proof.Proof.Merge
public import Idealize.ShloMosaic.Lib.Tactic

@[expose] public section

set_option maxRecDepth 100000

noncomputable section

namespace Cert.Kernel4Ideal.Merge

open Idealize.ShloMosaic Idealize.ShloMosaic.TcCoe Idealize.ShloMosaic.Tactic Cert.Kernel4Ideal Cert.Kernel4Ideal.Gen Cert.Layer

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the result's block, at one entry. -/
theorem block_apply (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S4x256x1024 .bf16) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S1x1x1024 .f32) (harg9 : arg9.IsWhole) (arg10 : Memref sig .tc .vmem S1x512x1024 .f32) (harg10 : arg10.IsWhole)
    (x0 : Vec Ideal S1x512x4096 .f32) (x1 : Vec Ideal S1x512x512 .f32) (x2 : Vec Ideal S1x512x256 .f32) (x3 : Vec Ideal S1x512x256 .f32) (x4 : Vec Ideal S4x256x1024 .bf16) (x5 : Vec Ideal S1024x1024 .bf16) (x6 : Vec Ideal S1x512x1024 .f32) (x7 : Vec Ideal S1x1x1024 .f32) (a : Fin 1) (r : Fin 512) (j : Fin 1024) :
    out0_A_8 c i arg2 harg2 arg3 harg3 arg4 harg4 arg5 harg5 arg6 harg6 arg7 harg7 arg8 harg8 arg9 harg9 arg10 harg10 x0 x1 x2 x3 x4 x5 x6 x7 (ix3 a r j)
      = mergeE (fun u => x6 (ix3 0 r u)) (fun u => x7 (ix3 0 0 u)) (fun e d => x0 (ix3 0 r (gateCol (by norm_num) e d)))
          (fourE (fun k => x1 (ix3 0 r k)) (fun k => x2 (ix3 0 r k)) (fun k => x3 (ix3 0 r k))) (fun e k d => x4 (ix3 e k d)) (fun d j => x5 (ix2 d j)) j := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S1x512x256) hz3, View.ld_unit_zero (S := S1024x1024) hz2, View.ld_unit_zero (S := S1x512x1024) hz3, View.ld_unit_zero (S := S1x1x1024) hz3, View.ld_unit]
  pointwise [k0_pay1, k0_pay2, k0_pay3, k0_pay4, k0_pay5, k0_pay6, k0_pay7, k0_pay8]
  simp only [halfTanh_def]
  unfold mergeE
  simp only [Fin.sum_univ_four]
  congr 2

end Cert.Kernel4Ideal.Merge

end
-- ==== Proof.MergeKernel.lean ====
/-
  The merge's result array: each block is the body's result of the blocks, and so each entry is the merge of one
  token's four branches.
-/
module

public import proofs.«01_k».proof.Proof.MergeBlock

@[expose] public section

noncomputable section

namespace Cert.Kernel4Ideal.Merge

open Idealize.ShloMosaic Idealize.ShloMosaic.TcCoe Idealize.ShloMosaic.Tactic Cert.Kernel4Ideal Cert.Kernel4Ideal.Gen Cert.Layer

variable (m : (ℓ : Loc nD τ sig) → Buf (Elt Ideal) ℓ) (c : Dev nD)

theorem lt32 (t : Fin cfg0.N) : t.val < 32 := t.isLt

/-- The point's batch row. -/
def bat (t : Fin cfg0.N) : Fin 8 := ⟨t.val / 4, by have := lt32 t; omega⟩
/-- The token of row `s` of the point's block. -/
def tok (t : Fin cfg0.N) (s : Fin 512) : Fin 2048 := ⟨512 * (t.val % 4) + s.val, by omega⟩

/-! ## The blocks -/

theorem idx0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

/-- The gates' block, which lies wholly inside its array. -/
theorem blk0 (t : Fin cfg0.N) (j : S1x512x4096.Idx) :
    (X0_0 m c t : Vec Ideal S1x512x4096 .f32) j = (m ((c : Thread nD τ).loc main_arg0) : Vec Ideal S8x2048x7296 .f32) (ix3 (bat t) (tok t (j 1)) ⟨(j 2).val, lt_of_lt_of_le (j 2).isLt (by decide)⟩) := by
  unfold X0_0 Pipeline.Window.fill
  rw [dif_pos (moved0_0 t j)]
  show V m c main_arg0 (((cfg0.win 0).blk t).view.emb _) = _
  rw [V_main_arg0]
  refine congrArg (m ((c : Thread nD τ).loc main_arg0) : Vec Ideal S8x2048x7296 .f32) ?_
  obtain ⟨e0, e1, e2⟩ := idx0 t
  have h0 : (j 0).val < 1 := (j 0).isLt
  funext a; apply Fin.ext
  match a with
  | ⟨0, _⟩ => show win0_0.index t (0 : Fin 3) * 1 + 1 * (j 0).val = t.val / 4; omega
  | ⟨1, _⟩ => show win0_0.index t (1 : Fin 3) * 512 + 1 * (j 1).val = 512 * (t.val % 4) + (j 1).val; omega
  | ⟨2, _⟩ => show win0_0.index t (2 : Fin 3) * 4096 + 1 * (j 2).val = (j 2).val; omega

theorem idx1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)

theorem emb1 (t : Fin cfg0.N) (j : S1x512x512.Idx) : ((cfg0.win 1).blk t).view.emb j = ix3 (bat t) (tok t (j 1)) (j 2) := by
  obtain ⟨e0, e1, e2⟩ := idx1 t
  have h0 : (j 0).val < 1 := (j 0).isLt
  funext a; apply Fin.ext
  match a with
  | ⟨0, _⟩ => show win0_1.index t (0 : Fin 3) * 1 + 1 * (j 0).val = t.val / 4; omega
  | ⟨1, _⟩ => show win0_1.index t (1 : Fin 3) * 512 + 1 * (j 1).val = 512 * (t.val % 4) + (j 1).val; omega
  | ⟨2, _⟩ => show win0_1.index t (2 : Fin 3) * 512 + 1 * (j 2).val = (j 2).val; omega

theorem blk1 (t : Fin cfg0.N) (j : S1x512x512.Idx) : (iblk m c 1 t : Vec Ideal S1x512x512 .f32) j = (m ((c : Thread nD τ).loc main_arg1) : Vec Ideal S8x2048x512 .f32) (ix3 (bat t) (tok t (j 1)) (j 2)) := by
  show V m c main_arg1 (((cfg0.win 1).blk t).view.emb j) = _
  rw [emb1, V_main_arg1]
  rfl

theorem idx2 : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)

theorem emb2 (t : Fin cfg0.N) (j : S1x512x256.Idx) : ((cfg0.win 2).blk t).view.emb j = ix3 (bat t) (tok t (j 1)) (j 2) := by
  obtain ⟨e0, e1, e2⟩ := idx2 t
  have h0 : (j 0).val < 1 := (j 0).isLt
  funext a; apply Fin.ext
  match a with
  | ⟨0, _⟩ => show win0_2.index t (0 : Fin 3) * 1 + 1 * (j 0).val = t.val / 4; omega
  | ⟨1, _⟩ => show win0_2.index t (1 : Fin 3) * 512 + 1 * (j 1).val = 512 * (t.val % 4) + (j 1).val; omega
  | ⟨2, _⟩ => show win0_2.index t (2 : Fin 3) * 256 + 1 * (j 2).val = (j 2).val; omega

theorem blk2 (t : Fin cfg0.N) (j : S1x512x256.Idx) : (iblk m c 2 t : Vec Ideal S1x512x256 .f32) j = (m ((c : Thread nD τ).loc main_arg2) : Vec Ideal S8x2048x256 .f32) (ix3 (bat t) (tok t (j 1)) (j 2)) := by
  show V m c main_arg2 (((cfg0.win 2).blk t).view.emb j) = _
  rw [emb2, V_main_arg2]
  rfl

theorem idx3 : ∀ t : Fin cfg0.N, win0_3.index t 0 = t.val / 4 ∧ win0_3.index t 1 = t.val % 4 ∧ win0_3.index t 2 = 0 :=
  (by decide +kernel : ∀ t : Fin grid0.N, win0_3.index t 0 = t.val / 4 ∧ win0_3.index t 1 = t.val % 4 ∧ win0_3.index t 2 = 0)

theorem emb3 (t : Fin cfg0.N) (j : S1x512x256.Idx) : ((cfg0.win 3).blk t).view.emb j = ix3 (bat t) (tok t (j 1)) (j 2) := by
  obtain ⟨e0, e1, e2⟩ := idx3 t
  have h0 : (j 0).val < 1 := (j 0).isLt
  funext a; apply Fin.ext
  match a with
  | ⟨0, _⟩ => show win0_3.index t (0 : Fin 3) * 1 + 1 * (j 0).val = t.val / 4; omega
  | ⟨1, _⟩ => show win0_3.index t (1 : Fin 3) * 512 + 1 * (j 1).val = 512 * (t.val % 4) + (j 1).val; omega
  | ⟨2, _⟩ => show win0_3.index t (2 : Fin 3) * 256 + 1 * (j 2).val = (j 2).val; omega

theorem blk3 (t : Fin cfg0.N) (j : S1x512x256.Idx) : (iblk m c 3 t : Vec Ideal S1x512x256 .f32) j = (m ((c : Thread nD τ).loc main_arg3) : Vec Ideal S8x2048x256 .f32) (ix3 (bat t) (tok t (j 1)) (j 2)) := by
  show V m c main_arg3 (((cfg0.win 3).blk t).view.emb j) = _
  rw [emb3, V_main_arg3]
  rfl

theorem idx4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)

theorem emb4 (t : Fin cfg0.N) (j : S4x256x1024.Idx) : ((cfg0.win 4).blk t).view.emb j = ix3 (j 0) (j 1) (j 2) := by
  obtain ⟨e0, e1, e2⟩ := idx4 t
  funext a; apply Fin.ext
  match a with
  | ⟨0, _⟩ => show win0_4.index t (0 : Fin 3) * 4 + 1 * (j 0).val = (j 0).val; omega
  | ⟨1, _⟩ => show win0_4.index t (1 : Fin 3) * 256 + 1 * (j 1).val = (j 1).val; omega
  | ⟨2, _⟩ => show win0_4.index t (2 : Fin 3) * 1024 + 1 * (j 2).val = (j 2).val; omega

theorem blk4 (t : Fin cfg0.N) (j : S4x256x1024.Idx) : (iblk m c 4 t : Vec Ideal S4x256x1024 .bf16) j = (m ((c : Thread nD τ).loc main_arg4) : Vec Ideal S4x256x1024 .bf16) (ix3 (j 0) (j 1) (j 2)) := by
  show V m c main_arg4 (((cfg0.win 4).blk t).view.emb j) = _
  rw [emb4, V_main_arg4]
  rfl

theorem idx5 : ∀ t : Fin cfg0.N, win0_5.index t 0 = 0 ∧ win0_5.index t 1 = 0 :=
  (by decide +kernel : ∀ t : Fin grid0.N, win0_5.index t 0 = 0 ∧ win0_5.index t 1 = 0)

theorem emb5 (t : Fin cfg0.N) (j : S1024x1024.Idx) : ((cfg0.win 5).blk t).view.emb j = ix2 (j 0) (j 1) := by
  obtain ⟨e0, e1⟩ := idx5 t
  funext a; apply Fin.ext
  match a with
  | ⟨0, _⟩ => show win0_5.index t (0 : Fin 2) * 1024 + 1 * (j 0).val = (j 0).val; omega
  | ⟨1, _⟩ => show win0_5.index t (1 : Fin 2) * 1024 + 1 * (j 1).val = (j 1).val; omega

theorem blk5 (t : Fin cfg0.N) (j : S1024x1024.Idx) : (iblk m c 5 t : Vec Ideal S1024x1024 .bf16) j = (m ((c : Thread nD τ).loc main_arg5) : Vec Ideal S1024x1024 .bf16) (ix2 (j 0) (j 1)) := by
  show V m c main_arg5 (((cfg0.win 5).blk t).view.emb j) = _
  rw [emb5, V_main_arg5]
  rfl

theorem idx6 : ∀ t : Fin cfg0.N, win0_6.index t 0 = t.val / 4 ∧ win0_6.index t 1 = t.val % 4 ∧ win0_6.index t 2 = 0 :=
  (by decide +kernel : ∀ t : Fin grid0.N, win0_6.index t 0 = t.val / 4 ∧ win0_6.index t 1 = t.val % 4 ∧ win0_6.index t 2 = 0)

theorem emb6 (t : Fin cfg0.N) (j : S1x512x1024.Idx) : ((cfg0.win 6).blk t).view.emb j = ix3 (bat t) (tok t (j 1)) (j 2) := by
  obtain ⟨e0, e1, e2⟩ := idx6 t
  have h0 : (j 0).val < 1 := (j 0).isLt
  funext a; apply Fin.ext
  match a with
  | ⟨0, _⟩ => show win0_6.index t (0 : Fin 3) * 1 + 1 * (j 0).val = t.val / 4; omega
  | ⟨1, _⟩ => show win0_6.index t (1 : Fin 3) * 512 + 1 * (j 1).val = 512 * (t.val % 4) + (j 1).val; omega
  | ⟨2, _⟩ => show win0_6.index t (2 : Fin 3) * 1024 + 1 * (j 2).val = (j 2).val; omega

theorem blk6 (t : Fin cfg0.N) (j : S1x512x1024.Idx) : (iblk m c 6 t : Vec Ideal S1x512x1024 .f32) j = (m ((c : Thread nD τ).loc main_arg6) : Vec Ideal S8x2048x1024 .f32) (ix3 (bat t) (tok t (j 1)) (j 2)) := by
  show V m c main_arg6 (((cfg0.win 6).blk t).view.emb j) = _
  rw [emb6, V_main_arg6]
  rfl

theorem idx7 : ∀ t : Fin cfg0.N, win0_7.index t 0 = t.val / 4 ∧ win0_7.index t 1 = 0 ∧ win0_7.index t 2 = 0 :=
  (by decide +kernel : ∀ t : Fin grid0.N, win0_7.index t 0 = t.val / 4 ∧ win0_7.index t 1 = 0 ∧ win0_7.index t 2 = 0)

theorem emb7 (t : Fin cfg0.N) (j : S1x1x1024.Idx) : ((cfg0.win 7).blk t).view.emb j = ix3 (bat t) (j 1) (j 2) := by
  obtain ⟨e0, e1, e2⟩ := idx7 t
  have h0 : (j 0).val < 1 := (j 0).isLt
  funext a; apply Fin.ext
  match a with
  | ⟨0, _⟩ => show win0_7.index t (0 : Fin 3) * 1 + 1 * (j 0).val = t.val / 4; omega
  | ⟨1, _⟩ => show win0_7.index t (1 : Fin 3) * 1 + 1 * (j 1).val = (j 1).val; omega
  | ⟨2, _⟩ => show win0_7.index t (2 : Fin 3) * 1024 + 1 * (j 2).val = (j 2).val; omega

theorem blk7 (t : Fin cfg0.N) (j : S1x1x1024.Idx) : (iblk m c 7 t : Vec Ideal S1x1x1024 .f32) j = (m ((c : Thread nD τ).loc main_arg7) : Vec Ideal S8x1x1024 .f32) (ix3 (bat t) (j 1) (j 2)) := by
  show V m c main_arg7 (((cfg0.win 7).blk t).view.emb j) = _
  rw [emb7, V_main_arg7]
  rfl

theorem idx8 : ∀ t : Fin cfg0.N, win0_8.index t 0 = t.val / 4 ∧ win0_8.index t 1 = t.val % 4 ∧ win0_8.index t 2 = 0 :=
  (by decide +kernel : ∀ t : Fin grid0.N, win0_8.index t 0 = t.val / 4 ∧ win0_8.index t 1 = t.val % 4 ∧ win0_8.index t 2 = 0)

theorem emb8 (t : Fin cfg0.N) (j : S1x512x1024.Idx) : ((cfg0.win 8).blk t).view.emb j = ix3 (bat t) (tok t (j 1)) (j 2) := by
  obtain ⟨e0, e1, e2⟩ := idx8 t
  have h0 : (j 0).val < 1 := (j 0).isLt
  funext a; apply Fin.ext
  match a with
  | ⟨0, _⟩ => show win0_8.index t (0 : Fin 3) * 1 + 1 * (j 0).val = t.val / 4; omega
  | ⟨1, _⟩ => show win0_8.index t (1 : Fin 3) * 512 + 1 * (j 1).val = 512 * (t.val % 4) + (j 1).val; omega
  | ⟨2, _⟩ => show win0_8.index t (2 : Fin 3) * 1024 + 1 * (j 2).val = (j 2).val; omega

/-! ## The result array -/

/-- What the result array holds. -/
def arr : Vec Ideal S8x2048x1024 .f32 := fun i =>
  mergeE (fun u => (m ((c : Thread nD τ).loc main_arg6) : Vec Ideal S8x2048x1024 .f32) (ix3 (i 0 : Fin 8) (i 1 : Fin 2048) u))
    (fun u => (m ((c : Thread nD τ).loc main_arg7) : Vec Ideal S8x1x1024 .f32) (ix3 (i 0 : Fin 8) 0 u))
    (fun e d => (m ((c : Thread nD τ).loc main_arg0) : Vec Ideal S8x2048x7296 .f32) (ix3 (i 0 : Fin 8) (i 1 : Fin 2048) (gateCol (by norm_num) e d)))
    (fourE (fun k => (m ((c : Thread nD τ).loc main_arg1) : Vec Ideal S8x2048x512 .f32) (ix3 (i 0 : Fin 8) (i 1 : Fin 2048) k))
      (fun k => (m ((c : Thread nD τ).loc main_arg2) : Vec Ideal S8x2048x256 .f32) (ix3 (i 0 : Fin 8) (i 1 : Fin 2048) k))
      (fun k => (m ((c : Thread nD τ).loc main_arg3) : Vec Ideal S8x2048x256 .f32) (ix3 (i 0 : Fin 8) (i 1 : Fin 2048) k)))
    (fun e k d => (m ((c : Thread nD τ).loc main_arg4) : Vec Ideal S4x256x1024 .bf16) (ix3 e k d))
    (fun d j => (m ((c : Thread nD τ).loc main_arg5) : Vec Ideal S1024x1024 .bf16) (ix2 d j)) (i 2 : Fin 1024)

theorem out_at (t : Fin cfg0.N) (a : Fin 1) (r : Fin 512) (j : Fin 1024) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (X0_0 m c t) (iblk m c 1 t) (iblk m c 2 t) (iblk m c 3 t) (iblk m c 4 t) (iblk m c 5 t) (iblk m c 6 t) (iblk m c 7 t) (ix3 a r j) = arr m c (ix3 (bat t) (tok t r) j) := by
  refine (block_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (X0_0 m c t) (iblk m c 1 t) (iblk m c 2 t) (iblk m c 3 t) (iblk m c 4 t) (iblk m c 5 t) (iblk m c 6 t) (iblk m c 7 t) a r j).trans ?_
  unfold arr
  congr 1
  · funext u; exact blk6 m c t _
  · funext u; exact blk7 m c t _
  · funext e d; exact blk0 m c t _
  · congr 1
    · funext k; exact blk1 m c t _
    · funext k; exact blk2 m c t _
    · funext k; exact blk3 m c t _
  · funext e k d; exact blk4 m c t _
  · funext d u; exact blk5 m c t _

theorem flushed_eq (t : Fin cfg0.N) : (dats m 0 c).flushed 8 t = ((cfg0.win 8).blk t).view.read (Elt Ideal) (arr m c) := by
  rw [Value.flushed8_A]
  funext y
  have h : out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (X0_0 m c t) (iblk m c 1 t) (iblk m c 2 t) (iblk m c 3 t) (iblk m c 4 t) (iblk m c 5 t) (iblk m c 6 t) (iblk m c 7 t) y = arr m c (((cfg0.win 8).blk t).view.emb y) := by
    rw [emb8 t y]
    refine Eq.trans ?_ (out_at m c t (y 0) (y 1) (y 2))
    exact congrArg (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (X0_0 m c t) (iblk m c 1 t) (iblk m c 2 t) (iblk m c 3 t) (iblk m c 4 t) (iblk m c 5 t) (iblk m c 6 t) (iblk m c 7 t)) (eq_ix3 (n0 := 1) (n1 := 512) (n2 := 1024) y)
  exact h

theorem cell (t : Fin cfg0.N) (r : Fin 512) (j : Fin 1024) (i : S8x2048x1024.Idx) (hi : ix3 (bat t) (tok t r) j = i) :
    i ∈ ((cfg0.win 8).blk t).view.set := by
  subst hi
  have h := ((cfg0.win 8).blk t).view.emb_mem_set (ix3 0 r j)
  rw [emb8] at h
  exact h

/-- The point that writes batch row `a`, row block `s`. -/
def pt (a : Fin 8) (s : Fin 4) : Fin cfg0.N := ⟨4 * a.val + s.val, by show _ < 32; omega⟩

theorem cover (i : S8x2048x1024.Idx) : ∃ t : Fin cfg0.N, (cfg0.win 8).flush t = true ∧ i ∈ ((cfg0.win 8).blk t).view.set := by
  have key : ∀ (a : Fin 8) (n : Fin 2048) (j : Fin 1024), ix3 a n j = i → ∃ t : Fin cfg0.N, (cfg0.win 8).flush t = true ∧ i ∈ ((cfg0.win 8).blk t).view.set := by
    intro a n j h
    have e0 : bat (pt a ⟨n.val / 512, by omega⟩) = a := Fin.ext (show (4 * a.val + n.val / 512) / 4 = a.val by omega)
    have e1 : tok (pt a ⟨n.val / 512, by omega⟩) ⟨n.val % 512, by omega⟩ = n :=
      Fin.ext (show 512 * ((4 * a.val + n.val / 512) % 4) + n.val % 512 = n.val by omega)
    refine ⟨pt a ⟨n.val / 512, by omega⟩, flush0_8 _, cell _ ⟨n.val % 512, by omega⟩ j i ?_⟩
    rw [e0, e1]
    exact h
  exact key (i 0) (i 1) (i 2) (eq_ix3 (n0 := 8) (n1 := 2048) (n2 := 1024) i).symm

/-- The result array. -/
theorem final : (dats m 0 c).arrAt 8 cfg0.N = arr m c :=
  (dats m 0 c).arrAt_eq_of_cover 8 (arr m c) (fun t _ => flushed_eq m c t) cover

end Cert.Kernel4Ideal.Merge

end
-- ==== Proof.MergeRef.lean ====
/-
  The merge's reference, read at one entry: the token plus its gate times the projected sum of the four branches, each
  through its own logistic gate.
-/
module

public import proofs.«01_k».proof.Proof.Gen.Reference4Ideal.Run
public import proofs.«01_k».proof.Proof.Merge

@[expose] public section

set_option maxRecDepth 100000

noncomputable section

namespace Cert.Reference4Ideal.Merge

open Idealize.ShloMosaic Idealize.ShloMosaic.TcCoe Cert.Reference4Ideal Cert.Reference4Ideal.Gen Cert.Layer

/-- The four branches side by side. -/
def stack (oa : FVec Ideal S8x2048x512 .f32) (oc or : FVec Ideal S8x2048x256 .f32) : FVec Ideal S4x8x2048x256 .f32 :=
  concatenate S4x8x2048x256 0 [⟨S1x8x2048x256, ((broadcastInDim S1x8x2048x256 ![1, 2, 3] bcast_S8x2048x256_S1x8x2048x256_1_2_3 (extractStridedSlice S8x2048x256 ![0, 0, 0] oa slices_S8x2048x512_S8x2048x256_0_0_0)) : (⟨S1x8x2048x256, .f32⟩ : BufTy).Contents (Elt Ideal))⟩, ⟨S1x8x2048x256, ((broadcastInDim S1x8x2048x256 ![1, 2, 3] bcast_S8x2048x256_S1x8x2048x256_1_2_3 (extractStridedSlice S8x2048x256 ![0, 0, 256] oa slices_S8x2048x512_S8x2048x256_0_0_256)) : (⟨S1x8x2048x256, .f32⟩ : BufTy).Contents (Elt Ideal))⟩, ⟨S1x8x2048x256, ((broadcastInDim S1x8x2048x256 ![1, 2, 3] bcast_S8x2048x256_S1x8x2048x256_1_2_3 oc) : (⟨S1x8x2048x256, .f32⟩ : BufTy).Contents (Elt Ideal))⟩, ⟨S1x8x2048x256, ((broadcastInDim S1x8x2048x256 ![1, 2, 3] bcast_S8x2048x256_S1x8x2048x256_1_2_3 or) : (⟨S1x8x2048x256, .f32⟩ : BufTy).Contents (Elt Ideal))⟩] concatenates_S1x8x2048x256_S1x8x2048x256_S1x8x2048x256_S1x8x2048x256_S4x8x2048x256_d0

/-- The four gates of each token. -/
def gates (z : FVec Ideal S8x2048x7296 .f32) : FVec Ideal S8x2048x4x1024 .f32 :=
  Host.divf (broadcastInDim S8x2048x4x1024 ![] bcast_S_S8x2048x4x1024 (constant S_ .f32 0x3F800000#32)) (addf (broadcastInDim S8x2048x4x1024 ![] bcast_S_S8x2048x4x1024 (constant S_ .f32 0x3F800000#32)) (Host.exp (Host.negf (shapeCast _ (extractStridedSlice S8x2048x4096 ![0, 0, 0] z slices_S8x2048x7296_S8x2048x4096_0_0_0) shapeCasts_S8x2048x4096_S8x2048x4x1024))))

/-- The branches' products. -/
def branch (s : FVec Ideal S4x8x2048x256 .f32) (w : FVec Ideal S4x256x1024 .bf16) : FVec Ideal S4x8x2048x1024 .f32 :=
  Host.dotGeneral (F := Ideal) (so := S4x8x2048x1024) (φ₁ := .f32) (φ₂ := .f32) dot_S4x8x2048x256_S4x256x1024_S4x8x2048x1024_3_1_12_2_0_0 none s (extf .f32 w bitsLt_bf16_f32)

/-- The gated sum over the branches. -/
def mixed (g : FVec Ideal S8x2048x4x1024 .f32) (b : FVec Ideal S4x8x2048x1024 .f32) : FVec Ideal S8x2048x1024 .f32 :=
  Host.dotGeneral (F := Ideal) (so := S8x2048x1024) (φ₁ := .f32) (φ₂ := .f32) dot_S8x2048x4x1024_S4x8x2048x1024_S8x2048x1024_2_0_n_n_013_123 none g b

theorem gates_apply (z : FVec Ideal S8x2048x7296 .f32) (b : Fin 8) (n : Fin 2048) (e : Fin 4) (d : Fin 1024) :
    gates z (ix4 b n e d) = Ideal.logistic (z (ix3 b n (gateCol (by norm_num) e d))) := by
  unfold gates
  pointwise
  show Ideal.logistic _ = _
  congr 3
  exact Fin.ext (show e.val * 1024 + d.val = 1024 * e.val + d.val by omega)

theorem branch_apply (s : FVec Ideal S4x8x2048x256 .f32) (w : FVec Ideal S4x256x1024 .bf16) (e : Fin 4) (b : Fin 8) (n : Fin 2048) (d : Fin 1024) :
    branch s w (ix4 e b n d) = (∑ k : Fin 256, s (ix4 e b n k) * w (ix3 e k d) : EReal) := by
  unfold branch
  pointwise

theorem mixed_apply (g : FVec Ideal S8x2048x4x1024 .f32) (s : FVec Ideal S4x8x2048x1024 .f32) (b : Fin 8) (n : Fin 2048) (d : Fin 1024) :
    mixed g s (ix3 b n d) = (∑ e : Fin 4, g (ix4 b n e d) * s (ix4 e b n d) : EReal) := by
  unfold mixed
  pointwise

theorem stack0 (oa : FVec Ideal S8x2048x512 .f32) (oc or : FVec Ideal S8x2048x256 .f32) (b : Fin 8) (n : Fin 2048) (k : Fin 256) :
    stack oa oc or (ix4 0 b n k) = oa (ix3 b n ⟨k.val, by omega⟩) := by
  unfold stack
  pointwise

theorem stack1 (oa : FVec Ideal S8x2048x512 .f32) (oc or : FVec Ideal S8x2048x256 .f32) (b : Fin 8) (n : Fin 2048) (k : Fin 256) :
    stack oa oc or (ix4 1 b n k) = oa (ix3 b n ⟨256 + k.val, by omega⟩) := by
  unfold stack
  pointwise

theorem stack2 (oa : FVec Ideal S8x2048x512 .f32) (oc or : FVec Ideal S8x2048x256 .f32) (b : Fin 8) (n : Fin 2048) (k : Fin 256) :
    stack oa oc or (ix4 2 b n k) = oc (ix3 b n k) := by
  unfold stack
  pointwise

theorem stack3 (oa : FVec Ideal S8x2048x512 .f32) (oc or : FVec Ideal S8x2048x256 .f32) (b : Fin 8) (n : Fin 2048) (k : Fin 256) :
    stack oa oc or (ix4 3 b n k) = or (ix3 b n k) := by
  unfold stack
  pointwise

/-- The whole reference. -/
def whole (z : FVec Ideal S8x2048x7296 .f32) (oa : FVec Ideal S8x2048x512 .f32) (oc or : FVec Ideal S8x2048x256 .f32) (w : FVec Ideal S4x256x1024 .bf16)
    (wo : FVec Ideal S1024x1024 .bf16) (x : FVec Ideal S8x2048x1024 .f32) (gt : FVec Ideal S8x1x1024 .f32) : FVec Ideal S8x2048x1024 .f32 :=
  addf x (mulf (broadcastInDim S8x2048x1024 ![0, 1, 2] bcast_S8x1x1024_S8x2048x1024_0_1_2 gt) (Host.dotGeneral (F := Ideal) (so := S8x2048x1024) (φ₁ := .f32) (φ₂ := .f32) dot_S8x2048x1024_S1024x1024_S8x2048x1024_2_0_01_1_n_n none (mixed (gates z) (branch (stack oa oc or) w)) (extf .f32 wo bitsLt_bf16_f32)))

/-- The whole reference at one entry. -/
theorem ref_apply (z : FVec Ideal S8x2048x7296 .f32) (oa : FVec Ideal S8x2048x512 .f32) (oc or : FVec Ideal S8x2048x256 .f32) (w : FVec Ideal S4x256x1024 .bf16)
    (wo : FVec Ideal S1024x1024 .bf16) (x : FVec Ideal S8x2048x1024 .f32) (gt : FVec Ideal S8x1x1024 .f32) (b : Fin 8) (n : Fin 2048) (j : Fin 1024) :
    whole z oa oc or w wo x gt (ix3 b n j)
      = mergeE (fun u => x (ix3 b n u)) (fun u => gt (ix3 b 0 u)) (fun e d => z (ix3 b n (gateCol (by norm_num) e d)))
          (fourE (fun k => oa (ix3 b n k)) (fun k => oc (ix3 b n k)) (fun k => or (ix3 b n k))) (fun e k d => w (ix3 e k d)) (fun d j => wo (ix2 d j)) j := by
  unfold whole
  pointwise
  unfold mergeE
  congr 2
  refine Finset.sum_congr rfl fun d _ => ?_
  congr 1
  rw [mixed_apply]
  refine Finset.sum_congr rfl fun e _ => ?_
  rw [gates_apply, branch_apply]
  congr 1
  refine Finset.sum_congr rfl fun k _ => ?_
  congr 1
  fin_cases e
  · exact stack0 oa oc or b n k
  · exact stack1 oa oc or b n k
  · exact stack2 oa oc or b n k
  · exact stack3 oa oc or b n k

end Cert.Reference4Ideal.Merge

end
-- ==== Proof.MergeEq.lean ====
/-
  The merge's claims: the tiled kernel and the plain reference end with equal results.
-/
module

public import proofs.«01_k».proof.Defs
public import proofs.«01_k».proof.Proof.MergeKernel
public import proofs.«01_k».proof.Proof.MergeRef
public import Idealize.ShloMosaic.Lib.Quiescent

@[expose] public section

set_option maxRecDepth 100000

noncomputable section

namespace Cert.Merge

open Idealize.ShloMosaic Idealize.ShloMosaic.TcCoe

/-- The reference runs, leaves its arguments as they were, and has no semaphore to leave behind. -/
theorem quiescent : Cert.quiescent_Reference4Ideal := fun m g _ =>
  θ_run_mono (Cert.Reference4Ideal.Value.run (F := Ideal) m g) fun r h => ⟨fun c => (h c).2, sem_eq_zero_of_no_sems (by decide) r.2⟩

/-- The kernel's and the reference's results are equal at every entry. -/
theorem equal : Cert.algebraic_Kernel4Ideal_Reference4Ideal := fun m g m' g' _ he => by
  refine ⟨fun c => Cert.Kernel4Ideal.Merge.arr m c, ?_, ?_⟩
  · refine θ_run_mono (Cert.Kernel4Ideal.Value.run_blocks m g) fun r h c => ?_
    obtain ⟨h0, hk⟩ := h c
    exact ⟨h0.trans (Cert.Kernel4Ideal.Merge.final m c), hk⟩
  · refine θ_run_mono (Cert.Reference4Ideal.Value.run (F := Ideal) m' g') fun r h c => ?_
    obtain ⟨h0, hk⟩ := h c
    refine ⟨h0.trans ?_, hk⟩
    obtain ⟨e0, e1, e2, e3, e4, e5, e6, e7⟩ := he c
    rw [e0, e1, e2, e3, e4, e5, e6, e7]
    funext i
    rw [eq_ix3 (n0 := 8) (n1 := 2048) (n2 := 1024) i]
    exact Cert.Reference4Ideal.Merge.ref_apply _ _ _ _ _ _ _ _ _ _ _

end Cert.Merge

end
-- ==== Proof.Ada.lean ====
/-
  The modulation projection, as one expression in the extended reals: a row gated by its own logistic times a column, plus
  that column's bias.
-/
module

public import proofs.«01_k».proof.Proof.Gate

@[expose] public section

noncomputable section

namespace Cert.Layer

open Idealize.ShloMosaic

/-- One entry of the modulation projection. -/
def adaE (x w : Fin 1024 → EReal) (b : EReal) : EReal := (∑ u, x u * Ideal.logistic (x u) * w u) + b

end Cert.Layer

end
-- ==== Proof.AdaBlock.lean ====
/-
  The modulation projection, one block: every entry is the product of one conditioning row, gated by its own logistic, with
  one column of the weight, plus that column's bias.
-/
module

public import proofs.«01_k».proof.Proof.Gen.Kernel5Ideal.Skeleton
public import proofs.«01_k».proof.Proof.Ada

@[expose] public section

set_option maxRecDepth 100000

noncomputable section

namespace Cert.Kernel5Ideal.Ada

open Idealize.ShloMosaic Idealize.ShloMosaic.TcCoe Cert.Kernel5Ideal Cert.Kernel5Ideal.Gen Cert.Layer

theorem block_apply (x : Vec Ideal S136x1024 .f32) (w : Vec Ideal S1024x1536 .f32) (b : Vec Ideal S1x1536 .f32) (r : Fin 136) (j : Fin 1536) :
    k0_pay1 (F := Ideal) x w b (ix2 r j)
      = adaE (fun u => x (ix2 r u)) (fun u => w (ix2 u j)) (b (ix2 0 j)) := by
  pointwise [k0_pay1]
  simp only [halfTanh_def, adaE]

end Cert.Kernel5Ideal.Ada

end
-- ==== Proof.AdaKernel.lean ====
/-
  The modulation projection's result array: block by block the body's result of the blocks, and so at each entry the
  product of one gated conditioning row with one column of the weight, plus its bias.
-/
module

public import proofs.«01_k».proof.Proof.Gen.Kernel5Ideal.Value
public import proofs.«01_k».proof.Proof.AdaBlock

@[expose] public section

set_option maxRecDepth 100000

noncomputable section

namespace Cert.Kernel5Ideal.Ada

open Idealize.ShloMosaic Idealize.ShloMosaic.TcCoe Idealize.ShloMosaic.Tactic Cert.Kernel5Ideal Cert.Kernel5Ideal.Gen Cert.Layer

variable (m : (ℓ : Loc nD τ sig) → Buf (Elt Ideal) ℓ) (c : Dev nD)

theorem lt4 (t : Fin cfg0.N) : t.val < 4 := t.isLt

/-- The column of column `j` of the point's block. -/
def col (t : Fin cfg0.N) (j : Fin 1536) : Fin 6144 := ⟨1536 * t.val + j.val, by have := lt4 t; omega⟩

/-- The bias, as the host hands it over. -/
theorem V_v0 : V m c main_v0 = shapeCast S1x6144 (m ((c : Thread nD τ).loc main_arg2)) shapeCasts_S6144_S1x6144 := by
  unfold V
  after_results
  rfl

theorem row_vec (x : Vec Ideal S6144 .f32) (a : Fin 1) (j : Fin 6144) : shapeCast S1x6144 x shapeCasts_S6144_S1x6144 (ix2 a j) = x (ix1 j) := by
  pointwise

/-! ## The blocks -/

theorem idx0 : ∀ t : Fin cfg0.N, win0_0.index t 0 = 0 ∧ win0_0.index t 1 = 0 :=
  (by decide +kernel : ∀ t : Fin grid0.N, win0_0.index t 0 = 0 ∧ win0_0.index t 1 = 0)

theorem emb0 (t : Fin cfg0.N) (j : S136x1024.Idx) : ((cfg0.win 0).blk t).view.emb j = j := by
  obtain ⟨e0, e1⟩ := idx0 t
  funext a; apply Fin.ext
  match a with
  | ⟨0, _⟩ => show win0_0.index t (0 : Fin 2) * 136 + 1 * (j 0).val = (j 0).val; omega
  | ⟨1, _⟩ => show win0_0.index t (1 : Fin 2) * 1024 + 1 * (j 1).val = (j 1).val; omega

theorem idx1 : ∀ t : Fin cfg0.N, win0_1.index t 0 = 0 ∧ win0_1.index t 1 = t.val :=
  (by decide +kernel : ∀ t : Fin grid0.N, win0_1.index t 0 = 0 ∧ win0_1.index t 1 = t.val)

theorem emb1 (t : Fin cfg0.N) (j : S1024x1536.Idx) : ((cfg0.win 1).blk t).view.emb j = ix2 (j 0) (col t (j 1)) := by
  obtain ⟨e0, e1⟩ := idx1 t
  funext a; apply Fin.ext
  match a with
  | ⟨0, _⟩ => show win0_1.index t (0 : Fin 2) * 1024 + 1 * (j 0).val = (j 0).val; omega
  | ⟨1, _⟩ => show win0_1.index t (1 : Fin 2) * 1536 + 1 * (j 1).val = 1536 * t.val + (j 1).val; omega

theorem idx2 : ∀ t : Fin cfg0.N, win0_2.index t 0 = 0 ∧ win0_2.index t 1 = t.val :=
  (by decide +kernel : ∀ t : Fin grid0.N, win0_2.index t 0 = 0 ∧ win0_2.index t 1 = t.val)

theorem emb2 (t : Fin cfg0.N) (j : S1x1536.Idx) : ((cfg0.win 2).blk t).view.emb j = ix2 (j 0) (col t (j 1)) := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 1536 + 1 * (j 1).val = 1536 * t.val + (j 1).val; omega

theorem idx3 : ∀ t : Fin cfg0.N, win0_3.index t 0 = 0 ∧ win0_3.index t 1 = t.val :=
  (by decide +kernel : ∀ t : Fin grid0.N, win0_3.index t 0 = 0 ∧ win0_3.index t 1 = t.val)

theorem emb3 (t : Fin cfg0.N) (j : S136x1536.Idx) : ((cfg0.win 3).blk t).view.emb j = ix2 (j 0) (col t (j 1)) := by
  obtain ⟨e0, e1⟩ := idx3 t
  funext a; apply Fin.ext
  match a with
  | ⟨0, _⟩ => show win0_3.index t (0 : Fin 2) * 136 + 1 * (j 0).val = (j 0).val; omega
  | ⟨1, _⟩ => show win0_3.index t (1 : Fin 2) * 1536 + 1 * (j 1).val = 1536 * t.val + (j 1).val; omega

theorem blk0 (t : Fin cfg0.N) (j : S136x1024.Idx) : (iblk m c 0 t : Vec Ideal S136x1024 .f32) j = (m ((c : Thread nD τ).loc main_arg0) : Vec Ideal S136x1024 .f32) j := by
  show V m c main_arg0 (((cfg0.win 0).blk t).view.emb j) = _
  rw [emb0, V_main_arg0]

theorem blk1 (t : Fin cfg0.N) (j : S1024x1536.Idx) : (iblk m c 1 t : Vec Ideal S1024x1536 .f32) j = (m ((c : Thread nD τ).loc main_arg1) : Vec Ideal S1024x6144 .f32) (ix2 (j 0) (col t (j 1))) := by
  show V m c main_arg1 (((cfg0.win 1).blk t).view.emb j) = _
  rw [emb1, V_main_arg1]
  rfl

theorem blk2 (t : Fin cfg0.N) (a : Fin 1) (j : Fin 1536) : (iblk m c 2 t : Vec Ideal S1x1536 .f32) (ix2 a j) = (m ((c : Thread nD τ).loc main_arg2) : Vec Ideal S6144 .f32) (ix1 (col t j)) := by
  show V m c main_v0 (((cfg0.win 2).blk t).view.emb (ix2 a j)) = _
  rw [emb2, V_v0]
  exact row_vec _ a (col t j)

/-! ## The result array -/

/-- What the result array holds. -/
def arr : Vec Ideal S136x6144 .f32 := fun i =>
  adaE (fun u => (m ((c : Thread nD τ).loc main_arg0) : Vec Ideal S136x1024 .f32) (ix2 (i 0 : Fin 136) u))
    (fun u => (m ((c : Thread nD τ).loc main_arg1) : Vec Ideal S1024x6144 .f32) (ix2 u (i 1 : Fin 6144)))
    ((m ((c : Thread nD τ).loc main_arg2) : Vec Ideal S6144 .f32) (ix1 (i 1 : Fin 6144)))

theorem hz2 : (![0, 0] : Fin 2 → Nat) = fun _ => 0 := funext fun a => by fin_cases a <;> rfl

/-- The body's one store is of the whole block, and its loads are of whole blocks. -/
theorem out_eq (x0 : Vec Ideal S136x1024 .f32) (x1 : Vec Ideal S1024x1536 .f32) (x2 : Vec Ideal S1x1536 .f32) :
    out0_3 x0 x1 x2 = k0_pay1 (F := Ideal) x0 x1 x2 := by
  unfold out0_3
  rw [View.canon_unit_zero hz2]
  simp only [View.ld_unit_zero (S := S136x1024) hz2, View.ld_unit_zero (S := S1024x1536) hz2, View.ld_unit_zero (S := S1x1536) hz2]

theorem out_at (t : Fin cfg0.N) (r : Fin 136) (j : Fin 1536) :
    out0_3 (iblk m c 0 t) (iblk m c 1 t) (iblk m c 2 t) (ix2 r j) = arr m c (ix2 r (col t j)) := by
  rw [out_eq]
  refine (block_apply _ _ _ r j).trans ?_
  unfold arr
  congr 1
  · funext u; exact blk0 m c t _
  · funext u; exact blk1 m c t _
  · exact blk2 m c t 0 j

theorem flushed_eq (t : Fin cfg0.N) : (dats m 0 c).flushed 3 t = ((cfg0.win 3).blk t).view.read (Elt Ideal) (arr m c) := by
  rw [Value.flushed3]
  funext y
  have h : out0_3 (iblk m c 0 t) (iblk m c 1 t) (iblk m c 2 t) y = arr m c (((cfg0.win 3).blk t).view.emb y) := by
    rw [emb3 t y]
    refine Eq.trans ?_ (out_at m c t (y 0) (y 1))
    exact congrArg (out0_3 (iblk m c 0 t) (iblk m c 1 t) (iblk m c 2 t)) (eq_ix2 (n0 := 136) (n1 := 1536) y)
  exact h

theorem cell (t : Fin cfg0.N) (r : Fin 136) (j : Fin 1536) (i : S136x6144.Idx) (hi : ix2 r (col t j) = i) :
    i ∈ ((cfg0.win 3).blk t).view.set := by
  subst hi
  have h := ((cfg0.win 3).blk t).view.emb_mem_set (ix2 r j)
  rw [emb3] at h
  exact h

/-- The point that writes column block `q`. -/
def pt (q : Fin 4) : Fin cfg0.N := ⟨q.val, q.isLt⟩

theorem cover (i : S136x6144.Idx) : ∃ t : Fin cfg0.N, (cfg0.win 3).flush t = true ∧ i ∈ ((cfg0.win 3).blk t).view.set := by
  have key : ∀ (a : Fin 136) (j : Fin 6144), ix2 a j = i → ∃ t : Fin cfg0.N, (cfg0.win 3).flush t = true ∧ i ∈ ((cfg0.win 3).blk t).view.set := by
    intro a j h
    have e2 : col (pt ⟨j.val / 1536, by omega⟩) ⟨j.val % 1536, by omega⟩ = j :=
      Fin.ext (show 1536 * (j.val / 1536) + j.val % 1536 = j.val by omega)
    refine ⟨pt ⟨j.val / 1536, by omega⟩, flush0_3 _, cell _ a ⟨j.val % 1536, by omega⟩ i ?_⟩
    rw [e2]
    exact h
  exact key (i 0) (i 1) (eq_ix2 (n0 := 136) (n1 := 6144) i).symm

/-- The result array. -/
theorem final : (dats m 0 c).arrAt 3 cfg0.N = arr m c :=
  (dats m 0 c).arrAt_eq_of_cover 3 (arr m c) (fun t _ => flushed_eq m c t) cover

end Cert.Kernel5Ideal.Ada

end
-- ==== Proof.AdaRef.lean ====
/-
  The modulation projection's reference, read at one entry: the product of one conditioning row, gated by its own logistic,
  with one column of the weight, plus that column's bias.
-/
module

public import proofs.«01_k».proof.Proof.Gen.Reference5Ideal.Run
public import proofs.«01_k».proof.Proof.Ada

@[expose] public section

set_option maxRecDepth 100000

noncomputable section

namespace Cert.Reference5Ideal.Ada

open Idealize.ShloMosaic Idealize.ShloMosaic.TcCoe Cert.Reference5Ideal Cert.Reference5Ideal.Gen Cert.Layer

theorem ref_apply (x : Vec Ideal S136x1024 .f32) (w : Vec Ideal S1024x6144 .f32) (b : Vec Ideal S6144 .f32) (r : Fin 136) (j : Fin 6144) :
    addf (F := Ideal) (Host.dotGeneral (F := Ideal) (so := S136x6144) (φ₁ := .f32) (φ₂ := .f32) dot_S136x1024_S1024x6144_S136x6144_1_0_0_1_n_n none (mulf x (Host.divf (broadcastInDim S136x1024 ![] bcast_S_S136x1024 (constant S_ .f32 0x3F800000#32)) (addf (broadcastInDim S136x1024 ![] bcast_S_S136x1024 (constant S_ .f32 0x3F800000#32)) (Host.exp (Host.negf x))))) w) (broadcastInDim S136x6144 ![0, 1] bcast_S1x6144_S136x6144_0_1 (broadcastInDim S1x6144 ![1] bcast_S6144_S1x6144_1 b)) (ix2 r j)
      = adaE (fun u => x (ix2 r u)) (fun u => w (ix2 u j)) (b (ix1 j)) := by
  pointwise
  rfl

end Cert.Reference5Ideal.Ada

end
-- ==== Proof.AdaEq.lean ====
/-
  The modulation projection's claims: the tiled kernel and the plain reference end with equal results.
-/
module

public import proofs.«01_k».proof.Defs
public import proofs.«01_k».proof.Proof.AdaKernel
public import proofs.«01_k».proof.Proof.AdaRef
public import Idealize.ShloMosaic.Lib.Quiescent

@[expose] public section

set_option maxRecDepth 100000

noncomputable section

namespace Cert.Ada

open Idealize.ShloMosaic Idealize.ShloMosaic.TcCoe

/-- The reference runs, leaves its arguments as they were, and has no semaphore to leave behind. -/
theorem quiescent : Cert.quiescent_Reference5Ideal := fun m g _ =>
  θ_run_mono (Cert.Reference5Ideal.Value.run (F := Ideal) m g) fun r h => ⟨fun c => (h c).2, sem_eq_zero_of_no_sems (by decide) r.2⟩

/-- The kernel's and the reference's results are equal at every entry. -/
theorem equal : Cert.algebraic_Kernel5Ideal_Reference5Ideal := fun m g m' g' _ he => by
  refine ⟨fun c => Cert.Kernel5Ideal.Ada.arr m c, ?_, ?_⟩
  · refine θ_run_mono (Cert.Kernel5Ideal.Value.run_blocks m g) fun r h c => ?_
    obtain ⟨h0, hk⟩ := h c
    exact ⟨h0.trans (Cert.Kernel5Ideal.Ada.final m c), hk⟩
  · refine θ_run_mono (Cert.Reference5Ideal.Value.run (F := Ideal) m' g') fun r h c => ?_
    obtain ⟨h0, hk⟩ := h c
    refine ⟨h0.trans ?_, hk⟩
    obtain ⟨e0, e1, e2⟩ := he c
    rw [e0, e1, e2]
    funext i
    rw [eq_ix2 (n0 := 136) (n1 := 6144) i]
    exact Cert.Reference5Ideal.Ada.ref_apply _ _ _ _ _

end Cert.Ada

end
-- ==== Proof.Hp.lean ====
/-
  A product in two parts: what a weight and a token's features leave over after their own rounding is zero over the
  reals, so the three partial products add up to the one product. The normalised features are real numbers for every token,
  the infinite ones included, because an infinite feature makes the inverse root of the mean square zero.
-/
module

public import proofs.«01_k».proof.Proof.Rms

@[expose] public section

noncomputable section

namespace Cert.Layer

open Idealize.ShloMosaic

/-- The number of features. -/
theorem kilo_bits : Ideal.ofBits .f32 0x44800000#32 = ((1024 : ℝ) : EReal) := by
  simp [Ideal.ofBits, Ideal.ieee, -EReal.coe_mul]; norm_num

/-- The constant under the root is a positive real number. -/
theorem eps_bits : ∃ e : ℝ, 0 < e ∧ Ideal.ofBits .f32 0x358637BD#32 = ((e : ℝ) : EReal) := by
  refine ⟨_, ?_, by simp [Ideal.ofBits, Ideal.ieee, -EReal.coe_mul]; rfl⟩
  positivity

theorem real_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem sq_nonneg' (x : EReal) : 0 ≤ x * x := by
  induction x with
  | bot => simp
  | top => simp
  | coe r => rw [← EReal.coe_mul]; exact EReal.coe_nonneg.2 (mul_self_nonneg r)

/-- One infinite feature makes the inverse root zero. -/
theorem rms_top (x : Fin 1024 → EReal) (v : Fin 1024) (h : x v * x v = ⊤) : rmsE x = 0 := by
  have hs : ∑ u, x u * x u = ⊤ := by
    refine top_le_iff.1 (h ▸ ?_)
    exact Finset.single_le_sum (f := fun u => x u * x u) (fun u _ => sq_nonneg' (x u)) (Finset.mem_univ v)
  obtain ⟨e, he, hb⟩ := eps_bits
  unfold rmsE
  rw [hs, kilo_bits, Ideal.div_coe (by norm_num), EReal.top_mul_coe_of_pos (by norm_num), hb, EReal.top_add_coe, Ideal.rsqrt_top]

/-- With real features the inverse root is a real number. -/
theorem rms_coe (r : Fin 1024 → ℝ) : ∃ q : ℝ, rmsE (fun u => (r u : EReal)) = (q : EReal) := by
  obtain ⟨e, he, hb⟩ := eps_bits
  have hp : 0 < (∑ u, r u * r u) * (1 / 1024) + e :=
    add_pos_of_nonneg_of_pos (mul_nonneg (Finset.sum_nonneg fun u _ => mul_self_nonneg (r u)) (by norm_num)) he
  refine ⟨(Real.sqrt ((∑ u, r u * r u) * (1 / 1024) + e))⁻¹, ?_⟩
  unfold rmsE
  simp only [← EReal.coe_mul]
  rw [real_sum, kilo_bits, Ideal.div_coe (by norm_num), hb, ← EReal.coe_mul, ← EReal.coe_add, Ideal.rsqrt_coe, if_neg (not_lt.2 hp.le), if_neg hp.ne']

/-- A normalised feature is a real number, whatever the token. -/
theorem norm_real (x : Fin 1024 → EReal) (u : Fin 1024) : ∃ q : ℝ, x u * rmsE x = (q : EReal) := by
  by_cases h : ∃ v, x v * x v = ⊤
  · obtain ⟨v, hv⟩ := h
    exact ⟨0, by rw [rms_top x v hv]; simp⟩
  · have hr : ∀ v, ∃ r : ℝ, x v = (r : EReal) := fun v => by
      have hv : x v * x v ≠ ⊤ := fun e => h ⟨v, e⟩
      generalize x v = y at hv
      induction y with
      | bot => simp at hv
      | top => simp at hv
      | coe r => exact ⟨r, rfl⟩
    choose r hr using hr
    obtain rfl : x = fun v => (r v : EReal) := funext hr
    obtain ⟨q, hq⟩ := rms_coe r
    exact ⟨r u * q, by rw [hq, EReal.coe_mul]⟩

/-- A normalised and modulated feature is a real number where gain, scale and shift are. -/
theorem mod_real (x g sc sh : Fin 1024 → EReal) (u : Fin 1024) (hg : ∃ q : ℝ, g u = q) (hsc : ∃ q : ℝ, sc u = q) (hsh : ∃ q : ℝ, sh u = q) :
    ∃ q : ℝ, modE x g sc sh u = (q : EReal) := by
  obtain ⟨n, hn⟩ := norm_real x u
  obtain ⟨a, ha⟩ := hg
  obtain ⟨b, hb⟩ := hsc
  obtain ⟨d, hd⟩ := hsh
  refine ⟨(n * a) * (1 + b) + d, ?_⟩
  unfold modE
  rw [hn, ha, hb, hd]
  push_cast
  rfl

/-- The three partial products: with the weight's first part, with its second, and of what the features leave over. -/
def partsE (h w wl : Fin 1024 → EReal) : EReal :=
  (∑ u, h u * w u) + ((∑ u, h u * wl u) + ∑ u, (h u - h u) * w u)

/-- They add up to the product where features and weight are real. -/
theorem parts_eq (h w : Fin 1024 → EReal) (hh : ∀ u, ∃ q : ℝ, h u = (q : EReal)) (hw : ∀ u, ∃ q : ℝ, w u = (q : EReal)) :
    partsE h w (fun u => w u - w u) = ∑ u, h u * w u := by
  have e1 : ∀ u, h u * (w u - w u) = 0 := fun u => by
    obtain ⟨q, hq⟩ := hw u
    rw [hq, ← EReal.coe_sub, sub_self, EReal.coe_zero, mul_zero]
  have e2 : ∀ u, (h u - h u) * w u = 0 := fun u => by
    obtain ⟨q, hq⟩ := hh u
    rw [hq, ← EReal.coe_sub, sub_self, EReal.coe_zero, zero_mul]
  unfold partsE
  simp only [e1, e2, Finset.sum_const_zero, add_zero]

end Cert.Layer

end
-- ==== Proof.HpBlock.lean ====
/-
  The product in two parts, one block: every entry of the block is the three partial products of one normalised and
  modulated token with one column of the two halves of the weight.
-/
module

public import proofs.«01_k».proof.Proof.Gen.Kernel6Ideal.Skeleton
public import proofs.«01_k».proof.Proof.Hp

@[expose] public section

set_option maxRecDepth 100000

noncomputable section

namespace Cert.Kernel6Ideal.Hp

open Idealize.ShloMosaic Idealize.ShloMosaic.TcCoe Cert.Kernel6Ideal Cert.Kernel6Ideal.Gen Cert.Layer

theorem block_apply (x : Vec Ideal S1x512x1024 .f32) (g : Vec Ideal S1x1024 .f32) (sc sh : Vec Ideal S1x1x1024 .f32) (w wl : Vec Ideal S1024x768 .bf16)
    (a : Fin 1) (r : Fin 512) (j : Fin 768) :
    k0_pay1 (F := Ideal) (k0_pay4 (F := Ideal) x g sc sh) (k0_pay5 (F := Ideal) x g sc sh w) (k0_pay6 (F := Ideal) x g sc sh wl) w (ix3 a r j)
      = partsE (modE (fun u => x (ix3 0 r u)) (fun u => g (ix2 0 u)) (fun u => sc (ix3 0 0 u)) (fun u => sh (ix3 0 0 u))) (fun u => w (ix2 u j)) (fun u => wl (ix2 u j)) := by
  unfold k0_pay4 k0_pay5 k0_pay6 k0_pay3
  pointwise [k0_pay1, k0_pay2]
  simp only [partsE, modE, rmsE]

end Cert.Kernel6Ideal.Hp

end
-- ==== Proof.HpKernel.lean ====
/-
  The two-part product's result array: block by block the body's result of the blocks, and so at each entry the three
  partial products of one normalised and modulated token with one column of the weight's two parts.
-/
module

public import proofs.«01_k».proof.Proof.Gen.Kernel6Ideal.Value
public import proofs.«01_k».proof.Proof.HpBlock

@[expose] public section

noncomputable section

namespace Cert.Kernel6Ideal.Hp

open Idealize.ShloMosaic Idealize.ShloMosaic.TcCoe Idealize.ShloMosaic.Tactic Cert.Kernel6Ideal Cert.Kernel6Ideal.Gen Cert.Layer

variable (m : (ℓ : Loc nD τ sig) → Buf (Elt Ideal) ℓ) (c : Dev nD)

/-- The point's batch row. -/
def bat (t : Fin cfg0.N) : Fin 8 := ⟨t.val / 4 % 8, by omega⟩
/-- The token of row `s` of the point's block. -/
def tok (t : Fin cfg0.N) (s : Fin 512) : Fin 2048 := ⟨512 * (t.val % 4) + s.val, by omega⟩
/-- The gain, as the host hands it over. -/
theorem V_v4 : V m c main_v4 = shapeCast S1x1024 (m ((c : Thread nD τ).loc main_arg1)) shapeCasts_S1024_S1x1024 := by
  unfold V
  after_results
  rfl

/-- The weight's first part: the weight. -/
theorem V_v0 : (V m c main_v0 : FVec Ideal S1024x768 .bf16) = truncf (F := Ideal) (s := S1024x768) (φ := .f32) .bf16 (m ((c : Thread nD τ).loc main_arg4)) bitsLt_bf16_f32 := by
  unfold V
  after_results

/-- The weight's second part: the weight less its first. -/
theorem V_v3 : (V m c main_v3 : FVec Ideal S1024x768 .bf16) = truncf (F := Ideal) (s := S1024x768) (φ := .f32) .bf16 (subf (m ((c : Thread nD τ).loc main_arg4)) (extf .f32 (truncf (F := Ideal) (s := S1024x768) (φ := .f32) .bf16 (m ((c : Thread nD τ).loc main_arg4)) bitsLt_bf16_f32) bitsLt_bf16_f32)) bitsLt_bf16_f32 := by
  unfold V
  after_results

theorem row_vec (x : Vec Ideal S1024 .f32) (a : Fin 1) (j : Fin 1024) : shapeCast S1x1024 x shapeCasts_S1024_S1x1024 (ix2 a j) = x (ix1 j) := by
  pointwise

/-! ## The blocks -/

theorem idx0 : ∀ t : Fin cfg0.N, win0_0.index t 0 = t.val / 4 % 8 ∧ win0_0.index t 1 = t.val % 4 ∧ win0_0.index t 2 = 0 :=
  (by decide +kernel : ∀ t : Fin grid0.N, win0_0.index t 0 = t.val / 4 % 8 ∧ win0_0.index t 1 = t.val % 4 ∧ win0_0.index t 2 = 0)

theorem emb0 (t : Fin cfg0.N) (j : S1x512x1024.Idx) : ((cfg0.win 0).blk t).view.emb j = ix3 (bat t) (tok t (j 1)) (j 2) := by
  obtain ⟨e0, e1, e2⟩ := idx0 t
  have h0 : (j 0).val < 1 := (j 0).isLt
  funext a; apply Fin.ext
  match a with
  | ⟨0, _⟩ => show win0_0.index t (0 : Fin 3) * 1 + 1 * (j 0).val = t.val / 4 % 8; omega
  | ⟨1, _⟩ => show win0_0.index t (1 : Fin 3) * 512 + 1 * (j 1).val = 512 * (t.val % 4) + (j 1).val; omega
  | ⟨2, _⟩ => show win0_0.index t (2 : Fin 3) * 1024 + 1 * (j 2).val = (j 2).val; omega

theorem idx1 : ∀ t : Fin cfg0.N, win0_1.index t 0 = 0 ∧ win0_1.index t 1 = 0 :=
  (by decide +kernel : ∀ t : Fin grid0.N, win0_1.index t 0 = 0 ∧ win0_1.index t 1 = 0)

theorem emb1 (t : Fin cfg0.N) (j : S1x1024.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem idx2 : ∀ t : Fin cfg0.N, win0_2.index t 0 = t.val / 4 % 8 ∧ win0_2.index t 1 = 0 ∧ win0_2.index t 2 = 0 :=
  (by decide +kernel : ∀ t : Fin grid0.N, win0_2.index t 0 = t.val / 4 % 8 ∧ win0_2.index t 1 = 0 ∧ win0_2.index t 2 = 0)

theorem emb2 (t : Fin cfg0.N) (j : S1x1x1024.Idx) : ((cfg0.win 2).blk t).view.emb j = ix3 (bat t) (j 1) (j 2) := by
  obtain ⟨e0, e1, e2⟩ := idx2 t
  have h0 : (j 0).val < 1 := (j 0).isLt
  funext a; apply Fin.ext
  match a with
  | ⟨0, _⟩ => show win0_2.index t (0 : Fin 3) * 1 + 1 * (j 0).val = t.val / 4 % 8; omega
  | ⟨1, _⟩ => show win0_2.index t (1 : Fin 3) * 1 + 1 * (j 1).val = (j 1).val; omega
  | ⟨2, _⟩ => show win0_2.index t (2 : Fin 3) * 1024 + 1 * (j 2).val = (j 2).val; omega

theorem idx3 : ∀ t : Fin cfg0.N, win0_3.index t 0 = t.val / 4 % 8 ∧ win0_3.index t 1 = 0 ∧ win0_3.index t 2 = 0 :=
  (by decide +kernel : ∀ t : Fin grid0.N, win0_3.index t 0 = t.val / 4 % 8 ∧ win0_3.index t 1 = 0 ∧ win0_3.index t 2 = 0)

theorem emb3 (t : Fin cfg0.N) (j : S1x1x1024.Idx) : ((cfg0.win 3).blk t).view.emb j = ix3 (bat t) (j 1) (j 2) := by
  obtain ⟨e0, e1, e2⟩ := idx3 t
  have h0 : (j 0).val < 1 := (j 0).isLt
  funext a; apply Fin.ext
  match a with
  | ⟨0, _⟩ => show win0_3.index t (0 : Fin 3) * 1 + 1 * (j 0).val = t.val / 4 % 8; omega
  | ⟨1, _⟩ => show win0_3.index t (1 : Fin 3) * 1 + 1 * (j 1).val = (j 1).val; omega
  | ⟨2, _⟩ => show win0_3.index t (2 : Fin 3) * 1024 + 1 * (j 2).val = (j 2).val; omega

theorem idx4 : ∀ t : Fin cfg0.N, win0_4.index t 0 = 0 ∧ win0_4.index t 1 = 0 :=
  (by decide +kernel : ∀ t : Fin grid0.N, win0_4.index t 0 = 0 ∧ win0_4.index t 1 = 0)

theorem emb4 (t : Fin cfg0.N) (j : S1024x768.Idx) : ((cfg0.win 4).blk t).view.emb j = j := by
  obtain ⟨e0, e1⟩ := idx4 t
  funext a; apply Fin.ext
  match a with
  | ⟨0, _⟩ => show win0_4.index t (0 : Fin 2) * 1024 + 1 * (j 0).val = (j 0).val; omega
  | ⟨1, _⟩ => show win0_4.index t (1 : Fin 2) * 768 + 1 * (j 1).val = (j 1).val; omega

theorem idx5 : ∀ t : Fin cfg0.N, win0_5.index t 0 = 0 ∧ win0_5.index t 1 = 0 :=
  (by decide +kernel : ∀ t : Fin grid0.N, win0_5.index t 0 = 0 ∧ win0_5.index t 1 = 0)

theorem emb5 (t : Fin cfg0.N) (j : S1024x768.Idx) : ((cfg0.win 5).blk t).view.emb j = j := by
  obtain ⟨e0, e1⟩ := idx5 t
  funext a; apply Fin.ext
  match a with
  | ⟨0, _⟩ => show win0_5.index t (0 : Fin 2) * 1024 + 1 * (j 0).val = (j 0).val; omega
  | ⟨1, _⟩ => show win0_5.index t (1 : Fin 2) * 768 + 1 * (j 1).val = (j 1).val; omega

theorem idx6 : ∀ t : Fin cfg0.N, win0_6.index t 0 = t.val / 4 % 8 ∧ win0_6.index t 1 = t.val % 4 ∧ win0_6.index t 2 = 0 :=
  (by decide +kernel : ∀ t : Fin grid0.N, win0_6.index t 0 = t.val / 4 % 8 ∧ win0_6.index t 1 = t.val % 4 ∧ win0_6.index t 2 = 0)

theorem emb6 (t : Fin cfg0.N) (j : S1x512x768.Idx) : ((cfg0.win 6).blk t).view.emb j = ix3 (bat t) (tok t (j 1)) (j 2) := by
  obtain ⟨e0, e1, e2⟩ := idx6 t
  have h0 : (j 0).val < 1 := (j 0).isLt
  funext a; apply Fin.ext
  match a with
  | ⟨0, _⟩ => show win0_6.index t (0 : Fin 3) * 1 + 1 * (j 0).val = t.val / 4 % 8; omega
  | ⟨1, _⟩ => show win0_6.index t (1 : Fin 3) * 512 + 1 * (j 1).val = 512 * (t.val % 4) + (j 1).val; omega
  | ⟨2, _⟩ => show win0_6.index t (2 : Fin 3) * 768 + 1 * (j 2).val = (j 2).val; omega

theorem blk0 (t : Fin cfg0.N) (j : S1x512x1024.Idx) : (iblk m c 0 t : Vec Ideal S1x512x1024 .f32) j = (m ((c : Thread nD τ).loc main_arg0) : Vec Ideal S8x2048x1024 .f32) (ix3 (bat t) (tok t (j 1)) (j 2)) := by
  show V m c main_arg0 (((cfg0.win 0).blk t).view.emb j) = _
  rw [emb0, V_main_arg0]
  rfl

theorem blk1 (t : Fin cfg0.N) (a : Fin 1) (j : Fin 1024) : (iblk m c 1 t : Vec Ideal S1x1024 .f32) (ix2 a j) = (m ((c : Thread nD τ).loc main_arg1) : Vec Ideal S1024 .f32) (ix1 j) := by
  show V m c main_v4 (((cfg0.win 1).blk t).view.emb (ix2 a j)) = _
  rw [emb1, V_v4]
  exact row_vec _ a j

theorem blk2 (t : Fin cfg0.N) (j : S1x1x1024.Idx) : (iblk m c 2 t : Vec Ideal S1x1x1024 .f32) j = (m ((c : Thread nD τ).loc main_arg2) : Vec Ideal S8x1x1024 .f32) (ix3 (bat t) (j 1) (j 2)) := by
  show V m c main_arg2 (((cfg0.win 2).blk t).view.emb j) = _
  rw [emb2, V_main_arg2]
  rfl

theorem blk3 (t : Fin cfg0.N) (j : S1x1x1024.Idx) : (iblk m c 3 t : Vec Ideal S1x1x1024 .f32) j = (m ((c : Thread nD τ).loc main_arg3) : Vec Ideal S8x1x1024 .f32) (ix3 (bat t) (j 1) (j 2)) := by
  show V m c main_arg3 (((cfg0.win 3).blk t).view.emb j) = _
  rw [emb3, V_main_arg3]
  rfl

/-- The weight. -/
def wt (u : Fin 1024) (j : Fin 768) : EReal := (m ((c : Thread nD τ).loc main_arg4) : Vec Ideal S1024x768 .f32) (ix2 u j)

theorem blk4 (t : Fin cfg0.N) (u : Fin 1024) (j : Fin 768) : (iblk m c 4 t : Vec Ideal S1024x768 .bf16) (ix2 u j) = wt m c u j := by
  show V m c main_v0 (((cfg0.win 4).blk t).view.emb (ix2 u j)) = _
  rw [emb4]
  exact congrFun (V_v0 m c) (ix2 u j)

theorem blk5 (t : Fin cfg0.N) (u : Fin 1024) (j : Fin 768) : (iblk m c 5 t : Vec Ideal S1024x768 .bf16) (ix2 u j) = wt m c u j - wt m c u j := by
  show V m c main_v3 (((cfg0.win 5).blk t).view.emb (ix2 u j)) = _
  rw [emb5]
  exact congrFun (V_v3 m c) (ix2 u j)

/-! ## The result array -/

/-- What the result array holds. -/
def arr : Vec Ideal S8x2048x768 .f32 := fun i =>
  partsE (modE (fun u => (m ((c : Thread nD τ).loc main_arg0) : Vec Ideal S8x2048x1024 .f32) (ix3 (i 0 : Fin 8) (i 1 : Fin 2048) u))
    (fun u => (m ((c : Thread nD τ).loc main_arg1) : Vec Ideal S1024 .f32) (ix1 u))
    (fun u => (m ((c : Thread nD τ).loc main_arg3) : Vec Ideal S8x1x1024 .f32) (ix3 (i 0 : Fin 8) 0 u))
    (fun u => (m ((c : Thread nD τ).loc main_arg2) : Vec Ideal S8x1x1024 .f32) (ix3 (i 0 : Fin 8) 0 u)))
    (fun u => wt m c u (i 2 : Fin 768)) (fun u => wt m c u (i 2 : Fin 768) - wt m c u (i 2 : Fin 768))

theorem hz3 : (![0, 0, 0] : Fin 3 → Nat) = fun _ => 0 := funext fun a => by fin_cases a <;> rfl
theorem hz2 : (![0, 0] : Fin 2 → Nat) = fun _ => 0 := funext fun a => by fin_cases a <;> rfl

/-- The body's one store is of the whole block, and its loads are of whole blocks. -/
theorem out_eq (x0 : Vec Ideal S1x512x1024 .f32) (x1 : Vec Ideal S1x1024 .f32) (x2 x3 : Vec Ideal S1x1x1024 .f32) (x4 x5 : Vec Ideal S1024x768 .bf16) :
    out0_6 x0 x1 x2 x3 x4 x5 = k0_pay1 (F := Ideal) (k0_pay4 (F := Ideal) x0 x1 x3 x2) (k0_pay5 (F := Ideal) x0 x1 x3 x2 x4) (k0_pay6 (F := Ideal) x0 x1 x3 x2 x5) x4 := by
  unfold out0_6
  rw [View.canon_unit_zero hz3]
  simp only [View.ld_unit_zero (S := S1x512x1024) hz3, View.ld_unit_zero (S := S1x1024) hz2, View.ld_unit_zero (S := S1x1x1024) hz3, View.ld_unit_zero (S := S1024x768) hz2]

theorem out_at (t : Fin cfg0.N) (a : Fin 1) (r : Fin 512) (j : Fin 768) :
    out0_6 (iblk m c 0 t) (iblk m c 1 t) (iblk m c 2 t) (iblk m c 3 t) (iblk m c 4 t) (iblk m c 5 t) (ix3 a r j) = arr m c (ix3 (bat t) (tok t r) j) := by
  rw [out_eq]
  refine (block_apply _ _ _ _ _ _ a r j).trans ?_
  unfold arr
  congr 1
  · congr 1
    · funext u; exact blk0 m c t _
    · funext u; exact blk1 m c t 0 u
    · funext u; exact blk3 m c t _
    · funext u; exact blk2 m c t _
  · funext u; exact blk4 m c t u j
  · funext u; exact blk5 m c t u j

theorem flushed_eq (t : Fin cfg0.N) : (dats m 0 c).flushed 6 t = ((cfg0.win 6).blk t).view.read (Elt Ideal) (arr m c) := by
  rw [Value.flushed6]
  funext y
  have h : out0_6 (iblk m c 0 t) (iblk m c 1 t) (iblk m c 2 t) (iblk m c 3 t) (iblk m c 4 t) (iblk m c 5 t) y = arr m c (((cfg0.win 6).blk t).view.emb y) := by
    rw [emb6 t y]
    refine Eq.trans ?_ (out_at m c t (y 0) (y 1) (y 2))
    exact congrArg (out0_6 (iblk m c 0 t) (iblk m c 1 t) (iblk m c 2 t) (iblk m c 3 t) (iblk m c 4 t) (iblk m c 5 t)) (eq_ix3 (n0 := 1) (n1 := 512) (n2 := 768) y)
  exact h

theorem cell (t : Fin cfg0.N) (r : Fin 512) (j : Fin 768) (i : S8x2048x768.Idx) (hi : ix3 (bat t) (tok t r) j = i) :
    i ∈ ((cfg0.win 6).blk t).view.set := by
  subst hi
  have h := ((cfg0.win 6).blk t).view.emb_mem_set (ix3 0 r j)
  rw [emb6] at h
  exact h

/-- The point that writes batch row `a`, row block `s`. -/
def pt (a : Fin 8) (s : Fin 4) : Fin cfg0.N := ⟨4 * a.val + s.val, by show _ < 32; omega⟩

theorem cover (i : S8x2048x768.Idx) : ∃ t : Fin cfg0.N, (cfg0.win 6).flush t = true ∧ i ∈ ((cfg0.win 6).blk t).view.set := by
  have key : ∀ (a : Fin 8) (n : Fin 2048) (j : Fin 768), ix3 a n j = i → ∃ t : Fin cfg0.N, (cfg0.win 6).flush t = true ∧ i ∈ ((cfg0.win 6).blk t).view.set := by
    intro a n j h
    have e0 : bat (pt a ⟨n.val / 512, by omega⟩) = a :=
      Fin.ext (show (4 * a.val + n.val / 512) / 4 % 8 = a.val by omega)
    have e1 : tok (pt a ⟨n.val / 512, by omega⟩) ⟨n.val % 512, by omega⟩ = n :=
      Fin.ext (show 512 * ((4 * a.val + n.val / 512) % 4) + n.val % 512 = n.val by omega)
    refine ⟨pt a ⟨n.val / 512, by omega⟩, flush0_6 _, cell _ ⟨n.val % 512, by omega⟩ j i ?_⟩
    rw [e0, e1]
    exact h
  exact key (i 0) (i 1) (i 2) (eq_ix3 (n0 := 8) (n1 := 2048) (n2 := 768) i).symm

/-- The result array. -/
theorem final : (dats m 0 c).arrAt 6 cfg0.N = arr m c :=
  (dats m 0 c).arrAt_eq_of_cover 6 (arr m c) (fun t _ => flushed_eq m c t) cover

end Cert.Kernel6Ideal.Hp

end
-- ==== Proof.HpRef.lean ====
/-
  The reference of the product in two parts, read at one entry: the product of one normalised and modulated token with one
  column of the weight.
-/
module

public import proofs.«01_k».proof.Proof.Gen.Reference6Ideal.Run
public import proofs.«01_k».proof.Proof.Rms

@[expose] public section

set_option maxRecDepth 100000

noncomputable section

namespace Cert.Reference6Ideal.Hp

open Idealize.ShloMosaic Idealize.ShloMosaic.TcCoe Cert.Reference6Ideal Cert.Reference6Ideal.Gen Cert.Layer

theorem ref_apply (x : Vec Ideal S8x2048x1024 .f32) (g : Vec Ideal S1024 .f32) (sh sc : Vec Ideal S8x1x1024 .f32) (w : Vec Ideal S1024x768 .f32)
    (b : Fin 8) (n : Fin 2048) (j : Fin 768) :
    Host.dotGeneral (F := Ideal) (so := S8x2048x768) (φ₁ := .f32) (φ₂ := .f32) dot_S8x2048x1024_S1024x768_S8x2048x768_2_0_01_1_n_n none (addf (mulf (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) (broadcastInDim S8x2048x1024 ![0, 1, 2] bcast_S8x1x1024_S8x2048x1024_0_1_2 (addf (broadcastInDim S8x1x1024 ![] bcast_S_S8x1x1024 (constant S_ .f32 0x3F800000#32)) sc))) (broadcastInDim S8x2048x1024 ![0, 1, 2] bcast_S8x1x1024_S8x2048x1024_0_1_2 sh)) w (ix3 b n j)
      = ∑ u : Fin 1024, modE (fun u => x (ix3 b n u)) (fun u => g (ix1 u)) (fun u => sc (ix3 b 0 u)) (fun u => sh (ix3 b 0 u)) u * w (ix2 u j) := by
  pointwise
  simp only [modE, rmsE]

end Cert.Reference6Ideal.Hp

end
-- ==== Proof.HpEq.lean ====
/-
  The claims of the product in two parts: the tiled kernel and the plain reference end with equal results where the gain,
  the scale, the shift and the weight are finite.
-/
module

public import proofs.«01_k».proof.Defs
public import proofs.«01_k».proof.Proof.HpKernel
public import proofs.«01_k».proof.Proof.HpRef
public import proofs.«01_k».proof.Proof.ScanPre
public import proofs.«01_k».proof.Proof.Gen.Pre_finite6
public import Idealize.ShloMosaic.Lib.Quiescent
public import Idealize.ShloMosaic.Lib.ReduceAll

@[expose] public section

set_option maxRecDepth 100000

noncomputable section

namespace Cert.Hp

open Idealize.ShloMosaic Idealize.ShloMosaic.TcCoe Cert.Layer

instance : Subsingleton (Cert.Pre_finite6.S_).Idx := ⟨fun a b => funext fun k => k.elim0⟩

/-- One conjunct of the precondition: every entry of the array is a real number. -/
theorem real_all {s : Shape} (x : FVec Ideal s .f32) (hb : (Cert.Pre_finite6.S_).BroadcastsInDim s ![]) {axes : List (Fin s.rank)} (hr : s.ReducesTo axes Cert.Pre_finite6.S_) (hu : 0 < (Cert.Pre_finite6.S_).numel)
    (j : (Cert.Pre_finite6.S_).Idx)
    (h : Host.reduce IntOp.andi (cmpf .olt (Host.absf x) (broadcastInDim s ![] hb (constant Cert.Pre_finite6.S_ .f32 0x7F800000#32))) (constantI Cert.Pre_finite6.S_ 1 1#1) hr hu j = 1#1) (i : s.Idx) :
    ∃ q : ℝ, (x i : EReal) = (q : EReal) :=
  ⟨_, Cert.Scan.real_of_abs (Host.reduce_andi_all _ _ hr hu j h i)⟩

/-- The precondition read: gain, shift, scale and weight hold real numbers. -/
theorem reals (x : FVec Ideal Cert.Pre_finite6.S8x2048x1024 .f32) (g : FVec Ideal Cert.Pre_finite6.S1024 .f32) (sh sc : FVec Ideal Cert.Pre_finite6.S8x1x1024 .f32) (w : FVec Ideal Cert.Pre_finite6.S1024x768 .f32)
    (h : Cert.Pre_finite6.fn (F := Ideal) x g sh sc w = fun _ => 1#1) :
    (∀ i, ∃ q : ℝ, (g i : EReal) = q) ∧ (∀ i, ∃ q : ℝ, (sh i : EReal) = q) ∧ (∀ i, ∃ q : ℝ, (sc i : EReal) = q) ∧ ∀ i, ∃ q : ℝ, (w i : EReal) = q := by
  have e := congrFun h (fun k => k.elim0)
  unfold Cert.Pre_finite6.fn Cert.Pre_finite6.fn_part1 at e
  obtain ⟨e, hsc⟩ := IntOp.andi_eq_one.1 e
  obtain ⟨e, hsh⟩ := IntOp.andi_eq_one.1 e
  obtain ⟨hw, hg⟩ := IntOp.andi_eq_one.1 e
  exact ⟨real_all _ _ _ _ _ hg, real_all _ _ _ _ _ hsh, real_all _ _ _ _ _ hsc, real_all _ _ _ _ _ hw⟩

/-- The reference runs, leaves its arguments as they were, and has no semaphore to leave behind. -/
theorem quiescent : Cert.quiescent_Reference6Ideal := fun m g _ =>
  θ_run_mono (Cert.Reference6Ideal.Value.run (F := Ideal) m g) fun r h => ⟨fun c => (h c).2, sem_eq_zero_of_no_sems (by decide) r.2⟩

/-- The kernel's and the reference's results are equal at every entry. -/
theorem equal : Cert.algebraic_Kernel6Ideal_Reference6Ideal_pre_finite6 := fun m g m' g' hp he => by
  refine ⟨fun c => Cert.Kernel6Ideal.Hp.arr m c, ?_, ?_⟩
  · refine θ_run_mono (Cert.Kernel6Ideal.Value.run_blocks m g) fun r h c => ?_
    obtain ⟨h0, hk⟩ := h c
    exact ⟨h0.trans (Cert.Kernel6Ideal.Hp.final m c), hk⟩
  · refine θ_run_mono (Cert.Reference6Ideal.Value.run (F := Ideal) m' g') fun r h c => ?_
    obtain ⟨h0, hk⟩ := h c
    refine ⟨h0.trans ?_, hk⟩
    obtain ⟨e0, e1, e2, e3, e4⟩ := he c
    rw [e0, e1, e2, e3, e4]
    obtain ⟨hg, hsh, hsc, hw⟩ := reals _ _ _ _ _ (hp c)
    funext i
    rw [eq_ix3 (n0 := 8) (n1 := 2048) (n2 := 768) i]
    refine (Cert.Reference6Ideal.Hp.ref_apply _ _ _ _ _ _ _ _).trans (parts_eq _ _ (fun u => ?_) fun u => hw _).symm
    exact mod_real _ _ _ _ u (hg _) (hsc _) (hsh _)

end Cert.Hp

end
-- ==== Proof.Gmlp.lean ====
/-
  The chunked spatial gating, as one expression in the extended reals: the first half of a token's gated features times
  a causal mixture, over its chunk of 128 tokens, of the chunk's normalised second halves, plus a bias.
-/
module

public import proofs.«01_k».proof.Proof.Gate

@[expose] public section

noncomputable section

namespace Cert.Layer

open Idealize.ShloMosaic

/-- The Gaussian error unit in its tangent form. -/
def geluE (x : EReal) : EReal :=
  x * (Ideal.ofBits .f32 0x3F000000#32 * (1 + Ideal.tanh (Ideal.ofBits .f32 0x3F4C422A#32 * (x + Ideal.ofBits .f32 0x3D372713#32 * (x * x * x)))))

/-- The error unit, folded back where it appears. -/
theorem geluE_def (x : EReal) :
    x * (Ideal.ofBits .f32 0x3F000000#32 * (1 + Ideal.tanh (Ideal.ofBits .f32 0x3F4C422A#32 * (x + Ideal.ofBits .f32 0x3D372713#32 * (x * x * x))))) = geluE x := rfl

/-- The same with the half taken first. -/
theorem geluE_half (x : EReal) :
    Ideal.ofBits .f32 0x3F000000#32 * x * (1 + Ideal.tanh (Ideal.ofBits .f32 0x3F4C422A#32 * (x + Ideal.ofBits .f32 0x3D372713#32 * (x * x * x)))) = geluE x := by
  unfold geluE
  rw [mul_comm (Ideal.ofBits .f32 0x3F000000#32) x, mul_assoc]

/-- The mean of a token's 256 features. -/
def meanE (v : Fin 256 → EReal) : EReal := Ideal.div (∑ k, v k) (Ideal.ofBits .f32 0x43800000#32)

/-- One feature, normalised to mean zero and variance one, with its gain and offset. -/
def lnE (v : Fin 256 → EReal) (g b : EReal) (j : Fin 256) : EReal :=
  (v j - meanE v) * Ideal.rsqrt (Ideal.div (∑ k, (v k - meanE v) * (v k - meanE v)) (Ideal.ofBits .f32 0x43800000#32) + Ideal.ofBits .f32 0x3727C5AC#32) * g + b

/-- A column of the first half. -/
def lo (j : Fin 256) : Fin 512 := ⟨j.val, by omega⟩
/-- A column of the second half. -/
def hi (j : Fin 256) : Fin 512 := ⟨256 + j.val, by omega⟩
/-- A column's group. -/
def grp (j : Fin 256) : Fin 4 := ⟨j.val / 64, by omega⟩

/-- The second halves of the chunk's tokens, normalised. -/
def halfE (z : Fin 128 → Fin 512 → EReal) (g b : Fin 256 → EReal) (j : Fin 256) (q : Fin 128) : EReal :=
  lnE (fun k => geluE (z q (hi k))) (g j) (b j) j

/-- The mixture of the tokens up to `i`. -/
def mixE (w : Fin 128 → EReal) (h : Fin 128 → EReal) (i : Fin 128) : EReal := ∑ q, (if q ≤ i then w q else 0) * h q

/-- One entry of the gating, of the chunk's row `i` and column `j`. -/
def gmlpE (z : Fin 128 → Fin 512 → EReal) (g b : Fin 256 → EReal) (w : Fin 4 → Fin 128 → Fin 128 → EReal) (c : Fin 4 → Fin 128 → EReal)
    (i : Fin 128) (j : Fin 256) : EReal :=
  geluE (z i (lo j)) * (mixE (w (grp j) i) (halfE z g b j) i + c (grp j) i)

end Cert.Layer

end
-- ==== Proof.GmlpChunk.lean ====
/-
  The spatial gating, one chunk of a block.
-/
module

public import proofs.«01_k».proof.Proof.Gen.Kernel7Ideal.Value
public import proofs.«01_k».proof.Proof.Gmlp
public import Idealize.ShloMosaic.Lib.Pointwise
public import Idealize.ShloMosaic.Lib.Tactic

@[expose] public section

set_option maxRecDepth 100000

noncomputable section

namespace Cert.Kernel7Ideal.Gmlp

open Idealize.ShloMosaic Idealize.ShloMosaic.TcCoe Idealize.ShloMosaic.Tactic Cert.Kernel7Ideal Cert.Kernel7Ideal.Gen Cert.Layer

/-- A column's group, as the kernel's integers find it. -/
theorem group_bit : ∀ (j : Fin 256) (e : Fin 4), IntOp.cmpi CmpIPredicate.eq (IntOp.shrsi ArithUnit.vector (BitVec.ofNat 32 j.val) 6#32) (BitVec.ofNat 32 e.val) = if grp j = e then 1#1 else 0#1 := by
  decide +kernel

theorem causal_bit : ∀ q i : Fin 128, IntOp.cmpi CmpIPredicate.sle (BitVec.ofNat 32 q.val) (BitVec.ofNat 32 i.val) = if q ≤ i then 1#1 else 0#1 := by
  decide +kernel

/-- A sum over the tokens up to the row is the mixture. -/
theorem mix_sum (w h : Fin 128 → EReal) (i : Fin 128) :
    ∑ q : Fin 128, Scalar.select (IntOp.cmpi CmpIPredicate.sle (BitVec.ofNat 32 q.val) (BitVec.ofNat 32 i.val)) (w q * h q) 0 = mixE w h i := by
  unfold mixE
  refine Finset.sum_congr rfl fun q _ => ?_
  rw [causal_bit]
  by_cases hq : q ≤ i <;> simp [hq, Scalar.select]

/-- The four groups' terms, of which all but the column's own are zero. -/
theorem group_sum (j : Fin 256) (x : EReal) (f : Fin 4 → EReal) :
    x + Scalar.select (IntOp.cmpi CmpIPredicate.eq (IntOp.shrsi ArithUnit.vector (BitVec.ofNat 32 j.val) 6#32) 0#32) (f 0) 0
        + Scalar.select (IntOp.cmpi CmpIPredicate.eq (IntOp.shrsi ArithUnit.vector (BitVec.ofNat 32 j.val) 6#32) 1#32) (f 1) 0
        + Scalar.select (IntOp.cmpi CmpIPredicate.eq (IntOp.shrsi ArithUnit.vector (BitVec.ofNat 32 j.val) 6#32) 2#32) (f 2) 0
        + Scalar.select (IntOp.cmpi CmpIPredicate.eq (IntOp.shrsi ArithUnit.vector (BitVec.ofNat 32 j.val) 6#32) 3#32) (f 3) 0
      = f (grp j) + x := by
  have e0 : IntOp.cmpi CmpIPredicate.eq (IntOp.shrsi ArithUnit.vector (BitVec.ofNat 32 j.val) 6#32) 0#32 = if grp j = 0 then 1#1 else 0#1 := group_bit j 0
  have e1 : IntOp.cmpi CmpIPredicate.eq (IntOp.shrsi ArithUnit.vector (BitVec.ofNat 32 j.val) 6#32) 1#32 = if grp j = 1 then 1#1 else 0#1 := group_bit j 1
  have e2 : IntOp.cmpi CmpIPredicate.eq (IntOp.shrsi ArithUnit.vector (BitVec.ofNat 32 j.val) 6#32) 2#32 = if grp j = 2 then 1#1 else 0#1 := group_bit j 2
  have e3 : IntOp.cmpi CmpIPredicate.eq (IntOp.shrsi ArithUnit.vector (BitVec.ofNat 32 j.val) 6#32) 3#32 = if grp j = 3 then 1#1 else 0#1 := group_bit j 3
  rw [e0, e1, e2, e3]
  generalize grp j = k
  fin_cases k <;> simp [Scalar.select, add_comm]

variable (xs : Vec Ideal S1x128x512 .f32) (g b : Vec Ideal S1x256 .f32) (ws0 ws1 ws2 ws3 : Vec Ideal S1x128x128 .f32) (bs : Vec Ideal S128x256 .f32)

/-- The four groups' weights. -/
def wsel (e : Fin 4) (i q : Fin 128) : EReal := match e with
  | 0 => ws0 (ix3 0 i q)
  | 1 => ws1 (ix3 0 i q)
  | 2 => ws2 (ix3 0 i q)
  | 3 => ws3 (ix3 0 i q)

/-- One entry of a chunk's result. -/
def chunkE (r : Fin 128) (j : Fin 256) : EReal :=
  gmlpE (fun q k => xs (ix3 0 q k)) (fun k => g (ix2 0 k)) (fun k => b (ix2 0 k)) (wsel ws0 ws1 ws2 ws3) (fun _ i => bs (ix2 i j)) r j

/-- The chunk's result from the groups' terms. -/
theorem chunk_of_groups (r : Fin 128) (j : Fin 256) :
    geluE (xs (ix3 0 r (lo j))) * (bs (ix2 r j)
        + Scalar.select (IntOp.cmpi CmpIPredicate.eq (IntOp.shrsi ArithUnit.vector (BitVec.ofNat 32 j.val) 6#32) 0#32) (∑ q : Fin 128, Scalar.select (IntOp.cmpi CmpIPredicate.sle (BitVec.ofNat 32 q.val) (BitVec.ofNat 32 r.val)) (ws0 (ix3 0 r q) * halfE (fun q k => xs (ix3 0 q k)) (fun k => g (ix2 0 k)) (fun k => b (ix2 0 k)) j q) 0) 0
        + Scalar.select (IntOp.cmpi CmpIPredicate.eq (IntOp.shrsi ArithUnit.vector (BitVec.ofNat 32 j.val) 6#32) 1#32) (∑ q : Fin 128, Scalar.select (IntOp.cmpi CmpIPredicate.sle (BitVec.ofNat 32 q.val) (BitVec.ofNat 32 r.val)) (ws1 (ix3 0 r q) * halfE (fun q k => xs (ix3 0 q k)) (fun k => g (ix2 0 k)) (fun k => b (ix2 0 k)) j q) 0) 0
        + Scalar.select (IntOp.cmpi CmpIPredicate.eq (IntOp.shrsi ArithUnit.vector (BitVec.ofNat 32 j.val) 6#32) 2#32) (∑ q : Fin 128, Scalar.select (IntOp.cmpi CmpIPredicate.sle (BitVec.ofNat 32 q.val) (BitVec.ofNat 32 r.val)) (ws2 (ix3 0 r q) * halfE (fun q k => xs (ix3 0 q k)) (fun k => g (ix2 0 k)) (fun k => b (ix2 0 k)) j q) 0) 0
        + Scalar.select (IntOp.cmpi CmpIPredicate.eq (IntOp.shrsi ArithUnit.vector (BitVec.ofNat 32 j.val) 6#32) 3#32) (∑ q : Fin 128, Scalar.select (IntOp.cmpi CmpIPredicate.sle (BitVec.ofNat 32 q.val) (BitVec.ofNat 32 r.val)) (ws3 (ix3 0 r q) * halfE (fun q k => xs (ix3 0 q k)) (fun k => g (ix2 0 k)) (fun k => b (ix2 0 k)) j q) 0) 0)
      = chunkE xs g b ws0 ws1 ws2 ws3 bs r j := by
  rw [mix_sum (fun q => ws0 (ix3 0 r q)), mix_sum (fun q => ws1 (ix3 0 r q)), mix_sum (fun q => ws2 (ix3 0 r q)), mix_sum (fun q => ws3 (ix3 0 r q))]
  exact congrArg (fun s : EReal => geluE (xs (ix3 0 r (lo j))) * s)
    (group_sum j (bs (ix2 r j)) fun e => mixE (wsel ws0 ws1 ws2 ws3 e r) (halfE (fun q k => xs (ix3 0 q k)) (fun k => g (ix2 0 k)) (fun k => b (ix2 0 k)) j) r)

theorem pay_0 (a : Fin 1) (r : Fin 128) (j : Fin 256) :
    (k0_pay15 k0_pay3 (k0_pay5 ws1) (k0_pay6 ws2) (k0_pay7 ws3) (k0_pay12 (k0_pay9 xs) (k0_pay10 xs) (FloatOps.ofBits .f32 1061962282#32)) (k0_pay13 (k0_pay9 xs) (k0_pay10 xs) (FloatOps.ofBits .f32 1061962282#32) g b) (k0_pay14 k0_pay3 (k0_pay4 ws0) (k0_pay9 xs) (k0_pay10 xs) (FloatOps.ofBits .f32 1061962282#32) g b bs) : Vec Ideal S1x128x256 .f32) (ix3 a r j) = chunkE xs g b ws0 ws1 ws2 ws3 bs r j := by
  rw [← chunk_of_groups]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  simp only [geluE_half]
  simp only [halfE, lnE, meanE, lo, hi]

theorem pay_1 (a : Fin 1) (r : Fin 128) (j : Fin 256) :
    (k0_pay24 k0_pay3 (k0_pay5 ws1) (k0_pay6 ws2) (k0_pay7 ws3) (k0_pay20 (k0_pay17 xs) (k0_pay18 xs) (FloatOps.ofBits .f32 1065353216#32)) (k0_pay21 (k0_pay17 xs) (k0_pay18 xs) (FloatOps.ofBits .f32 1065353216#32) g b) (k0_pay22 k0_pay3 (k0_pay4 ws0) (k0_pay17 xs) (k0_pay18 xs) (FloatOps.ofBits .f32 1065353216#32) g b bs) (k0_pay23 k0_pay3) (constant S128x256 .f32 0#32) : Vec Ideal S1x128x256 .f32) (ix3 a r j) = chunkE xs g b ws0 ws1 ws2 ws3 bs r j := by
  rw [← chunk_of_groups]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  simp only [geluE_half]
  simp only [halfE, lnE, meanE, lo, hi]

theorem pay_2 (a : Fin 1) (r : Fin 128) (j : Fin 256) :
    (k0_pay31 k0_pay3 (k0_pay6 ws2) (k0_pay7 ws3) (k0_pay26 xs) (k0_pay27 (k0_pay25 xs) g b) (k0_pay28 k0_pay3 (k0_pay4 ws0) (k0_pay25 xs) g b bs) (k0_pay29 (k0_pay5 ws1) (k0_pay25 xs) g b) (FloatOps.ofBits .f32 0#32) (k0_pay30 k0_pay3) : Vec Ideal S1x128x256 .f32) (ix3 a r j) = chunkE xs g b ws0 ws1 ws2 ws3 bs r j := by
  rw [← chunk_of_groups]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  simp only [geluE_half]
  simp only [halfE, lnE, meanE, lo, hi]

theorem pay_3 (a : Fin 1) (r : Fin 128) (j : Fin 256) :
    (k0_pay1 k0_pay3 (k0_pay6 ws2) (k0_pay7 ws3) (k0_pay33 xs) (k0_pay35 (k0_pay34 xs) g b) (k0_pay36 k0_pay3 (k0_pay4 ws0) (k0_pay5 ws1) (k0_pay34 xs) g b bs) 2#32 : Vec Ideal S1x128x256 .f32) (ix3 a r j) = chunkE xs g b ws0 ws1 ws2 ws3 bs r j := by
  rw [← chunk_of_groups]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  simp only [geluE_half]
  simp only [halfE, lnE, meanE, lo, hi]

end Cert.Kernel7Ideal.Gmlp

end
-- ==== Proof.GmlpBlock.lean ====
/-
  The spatial gating, one block of four chunks: each chunk is stored over its own 128 tokens, from its own rows of the operand.
-/
module

public import proofs.«01_k».proof.Proof.GmlpChunk
public import Idealize.ShloMosaic.Lib.Pointwise
public import Idealize.ShloMosaic.Lib.Tactic

@[expose] public section

set_option maxRecDepth 100000

noncomputable section

namespace Cert.Kernel7Ideal.Gmlp

open Idealize.ShloMosaic Idealize.ShloMosaic.TcCoe Idealize.ShloMosaic.Tactic Cert.Kernel7Ideal Cert.Kernel7Ideal.Gen Cert.Layer

theorem hz2 : (![0, 0] : Fin 2 → Nat) = fun _ => 0 := funext fun a => by fin_cases a <;> rfl

/-- A load of a chunk's rows. -/
theorem ld_rows (o : Nat) (inb : ∀ d, (![0, o, 0] : Fin 3 → Nat) d + S1x128x512.size d ≤ S1x512x512.size d) (x : Vec Ideal S1x512x512 .f32)
    (q : Fin 128) (k : Fin 512) (n : Fin 512) (hn : n.val = o + q.val) :
    (View.ld x (Rect.unit (s := S1x512x512) ![0, o, 0] S1x128x512.size inb) : Vec Ideal S1x128x512 .f32) (ix3 0 q k) = x (ix3 0 n k) := by
  refine congrArg x (funext fun d => Fin.ext ?_)
  match d with
  | ⟨0, _⟩ => rfl
  | ⟨1, _⟩ => show o + 1 * q.val = n.val; omega
  | ⟨2, _⟩ => show 0 + 1 * k.val = k.val; omega

/-- A load of one group's weights. -/
theorem ld_group (e : Fin 4) (o : Nat) (ho : e.val = o) (inb : ∀ d, (![o, 0, 0] : Fin 3 → Nat) d + S1x128x128.size d ≤ S4x128x128.size d) (x : Vec Ideal S4x128x128 .f32)
    (i q : Fin 128) :
    (View.ld x (Rect.unit (s := S4x128x128) ![o, 0, 0] S1x128x128.size inb) : Vec Ideal S1x128x128 .f32) (ix3 0 i q) = x (ix3 e i q) := by
  refine congrArg x (funext fun d => Fin.ext ?_)
  match d with
  | ⟨0, _⟩ => show o + 1 * 0 = e.val; omega
  | ⟨1, _⟩ => show 0 + 1 * i.val = i.val; omega
  | ⟨2, _⟩ => show 0 + 1 * q.val = q.val; omega

/-- A chunk's store covers its rows … -/
theorem canon_chunk_hit (o : Nat) (inb : ∀ d, (![0, o, 0] : Fin 3 → Nat) d + S1x128x256.size d ≤ S1x512x256.size d)
    (w : Vec Ideal S1x128x256 .f32) (L : List (View.Piece (Elt Ideal) S1x512x256 .f32)) (n : Fin 512) (j : Fin 256) (r : Fin 128) (h : n.val = o + r.val) :
    View.canon (⟨Rect.unit (s := S1x512x256) ![0, o, 0] S1x128x256.size inb, w⟩ :: L) (ix3 0 n j) = w (ix3 0 r j) := by
  have e := View.canon_cons_emb (Val := Elt Ideal) (Rect.unit (s := S1x512x256) ![0, o, 0] S1x128x256.size inb) w L (ix3 (0 : Fin 1) r j)
  refine Eq.trans (congrArg _ (funext fun d => Fin.ext ?_)) e
  match d with
  | ⟨0, _⟩ => rfl
  | ⟨1, _⟩ => show n.val = o + 1 * r.val; omega
  | ⟨2, _⟩ => show j.val = 0 + 1 * j.val; omega

/-- … and leaves the others. -/
theorem canon_chunk_miss (o : Nat) (inb : ∀ d, (![0, o, 0] : Fin 3 → Nat) d + S1x128x256.size d ≤ S1x512x256.size d)
    (w : Vec Ideal S1x128x256 .f32) (L : List (View.Piece (Elt Ideal) S1x512x256 .f32)) (n : Fin 512) (j : Fin 256) (h : n.val < o ∨ o + 128 ≤ n.val) :
    View.canon (⟨Rect.unit (s := S1x512x256) ![0, o, 0] S1x128x256.size inb, w⟩ :: L) (ix3 0 n j) = View.canon L (ix3 0 n j) := by
  refine View.canon_cons_of_not_mem _ _ fun hmem => ?_
  have e := (Rect.mem_set_unit (s := S1x512x256) (inb := inb)).mp hmem (1 : Fin 3)
  have h1 : o ≤ n.val := e.1
  have h2 : n.val < o + 128 := e.2
  omega

/-- One entry of a block's result. -/
def blockE (x0 : Vec Ideal S1x512x512 .f32) (x1 : Vec Ideal S1x256 .f32) (x2 : Vec Ideal S1x256 .f32) (x3 : Vec Ideal S4x128x128 .f32) (x4 : Vec Ideal S128x256 .f32) (n : Fin 512) (j : Fin 256) : EReal :=
  gmlpE (fun q k => x0 (ix3 0 ⟨n.val / 128 * 128 + q.val, by omega⟩ k)) (fun k => x1 (ix2 0 k)) (fun k => x2 (ix2 0 k)) (fun e i q => x3 (ix3 e i q)) (fun _ i => x4 (ix2 i j)) ⟨n.val % 128, by omega⟩ j

/-- A chunk's result is the block's at the chunk's rows. -/
theorem chunk_block (x0 : Vec Ideal S1x512x512 .f32) (x1 : Vec Ideal S1x256 .f32) (x2 : Vec Ideal S1x256 .f32) (x3 : Vec Ideal S4x128x128 .f32) (x4 : Vec Ideal S128x256 .f32)
    (o : Nat) (inb : ∀ d, (![0, o, 0] : Fin 3 → Nat) d + S1x128x512.size d ≤ S1x512x512.size d)
    (inb0 : ∀ d, (![0, 0, 0] : Fin 3 → Nat) d + S1x128x128.size d ≤ S4x128x128.size d) (inb1 : ∀ d, (![1, 0, 0] : Fin 3 → Nat) d + S1x128x128.size d ≤ S4x128x128.size d)
    (inb2 : ∀ d, (![2, 0, 0] : Fin 3 → Nat) d + S1x128x128.size d ≤ S4x128x128.size d) (inb3 : ∀ d, (![3, 0, 0] : Fin 3 → Nat) d + S1x128x128.size d ≤ S4x128x128.size d)
    (n : Fin 512) (j : Fin 256) (ho : n.val / 128 * 128 = o) :
    chunkE (View.ld x0 (Rect.unit (s := S1x512x512) ![0, o, 0] S1x128x512.size inb)) x1 x2
        (View.ld x3 (Rect.unit (s := S4x128x128) ![0, 0, 0] S1x128x128.size inb0)) (View.ld x3 (Rect.unit (s := S4x128x128) ![1, 0, 0] S1x128x128.size inb1))
        (View.ld x3 (Rect.unit (s := S4x128x128) ![2, 0, 0] S1x128x128.size inb2)) (View.ld x3 (Rect.unit (s := S4x128x128) ![3, 0, 0] S1x128x128.size inb3)) x4 ⟨n.val % 128, by omega⟩ j
      = blockE x0 x1 x2 x3 x4 n j := by
  unfold chunkE blockE
  congr 1
  · funext q k; exact ld_rows o inb x0 q k _ (by show n.val / 128 * 128 + q.val = _; omega)
  · funext e i q
    match e with
    | 0 => exact ld_group 0 0 rfl inb0 x3 i q
    | 1 => exact ld_group 1 1 rfl inb1 x3 i q
    | 2 => exact ld_group 2 2 rfl inb2 x3 i q
    | 3 => exact ld_group 3 3 rfl inb3 x3 i q

/-- What the body leaves in the result's block, at one entry. -/
theorem block_apply (c : Dev nD) (i : grid0.Coords) (arg2 : Memref sig .tc .vmem S1x512x512 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S4x128x128 .f32) (harg5 : arg5.IsWhole) (arg6 : Memref sig .tc .vmem S128x256 .f32) (harg6 : arg6.IsWhole) (arg7 : Memref sig .tc .vmem S1x512x256 .f32) (harg7 : arg7.IsWhole)
    (x0 : Vec Ideal S1x512x512 .f32) (x1 : Vec Ideal S1x256 .f32) (x2 : Vec Ideal S1x256 .f32) (x3 : Vec Ideal S4x128x128 .f32) (x4 : Vec Ideal S128x256 .f32) (n : Fin 512) (j : Fin 256) :
    out0_A_5 c i arg2 harg2 arg3 harg3 arg4 harg4 arg5 harg5 arg6 harg6 arg7 harg7 x0 x1 x2 x3 x4 (ix3 0 n j) = blockE x0 x1 x2 x3 x4 n j := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  sl_unfold_words
  simp only [View.readAt_eq_ld, harg2.read_unread, harg3.read_unread, harg4.read_unread, harg5.read_unread, harg6.read_unread, View.ld_unit_zero (S := S1x256) hz2, View.ld_unit_zero (S := S128x256) hz2]
  by_cases h3 : 384 ≤ n.val
  · refine (canon_chunk_hit 384 _ _ _ n j ⟨n.val % 128, by omega⟩ (by show n.val = 384 + n.val % 128; omega)).trans ?_
    exact (pay_3 _ _ _ _ _ _ _ _ 0 _ j).trans (chunk_block x0 x1 x2 x3 x4 384 _ _ _ _ _ n j (by omega))
  refine (canon_chunk_miss 384 _ _ _ n j (by omega)).trans ?_
  by_cases h2 : 256 ≤ n.val
  · refine (canon_chunk_hit 256 _ _ _ n j ⟨n.val % 128, by omega⟩ (by show n.val = 256 + n.val % 128; omega)).trans ?_
    exact (pay_2 _ _ _ _ _ _ _ _ 0 _ j).trans (chunk_block x0 x1 x2 x3 x4 256 _ _ _ _ _ n j (by omega))
  refine (canon_chunk_miss 256 _ _ _ n j (by omega)).trans ?_
  by_cases h1 : 128 ≤ n.val
  · refine (canon_chunk_hit 128 _ _ _ n j ⟨n.val % 128, by omega⟩ (by show n.val = 128 + n.val % 128; omega)).trans ?_
    exact (pay_1 _ _ _ _ _ _ _ _ 0 _ j).trans (chunk_block x0 x1 x2 x3 x4 128 _ _ _ _ _ n j (by omega))
  refine (canon_chunk_miss 128 _ _ _ n j (by omega)).trans ?_
  refine (canon_chunk_hit 0 _ _ _ n j ⟨n.val % 128, by omega⟩ (by show n.val = 0 + n.val % 128; omega)).trans ?_
  exact (pay_0 _ _ _ _ _ _ _ _ 0 _ j).trans (chunk_block x0 x1 x2 x3 x4 0 _ _ _ _ _ n j (by omega))

end Cert.Kernel7Ideal.Gmlp

end
-- ==== Proof.GmlpKernel.lean ====
/-
  The spatial gating's result array: block by block the body's result of the blocks, and so at each entry the gating of
  the entry's chunk of 128 tokens.
-/
module

public import proofs.«01_k».proof.Proof.Gen.Kernel7Ideal.Value
public import proofs.«01_k».proof.Proof.GmlpBlock

@[expose] public section

noncomputable section

namespace Cert.Kernel7Ideal.Gmlp

open Idealize.ShloMosaic Idealize.ShloMosaic.TcCoe Idealize.ShloMosaic.Tactic Cert.Kernel7Ideal Cert.Kernel7Ideal.Gen Cert.Layer

variable (m : (ℓ : Loc nD τ sig) → Buf (Elt Ideal) ℓ) (c : Dev nD)

theorem lt32 (t : Fin cfg0.N) : t.val < 32 := t.isLt

/-- The point's batch row. -/
def bat (t : Fin cfg0.N) : Fin 8 := ⟨t.val / 4, by have := lt32 t; omega⟩
/-- The token of row `s` of the point's block. -/
def tok (t : Fin cfg0.N) (s : Fin 512) : Fin 2048 := ⟨512 * (t.val % 4) + s.val, by omega⟩

/-! ## The operands the host prepares -/

theorem V_v3 : V m c main_v3 = shapeCast S1x256 (m ((c : Thread nD τ).loc main_arg1)) shapeCasts_S256_S1x256 := by
  unfold V
  after_results
  rfl

theorem V_v4 : V m c main_v4 = shapeCast S1x256 (m ((c : Thread nD τ).loc main_arg2)) shapeCasts_S256_S1x256 := by
  unfold V
  after_results
  rfl

/-- The bias, one row per group, as the host hands it over: one column per feature. -/
def biasV (x : Vec Ideal S4x128 .f32) : Vec Ideal S128x256 .f32 :=
  shapeCast S128x256 (broadcastInDim S128x4x64 ![0, 1] bcast_S128x4_S128x4x64_0_1 (transpose S128x4 [1, 0] x transposes_S4x128_S128x4_1_0)) shapeCasts_S128x4x64_S128x256

theorem V_v2 : V m c main_v2 = biasV (m ((c : Thread nD τ).loc main_arg4)) := by
  unfold V biasV
  after_results
  rfl

theorem row_vec (x : Vec Ideal S256 .f32) (a : Fin 1) (j : Fin 256) : shapeCast S1x256 x shapeCasts_S256_S1x256 (ix2 a j) = x (ix1 j) := by
  pointwise

/-- The bias at a row and a feature is the feature's group's at the row. -/
theorem bias_at (x : Vec Ideal S4x128 .f32) (r : Fin 128) (j : Fin 256) : biasV x (ix2 r j) = x (ix2 (grp j) r) := by
  unfold biasV
  pointwise
  rfl

/-! ## The blocks -/

theorem idx0 : ∀ t : Fin cfg0.N, win0_0.index t 0 = t.val / 4 ∧ win0_0.index t 1 = t.val % 4 ∧ win0_0.index t 2 = 10 :=
  (by decide +kernel : ∀ t : Fin grid0.N, win0_0.index t 0 = t.val / 4 ∧ win0_0.index t 1 = t.val % 4 ∧ win0_0.index t 2 = 10)

/-- The features' block, which lies wholly inside its array. -/
theorem blk0 (t : Fin cfg0.N) (j : S1x512x512.Idx) :
    (X0_0 m c t : Vec Ideal S1x512x512 .f32) j = (m ((c : Thread nD τ).loc main_arg0) : Vec Ideal S8x2048x7296 .f32) (ix3 (bat t) (tok t (j 1)) ⟨5120 + (j 2).val, by have h2 : (j 2).val < 512 := (j 2).isLt; omega⟩) := by
  unfold X0_0 Pipeline.Window.fill
  rw [dif_pos (moved0_0 t j)]
  show V m c main_arg0 (((cfg0.win 0).blk t).view.emb _) = _
  rw [V_main_arg0]
  refine congrArg (m ((c : Thread nD τ).loc main_arg0) : Vec Ideal S8x2048x7296 .f32) ?_
  obtain ⟨e0, e1, e2⟩ := idx0 t
  have h0 : (j 0).val < 1 := (j 0).isLt
  funext a; apply Fin.ext
  match a with
  | ⟨0, _⟩ => show win0_0.index t (0 : Fin 3) * 1 + 1 * (j 0).val = t.val / 4; omega
  | ⟨1, _⟩ => show win0_0.index t (1 : Fin 3) * 512 + 1 * (j 1).val = 512 * (t.val % 4) + (j 1).val; omega
  | ⟨2, _⟩ => show win0_0.index t (2 : Fin 3) * 512 + 1 * (j 2).val = 5120 + (j 2).val; omega

theorem idx1 : ∀ t : Fin cfg0.N, win0_1.index t 0 = 0 ∧ win0_1.index t 1 = 0 :=
  (by decide +kernel : ∀ t : Fin grid0.N, win0_1.index t 0 = 0 ∧ win0_1.index t 1 = 0)

theorem emb1 (t : Fin cfg0.N) (j : S1x256.Idx) : ((cfg0.win 1).blk t).view.emb j = ix2 (j 0) (j 1) := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 256 + 1 * (j 1).val = (j 1).val; omega

theorem blk1 (t : Fin cfg0.N) (a : Fin 1) (j : Fin 256) : (iblk m c 1 t : Vec Ideal S1x256 .f32) (ix2 a j) = (m ((c : Thread nD τ).loc main_arg1) : Vec Ideal S256 .f32) (ix1 j) := by
  show V m c main_v3 (((cfg0.win 1).blk t).view.emb (ix2 a j)) = _
  rw [emb1, V_v3]
  exact row_vec _ _ _

theorem idx2 : ∀ t : Fin cfg0.N, win0_2.index t 0 = 0 ∧ win0_2.index t 1 = 0 :=
  (by decide +kernel : ∀ t : Fin grid0.N, win0_2.index t 0 = 0 ∧ win0_2.index t 1 = 0)

theorem emb2 (t : Fin cfg0.N) (j : S1x256.Idx) : ((cfg0.win 2).blk t).view.emb j = ix2 (j 0) (j 1) := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 256 + 1 * (j 1).val = (j 1).val; omega

theorem blk2 (t : Fin cfg0.N) (a : Fin 1) (j : Fin 256) : (iblk m c 2 t : Vec Ideal S1x256 .f32) (ix2 a j) = (m ((c : Thread nD τ).loc main_arg2) : Vec Ideal S256 .f32) (ix1 j) := by
  show V m c main_v4 (((cfg0.win 2).blk t).view.emb (ix2 a j)) = _
  rw [emb2, V_v4]
  exact row_vec _ _ _

theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

theorem emb3 (t : Fin cfg0.N) (j : S4x128x128.Idx) : ((cfg0.win 3).blk t).view.emb j = ix3 (j 0) (j 1) (j 2) := by
  obtain ⟨e0, e1, e2⟩ := idx3 t
  funext a; apply Fin.ext
  match a with
  | ⟨0, _⟩ => show win0_3.index t (0 : Fin 3) * 4 + 1 * (j 0).val = (j 0).val; omega
  | ⟨1, _⟩ => show win0_3.index t (1 : Fin 3) * 128 + 1 * (j 1).val = (j 1).val; omega
  | ⟨2, _⟩ => show win0_3.index t (2 : Fin 3) * 128 + 1 * (j 2).val = (j 2).val; omega

theorem blk3 (t : Fin cfg0.N) (e : Fin 4) (i q : Fin 128) : (iblk m c 3 t : Vec Ideal S4x128x128 .f32) (ix3 e i q) = (m ((c : Thread nD τ).loc main_arg3) : Vec Ideal S4x128x128 .f32) (ix3 e i q) := by
  show V m c main_arg3 (((cfg0.win 3).blk t).view.emb (ix3 e i q)) = _
  rw [emb3, V_main_arg3]
  rfl

theorem idx4 : ∀ t : Fin cfg0.N, win0_4.index t 0 = 0 ∧ win0_4.index t 1 = 0 :=
  (by decide +kernel : ∀ t : Fin grid0.N, win0_4.index t 0 = 0 ∧ win0_4.index t 1 = 0)

theorem emb4 (t : Fin cfg0.N) (j : S128x256.Idx) : ((cfg0.win 4).blk t).view.emb j = ix2 (j 0) (j 1) := by
  obtain ⟨e0, e1⟩ := idx4 t
  funext a; apply Fin.ext
  match a with
  | ⟨0, _⟩ => show win0_4.index t (0 : Fin 2) * 128 + 1 * (j 0).val = (j 0).val; omega
  | ⟨1, _⟩ => show win0_4.index t (1 : Fin 2) * 256 + 1 * (j 1).val = (j 1).val; omega

theorem blk4 (t : Fin cfg0.N) (r : Fin 128) (j : Fin 256) : (iblk m c 4 t : Vec Ideal S128x256 .f32) (ix2 r j) = (m ((c : Thread nD τ).loc main_arg4) : Vec Ideal S4x128 .f32) (ix2 (grp j) r) := by
  show V m c main_v2 (((cfg0.win 4).blk t).view.emb (ix2 r j)) = _
  rw [emb4, V_v2]
  exact bias_at _ _ _

theorem idx5 : ∀ t : Fin cfg0.N, win0_5.index t 0 = t.val / 4 ∧ win0_5.index t 1 = t.val % 4 ∧ win0_5.index t 2 = 0 :=
  (by decide +kernel : ∀ t : Fin grid0.N, win0_5.index t 0 = t.val / 4 ∧ win0_5.index t 1 = t.val % 4 ∧ win0_5.index t 2 = 0)

theorem emb5 (t : Fin cfg0.N) (j : S1x512x256.Idx) : ((cfg0.win 5).blk t).view.emb j = ix3 (bat t) (tok t (j 1)) (j 2) := by
  obtain ⟨e0, e1, e2⟩ := idx5 t
  have h0 : (j 0).val < 1 := (j 0).isLt
  funext a; apply Fin.ext
  match a with
  | ⟨0, _⟩ => show win0_5.index t (0 : Fin 3) * 1 + 1 * (j 0).val = t.val / 4; omega
  | ⟨1, _⟩ => show win0_5.index t (1 : Fin 3) * 512 + 1 * (j 1).val = 512 * (t.val % 4) + (j 1).val; omega
  | ⟨2, _⟩ => show win0_5.index t (2 : Fin 3) * 256 + 1 * (j 2).val = (j 2).val; omega

/-! ## The result array -/

/-- One entry of the result. -/
def entry (b : Fin 8) (n : Fin 2048) (j : Fin 256) : EReal :=
  gmlpE (fun q k => (m ((c : Thread nD τ).loc main_arg0) : Vec Ideal S8x2048x7296 .f32) (ix3 b ⟨n.val / 128 * 128 + q.val, by omega⟩ ⟨5120 + k.val, by omega⟩))
    (fun k => (m ((c : Thread nD τ).loc main_arg1) : Vec Ideal S256 .f32) (ix1 k)) (fun k => (m ((c : Thread nD τ).loc main_arg2) : Vec Ideal S256 .f32) (ix1 k))
    (fun e i q => (m ((c : Thread nD τ).loc main_arg3) : Vec Ideal S4x128x128 .f32) (ix3 e i q)) (fun e i => (m ((c : Thread nD τ).loc main_arg4) : Vec Ideal S4x128 .f32) (ix2 e i)) ⟨n.val % 128, by omega⟩ j

/-- What the result array holds. -/
def arr : Vec Ideal S8x2048x256 .f32 := fun i => entry m c (i 0) (i 1) (i 2)

/-- The bias enters at the column's own group only. -/
theorem gmlpE_bias (z : Fin 128 → Fin 512 → EReal) (g b : Fin 256 → EReal) (w : Fin 4 → Fin 128 → Fin 128 → EReal) (x y : Fin 4 → Fin 128 → EReal) (i : Fin 128) (j : Fin 256)
    (h : x (grp j) i = y (grp j) i) : gmlpE z g b w x i j = gmlpE z g b w y i j := by
  unfold gmlpE
  rw [h]

theorem out_at (t : Fin cfg0.N) (r : Fin 512) (j : Fin 256) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (X0_0 m c t) (iblk m c 1 t) (iblk m c 2 t) (iblk m c 3 t) (iblk m c 4 t) (ix3 0 r j) = entry m c (bat t) (tok t r) j := by
  refine (block_apply c (grid0.coords t) (ms0_0 t) (hs0_0 t) (ms0_1 t) (hs0_1 t) (ms0_2 t) (hs0_2 t) (ms0_3 t) (hs0_3 t) (ms0_4 t) (hs0_4 t) (ms0_5 t) (hs0_5 t) (X0_0 m c t) (iblk m c 1 t) (iblk m c 2 t) (iblk m c 3 t) (iblk m c 4 t) r j).trans ?_
  unfold blockE entry
  refine (gmlpE_bias _ _ _ _ _ (fun e i => (m ((c : Thread nD τ).loc main_arg4) : Vec Ideal S4x128 .f32) (ix2 e i)) _ j (blk4 m c t _ j)).trans ?_
  congr 1
  · funext q k
    refine (blk0 m c t _).trans (congrArg (m ((c : Thread nD τ).loc main_arg0) : Vec Ideal S8x2048x7296 .f32) ?_)
    refine congrArg (fun n : Fin 2048 => ix3 (bat t) n _) (Fin.ext ?_)
    show 512 * (t.val % 4) + (r.val / 128 * 128 + q.val) = (512 * (t.val % 4) + r.val) / 128 * 128 + q.val
    omega
  · funext k; exact blk1 m c t 0 k
  · funext k; exact blk2 m c t 0 k
  · funext e i q; exact blk3 m c t e i q
  · refine Fin.ext ?_
    show r.val % 128 = (512 * (t.val % 4) + r.val) % 128
    omega

theorem flushed_eq (t : Fin cfg0.N) : (dats m 0 c).flushed 5 t = ((cfg0.win 5).blk t).view.read (Elt Ideal) (arr m c) := by
  rw [Value.flushed5_A]
  funext y
  have h : out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (X0_0 m c t) (iblk m c 1 t) (iblk m c 2 t) (iblk m c 3 t) (iblk m c 4 t) y = arr m c (((cfg0.win 5).blk t).view.emb y) := by
    rw [emb5 t y]
    refine Eq.trans ?_ (out_at m c t (y 1) (y 2))
    refine congrArg (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (X0_0 m c t) (iblk m c 1 t) (iblk m c 2 t) (iblk m c 3 t) (iblk m c 4 t)) ?_
    have h0 : (y 0).val < 1 := (y 0).isLt
    have e0 : y 0 = (0 : Fin 1) := Fin.ext (by show (y 0).val = 0; omega)
    exact (eq_ix3 (n0 := 1) (n1 := 512) (n2 := 256) y).trans (congrArg (fun a : Fin 1 => ix3 a (y 1 : Fin 512) (y 2 : Fin 256)) e0)
  exact h

theorem cell (t : Fin cfg0.N) (r : Fin 512) (j : Fin 256) (i : S8x2048x256.Idx) (hi : ix3 (bat t) (tok t r) j = i) :
    i ∈ ((cfg0.win 5).blk t).view.set := by
  subst hi
  have h := ((cfg0.win 5).blk t).view.emb_mem_set (ix3 0 r j)
  rw [emb5] at h
  exact h

/-- The point that writes batch row `a`, row block `s`. -/
def pt (a : Fin 8) (s : Fin 4) : Fin cfg0.N := ⟨4 * a.val + s.val, by show _ < 32; omega⟩

theorem cover (i : S8x2048x256.Idx) : ∃ t : Fin cfg0.N, (cfg0.win 5).flush t = true ∧ i ∈ ((cfg0.win 5).blk t).view.set := by
  have key : ∀ (a : Fin 8) (n : Fin 2048) (j : Fin 256), ix3 a n j = i → ∃ t : Fin cfg0.N, (cfg0.win 5).flush t = true ∧ i ∈ ((cfg0.win 5).blk t).view.set := by
    intro a n j h
    have e0 : bat (pt a ⟨n.val / 512, by omega⟩) = a := Fin.ext (show (4 * a.val + n.val / 512) / 4 = a.val by omega)
    have e1 : tok (pt a ⟨n.val / 512, by omega⟩) ⟨n.val % 512, by omega⟩ = n :=
      Fin.ext (show 512 * ((4 * a.val + n.val / 512) % 4) + n.val % 512 = n.val by omega)
    refine ⟨pt a ⟨n.val / 512, by omega⟩, flush0_5 _, cell _ ⟨n.val % 512, by omega⟩ j i ?_⟩
    rw [e0, e1]
    exact h
  exact key (i 0) (i 1) (i 2) (eq_ix3 (n0 := 8) (n1 := 2048) (n2 := 256) i).symm

/-- The result array. -/
theorem final : (dats m 0 c).arrAt 5 cfg0.N = arr m c :=
  (dats m 0 c).arrAt_eq_of_cover 5 (arr m c) (fun t _ => flushed_eq m c t) cover

end Cert.Kernel7Ideal.Gmlp

end
-- ==== Proof.GmlpRef.lean ====
/-
  The spatial gating's reference, read at one entry.
-/
module

public import proofs.«01_k».proof.Proof.Gen.Reference7Ideal.Run
public import proofs.«01_k».proof.Proof.Gmlp

@[expose] public section

set_option maxRecDepth 100000

noncomputable section

namespace Cert.Reference7Ideal.Gmlp

open Idealize.ShloMosaic Idealize.ShloMosaic.TcCoe Cert.Reference7Ideal Cert.Reference7Ideal.Gen Cert.Layer

variable (m : (ℓ : Loc nD τ sig) → Buf (Elt Ideal) ℓ) (c : Dev nD)

theorem causal_bit : ∀ i q : Fin 128, IntOp.cmpi CmpIPredicate.sge (IntOp.addi (BitVec.ofNat 32 i.val) 0#32) (BitVec.ofNat 32 q.val) = if q ≤ i then 1#1 else 0#1 := by
  decide +kernel

/-- The lower triangle: a row sees the rows up to itself. -/
theorem causal (i q : Fin 128) (x : EReal) :
    Scalar.select (IntOp.cmpi CmpIPredicate.sge (IntOp.addi (BitVec.ofNat 32 i.val) 0#32) (BitVec.ofNat 32 q.val)) x 0 = if q ≤ i then x else 0 := by
  rw [causal_bit]
  by_cases h : q ≤ i <;> simp [h, Scalar.select]

/-- The reference at one entry: the gating of its chunk of 128 tokens. -/
theorem ref_apply (b : Fin 8) (n : Fin 2048) (j : Fin 256) :
    (Value.res_main_v53 (F := Ideal) m c : Vec Ideal S8x2048x256 .f32) (ix3 b n j)
      = gmlpE (fun q k => (m ((c.tc : Thread nD τ).loc main_arg0) : Vec Ideal S8x2048x7296 .f32) (ix3 b ⟨n.val / 128 * 128 + q.val, by omega⟩ ⟨5120 + k.val, by omega⟩))
          (fun k => (m ((c.tc : Thread nD τ).loc main_arg1) : Vec Ideal S256 .f32) (ix1 k)) (fun k => (m ((c.tc : Thread nD τ).loc main_arg2) : Vec Ideal S256 .f32) (ix1 k))
          (fun e i q => (m ((c.tc : Thread nD τ).loc main_arg3) : Vec Ideal S4x128x128 .f32) (ix3 e i q)) (fun e i => (m ((c.tc : Thread nD τ).loc main_arg4) : Vec Ideal S4x128 .f32) (ix2 e i))
          ⟨n.val % 128, by omega⟩ j := by
  unfold Value.res_main_v53
  generalize (m ((c.tc : Thread nD τ).loc main_arg0)) = z
  generalize (m ((c.tc : Thread nD τ).loc main_arg1)) = g
  generalize (m ((c.tc : Thread nD τ).loc main_arg2)) = lb
  generalize (m ((c.tc : Thread nD τ).loc main_arg3)) = w
  generalize (m ((c.tc : Thread nD τ).loc main_arg4)) = bs
  change Vec Ideal S8x2048x7296 .f32 at z
  change Vec Ideal S256 .f32 at g
  change Vec Ideal S256 .f32 at lb
  change Vec Ideal S4x128x128 .f32 at w
  change Vec Ideal S4x128 .f32 at bs
  pointwise
  simp only [geluE_def]
  simp only [gmlpE, mixE, halfE, lnE, meanE, grp, hi, lo]
  refine congrArg₂ (· * ·) ?_ (congrArg₂ (· + ·) (Finset.sum_congr rfl fun x _ => ?_) rfl)
  · congr 3
    exact Fin.ext (by show n.val = n.val / 128 * 128 + n.val % 128; omega)
  · rw [causal ⟨n.val % 128, by omega⟩ x]
    by_cases h : x ≤ ⟨n.val % 128, by omega⟩
    · simp only [h, if_true]
      exact mul_comm _ _
    · simp only [h, if_false, zero_mul]

end Cert.Reference7Ideal.Gmlp

end
-- ==== Proof.GmlpEq.lean ====
/-
  The spatial gating's claims: the tiled kernel and the plain reference end with equal results.
-/
module

public import proofs.«01_k».proof.Defs
public import proofs.«01_k».proof.Proof.GmlpKernel
public import proofs.«01_k».proof.Proof.GmlpRef
public import Idealize.ShloMosaic.Lib.Quiescent

@[expose] public section

set_option maxRecDepth 100000

noncomputable section

namespace Cert.Gmlp

open Idealize.ShloMosaic Idealize.ShloMosaic.TcCoe

/-- The reference runs, leaves its arguments as they were, and has no semaphore to leave behind. -/
theorem quiescent : Cert.quiescent_Reference7Ideal := fun m g _ =>
  θ_run_mono (Cert.Reference7Ideal.Value.run (F := Ideal) m g) fun r h => ⟨fun c => (h c).2, sem_eq_zero_of_no_sems (by decide) r.2⟩

/-- The kernel's and the reference's results are equal at every entry. -/
theorem equal : Cert.algebraic_Kernel7Ideal_Reference7Ideal := fun m g m' g' _ he => by
  refine ⟨fun c => Cert.Kernel7Ideal.Gmlp.arr m c, ?_, ?_⟩
  · refine θ_run_mono (Cert.Kernel7Ideal.Value.run_blocks m g) fun r h c => ?_
    obtain ⟨h0, hk⟩ := h c
    exact ⟨h0.trans (Cert.Kernel7Ideal.Gmlp.final m c), hk⟩
  · refine θ_run_mono (Cert.Reference7Ideal.Value.run (F := Ideal) m' g') fun r h c => ?_
    obtain ⟨h0, hk⟩ := h c
    refine ⟨h0.trans ?_, hk⟩
    obtain ⟨e0, e1, e2, e3, e4⟩ := he c
    funext i
    rw [eq_ix3 (n0 := 8) (n1 := 2048) (n2 := 256) i]
    refine (Cert.Reference7Ideal.Gmlp.ref_apply m' c _ _ _).trans ?_
    rw [e0, e1, e2, e3, e4]
    rfl

end Cert.Gmlp

end
-- ==== Proof.InprojSBlock.lean ====
/-
  The input projection at the sample's shape, one block: every entry of the block is the product of one normalised and modulated token with
  one column of the weight.
-/
module

public import proofs.«01_k».proof.Proof.Gen.Kernel8Ideal.Skeleton
public import proofs.«01_k».proof.Proof.Rms

@[expose] public section

set_option maxRecDepth 100000

noncomputable section

namespace Cert.Kernel8Ideal.InprojS

open Idealize.ShloMosaic Idealize.ShloMosaic.TcCoe Cert.Kernel8Ideal Cert.Kernel8Ideal.Gen Cert.Layer

theorem block_apply (x : Vec Ideal S1x128x1024 .f32) (g : Vec Ideal S1x1024 .f32) (sc sh : Vec Ideal S1x128x1024 .f32) (w : Vec Ideal S1024x2432 .bf16)
    (a : Fin 1) (r : Fin 128) (j : Fin 2432) :
    k0_pay1 (F := Ideal) x g sc sh w (ix3 a r j)
      = ∑ u : Fin 1024, modE (fun u => x (ix3 0 r u)) (fun u => g (ix2 0 u)) (fun u => sc (ix3 0 r u)) (fun u => sh (ix3 0 r u)) u * w (ix2 u j) := by
  pointwise [k0_pay1]
  simp only [modE, rmsE]

end Cert.Kernel8Ideal.InprojS

end
-- ==== Proof.InprojSKernel.lean ====
/-
  The input projection's result array at the sample's shape: block by block the body's result of the blocks, and so at each entry the product
  of one normalised and modulated token with one column of the weight.
-/
module

public import proofs.«01_k».proof.Proof.Gen.Kernel8Ideal.Value
public import proofs.«01_k».proof.Proof.InprojSBlock

@[expose] public section

noncomputable section

namespace Cert.Kernel8Ideal.InprojS

open Idealize.ShloMosaic Idealize.ShloMosaic.TcCoe Idealize.ShloMosaic.Tactic Cert.Kernel8Ideal Cert.Kernel8Ideal.Gen Cert.Layer

variable (m : (ℓ : Loc nD τ sig) → Buf (Elt Ideal) ℓ) (c : Dev nD)

theorem lt3 (t : Fin cfg0.N) : t.val < 3 := t.isLt

/-- The column of column `j` of the point's block. -/
def col (t : Fin cfg0.N) (j : Fin 2432) : Fin 7296 := ⟨2432 * t.val + j.val, by have := lt3 t; omega⟩

/-- The gain, as the host hands it over. -/
theorem V_v0 : V m c main_v0 = shapeCast S1x1024 (m ((c : Thread nD τ).loc main_arg1)) shapeCasts_S1024_S1x1024 := by
  unfold V
  after_results
  rfl

theorem row_vec (x : Vec Ideal S1024 .f32) (a : Fin 1) (j : Fin 1024) : shapeCast S1x1024 x shapeCasts_S1024_S1x1024 (ix2 a j) = x (ix1 j) := by
  pointwise

/-! ## The blocks -/

theorem idx0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)

theorem emb0 (t : Fin cfg0.N) (j : S1x128x1024.Idx) : ((cfg0.win 0).blk t).view.emb j = j := by
  obtain ⟨e0, e1, e2⟩ := idx0 t
  have h0 : (j 0).val < 1 := (j 0).isLt
  funext a; apply Fin.ext
  match a with
  | ⟨0, _⟩ => show win0_0.index t (0 : Fin 3) * 1 + 1 * (j 0).val = (j 0).val; omega
  | ⟨1, _⟩ => show win0_0.index t (1 : Fin 3) * 128 + 1 * (j 1).val = (j 1).val; omega
  | ⟨2, _⟩ => show win0_0.index t (2 : Fin 3) * 1024 + 1 * (j 2).val = (j 2).val; omega

theorem idx1 : ∀ t : Fin cfg0.N, win0_1.index t 0 = 0 ∧ win0_1.index t 1 = 0 :=
  (by decide +kernel : ∀ t : Fin grid0.N, win0_1.index t 0 = 0 ∧ win0_1.index t 1 = 0)

theorem emb1 (t : Fin cfg0.N) (j : S1x1024.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem idx2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)

theorem emb2 (t : Fin cfg0.N) (j : S1x128x1024.Idx) : ((cfg0.win 2).blk t).view.emb j = j := by
  obtain ⟨e0, e1, e2⟩ := idx2 t
  have h0 : (j 0).val < 1 := (j 0).isLt
  funext a; apply Fin.ext
  match a with
  | ⟨0, _⟩ => show win0_2.index t (0 : Fin 3) * 1 + 1 * (j 0).val = (j 0).val; omega
  | ⟨1, _⟩ => show win0_2.index t (1 : Fin 3) * 128 + 1 * (j 1).val = (j 1).val; omega
  | ⟨2, _⟩ => show win0_2.index t (2 : Fin 3) * 1024 + 1 * (j 2).val = (j 2).val; omega

theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

theorem emb3 (t : Fin cfg0.N) (j : S1x128x1024.Idx) : ((cfg0.win 3).blk t).view.emb j = j := by
  obtain ⟨e0, e1, e2⟩ := idx3 t
  have h0 : (j 0).val < 1 := (j 0).isLt
  funext a; apply Fin.ext
  match a with
  | ⟨0, _⟩ => show win0_3.index t (0 : Fin 3) * 1 + 1 * (j 0).val = (j 0).val; omega
  | ⟨1, _⟩ => show win0_3.index t (1 : Fin 3) * 128 + 1 * (j 1).val = (j 1).val; omega
  | ⟨2, _⟩ => show win0_3.index t (2 : Fin 3) * 1024 + 1 * (j 2).val = (j 2).val; omega

theorem idx4 : ∀ t : Fin cfg0.N, win0_4.index t 0 = 0 ∧ win0_4.index t 1 = t.val :=
  (by decide +kernel : ∀ t : Fin grid0.N, win0_4.index t 0 = 0 ∧ win0_4.index t 1 = t.val)

theorem emb4 (t : Fin cfg0.N) (j : S1024x2432.Idx) : ((cfg0.win 4).blk t).view.emb j = ix2 (j 0) (col t (j 1)) := by
  obtain ⟨e0, e1⟩ := idx4 t
  funext a; apply Fin.ext
  match a with
  | ⟨0, _⟩ => show win0_4.index t (0 : Fin 2) * 1024 + 1 * (j 0).val = (j 0).val; omega
  | ⟨1, _⟩ => show win0_4.index t (1 : Fin 2) * 2432 + 1 * (j 1).val = 2432 * t.val + (j 1).val; omega

theorem idx5 : ∀ t : Fin cfg0.N, win0_5.index t 0 = 0 ∧ win0_5.index t 1 = 0 ∧ win0_5.index t 2 = t.val :=
  (by decide +kernel : ∀ t : Fin grid0.N, win0_5.index t 0 = 0 ∧ win0_5.index t 1 = 0 ∧ win0_5.index t 2 = t.val)

theorem emb5 (t : Fin cfg0.N) (j : S1x128x2432.Idx) : ((cfg0.win 5).blk t).view.emb j = ix3 (j 0) (j 1) (col t (j 2)) := by
  obtain ⟨e0, e1, e2⟩ := idx5 t
  have h0 : (j 0).val < 1 := (j 0).isLt
  funext a; apply Fin.ext
  match a with
  | ⟨0, _⟩ => show win0_5.index t (0 : Fin 3) * 1 + 1 * (j 0).val = (j 0).val; omega
  | ⟨1, _⟩ => show win0_5.index t (1 : Fin 3) * 128 + 1 * (j 1).val = (j 1).val; omega
  | ⟨2, _⟩ => show win0_5.index t (2 : Fin 3) * 2432 + 1 * (j 2).val = 2432 * t.val + (j 2).val; omega

theorem blk0 (t : Fin cfg0.N) (j : S1x128x1024.Idx) : (iblk m c 0 t : Vec Ideal S1x128x1024 .f32) j = (m ((c : Thread nD τ).loc main_arg0) : Vec Ideal S1x128x1024 .f32) j := by
  show V m c main_arg0 (((cfg0.win 0).blk t).view.emb j) = _
  rw [emb0, V_main_arg0]

theorem blk2 (t : Fin cfg0.N) (j : S1x128x1024.Idx) : (iblk m c 2 t : Vec Ideal S1x128x1024 .f32) j = (m ((c : Thread nD τ).loc main_arg2) : Vec Ideal S1x128x1024 .f32) j := by
  show V m c main_arg2 (((cfg0.win 2).blk t).view.emb j) = _
  rw [emb2, V_main_arg2]

theorem blk3 (t : Fin cfg0.N) (j : S1x128x1024.Idx) : (iblk m c 3 t : Vec Ideal S1x128x1024 .f32) j = (m ((c : Thread nD τ).loc main_arg3) : Vec Ideal S1x128x1024 .f32) j := by
  show V m c main_arg3 (((cfg0.win 3).blk t).view.emb j) = _
  rw [emb3, V_main_arg3]

theorem blk1 (t : Fin cfg0.N) (a : Fin 1) (j : Fin 1024) : (iblk m c 1 t : Vec Ideal S1x1024 .f32) (ix2 a j) = (m ((c : Thread nD τ).loc main_arg1) : Vec Ideal S1024 .f32) (ix1 j) := by
  show V m c main_v0 (((cfg0.win 1).blk t).view.emb (ix2 a j)) = _
  rw [emb1, V_v0]
  exact row_vec _ a j

theorem blk4 (t : Fin cfg0.N) (j : S1024x2432.Idx) : (iblk m c 4 t : Vec Ideal S1024x2432 .bf16) j = (m ((c : Thread nD τ).loc main_arg4) : Vec Ideal S1024x7296 .bf16) (ix2 (j 0) (col t (j 1))) := by
  show V m c main_arg4 (((cfg0.win 4).blk t).view.emb j) = _
  rw [emb4, V_main_arg4]
  rfl

/-! ## The result array -/

/-- What the result array holds. -/
def arr : Vec Ideal S1x128x7296 .f32 := fun i =>
  ∑ u : Fin 1024, modE (fun u => (m ((c : Thread nD τ).loc main_arg0) : Vec Ideal S1x128x1024 .f32) (ix3 0 (i 1 : Fin 128) u))
    (fun u => (m ((c : Thread nD τ).loc main_arg1) : Vec Ideal S1024 .f32) (ix1 u))
    (fun u => (m ((c : Thread nD τ).loc main_arg3) : Vec Ideal S1x128x1024 .f32) (ix3 0 (i 1 : Fin 128) u))
    (fun u => (m ((c : Thread nD τ).loc main_arg2) : Vec Ideal S1x128x1024 .f32) (ix3 0 (i 1 : Fin 128) u)) u
    * (m ((c : Thread nD τ).loc main_arg4) : Vec Ideal S1024x7296 .bf16) (ix2 u (i 2 : Fin 7296))

theorem hz3 : (![0, 0, 0] : Fin 3 → Nat) = fun _ => 0 := funext fun a => by fin_cases a <;> rfl
theorem hz2 : (![0, 0] : Fin 2 → Nat) = fun _ => 0 := funext fun a => by fin_cases a <;> rfl

/-- The body's one store is of the whole block, and its loads are of whole blocks. -/
theorem out_eq (x0 : Vec Ideal S1x128x1024 .f32) (x1 : Vec Ideal S1x1024 .f32) (x2 x3 : Vec Ideal S1x128x1024 .f32) (x4 : Vec Ideal S1024x2432 .bf16) :
    out0_5 x0 x1 x2 x3 x4 = k0_pay1 (F := Ideal) x0 x1 x3 x2 x4 := by
  unfold out0_5
  rw [View.canon_unit_zero hz3]
  simp only [View.ld_unit_zero (S := S1x128x1024) hz3, View.ld_unit_zero (S := S1x1024) hz2, View.ld_unit_zero (S := S1024x2432) hz2]

theorem out_at (t : Fin cfg0.N) (a : Fin 1) (r : Fin 128) (j : Fin 2432) :
    out0_5 (iblk m c 0 t) (iblk m c 1 t) (iblk m c 2 t) (iblk m c 3 t) (iblk m c 4 t) (ix3 a r j) = arr m c (ix3 a r (col t j)) := by
  rw [out_eq]
  refine (block_apply _ _ _ _ _ a r j).trans ?_
  refine Finset.sum_congr rfl fun u _ => ?_
  congr 1
  · congr 1
    · funext u; exact blk0 m c t _
    · funext u; exact blk1 m c t 0 u
    · funext u; exact blk3 m c t _
    · funext u; exact blk2 m c t _
  · exact blk4 m c t _

theorem flushed_eq (t : Fin cfg0.N) : (dats m 0 c).flushed 5 t = ((cfg0.win 5).blk t).view.read (Elt Ideal) (arr m c) := by
  rw [Value.flushed5]
  funext y
  have h : out0_5 (iblk m c 0 t) (iblk m c 1 t) (iblk m c 2 t) (iblk m c 3 t) (iblk m c 4 t) y = arr m c (((cfg0.win 5).blk t).view.emb y) := by
    rw [emb5 t y]
    refine Eq.trans ?_ (out_at m c t (y 0) (y 1) (y 2))
    exact congrArg (out0_5 (iblk m c 0 t) (iblk m c 1 t) (iblk m c 2 t) (iblk m c 3 t) (iblk m c 4 t)) (eq_ix3 (n0 := 1) (n1 := 128) (n2 := 2432) y)
  exact h

theorem cell (t : Fin cfg0.N) (a : Fin 1) (r : Fin 128) (j : Fin 2432) (i : S1x128x7296.Idx) (hi : ix3 a r (col t j) = i) :
    i ∈ ((cfg0.win 5).blk t).view.set := by
  subst hi
  have h := ((cfg0.win 5).blk t).view.emb_mem_set (ix3 a r j)
  rw [emb5] at h
  exact h

theorem cover (i : S1x128x7296.Idx) : ∃ t : Fin cfg0.N, (cfg0.win 5).flush t = true ∧ i ∈ ((cfg0.win 5).blk t).view.set := by
  have key : ∀ (a : Fin 1) (n : Fin 128) (j : Fin 7296), ix3 a n j = i → ∃ t : Fin cfg0.N, (cfg0.win 5).flush t = true ∧ i ∈ ((cfg0.win 5).blk t).view.set := by
    intro a n j h
    have e2 : col (⟨j.val / 2432, by show _ < 3; omega⟩ : Fin cfg0.N) ⟨j.val % 2432, by omega⟩ = j :=
      Fin.ext (show 2432 * (j.val / 2432) + j.val % 2432 = j.val by omega)
    refine ⟨⟨j.val / 2432, by show _ < 3; omega⟩, flush0_5 _, cell _ a n ⟨j.val % 2432, by omega⟩ i ?_⟩
    rw [e2]
    exact h
  exact key (i 0) (i 1) (i 2) (eq_ix3 (n0 := 1) (n1 := 128) (n2 := 7296) i).symm

/-- The result array. -/
theorem final : (dats m 0 c).arrAt 5 cfg0.N = arr m c :=
  (dats m 0 c).arrAt_eq_of_cover 5 (arr m c) (fun t _ => flushed_eq m c t) cover

end Cert.Kernel8Ideal.InprojS

end
-- ==== Proof.InprojSRef.lean ====
/-
  The input projection's reference at the sample's shape, read at one entry: the product of one normalised and modulated token with one column
  of the weight.
-/
module

public import proofs.«01_k».proof.Proof.Gen.Reference8Ideal.Run
public import proofs.«01_k».proof.Proof.Rms

@[expose] public section

set_option maxRecDepth 100000

noncomputable section

namespace Cert.Reference8Ideal.InprojS

open Idealize.ShloMosaic Idealize.ShloMosaic.TcCoe Cert.Reference8Ideal Cert.Reference8Ideal.Gen Cert.Layer

theorem ref_apply (x : Vec Ideal S1x128x1024 .f32) (g : Vec Ideal S1024 .f32) (sh sc : Vec Ideal S1x128x1024 .f32) (w : Vec Ideal S1024x7296 .bf16)
    (b : Fin 1) (n : Fin 128) (j : Fin 7296) :
    Host.dotGeneral (F := Ideal) (so := S1x128x7296) (φ₁ := .f32) (φ₂ := .f32) dot_S1x128x1024_S1024x7296_S1x128x7296_2_0_01_1_n_n none (addf (mulf (mulf (mulf x (broadcastInDim S1x128x1024 ![0, 1, 2] bcast_S1x128x1_S1x128x1024_0_1_2 (Host.rsqrt (addf (Host.divf (broadcastInDim S1x128x1 ![0, 1] bcast_S1x128_S1x128x1_0_1 (Host.reduceAdd (mulf x x) (constant S_ .f32 0x00000000#32) reducesTo_S1x128x1024_S1x128_d2 h_S_)) (broadcastInDim S1x128x1 ![] bcast_S_S1x128x1 (constant S_ .f32 0x44800000#32))) (broadcastInDim S1x128x1 ![] bcast_S_S1x128x1 (constant S_ .f32 0x358637BD#32)))))) (broadcastInDim S1x128x1024 ![0, 1, 2] bcast_S1x1x1024_S1x128x1024_0_1_2 (broadcastInDim S1x1x1024 ![2] bcast_S1024_S1x1x1024_2 g))) (addf (broadcastInDim S1x128x1024 ![] bcast_S_S1x128x1024 (constant S_ .f32 0x3F800000#32)) sc)) sh) (extf .f32 w bitsLt_bf16_f32) (ix3 b n j)
      = ∑ u : Fin 1024, modE (fun u => x (ix3 0 n u)) (fun u => g (ix1 u)) (fun u => sc (ix3 0 n u)) (fun u => sh (ix3 0 n u)) u * w (ix2 u j) := by
  obtain rfl : b = 0 := Subsingleton.elim _ _
  pointwise
  simp only [modE, rmsE]

end Cert.Reference8Ideal.InprojS

end
-- ==== Proof.InprojSEq.lean ====
/-
  The input projection's claims at the sample's shape: the tiled kernel and the plain reference end with equal results.
-/
module

public import proofs.«01_k».proof.Defs
public import proofs.«01_k».proof.Proof.InprojSKernel
public import proofs.«01_k».proof.Proof.InprojSRef
public import Idealize.ShloMosaic.Lib.Quiescent

@[expose] public section

set_option maxRecDepth 100000

noncomputable section

namespace Cert.InprojS

open Idealize.ShloMosaic Idealize.ShloMosaic.TcCoe

/-- The reference runs, leaves its arguments as they were, and has no semaphore to leave behind. -/
theorem quiescent : Cert.quiescent_Reference8Ideal := fun m g _ =>
  θ_run_mono (Cert.Reference8Ideal.Value.run (F := Ideal) m g) fun r h => ⟨fun c => (h c).2, sem_eq_zero_of_no_sems (by decide) r.2⟩

/-- The kernel's and the reference's results are equal at every entry. -/
theorem equal : Cert.algebraic_Kernel8Ideal_Reference8Ideal := fun m g m' g' _ he => by
  refine ⟨fun c => Cert.Kernel8Ideal.InprojS.arr m c, ?_, ?_⟩
  · refine θ_run_mono (Cert.Kernel8Ideal.Value.run_blocks m g) fun r h c => ?_
    obtain ⟨h0, hk⟩ := h c
    exact ⟨h0.trans (Cert.Kernel8Ideal.InprojS.final m c), hk⟩
  · refine θ_run_mono (Cert.Reference8Ideal.Value.run (F := Ideal) m' g') fun r h c => ?_
    obtain ⟨h0, hk⟩ := h c
    refine ⟨h0.trans ?_, hk⟩
    obtain ⟨e0, e1, e2, e3, e4⟩ := he c
    rw [e0, e1, e2, e3, e4]
    funext i
    rw [eq_ix3 (n0 := 1) (n1 := 128) (n2 := 7296) i]
    exact Cert.Reference8Ideal.InprojS.ref_apply _ _ _ _ _ _ _ _

end Cert.InprojS

end
-- ==== Proof.HpSBlock.lean ====
/-
  The product in two parts at the sample's shape, one block: every entry of the block is the three partial products of one normalised and
  modulated token with one column of the two halves of the weight.
-/
module

public import proofs.«01_k».proof.Proof.Gen.Kernel9Ideal.Skeleton
public import proofs.«01_k».proof.Proof.Hp

@[expose] public section

set_option maxRecDepth 100000

noncomputable section

namespace Cert.Kernel9Ideal.HpS

open Idealize.ShloMosaic Idealize.ShloMosaic.TcCoe Cert.Kernel9Ideal Cert.Kernel9Ideal.Gen Cert.Layer

theorem block_apply (x : Vec Ideal S1x128x1024 .f32) (g : Vec Ideal S1x1024 .f32) (sc sh : Vec Ideal S1x128x1024 .f32) (w wl : Vec Ideal S1024x768 .bf16)
    (a : Fin 1) (r : Fin 128) (j : Fin 768) :
    k0_pay1 (F := Ideal) (k0_pay4 (F := Ideal) x g sc sh) (k0_pay5 (F := Ideal) x g sc sh w) (k0_pay6 (F := Ideal) x g sc sh wl) w (ix3 a r j)
      = partsE (modE (fun u => x (ix3 0 r u)) (fun u => g (ix2 0 u)) (fun u => sc (ix3 0 r u)) (fun u => sh (ix3 0 r u))) (fun u => w (ix2 u j)) (fun u => wl (ix2 u j)) := by
  unfold k0_pay4 k0_pay5 k0_pay6 k0_pay3
  pointwise [k0_pay1, k0_pay2]
  simp only [partsE, modE, rmsE]

end Cert.Kernel9Ideal.HpS

end
-- ==== Proof.HpSKernel.lean ====
/-
  The two-part product's result array at the sample's shape: block by block the body's result of the blocks, and so at each entry the three
  partial products of one normalised and modulated token with one column of the weight's two parts.
-/
module

public import proofs.«01_k».proof.Proof.Gen.Kernel9Ideal.Value
public import proofs.«01_k».proof.Proof.HpSBlock

@[expose] public section

noncomputable section

namespace Cert.Kernel9Ideal.HpS

open Idealize.ShloMosaic Idealize.ShloMosaic.TcCoe Idealize.ShloMosaic.Tactic Cert.Kernel9Ideal Cert.Kernel9Ideal.Gen Cert.Layer

variable (m : (ℓ : Loc nD τ sig) → Buf (Elt Ideal) ℓ) (c : Dev nD)

/-- The gain, as the host hands it over. -/
theorem V_v4 : V m c main_v4 = shapeCast S1x1024 (m ((c : Thread nD τ).loc main_arg1)) shapeCasts_S1024_S1x1024 := by
  unfold V
  after_results
  rfl

/-- The weight's first part: the weight. -/
theorem V_v0 : (V m c main_v0 : FVec Ideal S1024x768 .bf16) = truncf (F := Ideal) (s := S1024x768) (φ := .f32) .bf16 (m ((c : Thread nD τ).loc main_arg4)) bitsLt_bf16_f32 := by
  unfold V
  after_results

/-- The weight's second part: the weight less its first. -/
theorem V_v3 : (V m c main_v3 : FVec Ideal S1024x768 .bf16) = truncf (F := Ideal) (s := S1024x768) (φ := .f32) .bf16 (subf (m ((c : Thread nD τ).loc main_arg4)) (extf .f32 (truncf (F := Ideal) (s := S1024x768) (φ := .f32) .bf16 (m ((c : Thread nD τ).loc main_arg4)) bitsLt_bf16_f32) bitsLt_bf16_f32)) bitsLt_bf16_f32 := by
  unfold V
  after_results

theorem row_vec (x : Vec Ideal S1024 .f32) (a : Fin 1) (j : Fin 1024) : shapeCast S1x1024 x shapeCasts_S1024_S1x1024 (ix2 a j) = x (ix1 j) := by
  pointwise

/-! ## The blocks -/

theorem idx0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)

theorem emb0 (t : Fin cfg0.N) (j : S1x128x1024.Idx) : ((cfg0.win 0).blk t).view.emb j = j := by
  obtain ⟨e0, e1, e2⟩ := idx0 t
  have h0 : (j 0).val < 1 := (j 0).isLt
  funext a; apply Fin.ext
  match a with
  | ⟨0, _⟩ => show win0_0.index t (0 : Fin 3) * 1 + 1 * (j 0).val = (j 0).val; omega
  | ⟨1, _⟩ => show win0_0.index t (1 : Fin 3) * 128 + 1 * (j 1).val = (j 1).val; omega
  | ⟨2, _⟩ => show win0_0.index t (2 : Fin 3) * 1024 + 1 * (j 2).val = (j 2).val; omega

theorem idx1 : ∀ t : Fin cfg0.N, win0_1.index t 0 = 0 ∧ win0_1.index t 1 = 0 :=
  (by decide +kernel : ∀ t : Fin grid0.N, win0_1.index t 0 = 0 ∧ win0_1.index t 1 = 0)

theorem emb1 (t : Fin cfg0.N) (j : S1x1024.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem idx2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)

theorem emb2 (t : Fin cfg0.N) (j : S1x128x1024.Idx) : ((cfg0.win 2).blk t).view.emb j = j := by
  obtain ⟨e0, e1, e2⟩ := idx2 t
  have h0 : (j 0).val < 1 := (j 0).isLt
  funext a; apply Fin.ext
  match a with
  | ⟨0, _⟩ => show win0_2.index t (0 : Fin 3) * 1 + 1 * (j 0).val = (j 0).val; omega
  | ⟨1, _⟩ => show win0_2.index t (1 : Fin 3) * 128 + 1 * (j 1).val = (j 1).val; omega
  | ⟨2, _⟩ => show win0_2.index t (2 : Fin 3) * 1024 + 1 * (j 2).val = (j 2).val; omega

theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

theorem emb3 (t : Fin cfg0.N) (j : S1x128x1024.Idx) : ((cfg0.win 3).blk t).view.emb j = j := by
  obtain ⟨e0, e1, e2⟩ := idx3 t
  have h0 : (j 0).val < 1 := (j 0).isLt
  funext a; apply Fin.ext
  match a with
  | ⟨0, _⟩ => show win0_3.index t (0 : Fin 3) * 1 + 1 * (j 0).val = (j 0).val; omega
  | ⟨1, _⟩ => show win0_3.index t (1 : Fin 3) * 128 + 1 * (j 1).val = (j 1).val; omega
  | ⟨2, _⟩ => show win0_3.index t (2 : Fin 3) * 1024 + 1 * (j 2).val = (j 2).val; omega

theorem idx4 : ∀ t : Fin cfg0.N, win0_4.index t 0 = 0 ∧ win0_4.index t 1 = 0 :=
  (by decide +kernel : ∀ t : Fin grid0.N, win0_4.index t 0 = 0 ∧ win0_4.index t 1 = 0)

theorem emb4 (t : Fin cfg0.N) (j : S1024x768.Idx) : ((cfg0.win 4).blk t).view.emb j = j := by
  obtain ⟨e0, e1⟩ := idx4 t
  funext a; apply Fin.ext
  match a with
  | ⟨0, _⟩ => show win0_4.index t (0 : Fin 2) * 1024 + 1 * (j 0).val = (j 0).val; omega
  | ⟨1, _⟩ => show win0_4.index t (1 : Fin 2) * 768 + 1 * (j 1).val = (j 1).val; omega

theorem idx5 : ∀ t : Fin cfg0.N, win0_5.index t 0 = 0 ∧ win0_5.index t 1 = 0 :=
  (by decide +kernel : ∀ t : Fin grid0.N, win0_5.index t 0 = 0 ∧ win0_5.index t 1 = 0)

theorem emb5 (t : Fin cfg0.N) (j : S1024x768.Idx) : ((cfg0.win 5).blk t).view.emb j = j := by
  obtain ⟨e0, e1⟩ := idx5 t
  funext a; apply Fin.ext
  match a with
  | ⟨0, _⟩ => show win0_5.index t (0 : Fin 2) * 1024 + 1 * (j 0).val = (j 0).val; omega
  | ⟨1, _⟩ => show win0_5.index t (1 : Fin 2) * 768 + 1 * (j 1).val = (j 1).val; omega

theorem idx6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)

theorem emb6 (t : Fin cfg0.N) (j : S1x128x768.Idx) : ((cfg0.win 6).blk t).view.emb j = j := by
  obtain ⟨e0, e1, e2⟩ := idx6 t
  have h0 : (j 0).val < 1 := (j 0).isLt
  funext a; apply Fin.ext
  match a with
  | ⟨0, _⟩ => show win0_6.index t (0 : Fin 3) * 1 + 1 * (j 0).val = (j 0).val; omega
  | ⟨1, _⟩ => show win0_6.index t (1 : Fin 3) * 128 + 1 * (j 1).val = (j 1).val; omega
  | ⟨2, _⟩ => show win0_6.index t (2 : Fin 3) * 768 + 1 * (j 2).val = (j 2).val; omega

theorem blk0 (t : Fin cfg0.N) (j : S1x128x1024.Idx) : (iblk m c 0 t : Vec Ideal S1x128x1024 .f32) j = (m ((c : Thread nD τ).loc main_arg0) : Vec Ideal S1x128x1024 .f32) j := by
  show V m c main_arg0 (((cfg0.win 0).blk t).view.emb j) = _
  rw [emb0, V_main_arg0]

theorem blk2 (t : Fin cfg0.N) (j : S1x128x1024.Idx) : (iblk m c 2 t : Vec Ideal S1x128x1024 .f32) j = (m ((c : Thread nD τ).loc main_arg2) : Vec Ideal S1x128x1024 .f32) j := by
  show V m c main_arg2 (((cfg0.win 2).blk t).view.emb j) = _
  rw [emb2, V_main_arg2]

theorem blk3 (t : Fin cfg0.N) (j : S1x128x1024.Idx) : (iblk m c 3 t : Vec Ideal S1x128x1024 .f32) j = (m ((c : Thread nD τ).loc main_arg3) : Vec Ideal S1x128x1024 .f32) j := by
  show V m c main_arg3 (((cfg0.win 3).blk t).view.emb j) = _
  rw [emb3, V_main_arg3]

theorem blk1 (t : Fin cfg0.N) (a : Fin 1) (j : Fin 1024) : (iblk m c 1 t : Vec Ideal S1x1024 .f32) (ix2 a j) = (m ((c : Thread nD τ).loc main_arg1) : Vec Ideal S1024 .f32) (ix1 j) := by
  show V m c main_v4 (((cfg0.win 1).blk t).view.emb (ix2 a j)) = _
  rw [emb1, V_v4]
  exact row_vec _ a j

/-- The weight. -/
def wt (u : Fin 1024) (j : Fin 768) : EReal := (m ((c : Thread nD τ).loc main_arg4) : Vec Ideal S1024x768 .f32) (ix2 u j)

theorem blk4 (t : Fin cfg0.N) (u : Fin 1024) (j : Fin 768) : (iblk m c 4 t : Vec Ideal S1024x768 .bf16) (ix2 u j) = wt m c u j := by
  show V m c main_v0 (((cfg0.win 4).blk t).view.emb (ix2 u j)) = _
  rw [emb4]
  exact congrFun (V_v0 m c) (ix2 u j)

theorem blk5 (t : Fin cfg0.N) (u : Fin 1024) (j : Fin 768) : (iblk m c 5 t : Vec Ideal S1024x768 .bf16) (ix2 u j) = wt m c u j - wt m c u j := by
  show V m c main_v3 (((cfg0.win 5).blk t).view.emb (ix2 u j)) = _
  rw [emb5]
  exact congrFun (V_v3 m c) (ix2 u j)

/-! ## The result array -/

/-- What the result array holds. -/
def arr : Vec Ideal S1x128x768 .f32 := fun i =>
  partsE (modE (fun u => (m ((c : Thread nD τ).loc main_arg0) : Vec Ideal S1x128x1024 .f32) (ix3 0 (i 1 : Fin 128) u))
    (fun u => (m ((c : Thread nD τ).loc main_arg1) : Vec Ideal S1024 .f32) (ix1 u))
    (fun u => (m ((c : Thread nD τ).loc main_arg3) : Vec Ideal S1x128x1024 .f32) (ix3 0 (i 1 : Fin 128) u))
    (fun u => (m ((c : Thread nD τ).loc main_arg2) : Vec Ideal S1x128x1024 .f32) (ix3 0 (i 1 : Fin 128) u)))
    (fun u => wt m c u (i 2 : Fin 768)) (fun u => wt m c u (i 2 : Fin 768) - wt m c u (i 2 : Fin 768))

theorem hz3 : (![0, 0, 0] : Fin 3 → Nat) = fun _ => 0 := funext fun a => by fin_cases a <;> rfl
theorem hz2 : (![0, 0] : Fin 2 → Nat) = fun _ => 0 := funext fun a => by fin_cases a <;> rfl

/-- The body's one store is of the whole block, and its loads are of whole blocks. -/
theorem out_eq (x0 : Vec Ideal S1x128x1024 .f32) (x1 : Vec Ideal S1x1024 .f32) (x2 x3 : Vec Ideal S1x128x1024 .f32) (x4 x5 : Vec Ideal S1024x768 .bf16) :
    out0_6 x0 x1 x2 x3 x4 x5 = k0_pay1 (F := Ideal) (k0_pay4 (F := Ideal) x0 x1 x3 x2) (k0_pay5 (F := Ideal) x0 x1 x3 x2 x4) (k0_pay6 (F := Ideal) x0 x1 x3 x2 x5) x4 := by
  unfold out0_6
  rw [View.canon_unit_zero hz3]
  simp only [View.ld_unit_zero (S := S1x128x1024) hz3, View.ld_unit_zero (S := S1x1024) hz2, View.ld_unit_zero (S := S1024x768) hz2]

theorem out_at (t : Fin cfg0.N) (a : Fin 1) (r : Fin 128) (j : Fin 768) :
    out0_6 (iblk m c 0 t) (iblk m c 1 t) (iblk m c 2 t) (iblk m c 3 t) (iblk m c 4 t) (iblk m c 5 t) (ix3 a r j) = arr m c (ix3 a r j) := by
  rw [out_eq]
  refine (block_apply _ _ _ _ _ _ a r j).trans ?_
  unfold arr
  congr 1
  · congr 1
    · funext u; exact blk0 m c t _
    · funext u; exact blk1 m c t 0 u
    · funext u; exact blk3 m c t _
    · funext u; exact blk2 m c t _
  · funext u; exact blk4 m c t u j
  · funext u; exact blk5 m c t u j

theorem flushed_eq (t : Fin cfg0.N) : (dats m 0 c).flushed 6 t = ((cfg0.win 6).blk t).view.read (Elt Ideal) (arr m c) := by
  rw [Value.flushed6]
  funext y
  have h : out0_6 (iblk m c 0 t) (iblk m c 1 t) (iblk m c 2 t) (iblk m c 3 t) (iblk m c 4 t) (iblk m c 5 t) y = arr m c (((cfg0.win 6).blk t).view.emb y) := by
    rw [emb6 t y]
    refine Eq.trans ?_ (out_at m c t (y 0) (y 1) (y 2))
    exact congrArg (out0_6 (iblk m c 0 t) (iblk m c 1 t) (iblk m c 2 t) (iblk m c 3 t) (iblk m c 4 t) (iblk m c 5 t)) (eq_ix3 (n0 := 1) (n1 := 128) (n2 := 768) y)
  exact h

theorem cover (i : S1x128x768.Idx) : ∃ t : Fin cfg0.N, (cfg0.win 6).flush t = true ∧ i ∈ ((cfg0.win 6).blk t).view.set := by
  refine ⟨⟨0, by show _ < 1; omega⟩, flush0_6 _, ?_⟩
  have h := ((cfg0.win 6).blk (⟨0, by show _ < 1; omega⟩ : Fin cfg0.N)).view.emb_mem_set i
  rw [emb6] at h
  exact h

/-- The result array. -/
theorem final : (dats m 0 c).arrAt 6 cfg0.N = arr m c :=
  (dats m 0 c).arrAt_eq_of_cover 6 (arr m c) (fun t _ => flushed_eq m c t) cover

end Cert.Kernel9Ideal.HpS

end
-- ==== Proof.HpSRef.lean ====
/-
  The reference of the product in two parts at the sample's shape, read at one entry: the product of one normalised and modulated token with one
  column of the weight.
-/
module

public import proofs.«01_k».proof.Proof.Gen.Reference9Ideal.Run
public import proofs.«01_k».proof.Proof.Rms

@[expose] public section

set_option maxRecDepth 100000

noncomputable section

namespace Cert.Reference9Ideal.HpS

open Idealize.ShloMosaic Idealize.ShloMosaic.TcCoe Cert.Reference9Ideal Cert.Reference9Ideal.Gen Cert.Layer

theorem ref_apply (x : Vec Ideal S1x128x1024 .f32) (g : Vec Ideal S1024 .f32) (sh sc : Vec Ideal S1x128x1024 .f32) (w : Vec Ideal S1024x768 .f32)
    (b : Fin 1) (n : Fin 128) (j : Fin 768) :
    Host.dotGeneral (F := Ideal) (so := S1x128x768) (φ₁ := .f32) (φ₂ := .f32) dot_S1x128x1024_S1024x768_S1x128x768_2_0_01_1_n_n none (addf (mulf (mulf (mulf x (broadcastInDim S1x128x1024 ![0, 1, 2] bcast_S1x128x1_S1x128x1024_0_1_2 (Host.rsqrt (addf (Host.divf (broadcastInDim S1x128x1 ![0, 1] bcast_S1x128_S1x128x1_0_1 (Host.reduceAdd (mulf x x) (constant S_ .f32 0x00000000#32) reducesTo_S1x128x1024_S1x128_d2 h_S_)) (broadcastInDim S1x128x1 ![] bcast_S_S1x128x1 (constant S_ .f32 0x44800000#32))) (broadcastInDim S1x128x1 ![] bcast_S_S1x128x1 (constant S_ .f32 0x358637BD#32)))))) (broadcastInDim S1x128x1024 ![0, 1, 2] bcast_S1x1x1024_S1x128x1024_0_1_2 (broadcastInDim S1x1x1024 ![2] bcast_S1024_S1x1x1024_2 g))) (addf (broadcastInDim S1x128x1024 ![] bcast_S_S1x128x1024 (constant S_ .f32 0x3F800000#32)) sc)) sh) w (ix3 b n j)
      = ∑ u : Fin 1024, modE (fun u => x (ix3 0 n u)) (fun u => g (ix1 u)) (fun u => sc (ix3 0 n u)) (fun u => sh (ix3 0 n u)) u * w (ix2 u j) := by
  obtain rfl : b = 0 := Subsingleton.elim _ _
  pointwise
  simp only [modE, rmsE]

end Cert.Reference9Ideal.HpS

end
-- ==== Proof.HpSEq.lean ====
/-
  The claims of the product in two parts at the sample's shape: the tiled kernel and the plain reference end with equal results where the gain,
  the scale, the shift and the weight are finite.
-/
module

public import proofs.«01_k».proof.Defs
public import proofs.«01_k».proof.Proof.HpSKernel
public import proofs.«01_k».proof.Proof.HpSRef
public import proofs.«01_k».proof.Proof.HpEq
public import proofs.«01_k».proof.Proof.Gen.Pre_finite9
public import Idealize.ShloMosaic.Lib.Quiescent

@[expose] public section

set_option maxRecDepth 100000

noncomputable section

namespace Cert.HpS

open Idealize.ShloMosaic Idealize.ShloMosaic.TcCoe Cert.Layer

/-- The precondition read: gain, shift, scale and weight hold real numbers. -/
theorem reals (x : FVec Ideal Cert.Pre_finite9.S1x128x1024 .f32) (g : FVec Ideal Cert.Pre_finite9.S1024 .f32) (sh sc : FVec Ideal Cert.Pre_finite9.S1x128x1024 .f32) (w : FVec Ideal Cert.Pre_finite9.S1024x768 .f32)
    (h : Cert.Pre_finite9.fn (F := Ideal) x g sh sc w = fun _ => 1#1) :
    (∀ i, ∃ q : ℝ, (g i : EReal) = q) ∧ (∀ i, ∃ q : ℝ, (sh i : EReal) = q) ∧ (∀ i, ∃ q : ℝ, (sc i : EReal) = q) ∧ ∀ i, ∃ q : ℝ, (w i : EReal) = q := by
  have e := congrFun h (fun k => k.elim0)
  unfold Cert.Pre_finite9.fn Cert.Pre_finite9.fn_part1 at e
  obtain ⟨e, hsc⟩ := IntOp.andi_eq_one.1 e
  obtain ⟨e, hsh⟩ := IntOp.andi_eq_one.1 e
  obtain ⟨hw, hg⟩ := IntOp.andi_eq_one.1 e
  exact ⟨Cert.Hp.real_all _ _ _ _ _ hg, Cert.Hp.real_all _ _ _ _ _ hsh, Cert.Hp.real_all _ _ _ _ _ hsc, Cert.Hp.real_all _ _ _ _ _ hw⟩

/-- The reference runs, leaves its arguments as they were, and has no semaphore to leave behind. -/
theorem quiescent : Cert.quiescent_Reference9Ideal := fun m g _ =>
  θ_run_mono (Cert.Reference9Ideal.Value.run (F := Ideal) m g) fun r h => ⟨fun c => (h c).2, sem_eq_zero_of_no_sems (by decide) r.2⟩

/-- The kernel's and the reference's results are equal at every entry. -/
theorem equal : Cert.algebraic_Kernel9Ideal_Reference9Ideal_pre_finite9 := fun m g m' g' hp he => by
  refine ⟨fun c => Cert.Kernel9Ideal.HpS.arr m c, ?_, ?_⟩
  · refine θ_run_mono (Cert.Kernel9Ideal.Value.run_blocks m g) fun r h c => ?_
    obtain ⟨h0, hk⟩ := h c
    exact ⟨h0.trans (Cert.Kernel9Ideal.HpS.final m c), hk⟩
  · refine θ_run_mono (Cert.Reference9Ideal.Value.run (F := Ideal) m' g') fun r h c => ?_
    obtain ⟨h0, hk⟩ := h c
    refine ⟨h0.trans ?_, hk⟩
    obtain ⟨e0, e1, e2, e3, e4⟩ := he c
    rw [e0, e1, e2, e3, e4]
    obtain ⟨hg, hsh, hsc, hw⟩ := reals _ _ _ _ _ (hp c)
    funext i
    rw [eq_ix3 (n0 := 1) (n1 := 128) (n2 := 768) i]
    refine (Cert.Reference9Ideal.HpS.ref_apply _ _ _ _ _ _ _ _).trans (parts_eq _ _ (fun u => ?_) fun u => hw _).symm
    exact mod_real _ _ _ _ u (hg _) (hsc _) (hsh _)

end Cert.HpS

end
-- ==== Proof.FfnSWindows.lean ====
/-
  The feed-forward call at the sample's shape, its blocks: which entries of the arguments each window shows at each grid point.
-/
module

public import proofs.«01_k».proof.Proof.Gen.Kernel10Ideal.Value
public import Idealize.ShloMosaic.Lib.Pointwise

@[expose] public section

noncomputable section

namespace Cert.Kernel10Ideal.FfnS

open Idealize.ShloMosaic Idealize.ShloMosaic.TcCoe Idealize.ShloMosaic.Tactic Cert.Kernel10Ideal Cert.Kernel10Ideal.Gen

variable (m : (ℓ : Loc nD τ sig) → Buf (Elt Ideal) ℓ) (c : Dev nD)

/-- The inner entry of entry `v` of the point's chunk. -/
def mid (t : Fin cfg0.N) (v : Fin 256) : Fin 2816 := ⟨(256 * (t.val % 11) + v.val) % 2816, Nat.mod_lt _ (by norm_num)⟩
/-- Its column in the first half of the widened product. -/
def colG (t : Fin cfg0.N) (v : Fin 256) : Fin 5632 := ⟨256 * (t.val % 11) + v.val, by omega⟩
/-- Its column in the second half. -/
def colU (t : Fin cfg0.N) (v : Fin 256) : Fin 5632 := ⟨2816 + (256 * (t.val % 11) + v.val), by omega⟩

/-- The first gain, as the host hands it over. -/
theorem V_v0 : V m c main_v0 = shapeCast S1x1024 (m ((c : Thread nD τ).loc main_arg1)) shapeCasts_S1024_S1x1024 := by
  unfold V
  after_results
  rfl

/-- The last gain, as the host hands it over. -/
theorem V_v1 : V m c main_v1 = shapeCast S1x1024 (m ((c : Thread nD τ).loc main_arg7)) shapeCasts_S1024_S1x1024 := by
  unfold V
  after_results
  rfl

theorem row_vec (x : Vec Ideal S1024 .f32) (a : Fin 1) (j : Fin 1024) : shapeCast S1x1024 x shapeCasts_S1024_S1x1024 (ix2 a j) = x (ix1 j) := by
  pointwise

/-! ## Where each window's block lies -/

theorem idx0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)

theorem emb0 (t : Fin cfg0.N) (j : S1x128x1024.Idx) : ((cfg0.win 0).blk t).view.emb j = j := by
  obtain ⟨e0, e1, e2⟩ := idx0 t
  have h0 : (j 0).val < 1 := (j 0).isLt
  funext a; apply Fin.ext
  match a with
  | ⟨0, _⟩ => show win0_0.index t (0 : Fin 3) * 1 + 1 * (j 0).val = (j 0).val; omega
  | ⟨1, _⟩ => show win0_0.index t (1 : Fin 3) * 128 + 1 * (j 1).val = (j 1).val; omega
  | ⟨2, _⟩ => show win0_0.index t (2 : Fin 3) * 1024 + 1 * (j 2).val = (j 2).val; omega

theorem idx1 : ∀ t : Fin cfg0.N, win0_1.index t 0 = 0 ∧ win0_1.index t 1 = 0 :=
  (by decide +kernel : ∀ t : Fin grid0.N, win0_1.index t 0 = 0 ∧ win0_1.index t 1 = 0)

theorem emb1 (t : Fin cfg0.N) (j : S1x1024.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem idx2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)

theorem emb2 (t : Fin cfg0.N) (j : S1x128x1024.Idx) : ((cfg0.win 2).blk t).view.emb j = j := by
  obtain ⟨e0, e1, e2⟩ := idx2 t
  have h0 : (j 0).val < 1 := (j 0).isLt
  funext a; apply Fin.ext
  match a with
  | ⟨0, _⟩ => show win0_2.index t (0 : Fin 3) * 1 + 1 * (j 0).val = (j 0).val; omega
  | ⟨1, _⟩ => show win0_2.index t (1 : Fin 3) * 128 + 1 * (j 1).val = (j 1).val; omega
  | ⟨2, _⟩ => show win0_2.index t (2 : Fin 3) * 1024 + 1 * (j 2).val = (j 2).val; omega

theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

theorem emb3 (t : Fin cfg0.N) (j : S1x128x1024.Idx) : ((cfg0.win 3).blk t).view.emb j = j := by
  obtain ⟨e0, e1, e2⟩ := idx3 t
  have h0 : (j 0).val < 1 := (j 0).isLt
  funext a; apply Fin.ext
  match a with
  | ⟨0, _⟩ => show win0_3.index t (0 : Fin 3) * 1 + 1 * (j 0).val = (j 0).val; omega
  | ⟨1, _⟩ => show win0_3.index t (1 : Fin 3) * 128 + 1 * (j 1).val = (j 1).val; omega
  | ⟨2, _⟩ => show win0_3.index t (2 : Fin 3) * 1024 + 1 * (j 2).val = (j 2).val; omega

theorem idx4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)

theorem emb4 (t : Fin cfg0.N) (j : S1x128x1024.Idx) : ((cfg0.win 4).blk t).view.emb j = j := by
  obtain ⟨e0, e1, e2⟩ := idx4 t
  have h0 : (j 0).val < 1 := (j 0).isLt
  funext a; apply Fin.ext
  match a with
  | ⟨0, _⟩ => show win0_4.index t (0 : Fin 3) * 1 + 1 * (j 0).val = (j 0).val; omega
  | ⟨1, _⟩ => show win0_4.index t (1 : Fin 3) * 128 + 1 * (j 1).val = (j 1).val; omega
  | ⟨2, _⟩ => show win0_4.index t (2 : Fin 3) * 1024 + 1 * (j 2).val = (j 2).val; omega

theorem idx5 : ∀ t : Fin cfg0.N, win0_5.index t 0 = 0 ∧ win0_5.index t 1 = t.val % 11 :=
  (by decide +kernel : ∀ t : Fin grid0.N, win0_5.index t 0 = 0 ∧ win0_5.index t 1 = t.val % 11)

theorem emb5 (t : Fin cfg0.N) (j : S1024x256.Idx) : ((cfg0.win 5).blk t).view.emb j = ix2 (j 0) (colG t (j 1)) := by
  obtain ⟨e0, e1⟩ := idx5 t
  funext a; apply Fin.ext
  match a with
  | ⟨0, _⟩ => show win0_5.index t (0 : Fin 2) * 1024 + 1 * (j 0).val = (j 0).val; omega
  | ⟨1, _⟩ => show win0_5.index t (1 : Fin 2) * 256 + 1 * (j 1).val = 256 * (t.val % 11) + (j 1).val; omega

theorem idx6 : ∀ t : Fin cfg0.N, win0_6.index t 0 = 0 ∧ win0_6.index t 1 = 11 + t.val % 11 :=
  (by decide +kernel : ∀ t : Fin grid0.N, win0_6.index t 0 = 0 ∧ win0_6.index t 1 = 11 + t.val % 11)

theorem emb6 (t : Fin cfg0.N) (j : S1024x256.Idx) : ((cfg0.win 6).blk t).view.emb j = ix2 (j 0) (colU t (j 1)) := by
  obtain ⟨e0, e1⟩ := idx6 t
  funext a; apply Fin.ext
  match a with
  | ⟨0, _⟩ => show win0_6.index t (0 : Fin 2) * 1024 + 1 * (j 0).val = (j 0).val; omega
  | ⟨1, _⟩ => show win0_6.index t (1 : Fin 2) * 256 + 1 * (j 1).val = 2816 + (256 * (t.val % 11) + (j 1).val); omega

theorem idx7 : ∀ t : Fin cfg0.N, win0_7.index t 0 = t.val % 11 ∧ win0_7.index t 1 = 0 :=
  (by decide +kernel : ∀ t : Fin grid0.N, win0_7.index t 0 = t.val % 11 ∧ win0_7.index t 1 = 0)

theorem emb7 (t : Fin cfg0.N) (j : S256x1024.Idx) : ((cfg0.win 7).blk t).view.emb j = ix2 (mid t (j 0)) (j 1) := by
  obtain ⟨e0, e1⟩ := idx7 t
  have h0 : (j 0).val < 256 := (j 0).isLt
  funext a; apply Fin.ext
  match a with
  | ⟨0, _⟩ => show win0_7.index t (0 : Fin 2) * 256 + 1 * (j 0).val = (256 * (t.val % 11) + (j 0).val) % 2816; omega
  | ⟨1, _⟩ => show win0_7.index t (1 : Fin 2) * 1024 + 1 * (j 1).val = (j 1).val; omega

theorem idx8 : ∀ t : Fin cfg0.N, win0_8.index t 0 = 0 ∧ win0_8.index t 1 = 0 :=
  (by decide +kernel : ∀ t : Fin grid0.N, win0_8.index t 0 = 0 ∧ win0_8.index t 1 = 0)

theorem emb8 (t : Fin cfg0.N) (j : S1x1024.Idx) : ((cfg0.win 8).blk t).view.emb j = j := by
  obtain ⟨e0, e1⟩ := idx8 t
  funext a; apply Fin.ext
  match a with
  | ⟨0, _⟩ => show win0_8.index t (0 : Fin 2) * 1 + 1 * (j 0).val = (j 0).val; omega
  | ⟨1, _⟩ => show win0_8.index t (1 : Fin 2) * 1024 + 1 * (j 1).val = (j 1).val; omega

theorem idx9 : ∀ t : Fin cfg0.N, win0_9.index t 0 = 0 ∧ win0_9.index t 1 = 0 ∧ win0_9.index t 2 = 0 :=
  (by decide +kernel : ∀ t : Fin grid0.N, win0_9.index t 0 = 0 ∧ win0_9.index t 1 = 0 ∧ win0_9.index t 2 = 0)

theorem emb9 (t : Fin cfg0.N) (j : S1x128x1024.Idx) : ((cfg0.win 9).blk t).view.emb j = j := by
  obtain ⟨e0, e1, e2⟩ := idx9 t
  have h0 : (j 0).val < 1 := (j 0).isLt
  funext a; apply Fin.ext
  match a with
  | ⟨0, _⟩ => show win0_9.index t (0 : Fin 3) * 1 + 1 * (j 0).val = (j 0).val; omega
  | ⟨1, _⟩ => show win0_9.index t (1 : Fin 3) * 128 + 1 * (j 1).val = (j 1).val; omega
  | ⟨2, _⟩ => show win0_9.index t (2 : Fin 3) * 1024 + 1 * (j 2).val = (j 2).val; omega

/-! ## What each window's block shows -/

theorem blk0 (t : Fin cfg0.N) (j : S1x128x1024.Idx) : (iblk m c 0 t : Vec Ideal S1x128x1024 .f32) j = (m ((c : Thread nD τ).loc main_arg0) : Vec Ideal S1x128x1024 .f32) j := by
  show V m c main_arg0 (((cfg0.win 0).blk t).view.emb j) = _
  rw [emb0, V_main_arg0]

theorem blk1 (t : Fin cfg0.N) (a : Fin 1) (j : Fin 1024) : (iblk m c 1 t : Vec Ideal S1x1024 .f32) (ix2 a j) = (m ((c : Thread nD τ).loc main_arg1) : Vec Ideal S1024 .f32) (ix1 j) := by
  show V m c main_v0 (((cfg0.win 1).blk t).view.emb (ix2 a j)) = _
  rw [emb1, V_v0]
  exact row_vec _ a j

theorem blk2 (t : Fin cfg0.N) (j : S1x128x1024.Idx) : (iblk m c 2 t : Vec Ideal S1x128x1024 .f32) j = (m ((c : Thread nD τ).loc main_arg2) : Vec Ideal S1x128x1024 .f32) j := by
  show V m c main_arg2 (((cfg0.win 2).blk t).view.emb j) = _
  rw [emb2, V_main_arg2]

theorem blk3 (t : Fin cfg0.N) (j : S1x128x1024.Idx) : (iblk m c 3 t : Vec Ideal S1x128x1024 .f32) j = (m ((c : Thread nD τ).loc main_arg3) : Vec Ideal S1x128x1024 .f32) j := by
  show V m c main_arg3 (((cfg0.win 3).blk t).view.emb j) = _
  rw [emb3, V_main_arg3]

theorem blk4 (t : Fin cfg0.N) (j : S1x128x1024.Idx) : (iblk m c 4 t : Vec Ideal S1x128x1024 .f32) j = (m ((c : Thread nD τ).loc main_arg4) : Vec Ideal S1x128x1024 .f32) j := by
  show V m c main_arg4 (((cfg0.win 4).blk t).view.emb j) = _
  rw [emb4, V_main_arg4]

theorem blk5 (t : Fin cfg0.N) (j : S1024x256.Idx) : (iblk m c 5 t : Vec Ideal S1024x256 .bf16) j = (m ((c : Thread nD τ).loc main_arg5) : Vec Ideal S1024x5632 .bf16) (ix2 (j 0) (colG t (j 1))) := by
  show V m c main_arg5 (((cfg0.win 5).blk t).view.emb j) = _
  rw [emb5, V_main_arg5]
  rfl

theorem blk6 (t : Fin cfg0.N) (j : S1024x256.Idx) : (iblk m c 6 t : Vec Ideal S1024x256 .bf16) j = (m ((c : Thread nD τ).loc main_arg5) : Vec Ideal S1024x5632 .bf16) (ix2 (j 0) (colU t (j 1))) := by
  show V m c main_arg5 (((cfg0.win 6).blk t).view.emb j) = _
  rw [emb6, V_main_arg5]
  rfl

theorem blk7 (t : Fin cfg0.N) (j : S256x1024.Idx) : (iblk m c 7 t : Vec Ideal S256x1024 .bf16) j = (m ((c : Thread nD τ).loc main_arg6) : Vec Ideal S2816x1024 .bf16) (ix2 (mid t (j 0)) (j 1)) := by
  show V m c main_arg6 (((cfg0.win 7).blk t).view.emb j) = _
  rw [emb7, V_main_arg6]
  rfl

theorem blk8 (t : Fin cfg0.N) (a : Fin 1) (j : Fin 1024) : (iblk m c 8 t : Vec Ideal S1x1024 .f32) (ix2 a j) = (m ((c : Thread nD τ).loc main_arg7) : Vec Ideal S1024 .f32) (ix1 j) := by
  show V m c main_v1 (((cfg0.win 8).blk t).view.emb (ix2 a j)) = _
  rw [emb8, V_v1]
  exact row_vec _ a j

end Cert.Kernel10Ideal.FfnS

end
-- ==== Proof.FfnSCases.lean ====
/-
  The feed-forward call at the sample's shape, its three kinds of step: what each leaves in the token scratch, in the accumulator and in the
  result's block, as the body's own expressions of the blocks and of what the step before left.
-/
module

public import proofs.«01_k».proof.Proof.Gen.Kernel10Ideal.Value
public import Idealize.ShloMosaic.Lib.Tactic
public import Idealize.ShloMosaic.Lib.Pointwise

@[expose] public section

noncomputable section

namespace Cert.Kernel10Ideal.FfnS

open Idealize.ShloMosaic Idealize.ShloMosaic.TcCoe Idealize.ShloMosaic.Tactic Cert.Kernel10Ideal Cert.Kernel10Ideal.Gen

theorem hz3 : (![0, 0, 0] : Fin 3 → Nat) = fun _ => 0 := funext fun a => by fin_cases a <;> rfl
theorem hz2 : (![0, 0] : Fin 2 → Nat) = fun _ => 0 := funext fun a => by fin_cases a <;> rfl

variable (c : Dev nD) (i : grid0.Coords) (arg3 : Memref sig .tc .vmem S1x128x1024 .f32) (harg3 : arg3.IsWhole) (arg4 : Memref sig .tc .vmem S1x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S1x128x1024 .f32) (harg12 : arg12.IsWhole) (arg13 : Memref sig .tc .vmem S128x1024 .bf16) (harg13 : arg13.IsWhole) (arg14 : Memref sig .tc .vmem S128x1024 .f32) (harg14 : arg14.IsWhole)

section first

variable (hc0 : cond0_0 i) (hc1 : ¬cond0_1 i) (x0 : Vec Ideal S1x128x1024 .f32) (x1 : Vec Ideal S1x1024 .f32) (x2 x3 x4 : Vec Ideal S1x128x1024 .f32) (x5 x6 : Vec Ideal S1024x256 .bf16) (x7 : Vec Ideal S256x1024 .bf16) (x8 : Vec Ideal S1x1024 .f32)

/-- The first step keeps the normalised tokens. -/
theorem keep_A : sout0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay1 (F := Ideal) x0 x1 x3 x2 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x128x1024) hz3, View.ld_unit_zero (S := S1x1024) hz2, View.ld_unit_zero (S := S1024x256) hz2, View.ld_unit_zero (S := S256x1024) hz2, View.ld_unit_zero (S := S128x1024) hz2]

/-- The first step's accumulator is its own chunk added to zero. -/
theorem acc_A : sout0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay3 (F := Ideal) (k0_pay1 (F := Ideal) x0 x1 x3 x2) x5 x6 (k0_pay2 (F := Ideal)) x7 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S128x1024) hz2]
  simp only [View.readCov_unit_zero (S := S128x1024) _ hz2, View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x128x1024) hz3, View.ld_unit_zero (S := S1x1024) hz2, View.ld_unit_zero (S := S1024x256) hz2, View.ld_unit_zero (S := S256x1024) hz2, View.ld_unit_zero (S := S128x1024) hz2]

end first

section later

variable (x0 : Vec Ideal S1x128x1024 .f32) (x1 : Vec Ideal S1x1024 .f32) (x2 x3 x4 : Vec Ideal S1x128x1024 .f32) (x5 x6 : Vec Ideal S1024x256 .bf16) (x7 : Vec Ideal S256x1024 .bf16) (x8 : Vec Ideal S1x1024 .f32) (xs0 : Vec Ideal S128x1024 .bf16) (xs1 : Vec Ideal S128x1024 .f32)

/-- A middle step adds its chunk to the accumulator. -/
theorem acc_B (hc0 : ¬cond0_0 i) (hc1 : ¬cond0_1 i) : sout0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay3 (F := Ideal) xs0 x5 x6 xs1 x7 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x128x1024) hz3, View.ld_unit_zero (S := S1x1024) hz2, View.ld_unit_zero (S := S1024x256) hz2, View.ld_unit_zero (S := S256x1024) hz2, View.ld_unit_zero (S := S128x1024) hz2]

/-- The last step's result is that of the accumulator with its own chunk added. -/
theorem out_C (hc0 : ¬cond0_0 i) (hc1 : cond0_1 i) :
    out0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay4 (F := Ideal) x0 x4 (k0_pay3 (F := Ideal) xs0 x5 x6 xs1 x7) x8 := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  sl_unfold_words
  rw [View.canon_unit_zero hz3]
  simp only [View.readCov_unit_zero (S := S128x1024) _ hz2, View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x128x1024) hz3, View.ld_unit_zero (S := S1x1024) hz2, View.ld_unit_zero (S := S1024x256) hz2, View.ld_unit_zero (S := S256x1024) hz2, View.ld_unit_zero (S := S128x1024) hz2]

end later

end Cert.Kernel10Ideal.FfnS

end
-- ==== Proof.FfnSBlock.lean ====
/-
  The feed-forward call at the sample's shape, one step of the body: the normalised tokens, one chunk's addition to the accumulator, and the
  result from the accumulator, each read at one entry.
-/
module

public import proofs.«01_k».proof.Proof.Gen.Kernel10Ideal.Skeleton
public import proofs.«01_k».proof.Proof.Rms
public import proofs.«01_k».proof.Proof.Gate

@[expose] public section

set_option maxRecDepth 100000

noncomputable section

namespace Cert.Kernel10Ideal.FfnS

open Idealize.ShloMosaic Idealize.ShloMosaic.TcCoe Cert.Kernel10Ideal Cert.Kernel10Ideal.Gen Cert.Layer

/-- The tokens the first step keeps are the normalised and modulated ones. -/
theorem h_apply (x : Vec Ideal S1x128x1024 .f32) (g : Vec Ideal S1x1024 .f32) (sc sh : Vec Ideal S1x128x1024 .f32) (r : Fin 128) (u : Fin 1024) :
    k0_pay1 (F := Ideal) x g sc sh (ix2 r u)
      = modE (fun u => x (ix3 0 r u)) (fun u => g (ix2 0 u)) (fun u => sc (ix3 0 r u)) (fun u => sh (ix3 0 r u)) u := by
  pointwise [k0_pay1]
  simp only [modE, rmsE]

/-- The accumulator starts at zero. -/
theorem zero_apply (r : Fin 128) (u : Fin 1024) : k0_pay2 (F := Ideal) (ix2 r u) = (0 : EReal) := by
  pointwise [k0_pay2]

/-- One chunk adds its 256 products. -/
theorem acc_apply (h : Vec Ideal S128x1024 .bf16) (wg wu : Vec Ideal S1024x256 .bf16) (acc : Vec Ideal S128x1024 .f32) (wd : Vec Ideal S256x1024 .bf16)
    (r : Fin 128) (j : Fin 1024) :
    k0_pay3 (F := Ideal) h wg wu acc wd (ix2 r j)
      = acc (ix2 r j) + ∑ v : Fin 256, (((∑ u : Fin 1024, h (ix2 r u) * wg (ix2 u v)) * Ideal.logistic (∑ u : Fin 1024, h (ix2 r u) * wg (ix2 u v))) * (∑ u : Fin 1024, h (ix2 r u) * wu (ix2 u v))) * wd (ix2 v j) := by
  pointwise [k0_pay3]
  simp only [halfTanh_def]

/-- The result normalises the residual sum and multiplies by the last gain. -/
theorem res_apply (x : Vec Ideal S1x128x1024 .f32) (gt : Vec Ideal S1x128x1024 .f32) (acc : Vec Ideal S128x1024 .f32) (fg : Vec Ideal S1x1024 .f32)
    (a : Fin 1) (r : Fin 128) (j : Fin 1024) :
    k0_pay4 (F := Ideal) x gt acc fg (ix3 a r j)
      = ((x (ix3 0 r j) + gt (ix3 0 r j) * acc (ix2 r j) : EReal) * rmsE fun u => x (ix3 0 r u) + gt (ix3 0 r u) * acc (ix2 r u)) * fg (ix2 0 j) := by
  pointwise [k0_pay4]
  simp only [rmsE]

end Cert.Kernel10Ideal.FfnS

end
-- ==== Proof.FfnSSteps.lean ====
/-
  The feed-forward call at the sample's shape, its eleven steps: the token scratch holds the normalised tokens from the first step on,
  and after step `k` the accumulator holds the first `k + 1` chunks' sum.
-/
module

public import proofs.«01_k».proof.Proof.FfnSWindows
public import proofs.«01_k».proof.Proof.FfnSCases
public import proofs.«01_k».proof.Proof.FfnSBlock
public import proofs.«01_k».proof.Proof.Ffn

@[expose] public section

noncomputable section

namespace Cert.Kernel10Ideal.FfnS

open Idealize.ShloMosaic Idealize.ShloMosaic.TcCoe Cert.Kernel10Ideal Cert.Kernel10Ideal.Gen Cert.Layer

variable (m : (ℓ : Loc nD τ sig) → Buf (Elt Ideal) ℓ) (c : Dev nD)

/-- Token `n`. -/
def xE (n : Fin 128) (u : Fin 1024) : EReal := (m ((c : Thread nD τ).loc main_arg0) : Vec Ideal S1x128x1024 .f32) (ix3 0 n u)
/-- The token normalised and modulated. -/
def hE (n : Fin 128) : Fin 1024 → EReal :=
  modE (xE m c n) (fun u => (m ((c : Thread nD τ).loc main_arg1) : Vec Ideal S1024 .f32) (ix1 u))
    (fun u => (m ((c : Thread nD τ).loc main_arg3) : Vec Ideal S1x128x1024 .f32) (ix3 0 n u))
    (fun u => (m ((c : Thread nD τ).loc main_arg2) : Vec Ideal S1x128x1024 .f32) (ix3 0 n u))
/-- The widening weight. -/
def wE (u : Fin 1024) (j : Fin 5632) : EReal := (m ((c : Thread nD τ).loc main_arg5) : Vec Ideal S1024x5632 .bf16) (ix2 u j)
/-- The narrowing weight. -/
def woE (v : Fin 2816) (j : Fin 1024) : EReal := (m ((c : Thread nD τ).loc main_arg6) : Vec Ideal S2816x1024 .bf16) (ix2 v j)
/-- The gate of token `n`. -/
def gtE (n : Fin 128) (u : Fin 1024) : EReal := (m ((c : Thread nD τ).loc main_arg4) : Vec Ideal S1x128x1024 .f32) (ix3 0 n u)
/-- The last gain. -/
def fgE (u : Fin 1024) : EReal := (m ((c : Thread nD τ).loc main_arg7) : Vec Ideal S1024 .f32) (ix1 u)

/-- The products a token's column sums. -/
def pE (n : Fin 128) (j : Fin 1024) : Fin 2816 → EReal := prodE (hE m c n) (wE m c) (woE m c) j

/-- The tokens the first step keeps. -/
theorem keep_first (t : Fin cfg0.N) (r : Fin 128) (u : Fin 1024) :
    k0_pay1 (F := Ideal) (iblk m c 0 t) (iblk m c 1 t) (iblk m c 3 t) (iblk m c 2 t) (ix2 r u) = hE m c r u := by
  refine (h_apply _ _ _ _ r u).trans ?_
  unfold hE
  congr 1
  · funext u; exact blk0 m c t _
  · funext u; exact blk1 m c t 0 u
  · funext u; exact blk3 m c t _
  · funext u; exact blk2 m c t _

theorem wide_first (t : Fin cfg0.N) (hv : Vec Ideal S128x1024 .bf16) (r : Fin 128) (v : Fin 256)
    (hh : ∀ u : Fin 1024, hv (ix2 r u) = hE m c r u) :
    ∑ u : Fin 1024, hv (ix2 r u) * (iblk m c 5 t : Vec Ideal S1024x256 .bf16) (ix2 u v)
      = wideE (hE m c r) (wE m c) ⟨(mid t v).val, by omega⟩ := by
  refine Finset.sum_congr rfl fun u _ => ?_
  rw [hh u]
  congr 1
  refine (blk5 m c t _).trans ?_
  show wE m c u (colG t v) = _
  congr 1
  apply Fin.ext
  show 256 * (t.val % 11) + v.val = (256 * (t.val % 11) + v.val) % 2816
  omega

theorem wide_second (t : Fin cfg0.N) (hv : Vec Ideal S128x1024 .bf16) (r : Fin 128) (v : Fin 256)
    (hh : ∀ u : Fin 1024, hv (ix2 r u) = hE m c r u) :
    ∑ u : Fin 1024, hv (ix2 r u) * (iblk m c 6 t : Vec Ideal S1024x256 .bf16) (ix2 u v)
      = wideE (hE m c r) (wE m c) ⟨2816 + (mid t v).val, by omega⟩ := by
  refine Finset.sum_congr rfl fun u _ => ?_
  rw [hh u]
  congr 1
  refine (blk6 m c t _).trans ?_
  show wE m c u (colU t v) = _
  congr 1
  apply Fin.ext
  show 2816 + (256 * (t.val % 11) + v.val) = 2816 + (256 * (t.val % 11) + v.val) % 2816
  omega

/-- What one step adds to the accumulator is its chunk of the sum. -/
theorem step_eq (t : Fin cfg0.N) (hv : Vec Ideal S128x1024 .bf16) (acc : Vec Ideal S128x1024 .f32) (r : Fin 128) (j : Fin 1024)
    (hh : ∀ u : Fin 1024, hv (ix2 r u) = hE m c r u) :
    k0_pay3 (F := Ideal) hv (iblk m c 5 t) (iblk m c 6 t) acc (iblk m c 7 t) (ix2 r j)
      = (acc (ix2 r j) : EReal) + chunkE (pE m c r j) (t.val % 11) := by
  refine (acc_apply _ _ _ _ _ r j).trans ?_
  congr 1
  refine Finset.sum_congr rfl fun v _ => ?_
  rw [wide_first m c t hv r v hh, wide_second m c t hv r v hh]
  show _ = actE (hE m c r) (wE m c) (mid t v) * woE m c (mid t v) j
  unfold actE
  congr 1
  exact blk7 m c t _

/-- What the scratches hold after a step that is not the last. -/
theorem held : ∀ (n : ℕ) (h : n < cfg0.N), n % 11 ≠ 10 → ∀ r : Fin 128,
    (∀ u : Fin 1024, (outsAt0 m c n h).2.1 (ix2 r u) = hE m c r u)
      ∧ ∀ j : Fin 1024, (outsAt0 m c n h).2.2 (ix2 r j)
          = (∑ k ∈ Finset.range (n % 11 + 1), chunkE (pE m c r j) k : EReal) := by
  intro n
  induction n with
  | zero =>
    intro h hn r
    have e := outsAt0_A m c ⟨0, h⟩ rfl hn
    refine ⟨fun u => ?_, fun j => ?_⟩
    · refine (congrFun (congrArg (fun p => p.2.1) e) (ix2 r u)).trans ?_
      dsimp only
      rw [keep_A]
      exact keep_first m c ⟨0, h⟩ r u
    · refine (congrFun (congrArg (fun p => p.2.2) e) (ix2 r j)).trans ?_
      dsimp only
      rw [acc_A]
      refine (step_eq m c ⟨0, h⟩ _ _ r j fun u => keep_first m c ⟨0, h⟩ r u).trans ?_
      rw [zero_apply, zero_add]
      simp
  | succ n ih =>
    intro h hn r
    by_cases h0 : (n + 1) % 11 = 0
    · have e := outsAt0_A m c ⟨n + 1, h⟩ h0 hn
      refine ⟨fun u => ?_, fun j => ?_⟩
      · refine (congrFun (congrArg (fun p => p.2.1) e) (ix2 r u)).trans ?_
        dsimp only
        rw [keep_A]
        exact keep_first m c ⟨n + 1, h⟩ r u
      · refine (congrFun (congrArg (fun p => p.2.2) e) (ix2 r j)).trans ?_
        dsimp only
        rw [acc_A]
        refine (step_eq m c ⟨n + 1, h⟩ _ _ r j fun u => keep_first m c ⟨n + 1, h⟩ r u).trans ?_
        rw [zero_apply, zero_add, h0]
        simp [h0]
    · have e := outsAt0_B m c ⟨n + 1, h⟩ h0 hn
      obtain ⟨i1, i2⟩ := ih (Nat.lt_of_succ_lt h) (by omega) r
      refine ⟨fun u => ?_, fun j => ?_⟩
      · refine (congrFun (congrArg (fun p => p.2.1) e) (ix2 r u)).trans ?_
        exact i1 u
      · refine (congrFun (congrArg (fun p => p.2.2) e) (ix2 r j)).trans ?_
        dsimp only
        rw [acc_B]
        refine (step_eq m c ⟨n + 1, h⟩ _ _ r j i1).trans ?_
        rw [show (n + 1) % 11 = n % 11 + 1 by omega, Finset.sum_range_succ _ (n % 11 + 1)]
        exact congrArg (· + _) (i2 j)

/-- The accumulator with the last chunk added holds the whole sum. -/
theorem whole (t : Fin cfg0.N) (h0 : ¬t.val % 11 = 0) (h1 : t.val % 11 = 10) (r : Fin 128) (j : Fin 1024) :
    k0_pay3 (F := Ideal) (outsAt0 m c (t.val - 1) (Nat.lt_of_le_of_lt (Nat.sub_le _ _) t.isLt)).2.1 (iblk m c 5 t) (iblk m c 6 t)
        (outsAt0 m c (t.val - 1) (Nat.lt_of_le_of_lt (Nat.sub_le _ _) t.isLt)).2.2 (iblk m c 7 t) (ix2 r j)
      = (∑ v, pE m c r j v : EReal) := by
  have hp : t.val - 1 < cfg0.N := Nat.lt_of_le_of_lt (Nat.sub_le _ _) t.isLt
  obtain ⟨i1, i2⟩ := held m c (t.val - 1) hp (by omega) r
  refine (step_eq m c t _ _ r j i1).trans ?_
  rw [i2 j, h1, show (t.val - 1) % 11 + 1 = 10 by omega, ← Finset.sum_range_succ, chunks_sum]

end Cert.Kernel10Ideal.FfnS

end
-- ==== Proof.FfnSKernel.lean ====
/-
  The feed-forward call at the sample's shape, its result array: at each entry the feed-forward network of that token.
-/
module

public import proofs.«01_k».proof.Proof.FfnSSteps

@[expose] public section

noncomputable section

namespace Cert.Kernel10Ideal.FfnS

open Idealize.ShloMosaic Idealize.ShloMosaic.TcCoe Cert.Kernel10Ideal Cert.Kernel10Ideal.Gen Cert.Layer

variable (m : (ℓ : Loc nD τ sig) → Buf (Elt Ideal) ℓ) (c : Dev nD)

/-- What the result array holds. -/
def arr : Vec Ideal S1x128x1024 .f32 := fun i =>
  ffnE (xE m c (i 1 : Fin 128)) (gtE m c (i 1 : Fin 128)) (fgE m c) (hE m c (i 1 : Fin 128)) (wE m c) (woE m c) (i 2 : Fin 1024)

/-- The last step's result from what its blocks and the accumulator hold. -/
theorem res_ffn (x : Vec Ideal S1x128x1024 .f32) (gt : Vec Ideal S1x128x1024 .f32) (acc : Vec Ideal S128x1024 .f32) (fg : Vec Ideal S1x1024 .f32)
    (a : Fin 1) (r : Fin 128) (j : Fin 1024) {xe ge fe h : Fin 1024 → EReal} {w : Fin 1024 → Fin 5632 → EReal} {wo : Fin 2816 → Fin 1024 → EReal}
    (hx : ∀ u, x (ix3 0 r u) = xe u) (hg : ∀ u, gt (ix3 0 r u) = ge u) (ha : ∀ u, acc (ix2 r u) = ∑ v, prodE h w wo u v) (hf : fg (ix2 0 j) = fe j) :
    k0_pay4 (F := Ideal) x gt acc fg (ix3 a r j) = ffnE xe ge fe h w wo j := by
  refine (res_apply x gt acc fg a r j).trans ?_
  simp only [hx, hg, ha, hf]
  rfl

/-- What the last step leaves in the result's block. -/
theorem out_at (t : Fin cfg0.N) (h0 : ¬t.val % 11 = 0) (h1 : t.val % 11 = 10) (a : Fin 1) (r : Fin 128) (j : Fin 1024) :
    k0_pay4 (F := Ideal) (iblk m c 0 t) (iblk m c 4 t)
        (k0_pay3 (F := Ideal) (outsAt0 m c (t.val - 1) (Nat.lt_of_le_of_lt (Nat.sub_le _ _) t.isLt)).2.1 (iblk m c 5 t) (iblk m c 6 t)
          (outsAt0 m c (t.val - 1) (Nat.lt_of_le_of_lt (Nat.sub_le _ _) t.isLt)).2.2 (iblk m c 7 t)) (iblk m c 8 t) (ix3 a r j)
      = arr m c (ix3 a r j) := by
  exact res_ffn _ _ _ _ a r j (fun u => blk0 m c t _) (fun u => blk4 m c t _) (fun u => whole m c t h0 h1 r u) (blk8 m c t 0 j)

theorem flush_mod (t : Fin cfg0.N) (hf : (cfg0.win 9).flush t = true) : t.val % 11 = 10 :=
  (by decide +kernel : ∀ t : Fin grid0.N, win0_9.flush t = true → t.val % 11 = 10) t hf

theorem mod_flush (t : Fin cfg0.N) (h : t.val % 11 = 10) : (cfg0.win 9).flush t = true :=
  (by decide +kernel : ∀ t : Fin grid0.N, t.val % 11 = 10 → win0_9.flush t = true) t h

theorem flushed_eq (t : Fin cfg0.N) (hf : (cfg0.win 9).flush t = true) :
    (dats m 0 c).flushed 9 t = ((cfg0.win 9).blk t).view.read (Elt Ideal) (arr m c) := by
  have h1 := flush_mod t hf
  have h0 : ¬t.val % 11 = 0 := by omega
  rw [Value.flushed9_C m c t h0 h1, out_C]
  funext y
  refine Eq.trans ?_ (congrArg (arr m c) (emb9 t y).symm)
  refine Eq.trans ?_ (out_at m c t h0 h1 (y 0) (y 1) (y 2))
  exact congrArg (k0_pay4 (F := Ideal) (iblk m c 0 t) (iblk m c 4 t)
        (k0_pay3 (F := Ideal) (outsAt0 m c (t.val - 1) (Nat.lt_of_le_of_lt (Nat.sub_le _ _) t.isLt)).2.1 (iblk m c 5 t) (iblk m c 6 t)
          (outsAt0 m c (t.val - 1) (Nat.lt_of_le_of_lt (Nat.sub_le _ _) t.isLt)).2.2 (iblk m c 7 t)) (iblk m c 8 t)) (eq_ix3 (n0 := 1) (n1 := 128) (n2 := 1024) y)

theorem cover (i : S1x128x1024.Idx) : ∃ t : Fin cfg0.N, (cfg0.win 9).flush t = true ∧ i ∈ ((cfg0.win 9).blk t).view.set := by
  refine ⟨⟨10, by show _ < 11; omega⟩, mod_flush _ rfl, ?_⟩
  have h := ((cfg0.win 9).blk (⟨10, by show _ < 11; omega⟩ : Fin cfg0.N)).view.emb_mem_set i
  rw [emb9] at h
  exact h

/-- The result array. -/
theorem final : (dats m 0 c).arrAt 9 cfg0.N = arr m c :=
  (dats m 0 c).arrAt_eq_of_cover 9 (arr m c) (fun t hf => flushed_eq m c t hf) cover

end Cert.Kernel10Ideal.FfnS

end
-- ==== Proof.FfnSRef.lean ====
/-
  The feed-forward call at the sample's shape, its reference, stage by stage: the normalised tokens, the widened product, its gated half, the
  residual sum and the last normalisation, each read at one entry.
-/
module

public import proofs.«01_k».proof.Proof.Gen.Reference10Ideal.Run
public import proofs.«01_k».proof.Proof.Ffn

@[expose] public section

set_option maxRecDepth 100000

noncomputable section

namespace Cert.Reference10Ideal.FfnS

open Idealize.ShloMosaic Idealize.ShloMosaic.TcCoe Cert.Reference10Ideal Cert.Reference10Ideal.Gen Cert.Layer

/-- Every token over the root of its mean square. -/
def nrm (x : FVec Ideal S1x128x1024 .f32) : FVec Ideal S1x128x1024 .f32 :=
  mulf x (broadcastInDim S1x128x1024 ![0, 1, 2] bcast_S1x128x1_S1x128x1024_0_1_2 (Host.rsqrt (addf (Host.divf (broadcastInDim S1x128x1 ![0, 1] bcast_S1x128_S1x128x1_0_1 (Host.reduceAdd (mulf x x) (constant S_ .f32 0x00000000#32) reducesTo_S1x128x1024_S1x128_d2 h_S_)) (broadcastInDim S1x128x1 ![] bcast_S_S1x128x1 (constant S_ .f32 0x44800000#32))) (broadcastInDim S1x128x1 ![] bcast_S_S1x128x1 (constant S_ .f32 0x358637BD#32)))))

/-- A row of gains, over every token. -/
def gain (g : FVec Ideal S1024 .f32) : FVec Ideal S1x128x1024 .f32 :=
  broadcastInDim S1x128x1024 ![0, 1, 2] bcast_S1x1x1024_S1x128x1024_0_1_2 (broadcastInDim S1x1x1024 ![2] bcast_S1024_S1x1x1024_2 g)

/-- The widened product of the normalised and modulated tokens. -/
def wide (x : FVec Ideal S1x128x1024 .f32) (g : FVec Ideal S1024 .f32) (sh sc : FVec Ideal S1x128x1024 .f32) (w : FVec Ideal S1024x5632 .bf16) : FVec Ideal S1x128x5632 .f32 :=
  Host.dotGeneral (F := Ideal) (so := S1x128x5632) (φ₁ := .f32) (φ₂ := .f32) dot_S1x128x1024_S1024x5632_S1x128x5632_2_0_01_1_n_n none (addf (mulf (mulf (nrm x) (gain g)) (addf (broadcastInDim S1x128x1024 ![] bcast_S_S1x128x1024 (constant S_ .f32 0x3F800000#32)) sc)) sh) (extf .f32 w bitsLt_bf16_f32)

/-- The first half through its own logistic function, times the second half. -/
def gated (z : FVec Ideal S1x128x5632 .f32) : FVec Ideal S1x128x2816 .f32 :=
  mulf (mulf (extractStridedSlice S1x128x2816 ![0, 0, 0] z slices_S1x128x5632_S1x128x2816_0_0_0) (Host.divf (broadcastInDim S1x128x2816 ![] bcast_S_S1x128x2816 (constant S_ .f32 0x3F800000#32)) (addf (broadcastInDim S1x128x2816 ![] bcast_S_S1x128x2816 (constant S_ .f32 0x3F800000#32)) (Host.exp (Host.negf (extractStridedSlice S1x128x2816 ![0, 0, 0] z slices_S1x128x5632_S1x128x2816_0_0_0)))))) (extractStridedSlice S1x128x2816 ![0, 0, 2816] z slices_S1x128x5632_S1x128x2816_0_0_2816)

/-- The residual sum. -/
def resid (x : FVec Ideal S1x128x1024 .f32) (gt : FVec Ideal S1x128x1024 .f32) (a : FVec Ideal S1x128x2816 .f32) (w : FVec Ideal S2816x1024 .bf16) : FVec Ideal S1x128x1024 .f32 :=
  addf x (mulf gt (Host.dotGeneral (F := Ideal) (so := S1x128x1024) (φ₁ := .f32) (φ₂ := .f32) dot_S1x128x2816_S2816x1024_S1x128x1024_2_0_01_1_n_n none a (extf .f32 w bitsLt_bf16_f32)))

theorem res_eq (m : (ℓ : Loc nD τ sig) → Buf (Elt Ideal) ℓ) (c : Dev nD) :
    Value.res_main_v39 (F := Ideal) m c
      = mulf (nrm (resid (m ((c.tc : Thread nD τ).loc main_arg0)) (m ((c.tc : Thread nD τ).loc main_arg4))
          (gated (wide (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))))
          (m ((c.tc : Thread nD τ).loc main_arg6)))) (gain (m ((c.tc : Thread nD τ).loc main_arg7))) := rfl

theorem nrm_apply (x : FVec Ideal S1x128x1024 .f32) (n : Fin 128) (u : Fin 1024) :
    nrm x (ix3 0 n u) = (x (ix3 0 n u) : EReal) * rmsE fun u => x (ix3 0 n u) := by
  unfold nrm
  pointwise
  simp only [rmsE]

theorem gain_apply (g : FVec Ideal S1024 .f32) (n : Fin 128) (u : Fin 1024) : gain g (ix3 0 n u) = g (ix1 u) := by
  unfold gain
  pointwise

theorem wide_apply (x : FVec Ideal S1x128x1024 .f32) (g : FVec Ideal S1024 .f32) (sh sc : FVec Ideal S1x128x1024 .f32) (w : FVec Ideal S1024x5632 .bf16)
    (n : Fin 128) (j : Fin 5632) :
    wide x g sh sc w (ix3 0 n j)
      = ∑ u : Fin 1024, modE (fun u => x (ix3 0 n u)) (fun u => g (ix1 u)) (fun u => sc (ix3 0 n u)) (fun u => sh (ix3 0 n u)) u * w (ix2 u j) := by
  unfold wide
  pointwise
  simp only [nrm_apply, gain_apply, modE]

theorem gated_apply (z : FVec Ideal S1x128x5632 .f32) (n : Fin 128) (v : Fin 2816) :
    gated z (ix3 0 n v)
      = ((z (ix3 0 n ⟨v.val, by omega⟩) : EReal) * Ideal.logistic (z (ix3 0 n ⟨v.val, by omega⟩))) * z (ix3 0 n ⟨2816 + v.val, by omega⟩) := by
  unfold gated
  pointwise
  rfl

theorem resid_apply (x : FVec Ideal S1x128x1024 .f32) (gt : FVec Ideal S1x128x1024 .f32) (a : FVec Ideal S1x128x2816 .f32) (w : FVec Ideal S2816x1024 .bf16)
    (n : Fin 128) (j : Fin 1024) :
    resid x gt a w (ix3 0 n j) = (x (ix3 0 n j) : EReal) + gt (ix3 0 n j) * ∑ v : Fin 2816, a (ix3 0 n v) * w (ix2 v j) := by
  unfold resid
  pointwise

/-- The whole reference at one entry: the feed-forward network of that token. -/
theorem ref_apply (x : FVec Ideal S1x128x1024 .f32) (g : FVec Ideal S1024 .f32) (sh sc gt : FVec Ideal S1x128x1024 .f32) (w : FVec Ideal S1024x5632 .bf16)
    (wo : FVec Ideal S2816x1024 .bf16) (fg : FVec Ideal S1024 .f32) (n : Fin 128) (j : Fin 1024) :
    mulf (nrm (resid x gt (gated (wide x g sh sc w)) wo)) (gain fg) (ix3 0 n j)
      = ffnE (fun u => x (ix3 0 n u)) (fun u => gt (ix3 0 n u)) (fun u => fg (ix1 u))
          (modE (fun u => x (ix3 0 n u)) (fun u => g (ix1 u)) (fun u => sc (ix3 0 n u)) (fun u => sh (ix3 0 n u)))
          (fun u j => w (ix2 u j)) (fun v j => wo (ix2 v j)) j := by
  show (nrm (resid x gt (gated (wide x g sh sc w)) wo) (ix3 0 n j) : EReal) * gain fg (ix3 0 n j) = _
  rw [nrm_apply, gain_apply]
  simp only [resid_apply, gated_apply, wide_apply]
  rfl

end Cert.Reference10Ideal.FfnS

end
-- ==== Proof.FfnSEq.lean ====
/-
  The feed-forward call at the sample's shape, its claims: the tiled kernel and the plain reference end with equal results.
-/
module

public import proofs.«01_k».proof.Defs
public import proofs.«01_k».proof.Proof.FfnSKernel
public import proofs.«01_k».proof.Proof.FfnSRef
public import Idealize.ShloMosaic.Lib.Quiescent

@[expose] public section

set_option maxRecDepth 100000

noncomputable section

namespace Cert.FfnS

open Idealize.ShloMosaic Idealize.ShloMosaic.TcCoe

/-- The reference runs, leaves its arguments as they were, and has no semaphore to leave behind. -/
theorem quiescent : Cert.quiescent_Reference10Ideal := fun m g _ =>
  θ_run_mono (Cert.Reference10Ideal.Value.run (F := Ideal) m g) fun r h => ⟨fun c => (h c).2, sem_eq_zero_of_no_sems (by decide) r.2⟩

/-- The kernel's and the reference's results are equal at every entry. -/
theorem equal : Cert.algebraic_Kernel10Ideal_Reference10Ideal := fun m g m' g' _ he => by
  refine ⟨fun c => Cert.Kernel10Ideal.FfnS.arr m c, ?_, ?_⟩
  · refine θ_run_mono (Cert.Kernel10Ideal.Value.run_blocks m g) fun r h c => ?_
    obtain ⟨h0, hk⟩ := h c
    exact ⟨h0.trans (Cert.Kernel10Ideal.FfnS.final m c), hk⟩
  · refine θ_run_mono (Cert.Reference10Ideal.Value.run (F := Ideal) m' g') fun r h c => ?_
    obtain ⟨h0, hk⟩ := h c
    refine ⟨h0.trans ?_, hk⟩
    rw [Cert.Reference10Ideal.FfnS.res_eq]
    obtain ⟨e0, e1, e2, e3, e4, e5, e6, e7⟩ := he c
    rw [e0, e1, e2, e3, e4, e5, e6, e7]
    funext i
    obtain ⟨b, n, j, rfl⟩ : ∃ (b : Fin 1) (n : Fin 128) (j : Fin 1024), i = ix3 b n j := ⟨i 0, i 1, i 2, eq_ix3 (n0 := 1) (n1 := 128) (n2 := 1024) i⟩
    obtain rfl : b = 0 := Subsingleton.elim _ _
    exact Cert.Reference10Ideal.FfnS.ref_apply _ _ _ _ _ _ _ _ _ _

end Cert.FfnS

end
-- ==== Proof.lean ====
/-
  The certificate: each program's run from the generated launch proofs, the reference's from its own, and the value claims
  from the modules beside this one.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_finite6
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Pre_finite9
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.ScanEq
public import proofs.«01_k».proof.Proof.FfnEq
public import proofs.«01_k».proof.Proof.InprojEq
public import proofs.«01_k».proof.Proof.MergeEq
public import proofs.«01_k».proof.Proof.AdaEq
public import proofs.«01_k».proof.Proof.HpEq
public import proofs.«01_k».proof.Proof.GmlpEq
public import proofs.«01_k».proof.Proof.InprojSEq
public import proofs.«01_k».proof.Proof.HpSEq
public import proofs.«01_k».proof.Proof.FfnSEq
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.Gen.facts, Cert.Pre_finite6.Gen.facts, Cert.Pre_finite9.Gen.facts,
  fun m g _ => Cert.Kernel.Gen.frame m g,
  fun m g _ => Cert.KernelIdeal.Gen.frame m g,
  fun m g _ => Cert.KernelIdeal.Gen.frame m g,
  Cert.Scan.quiescent,
  fun m g _ => Cert.Scan.quiescent m g trivial,
  fun m g _ => Cert.Kernel2.Gen.frame m g,
  fun m g _ => Cert.Kernel2Ideal.Gen.frame m g,
  Cert.Ffn.quiescent,
  fun m g _ => Cert.Kernel3.Gen.frame m g,
  fun m g _ => Cert.Kernel3Ideal.Gen.frame m g,
  Cert.Inproj.quiescent,
  fun m g _ => Cert.Kernel4.Gen.frame m g,
  fun m g _ => Cert.Kernel4Ideal.Gen.frame m g,
  Cert.Merge.quiescent,
  fun m g _ => Cert.Kernel5.Gen.frame m g,
  fun m g _ => Cert.Kernel5Ideal.Gen.frame m g,
  Cert.Ada.quiescent,
  fun m g _ => Cert.Kernel6.Gen.frame m g,
  fun m g _ => Cert.Kernel6Ideal.Gen.frame m g,
  fun m g _ => Cert.Kernel6Ideal.Gen.frame m g,
  Cert.Hp.quiescent,
  fun m g _ => Cert.Hp.quiescent m g trivial,
  fun m g _ => Cert.Kernel7.Gen.frame m g,
  fun m g _ => Cert.Kernel7Ideal.Gen.frame m g,
  Cert.Gmlp.quiescent,
  fun m g _ => Cert.Kernel8.Gen.frame m g,
  fun m g _ => Cert.Kernel8Ideal.Gen.frame m g,
  Cert.InprojS.quiescent,
  fun m g _ => Cert.Kernel9.Gen.frame m g,
  fun m g _ => Cert.Kernel9Ideal.Gen.frame m g,
  fun m g _ => Cert.Kernel9Ideal.Gen.frame m g,
  Cert.HpS.quiescent,
  fun m g _ => Cert.HpS.quiescent m g trivial,
  fun m g _ => Cert.Kernel10.Gen.frame m g,
  fun m g _ => Cert.Kernel10Ideal.Gen.frame m g,
  Cert.FfnS.quiescent,
  trivial,
  Cert.Scan.equal,
  trivial,
  Cert.Ffn.equal,
  trivial,
  Cert.Inproj.equal,
  trivial,
  Cert.Merge.equal,
  trivial,
  Cert.Ada.equal,
  trivial,
  Cert.Hp.equal,
  trivial,
  Cert.Gmlp.equal,
  trivial,
  Cert.InprojS.equal,
  trivial,
  Cert.HpS.equal,
  trivial,
  Cert.FfnS.equal⟩

end Cert.Proof

end
